-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 [hPre_experts : Cert.Pre_experts.Facts] (m : (ℓ : Loc Cert.Kernel2.nD Cert.Kernel2.τ Cert.Kernel2.sig) → Buf (Elt Bits) ℓ) : Prop :=
  ∀ c : Dev Cert.Kernel2.nD,
    (Cert.Pre_experts.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4))) = (fun _ => 1#1)

def Pre_Kernel2Ideal [hPre_experts : Cert.Pre_experts.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_experts.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))) = (fun _ => 1#1)

def Pre_Reference2Ideal [hPre_experts : Cert.Pre_experts.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_experts.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 [hPre_down_experts : Cert.Pre_down_experts.Facts] (m : (ℓ : Loc Cert.Kernel4.nD Cert.Kernel4.τ Cert.Kernel4.sig) → Buf (Elt Bits) ℓ) : Prop :=
  ∀ c : Dev Cert.Kernel4.nD,
    (Cert.Pre_down_experts.fn (F := Bits) (m ((c.tc : Thread Cert.Kernel4.nD Cert.Kernel4.τ).loc Cert.Kernel4.main_arg0)) (m ((c.tc : Thread Cert.Kernel4.nD Cert.Kernel4.τ).loc Cert.Kernel4.main_arg1)) (m ((c.tc : Thread Cert.Kernel4.nD Cert.Kernel4.τ).loc Cert.Kernel4.main_arg2)) (m ((c.tc : Thread Cert.Kernel4.nD Cert.Kernel4.τ).loc Cert.Kernel4.main_arg3))) = (fun _ => 1#1)

def Pre_Kernel4Ideal [hPre_down_experts : Cert.Pre_down_experts.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_down_experts.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3))) = (fun _ => 1#1)

def Pre_Reference4Ideal [hPre_down_experts : Cert.Pre_down_experts.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_down_experts.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_finite_gates [hPre_finite_gates : Cert.Pre_finite_gates.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_finite_gates.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6))) = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_finite_gates [hPre_finite_gates : Cert.Pre_finite_gates.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_finite_gates.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5)) (m ((c.tc : Thread Cert.Reference8Ideal.nD Cert.Reference8Ideal.τ).loc Cert.Reference8Ideal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Kernel2 [hKernel2 : Cert.Kernel2.Facts] [hPre_experts : Cert.Pre_experts.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] [hPre_experts : Cert.Pre_experts.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] [hPre_experts : Cert.Pre_experts.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] [hPre_down_experts : Cert.Pre_down_experts.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] [hPre_down_experts : Cert.Pre_down_experts.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] [hPre_down_experts : Cert.Pre_down_experts.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6))
      ∧ r.2.sem = fun _ => 0)

def quiescent_Kernel8Ideal_pre_finite_gates [hKernel8Ideal : Cert.Kernel8Ideal.Facts] [hPre_finite_gates : Cert.Pre_finite_gates.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_finite_gates m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6))
      ∧ r.2.sem = fun _ => 0)

def quiescent_Reference8Ideal_pre_finite_gates [hReference8Ideal : Cert.Reference8Ideal.Facts] [hPre_finite_gates : Cert.Pre_finite_gates.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_finite_gates m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v20_0)) (v1 : (c : Dev Cert.KernelIdeal.nD) → Buf (Elt Ideal) ((c.tc : Thread Cert.KernelIdeal.nD Cert.KernelIdeal.τ).loc Cert.KernelIdeal.main_v20_1)) (v2 : (c : Dev Cert.KernelIdeal.nD) → Buf (Elt Ideal) ((c.tc : Thread Cert.KernelIdeal.nD Cert.KernelIdeal.τ).loc Cert.KernelIdeal.main_v21)) (v3 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20_0) = v0 c
          ∧ r.2.mem ((c.tc : Thread Cert.KernelIdeal.nD Cert.KernelIdeal.τ).loc Cert.KernelIdeal.main_v20_1) = v1 c
          ∧ r.2.mem ((c.tc : Thread Cert.KernelIdeal.nD Cert.KernelIdeal.τ).loc Cert.KernelIdeal.main_v21) = v2 c
          ∧ r.2.mem ((c.tc : Thread Cert.KernelIdeal.nD Cert.KernelIdeal.τ).loc Cert.KernelIdeal.main_v23) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v154) = v0 c
          ∧ r.2.mem ((c.tc : Thread Cert.ReferenceIdeal.nD Cert.ReferenceIdeal.τ).loc Cert.ReferenceIdeal.main_v126) = v1 c
          ∧ r.2.mem ((c.tc : Thread Cert.ReferenceIdeal.nD Cert.ReferenceIdeal.τ).loc Cert.ReferenceIdeal.main_v131) = v2 c
          ∧ r.2.mem ((c.tc : Thread Cert.ReferenceIdeal.nD Cert.ReferenceIdeal.τ).loc Cert.ReferenceIdeal.main_v111) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Kernel2_Kernel2Ideal : Prop :=
  True

def algebraic_Kernel2Ideal_Reference2Ideal [hKernel2Ideal : Cert.Kernel2Ideal.Facts] [hReference2Ideal : Cert.Reference2Ideal.Facts] [hPre_experts : Cert.Pre_experts.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v30) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v42)) (v1 : (c : Dev Cert.Kernel3Ideal.nD) → Buf (Elt Ideal) ((c.tc : Thread Cert.Kernel3Ideal.nD Cert.Kernel3Ideal.τ).loc Cert.Kernel3Ideal.main_v43)) (v2 : (c : Dev Cert.Kernel3Ideal.nD) → Buf (Elt Ideal) ((c.tc : Thread Cert.Kernel3Ideal.nD Cert.Kernel3Ideal.τ).loc Cert.Kernel3Ideal.main_v44)) (v3 : (c : Dev Cert.Kernel3Ideal.nD) → Buf (Elt Ideal) ((c.tc : Thread Cert.Kernel3Ideal.nD Cert.Kernel3Ideal.τ).loc Cert.Kernel3Ideal.main_v45)) (v4 : (c : Dev Cert.Kernel3Ideal.nD) → Buf (Elt Ideal) ((c.tc : Thread Cert.Kernel3Ideal.nD Cert.Kernel3Ideal.τ).loc Cert.Kernel3Ideal.main_v58)) (v5 : (c : Dev Cert.Kernel3Ideal.nD) → Buf (Elt Ideal) ((c.tc : Thread Cert.Kernel3Ideal.nD Cert.Kernel3Ideal.τ).loc Cert.Kernel3Ideal.main_v59)) (v6 : (c : Dev Cert.Kernel3Ideal.nD) → Buf (Elt Ideal) ((c.tc : Thread Cert.Kernel3Ideal.nD Cert.Kernel3Ideal.τ).loc Cert.Kernel3Ideal.main_v60)) (v7 : (c : Dev Cert.Kernel3Ideal.nD) → Buf (Elt Ideal) ((c.tc : Thread Cert.Kernel3Ideal.nD Cert.Kernel3Ideal.τ).loc Cert.Kernel3Ideal.main_v61)) (v8 : (c : Dev Cert.Kernel3Ideal.nD) → Buf (Elt Ideal) ((c.tc : Thread Cert.Kernel3Ideal.nD Cert.Kernel3Ideal.τ).loc Cert.Kernel3Ideal.main_v25_0)) (v9 : (c : Dev Cert.Kernel3Ideal.nD) → Buf (Elt Ideal) ((c.tc : Thread Cert.Kernel3Ideal.nD Cert.Kernel3Ideal.τ).loc Cert.Kernel3Ideal.main_v25_1)) (v10 : (c : Dev Cert.Kernel3Ideal.nD) → Buf (Elt Ideal) ((c.tc : Thread Cert.Kernel3Ideal.nD Cert.Kernel3Ideal.τ).loc Cert.Kernel3Ideal.main_v62)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v42) = v0 c
          ∧ r.2.mem ((c.tc : Thread Cert.Kernel3Ideal.nD Cert.Kernel3Ideal.τ).loc Cert.Kernel3Ideal.main_v43) = v1 c
          ∧ r.2.mem ((c.tc : Thread Cert.Kernel3Ideal.nD Cert.Kernel3Ideal.τ).loc Cert.Kernel3Ideal.main_v44) = v2 c
          ∧ r.2.mem ((c.tc : Thread Cert.Kernel3Ideal.nD Cert.Kernel3Ideal.τ).loc Cert.Kernel3Ideal.main_v45) = v3 c
          ∧ r.2.mem ((c.tc : Thread Cert.Kernel3Ideal.nD Cert.Kernel3Ideal.τ).loc Cert.Kernel3Ideal.main_v58) = v4 c
          ∧ r.2.mem ((c.tc : Thread Cert.Kernel3Ideal.nD Cert.Kernel3Ideal.τ).loc Cert.Kernel3Ideal.main_v59) = v5 c
          ∧ r.2.mem ((c.tc : Thread Cert.Kernel3Ideal.nD Cert.Kernel3Ideal.τ).loc Cert.Kernel3Ideal.main_v60) = v6 c
          ∧ r.2.mem ((c.tc : Thread Cert.Kernel3Ideal.nD Cert.Kernel3Ideal.τ).loc Cert.Kernel3Ideal.main_v61) = v7 c
          ∧ r.2.mem ((c.tc : Thread Cert.Kernel3Ideal.nD Cert.Kernel3Ideal.τ).loc Cert.Kernel3Ideal.main_v25_0) = v8 c
          ∧ r.2.mem ((c.tc : Thread Cert.Kernel3Ideal.nD Cert.Kernel3Ideal.τ).loc Cert.Kernel3Ideal.main_v25_1) = v9 c
          ∧ r.2.mem ((c.tc : Thread Cert.Kernel3Ideal.nD Cert.Kernel3Ideal.τ).loc Cert.Kernel3Ideal.main_v62) = v10 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v26) = v0 c
          ∧ r.2.mem ((c.tc : Thread Cert.Reference3Ideal.nD Cert.Reference3Ideal.τ).loc Cert.Reference3Ideal.main_v29) = v1 c
          ∧ r.2.mem ((c.tc : Thread Cert.Reference3Ideal.nD Cert.Reference3Ideal.τ).loc Cert.Reference3Ideal.main_v32) = v2 c
          ∧ r.2.mem ((c.tc : Thread Cert.Reference3Ideal.nD Cert.Reference3Ideal.τ).loc Cert.Reference3Ideal.main_v33) = v3 c
          ∧ r.2.mem ((c.tc : Thread Cert.Reference3Ideal.nD Cert.Reference3Ideal.τ).loc Cert.Reference3Ideal.main_v41) = v4 c
          ∧ r.2.mem ((c.tc : Thread Cert.Reference3Ideal.nD Cert.Reference3Ideal.τ).loc Cert.Reference3Ideal.main_v44) = v5 c
          ∧ r.2.mem ((c.tc : Thread Cert.Reference3Ideal.nD Cert.Reference3Ideal.τ).loc Cert.Reference3Ideal.main_v47) = v6 c
          ∧ r.2.mem ((c.tc : Thread Cert.Reference3Ideal.nD Cert.Reference3Ideal.τ).loc Cert.Reference3Ideal.main_v48) = v7 c
          ∧ r.2.mem ((c.tc : Thread Cert.Reference3Ideal.nD Cert.Reference3Ideal.τ).loc Cert.Reference3Ideal.main_v49) = v8 c
          ∧ r.2.mem ((c.tc : Thread Cert.Reference3Ideal.nD Cert.Reference3Ideal.τ).loc Cert.Reference3Ideal.main_v53) = v9 c
          ∧ r.2.mem ((c.tc : Thread Cert.Reference3Ideal.nD Cert.Reference3Ideal.τ).loc Cert.Reference3Ideal.main_v63) = v10 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] [hPre_down_experts : Cert.Pre_down_experts.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v25) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v11) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v4)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v31) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v3) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0))

def preserves_Kernel8_Kernel8Ideal : Prop :=
  True

def algebraic_Kernel8Ideal_Reference8Ideal_pre_finite_gates [hKernel8Ideal : Cert.Kernel8Ideal.Facts] [hReference8Ideal : Cert.Reference8Ideal.Facts] [hPre_finite_gates : Cert.Pre_finite_gates.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_finite_gates m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)) →
    ∃ (v0 : (c : Dev Cert.Kernel8Ideal.nD) → Buf (Elt Ideal) ((c.tc : Thread Cert.Kernel8Ideal.nD Cert.Kernel8Ideal.τ).loc Cert.Kernel8Ideal.main_v18_1)) (v1 : (c : Dev Cert.Kernel8Ideal.nD) → Buf (Elt Ideal) ((c.tc : Thread Cert.Kernel8Ideal.nD Cert.Kernel8Ideal.τ).loc Cert.Kernel8Ideal.main_v19)) (v2 : (c : Dev Cert.Kernel8Ideal.nD) → Buf (Elt Ideal) ((c.tc : Thread Cert.Kernel8Ideal.nD Cert.Kernel8Ideal.τ).loc Cert.Kernel8Ideal.main_v21)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v18_1) = v0 c
          ∧ r.2.mem ((c.tc : Thread Cert.Kernel8Ideal.nD Cert.Kernel8Ideal.τ).loc Cert.Kernel8Ideal.main_v19) = v1 c
          ∧ r.2.mem ((c.tc : Thread Cert.Kernel8Ideal.nD Cert.Kernel8Ideal.τ).loc Cert.Kernel8Ideal.main_v21) = v2 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v73) = v0 c
          ∧ r.2.mem ((c.tc : Thread Cert.Reference8Ideal.nD Cert.Reference8Ideal.τ).loc Cert.Reference8Ideal.main_v78) = v1 c
          ∧ r.2.mem ((c.tc : Thread Cert.Reference8Ideal.nD Cert.Reference8Ideal.τ).loc Cert.Reference8Ideal.main_v58) = v2 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_experts : Cert.Pre_experts.Facts) (hPre_down_experts : Cert.Pre_down_experts.Facts) (hPre_finite_gates : Cert.Pre_finite_gates.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2) (hPre_experts := hPre_experts)
    ∧ quiescent_Kernel2Ideal (hKernel2Ideal := hKernel2Ideal) (hPre_experts := hPre_experts)
    ∧ quiescent_Reference2Ideal (hReference2Ideal := hReference2Ideal) (hPre_experts := hPre_experts)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4) (hPre_down_experts := hPre_down_experts)
    ∧ quiescent_Kernel4Ideal (hKernel4Ideal := hKernel4Ideal) (hPre_down_experts := hPre_down_experts)
    ∧ quiescent_Reference4Ideal (hReference4Ideal := hReference4Ideal) (hPre_down_experts := hPre_down_experts)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Kernel8Ideal_pre_finite_gates (hKernel8Ideal := hKernel8Ideal) (hPre_finite_gates := hPre_finite_gates)
    ∧ quiescent_Reference8Ideal (hReference8Ideal := hReference8Ideal)
    ∧ quiescent_Reference8Ideal_pre_finite_gates (hReference8Ideal := hReference8Ideal) (hPre_finite_gates := hPre_finite_gates)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal) (hPre_experts := hPre_experts)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal) (hPre_down_experts := hPre_down_experts)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal_pre_finite_gates (hKernel8Ideal := hKernel8Ideal) (hReference8Ideal := hReference8Ideal) (hPre_finite_gates := hPre_finite_gates)
-- ==== Pre_down_experts.lean ====
abbrev S41984x1024 : Shape := ⟨2, ![41984, 1024]⟩
abbrev S1x16x1024x4096 : Shape := ⟨4, ![1, 16, 1024, 4096]⟩
abbrev S82 : Shape := ⟨1, ![82]⟩
abbrev S1 : Shape := ⟨1, ![1]⟩
abbrev S_ : Shape := ⟨0, ![]⟩

class Facts : Prop where
  bcast_S_S82 : S_.BroadcastsInDim S82 (![] : Fin 0 → Fin S82.rank)
  reducesTo_S82_S_d0 : S82.ReducesTo [0] S_
  h_S_ : 0 < S_.numel

variable [Facts]

def fn {F : FTy → Type} [FloatOps F] (main_arg0 : FVec F S41984x1024 .bf16) (main_arg1 : FVec F S1x16x1024x4096 .f32) (main_arg2 : IVec S82 32) (main_arg3 : IVec S1 32) : IVec S_ 1 :=
  let main_c : IVec S_ 32 := constantI S_ 32 0#32
  let main_v0 : IVec S82 32 := broadcastInDim S82 ![] bcast_S_S82 main_c
  let main_v1 : IVec S82 1 := cmpi .sge main_arg2 main_v0
  let main_c_0 : IVec S_ 32 := constantI S_ 32 16#32
  let main_v2 : IVec S82 32 := broadcastInDim S82 ![] bcast_S_S82 main_c_0
  let main_v3 : IVec S82 1 := cmpi .slt main_arg2 main_v2
  let main_v4 : IVec S82 1 := andi main_v1 main_v3
  let main_c_1 : IVec S_ 1 := constantI S_ 1 1#1
  let main_v5 : IVec S_ 1 := (fun x v => Host.reduce IntOp.andi x v reducesTo_S82_S_d0 h_S_) main_v4 main_c_1
  main_v5
-- ==== Pre_experts.lean ====
abbrev S41984x4096 : Shape := ⟨2, ![41984, 4096]⟩
abbrev S1x16x4096x1024 : Shape := ⟨4, ![1, 16, 4096, 1024]⟩
abbrev S82 : Shape := ⟨1, ![82]⟩
abbrev S1 : Shape := ⟨1, ![1]⟩
abbrev S_ : Shape := ⟨0, ![]⟩

class Facts : Prop where
  bcast_S_S82 : S_.BroadcastsInDim S82 (![] : Fin 0 → Fin S82.rank)
  reducesTo_S82_S_d0 : S82.ReducesTo [0] S_
  h_S_ : 0 < S_.numel

variable [Facts]

def fn {F : FTy → Type} [FloatOps F] (main_arg0 : FVec F S41984x4096 .bf16) (main_arg1 : FVec F S1x16x4096x1024 .f32) (main_arg2 : FVec F S1x16x4096x1024 .f32) (main_arg3 : IVec S82 32) (main_arg4 : IVec S1 32) : IVec S_ 1 :=
  let main_c : IVec S_ 32 := constantI S_ 32 0#32
  let main_v0 : IVec S82 32 := broadcastInDim S82 ![] bcast_S_S82 main_c
  let main_v1 : IVec S82 1 := cmpi .sge main_arg3 main_v0
  let main_c_0 : IVec S_ 32 := constantI S_ 32 16#32
  let main_v2 : IVec S82 32 := broadcastInDim S82 ![] bcast_S_S82 main_c_0
  let main_v3 : IVec S82 1 := cmpi .slt main_arg3 main_v2
  let main_v4 : IVec S82 1 := andi main_v1 main_v3
  let main_c_1 : IVec S_ 1 := constantI S_ 1 1#1
  let main_v5 : IVec S_ 1 := (fun x v => Host.reduce IntOp.andi x v reducesTo_S82_S_d0 h_S_) main_v4 main_c_1
  main_v5
-- ==== Pre_finite_gates.lean ====
abbrev S16896x8192 : Shape := ⟨2, ![16896, 8192]⟩
abbrev S16896x4096 : Shape := ⟨2, ![16896, 4096]⟩
abbrev S16896x128 : Shape := ⟨2, ![16896, 128]⟩
abbrev S16384x128 : Shape := ⟨2, ![16384, 128]⟩
abbrev S1x4x2048 : Shape := ⟨3, ![1, 4, 2048]⟩
abbrev S1x2048 : Shape := ⟨2, ![1, 2048]⟩
abbrev S16384x8 : Shape := ⟨2, ![16384, 8]⟩
abbrev S_ : Shape := ⟨0, ![]⟩

class Facts : Prop where
  slices_S16384x128_S16384x8_0_24 : S16384x128.Slices ![0, 24] S16384x8
  bcast_S_S16384x8 : S_.BroadcastsInDim S16384x8 (![] : Fin 0 → Fin S16384x8.rank)
  reducesTo_S16384x8_S_d0_1 : S16384x8.ReducesTo [0, 1] S_
  h_S_ : 0 < S_.numel

variable [Facts]

def fn {F : FTy → Type} [FloatOps F] (main_arg0 : FVec F S16896x8192 .f32) (main_arg1 : FVec F S16896x4096 .bf16) (main_arg2 : FVec F S16896x128 .f32) (main_arg3 : FVec F S16384x128 .f32) (main_arg4 : FVec F S16896x4096 .bf16) (main_arg5 : FVec F S1x4x2048 .f32) (main_arg6 : FVec F S1x2048 .f32) : IVec S_ 1 :=
  let main_v0 : FVec F S16384x8 .f32 := (extractStridedSlice S16384x8 ![0, 24] · slices_S16384x128_S16384x8_0_24) main_arg3
  let main_v1 : FVec F S16384x8 .f32 := Host.absf main_v0
  let main_cst : FVec F S_ .f32 := constant S_ .f32 0x7F800000#32
  let main_v2 : FVec F S16384x8 .f32 := broadcastInDim S16384x8 ![] bcast_S_S16384x8 main_cst
  let main_v3 : IVec S16384x8 1 := cmpf .olt main_v1 main_v2
  let main_c : IVec S_ 1 := constantI S_ 1 1#1
  let main_v4 : IVec S_ 1 := (fun x v => Host.reduce IntOp.andi x v reducesTo_S16384x8_S_d0_1 h_S_) main_v3 main_c
  main_v4
-- ==== Kernel.lean ====
abbrev S16896x8192 : Shape := ⟨2, ![16896, 8192]⟩
abbrev S16896x4096 : Shape := ⟨2, ![16896, 4096]⟩
abbrev S16896x128 : Shape := ⟨2, ![16896, 128]⟩
abbrev S1x8x8x256x128 : Shape := ⟨5, ![1, 8, 8, 256, 128]⟩
abbrev S1x8x8x128 : Shape := ⟨4, ![1, 8, 8, 128]⟩
abbrev S1x8x8 : Shape := ⟨3, ![1, 8, 8]⟩
abbrev S1x8x3x2048 : Shape := ⟨4, ![1, 8, 3, 2048]⟩
abbrev S1x4x2048 : Shape := ⟨3, ![1, 4, 2048]⟩
abbrev S1x2048 : Shape := ⟨2, ![1, 2048]⟩
abbrev S512x128 : Shape := ⟨2, ![512, 128]⟩
abbrev S8x64x128 : Shape := ⟨3, ![8, 64, 128]⟩
abbrev S64x128 : Shape := ⟨2, ![64, 128]⟩
abbrev S64x64 : Shape := ⟨2, ![64, 64]⟩
abbrev S1x128 : Shape := ⟨2, ![1, 128]⟩
abbrev S8x128x64 : Shape := ⟨3, ![8, 128, 64]⟩
abbrev S8x3x2048 : Shape := ⟨3, ![8, 3, 2048]⟩
abbrev S4x2048 : Shape := ⟨2, ![4, 2048]⟩
abbrev S8x8x256x128 : Shape := ⟨4, ![8, 8, 256, 128]⟩
abbrev S8x8x128 : Shape := ⟨3, ![8, 8, 128]⟩
abbrev S8x8 : Shape := ⟨2, ![8, 8]⟩
abbrev S2048 : Shape := ⟨1, ![2048]⟩
abbrev S_ : Shape := ⟨0, ![]⟩
abbrev S8x8x2048 : Shape := ⟨3, ![8, 8, 2048]⟩
abbrev S8x128x1x64 : Shape := ⟨4, ![8, 128, 1, 64]⟩
abbrev S8x8x1x128 : Shape := ⟨4, ![8, 8, 1, 128]⟩
abbrev S8x8x1x1 : Shape := ⟨4, ![8, 8, 1, 1]⟩
abbrev S8x1x256 : Shape := ⟨3, ![8, 1, 256]⟩
abbrev S1x8x128 : Shape := ⟨3, ![1, 8, 128]⟩
abbrev S4x128 : Shape := ⟨2, ![4, 128]⟩
abbrev S64x256 : Shape := ⟨2, ![64, 256]⟩
abbrev S1x1x1x64 : Shape := ⟨4, ![1, 1, 1, 64]⟩
abbrev S1x1x256x128 : Shape := ⟨4, ![1, 1, 256, 128]⟩
abbrev S1x1x1x128 : Shape := ⟨4, ![1, 1, 1, 128]⟩
abbrev S1x1x256 : Shape := ⟨3, ![1, 1, 256]⟩
abbrev S72x128 : Shape := ⟨2, ![72, 128]⟩
abbrev S8x128 : Shape := ⟨2, ![8, 128]⟩
abbrev S1x256 : Shape := ⟨2, ![1, 256]⟩
abbrev S64 : Shape := ⟨1, ![64]⟩
abbrev S64x1 : Shape := ⟨2, ![64, 1]⟩
abbrev S1x64 : Shape := ⟨2, ![1, 64]⟩
abbrev S1x1 : Shape := ⟨2, ![1, 1]⟩
abbrev S1 : Shape := ⟨1, ![1]⟩
abbrev S1x1x1x1 : Shape := ⟨4, ![1, 1, 1, 1]⟩
abbrev S256x128 : Shape := ⟨2, ![256, 128]⟩
abbrev S128 : Shape := ⟨1, ![128]⟩

abbrev nBuf : Space → Nat
  | .hbm => 39
  | .vmem => 48
  | .smem => 0
  | _ => 0

abbrev bufTy : (tb : Table) → Fin (tcTables nBuf tb) → BufTy
  | .hbm, ⟨0, _⟩ => ⟨S16896x8192, .f32⟩
  | .hbm, ⟨1, _⟩ => ⟨S16896x4096, .bf16⟩
  | .hbm, ⟨2, _⟩ => ⟨S16896x128, .f32⟩
  | .hbm, ⟨3, _⟩ => ⟨S16896x4096, .bf16⟩
  | .hbm, ⟨4, _⟩ => ⟨S1x8x8x256x128, .f32⟩
  | .hbm, ⟨5, _⟩ => ⟨S1x8x8x128, .f32⟩
  | .hbm, ⟨6, _⟩ => ⟨S1x8x8, .f32⟩
  | .hbm, ⟨7, _⟩ => ⟨S1x8x3x2048, .f32⟩
  | .hbm, ⟨8, _⟩ => ⟨S1x4x2048, .f32⟩
  | .hbm, ⟨9, _⟩ => ⟨S1x2048, .f32⟩
  | .hbm, ⟨10, _⟩ => ⟨S512x128, .f32⟩
  | .hbm, ⟨11, _⟩ => ⟨S8x64x128, .f32⟩
  | .hbm, ⟨12, _⟩ => ⟨S512x128, .f32⟩
  | .hbm, ⟨13, _⟩ => ⟨S512x128, .f32⟩
  | .hbm, ⟨14, _⟩ => ⟨S8x128x64, .f32⟩
  | .hbm, ⟨15, _⟩ => ⟨S8x64x128, .f32⟩
  | .hbm, ⟨16, _⟩ => ⟨S8x128x64, .f32⟩
  | .hbm, ⟨17, _⟩ => ⟨S8x3x2048, .f32⟩
  | .hbm, ⟨18, _⟩ => ⟨S4x2048, .f32⟩
  | .hbm, ⟨19, _⟩ => ⟨S8x8x256x128, .f32⟩
  | .hbm, ⟨20, _⟩ => ⟨S8x8x128, .f32⟩
  | .hbm, ⟨21, _⟩ => ⟨S8x8, .f32⟩
  | .hbm, ⟨22, _⟩ => ⟨S2048, .f32⟩
  | .hbm, ⟨23, _⟩ => ⟨S_, .i32⟩
  | .hbm, ⟨24, _⟩ => ⟨S_, .f32⟩
  | .hbm, ⟨25, _⟩ => ⟨S8x8x2048, .f32⟩
  | .hbm, ⟨26, _⟩ => ⟨S8x128x1x64, .f32⟩
  | .hbm, ⟨27, _⟩ => ⟨S8x128x1x64, .f32⟩
  | .hbm, ⟨28, _⟩ => ⟨S8x8x1x128, .f32⟩
  | .hbm, ⟨29, _⟩ => ⟨S8x8x1x1, .f32⟩
  | .hbm, ⟨30, _⟩ => ⟨S8x8x1x128, .f32⟩
  | .hbm, ⟨31, _⟩ => ⟨S8x1x256, .f32⟩
  | .hbm, ⟨32, _⟩ => ⟨S16896x4096, .bf16⟩
  | .hbm, ⟨33, _⟩ => ⟨S8x8x256x128, .f32⟩
  | .hbm, ⟨34, _⟩ => ⟨S8x8x1x128, .f32⟩
  | .hbm, ⟨35, _⟩ => ⟨S8x8x1x128, .f32⟩
  | .hbm, ⟨36, _⟩ => ⟨S8x8x128, .f32⟩
  | .hbm, ⟨37, _⟩ => ⟨S8x8x1x1, .f32⟩
  | .hbm, ⟨38, _⟩ => ⟨S8x8, .f32⟩
  | .local _ .vmem, ⟨0, _⟩ => ⟨S64x128, .f32⟩
  | .local _ .vmem, ⟨1, _⟩ => ⟨S64x128, .f32⟩
  | .local _ .vmem, ⟨2, _⟩ => ⟨S64x128, .f32⟩
  | .local _ .vmem, ⟨3, _⟩ => ⟨S64x128, .f32⟩
  | .local _ .vmem, ⟨4, _⟩ => ⟨S64x128, .f32⟩
  | .local _ .vmem, ⟨5, _⟩ => ⟨S64x128, .f32⟩
  | .local _ .vmem, ⟨6, _⟩ => ⟨S64x128, .f32⟩
  | .local _ .vmem, ⟨7, _⟩ => ⟨S64x128, .f32⟩
  | .local _ .vmem, ⟨8, _⟩ => ⟨S1x8x128, .f32⟩
  | .local _ .vmem, ⟨9, _⟩ => ⟨S1x8x128, .f32⟩
  | .local _ .vmem, ⟨10, _⟩ => ⟨S1x8x128, .f32⟩
  | .local _ .vmem, ⟨11, _⟩ => ⟨S1x8x128, .f32⟩
  | .local _ .vmem, ⟨12, _⟩ => ⟨S4x128, .f32⟩
  | .local _ .vmem, ⟨13, _⟩ => ⟨S4x128, .f32⟩
  | .local _ .vmem, ⟨14, _⟩ => ⟨S4x128, .f32⟩
  | .local _ .vmem, ⟨15, _⟩ => ⟨S4x128, .f32⟩
  | .local _ .vmem, ⟨16, _⟩ => ⟨S64x256, .bf16⟩
  | .local _ .vmem, ⟨17, _⟩ => ⟨S64x256, .bf16⟩
  | .local _ .vmem, ⟨18, _⟩ => ⟨S64x256, .f32⟩
  | .local _ .vmem, ⟨19, _⟩ => ⟨S64x256, .f32⟩
  | .local _ .vmem, ⟨20, _⟩ => ⟨S64x128, .f32⟩
  | .local _ .vmem, ⟨21, _⟩ => ⟨S64x128, .f32⟩
  | .local _ .vmem, ⟨22, _⟩ => ⟨S64x128, .f32⟩
  | .local _ .vmem, ⟨23, _⟩ => ⟨S64x128, .f32⟩
  | .local _ .vmem, ⟨24, _⟩ => ⟨S1x1x1x64, .f32⟩
  | .local _ .vmem, ⟨25, _⟩ => ⟨S1x1x1x64, .f32⟩
  | .local _ .vmem, ⟨26, _⟩ => ⟨S1x1x1x64, .f32⟩
  | .local _ .vmem, ⟨27, _⟩ => ⟨S1x1x1x64, .f32⟩
  | .local _ .vmem, ⟨28, _⟩ => ⟨S1x1x256x128, .f32⟩
  | .local _ .vmem, ⟨29, _⟩ => ⟨S1x1x256x128, .f32⟩
  | .local _ .vmem, ⟨30, _⟩ => ⟨S1x1x1x128, .f32⟩
  | .local _ .vmem, ⟨31, _⟩ => ⟨S1x1x1x128, .f32⟩
  | .local _ .vmem, ⟨32, _⟩ => ⟨S1x1x1x128, .f32⟩
  | .local _ .vmem, ⟨33, _⟩ => ⟨S1x1x1x128, .f32⟩
  | .local _ .vmem, ⟨34, _⟩ => ⟨S1x1x256, .f32⟩
  | .local _ .vmem, ⟨35, _⟩ => ⟨S1x1x256, .f32⟩
  | .local _ .vmem, ⟨36, _⟩ => ⟨S64x256, .bf16⟩
  | .local _ .vmem, ⟨37, _⟩ => ⟨S64x256, .bf16⟩
  | .local _ .vmem, ⟨38, _⟩ => ⟨S1x1x256x128, .f32⟩
  | .local _ .vmem, ⟨39, _⟩ => ⟨S1x1x256x128, .f32⟩
  | .local _ .vmem, ⟨40, _⟩ => ⟨S1x1x1x128, .f32⟩
  | .local _ .vmem, ⟨41, _⟩ => ⟨S1x1x1x128, .f32⟩
  | .local _ .vmem, ⟨42, _⟩ => ⟨S1x1x1x128, .f32⟩
  | .local _ .vmem, ⟨43, _⟩ => ⟨S1x1x1x128, .f32⟩
  | .local _ .vmem, ⟨44, _⟩ => ⟨S72x128, .f32⟩
  | .local _ .vmem, ⟨45, _⟩ => ⟨S72x128, .f32⟩
  | .local _ .vmem, ⟨46, _⟩ => ⟨S64x128, .bf16⟩
  | .local _ .vmem, ⟨47, _⟩ => ⟨S64x128, .bf16⟩
  | _, _ => ⟨S16896x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c : Ref sig .tc := ⟨.hbm, 23, rfl⟩
abbrev main_call0_v0 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20_0 : Ref sig .tc := ⟨.hbm, 32, rfl⟩
abbrev main_v20_1 : Ref sig .tc := ⟨.hbm, 33, rfl⟩
abbrev main_v20_2 : Ref sig .tc := ⟨.hbm, 34, rfl⟩
abbrev main_v20_3 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg5_1 : Ref sig .tc := ⟨.vmem, 15, rfl⟩
abbrev cc1_stg6_0 : Ref sig .tc := ⟨.vmem, 16, rfl⟩
abbrev cc1_stg6_1 : Ref sig .tc := ⟨.vmem, 17, rfl⟩
abbrev cc1_stg7_0 : Ref sig .tc := ⟨.vmem, 18, rfl⟩
abbrev cc1_stg7_1 : Ref sig .tc := ⟨.vmem, 19, rfl⟩
abbrev cc1_stg8_0 : Ref sig .tc := ⟨.vmem, 20, rfl⟩
abbrev cc1_stg8_1 : Ref sig .tc := ⟨.vmem, 21, rfl⟩
abbrev cc1_stg9_0 : Ref sig .tc := ⟨.vmem, 22, rfl⟩
abbrev cc1_stg9_1 : Ref sig .tc := ⟨.vmem, 23, rfl⟩
abbrev cc1_stg10_0 : Ref sig .tc := ⟨.vmem, 24, rfl⟩
abbrev cc1_stg10_1 : Ref sig .tc := ⟨.vmem, 25, rfl⟩
abbrev cc1_stg11_0 : Ref sig .tc := ⟨.vmem, 26, rfl⟩
abbrev cc1_stg11_1 : Ref sig .tc := ⟨.vmem, 27, rfl⟩
abbrev cc1_stg12_0 : Ref sig .tc := ⟨.vmem, 28, rfl⟩
abbrev cc1_stg12_1 : Ref sig .tc := ⟨.vmem, 29, rfl⟩
abbrev cc1_stg13_0 : Ref sig .tc := ⟨.vmem, 30, rfl⟩
abbrev cc1_stg13_1 : Ref sig .tc := ⟨.vmem, 31, rfl⟩
abbrev cc1_stg14_0 : Ref sig .tc := ⟨.vmem, 32, rfl⟩
abbrev cc1_stg14_1 : Ref sig .tc := ⟨.vmem, 33, rfl⟩
abbrev cc1_stg15_0 : Ref sig .tc := ⟨.vmem, 34, rfl⟩
abbrev cc1_stg15_1 : Ref sig .tc := ⟨.vmem, 35, rfl⟩
abbrev cc1_stg16_0 : Ref sig .tc := ⟨.vmem, 36, rfl⟩
abbrev cc1_stg16_1 : Ref sig .tc := ⟨.vmem, 37, rfl⟩
abbrev cc1_stg17_0 : Ref sig .tc := ⟨.vmem, 38, rfl⟩
abbrev cc1_stg17_1 : Ref sig .tc := ⟨.vmem, 39, rfl⟩
abbrev cc1_stg18_0 : Ref sig .tc := ⟨.vmem, 40, rfl⟩
abbrev cc1_stg18_1 : Ref sig .tc := ⟨.vmem, 41, rfl⟩
abbrev cc1_stg19_0 : Ref sig .tc := ⟨.vmem, 42, rfl⟩
abbrev cc1_stg19_1 : Ref sig .tc := ⟨.vmem, 43, rfl⟩
abbrev cc1_scratch0 : Ref sig .tc := ⟨.vmem, 44, rfl⟩
abbrev cc1_scratch1 : Ref sig .tc := ⟨.vmem, 45, rfl⟩
abbrev cc1_scratch2 : Ref sig .tc := ⟨.vmem, 46, rfl⟩
abbrev cc1_scratch3 : Ref sig .tc := ⟨.vmem, 47, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem4_1 : DmaSem sig := 13
abbrev cc1_sem5_0 : DmaSem sig := 14
abbrev cc1_sem5_1 : DmaSem sig := 15
abbrev cc1_sem6_0 : DmaSem sig := 16
abbrev cc1_sem6_1 : DmaSem sig := 17
abbrev cc1_sem7_0 : DmaSem sig := 18
abbrev cc1_sem7_1 : DmaSem sig := 19
abbrev cc1_sem8_0 : DmaSem sig := 20
abbrev cc1_sem8_1 : DmaSem sig := 21
abbrev cc1_sem9_0 : DmaSem sig := 22
abbrev cc1_sem9_1 : DmaSem sig := 23
abbrev cc1_sem10_0 : DmaSem sig := 24
abbrev cc1_sem10_1 : DmaSem sig := 25
abbrev cc1_sem11_0 : DmaSem sig := 26
abbrev cc1_sem11_1 : DmaSem sig := 27
abbrev cc1_sem12_0 : DmaSem sig := 28
abbrev cc1_sem12_1 : DmaSem sig := 29
abbrev cc1_sem13_0 : DmaSem sig := 30
abbrev cc1_sem13_1 : DmaSem sig := 31
abbrev cc1_sem14_0 : DmaSem sig := 32
abbrev cc1_sem14_1 : DmaSem sig := 33
abbrev cc1_sem15_0 : DmaSem sig := 34
abbrev cc1_sem15_1 : DmaSem sig := 35
abbrev cc1_sem16_0 : DmaSem sig := 36
abbrev cc1_sem16_1 : DmaSem sig := 37
abbrev cc1_sem17_0 : DmaSem sig := 38
abbrev cc1_sem17_1 : DmaSem sig := 39
abbrev cc1_sem18_0 : DmaSem sig := 40
abbrev cc1_sem18_1 : DmaSem sig := 41
abbrev cc1_sem19_0 : DmaSem sig := 42
abbrev cc1_sem19_1 : DmaSem sig := 43

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![8, 8], ![false, false]⟩

def cc1_transform_0 (i : grid1.Coords) : Fin 2 → Nat :=
  let arg0 : BitVec 32 := BitVec.ofNat 32 (i 0).val
  let arg1 : BitVec 32 := BitVec.ofNat 32 (i 1).val
  let c256_i32 : BitVec 32 := 256#32
  let v0 : BitVec 32 := Scalar.addi c256_i32 arg0
  let c32_i32 : BitVec 32 := 32#32
  let v1 : BitVec 32 := Scalar.addi c32_i32 arg1
  let c0_i32 : BitVec 32 := 0#32
  ![v0.toNat, v1.toNat]

def cc1_transform_1 (i : grid1.Coords) : Fin 2 → Nat :=
  let arg0 : BitVec 32 := BitVec.ofNat 32 (i 0).val
  let arg1 : BitVec 32 := BitVec.ofNat 32 (i 1).val
  let c256_i32 : BitVec 32 := 256#32
  let v0 : BitVec 32 := Scalar.addi c256_i32 arg0
  let c40_i32 : BitVec 32 := 40#32
  let v1 : BitVec 32 := Scalar.addi c40_i32 arg1
  let c0_i32 : BitVec 32 := 0#32
  ![v0.toNat, v1.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

def cc1_transform_3 (i : grid1.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_5 (i : grid1.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![c0_i32.toNat, v0.toNat]

def cc1_transform_6 (i : grid1.Coords) : Fin 2 → Nat :=
  let arg0 : BitVec 32 := BitVec.ofNat 32 (i 0).val
  let arg1 : BitVec 32 := BitVec.ofNat 32 (i 1).val
  let c256_i32 : BitVec 32 := 256#32
  let v0 : BitVec 32 := Scalar.addi c256_i32 arg0
  let c8_i32 : BitVec 32 := 8#32
  let v1 : BitVec 32 := Scalar.addi c8_i32 arg1
  let c0_i32 : BitVec 32 := 0#32
  ![v0.toNat, v1.toNat]

def cc1_transform_7 (i : grid1.Coords) : Fin 2 → Nat :=
  let arg0 : BitVec 32 := BitVec.ofNat 32 (i 0).val
  let arg1 : BitVec 32 := BitVec.ofNat 32 (i 1).val
  let c256_i32 : BitVec 32 := 256#32
  let v0 : BitVec 32 := Scalar.addi c256_i32 arg0
  let c24_i32 : BitVec 32 := 24#32
  let v1 : BitVec 32 := Scalar.addi c24_i32 arg1
  let c0_i32 : BitVec 32 := 0#32
  ![v0.toNat, v1.toNat]

def cc1_transform_8 (i : grid1.Coords) : Fin 2 → Nat :=
  let arg0 : BitVec 32 := BitVec.ofNat 32 (i 0).val
  let arg1 : BitVec 32 := BitVec.ofNat 32 (i 1).val
  let c256_i32 : BitVec 32 := 256#32
  let v0 : BitVec 32 := Scalar.addi c256_i32 arg0
  let c0_i32 : BitVec 32 := 0#32
  let c0_i32_0 : BitVec 32 := 0#32
  ![v0.toNat, c0_i32.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_10 (i : grid1.Coords) : Fin 4 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  let c0_i32_1 : BitVec 32 := 0#32
  ![arg0.toNat, v0.toNat, c0_i32.toNat, c0_i32_0.toNat]

def cc1_transform_11 (i : grid1.Coords) : Fin 4 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg1
  let c0_i32 : BitVec 32 := 0#32
  let c0_i32_0 : BitVec 32 := 0#32
  let c0_i32_1 : BitVec 32 := 0#32
  ![arg0.toNat, v0.toNat, c0_i32.toNat, c0_i32_0.toNat]

def cc1_transform_12 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_13 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_14 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_15 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_17 (i : grid1.Coords) : Fin 2 → Nat :=
  let arg0 : BitVec 32 := BitVec.ofNat 32 (i 0).val
  let arg1 : BitVec 32 := BitVec.ofNat 32 (i 1).val
  let c256_i32 : BitVec 32 := 256#32
  let v0 : BitVec 32 := Scalar.addi c256_i32 arg0
  let c8_i32 : BitVec 32 := 8#32
  let v1 : BitVec 32 := Scalar.addi c8_i32 arg1
  let c0_i32 : BitVec 32 := 0#32
  ![v0.toNat, v1.toNat]

def cc1_transform_18 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_19 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_20 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 2 → Memref sig .tc .vmem S64x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S64x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x8x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x8x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S4x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true]

abbrev stage1_5 : Fin 2 → Memref sig .tc .vmem S4x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![false, true]

abbrev stage1_6 : Fin 2 → Memref sig .tc .vmem S64x256 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S64x256 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S64x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, false]

abbrev stage1_9 : Fin 2 → Memref sig .tc .vmem S64x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, false]

abbrev stage1_10 : Fin 2 → Memref sig .tc .vmem S1x1x1x64 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, true]

abbrev stage1_11 : Fin 2 → Memref sig .tc .vmem S1x1x1x64 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true, true]

abbrev stage1_12 : Fin 2 → Memref sig .tc .vmem S1x1x256x128 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true, true]

abbrev stage1_13 : Fin 2 → Memref sig .tc .vmem S1x1x1x128 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true, true]

abbrev stage1_14 : Fin 2 → Memref sig .tc .vmem S1x1x1x128 .f32 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true, true]

abbrev stage1_15 : Fin 2 → Memref sig .tc .vmem S1x1x256 .f32 := fun | 0 => Memref.whole cc1_stg15_0 | 1 => Memref.whole cc1_stg15_1 | ⟨_ + 2, h⟩ => absurd h (Nat.not_lt.2 (Nat.le_add_left _ _))
abbrev sem1_15 : Fin 2 → DmaSem sig := fun | 0 => cc1_sem15_0 | 1 => cc1_sem15_1 | ⟨_ + 2, h⟩ => absurd h (Nat.not_lt.2 (Nat.le_add_left _ _))
abbrev reads1_15 : Fin grid1.rank → Bool := ![false, true]

abbrev stage1_16 : Fin 2 → Memref sig .tc .vmem S64x256 .bf16 := fun | 0 => Memref.whole cc1_stg16_0 | 1 => Memref.whole cc1_stg16_1 | ⟨_ + 2, h⟩ => absurd h (Nat.not_lt.2 (Nat.le_add_left _ _))
abbrev sem1_16 : Fin 2 → DmaSem sig := fun | 0 => cc1_sem16_0 | 1 => cc1_sem16_1 | ⟨_ + 2, h⟩ => absurd h (Nat.not_lt.2 (Nat.le_add_left _ _))
abbrev reads1_16 : Fin grid1.rank → Bool := ![true, true]

abbrev stage1_17 : Fin 2 → Memref sig .tc .vmem S1x1x256x128 .f32 := fun | 0 => Memref.whole cc1_stg17_0 | 1 => Memref.whole cc1_stg17_1 | ⟨_ + 2, h⟩ => absurd h (Nat.not_lt.2 (Nat.le_add_left _ _))
abbrev sem1_17 : Fin 2 → DmaSem sig := fun | 0 => cc1_sem17_0 | 1 => cc1_sem17_1 | ⟨_ + 2, h⟩ => absurd h (Nat.not_lt.2 (Nat.le_add_left _ _))
abbrev reads1_17 : Fin grid1.rank → Bool := ![true, true]

abbrev stage1_18 : Fin 2 → Memref sig .tc .vmem S1x1x1x128 .f32 := fun | 0 => Memref.whole cc1_stg18_0 | 1 => Memref.whole cc1_stg18_1 | ⟨_ + 2, h⟩ => absurd h (Nat.not_lt.2 (Nat.le_add_left _ _))
abbrev sem1_18 : Fin 2 → DmaSem sig := fun | 0 => cc1_sem18_0 | 1 => cc1_sem18_1 | ⟨_ + 2, h⟩ => absurd h (Nat.not_lt.2 (Nat.le_add_left _ _))
abbrev reads1_18 : Fin grid1.rank → Bool := ![true, true]

abbrev stage1_19 : Fin 2 → Memref sig .tc .vmem S1x1x1x128 .f32 := fun | 0 => Memref.whole cc1_stg19_0 | 1 => Memref.whole cc1_stg19_1 | ⟨_ + 2, h⟩ => absurd h (Nat.not_lt.2 (Nat.le_add_left _ _))
abbrev sem1_19 : Fin 2 → DmaSem sig := fun | 0 => cc1_sem19_0 | 1 => cc1_sem19_1 | ⟨_ + 2, h⟩ => absurd h (Nat.not_lt.2 (Nat.le_add_left _ _))
abbrev reads1_19 : Fin grid1.rank → Bool := ![true, true]
-- ==== ReferenceIdeal.lean ====
abbrev S16896x8192 : Shape := ⟨2, ![16896, 8192]⟩
abbrev S16896x4096 : Shape := ⟨2, ![16896, 4096]⟩
abbrev S16896x128 : Shape := ⟨2, ![16896, 128]⟩
abbrev S1x8x8x256x128 : Shape := ⟨5, ![1, 8, 8, 256, 128]⟩
abbrev S1x8x8x128 : Shape := ⟨4, ![1, 8, 8, 128]⟩
abbrev S1x8x8 : Shape := ⟨3, ![1, 8, 8]⟩
abbrev S1x8x3x2048 : Shape := ⟨4, ![1, 8, 3, 2048]⟩
abbrev S1x4x2048 : Shape := ⟨3, ![1, 4, 2048]⟩
abbrev S1x2048 : Shape := ⟨2, ![1, 2048]⟩
abbrev S512x2048 : Shape := ⟨2, ![512, 2048]⟩
abbrev S8x64x2048 : Shape := ⟨3, ![8, 64, 2048]⟩
abbrev S8x64x8x256 : Shape := ⟨4, ![8, 64, 8, 256]⟩
abbrev S_ : Shape := ⟨0, ![]⟩
abbrev S512x8 : Shape := ⟨2, ![512, 8]⟩
abbrev S8x64x8 : Shape := ⟨3, ![8, 64, 8]⟩
abbrev S8x3x2048 : Shape := ⟨3, ![8, 3, 2048]⟩
abbrev S8x67x2048 : Shape := ⟨3, ![8, 67, 2048]⟩
abbrev S1x1x2048 : Shape := ⟨3, ![1, 1, 2048]⟩
abbrev S2048 : Shape := ⟨1, ![2048]⟩
abbrev S8x64x1024 : Shape := ⟨3, ![8, 64, 1024]⟩
abbrev S8x64x8x128 : Shape := ⟨4, ![8, 64, 8, 128]⟩
abbrev S8x8x64x128 : Shape := ⟨4, ![8, 8, 64, 128]⟩
abbrev S8x8x64x256 : Shape := ⟨4, ![8, 8, 64, 256]⟩
abbrev S8x8x64 : Shape := ⟨3, ![8, 8, 64]⟩
abbrev S8x8x256x128 : Shape := ⟨4, ![8, 8, 256, 128]⟩
abbrev S8x8x128 : Shape := ⟨3, ![8, 8, 128]⟩
abbrev S8x8 : Shape := ⟨2, ![8, 8]⟩
abbrev S64x64 : Shape := ⟨2, ![64, 64]⟩
abbrev S8x8x64x1 : Shape := ⟨4, ![8, 8, 64, 1]⟩
abbrev S8x8x1x64 : Shape := ⟨4, ![8, 8, 1, 64]⟩
abbrev S8x8x64x64 : Shape := ⟨4, ![8, 8, 64, 64]⟩
abbrev S8x8x1 : Shape := ⟨3, ![8, 8, 1]⟩
abbrev S8x8x1x1 : Shape := ⟨4, ![8, 8, 1, 1]⟩
abbrev S8x64x8x1 : Shape := ⟨4, ![8, 64, 8, 1]⟩
abbrev S8x256 : Shape := ⟨2, ![8, 256]⟩
abbrev S1x1x8x256 : Shape := ⟨4, ![1, 1, 8, 256]⟩
abbrev S512x4096 : Shape := ⟨2, ![512, 4096]⟩
abbrev S16384x4096 : Shape := ⟨2, ![16384, 4096]⟩

abbrev nBuf : Space → Nat
  | .hbm => 197
  | .vmem => 0
  | .smem => 0
  | _ => 0

abbrev hbmTy0_0 (i : Nat) : BufTy := match i % 128 with
  | 0 => ⟨S16896x8192, .f32⟩
  | 1 => ⟨S16896x4096, .bf16⟩
  | 2 => ⟨S16896x128, .f32⟩
  | 3 => ⟨S16896x4096, .bf16⟩
  | 4 => ⟨S1x8x8x256x128, .f32⟩
  | 5 => ⟨S1x8x8x128, .f32⟩
  | 6 => ⟨S1x8x8, .f32⟩
  | 7 => ⟨S1x8x3x2048, .f32⟩
  | 8 => ⟨S1x4x2048, .f32⟩
  | 9 => ⟨S1x2048, .f32⟩
  | 10 => ⟨S512x2048, .f32⟩
  | 11 => ⟨S8x64x2048, .f32⟩
  | 12 => ⟨S512x2048, .bf16⟩
  | 13 => ⟨S512x2048, .f32⟩
  | 14 => ⟨S8x64x8x256, .f32⟩
  | 15 => ⟨S512x2048, .f32⟩
  | 16 => ⟨S512x2048, .f32⟩
  | 17 => ⟨S512x2048, .f32⟩
  | 18 => ⟨S_, .f32⟩
  | 19 => ⟨S512x2048, .f32⟩
  | 20 => ⟨S512x2048, .f32⟩
  | 21 => ⟨S_, .f32⟩
  | 22 => ⟨S512x2048, .f32⟩
  | 23 => ⟨S512x2048, .f32⟩
  | 24 => ⟨S8x64x8x256, .f32⟩
  | 25 => ⟨S512x8, .f32⟩
  | 26 => ⟨S8x64x8, .f32⟩
  | 27 => ⟨S512x8, .f32⟩
  | 28 => ⟨S8x64x8, .f32⟩
  | 29 => ⟨S8x3x2048, .f32⟩
  | 30 => ⟨S8x67x2048, .f32⟩
  | 31 => ⟨S8x64x2048, .f32⟩
  | 32 => ⟨S1x1x2048, .f32⟩
  | 33 => ⟨S2048, .f32⟩
  | 34 => ⟨S1x1x2048, .f32⟩
  | 35 => ⟨S8x64x2048, .f32⟩
  | 36 => ⟨S8x64x2048, .f32⟩
  | 37 => ⟨S8x64x2048, .f32⟩
  | 38 => ⟨S1x1x2048, .f32⟩
  | 39 => ⟨S2048, .f32⟩
  | 40 => ⟨S1x1x2048, .f32⟩
  | 41 => ⟨S8x64x2048, .f32⟩
  | 42 => ⟨S8x64x2048, .f32⟩
  | 43 => ⟨S8x64x2048, .f32⟩
  | 44 => ⟨S8x64x2048, .f32⟩
  | 45 => ⟨S1x1x2048, .f32⟩
  | 46 => ⟨S2048, .f32⟩
  | 47 => ⟨S1x1x2048, .f32⟩
  | 48 => ⟨S8x64x2048, .f32⟩
  | 49 => ⟨S8x64x2048, .f32⟩
  | 50 => ⟨S8x64x2048, .f32⟩
  | 51 => ⟨S8x64x2048, .f32⟩
  | 52 => ⟨S1x1x2048, .f32⟩
  | 53 => ⟨S2048, .f32⟩
  | 54 => ⟨S1x1x2048, .f32⟩
  | 55 => ⟨S8x64x2048, .f32⟩
  | 56 => ⟨S8x64x2048, .f32⟩
  | 57 => ⟨S8x64x2048, .f32⟩
  | 58 => ⟨S8x64x2048, .f32⟩
  | 59 => ⟨S8x64x2048, .f32⟩
  | 60 => ⟨S_, .f32⟩
  | 61 => ⟨S8x64x2048, .f32⟩
  | 62 => ⟨S8x64x2048, .f32⟩
  | 63 => ⟨S_, .f32⟩
  | 64 => ⟨S8x64x2048, .f32⟩
  | 65 => ⟨S8x64x2048, .f32⟩
  | 66 => ⟨S8x64x2048, .f32⟩
  | 67 => ⟨S8x64x1024, .f32⟩
  | 68 => ⟨S8x64x8x128, .f32⟩
  | 69 => ⟨S8x64x1024, .f32⟩
  | 70 => ⟨S8x64x8x128, .f32⟩
  | 71 => ⟨S_, .f32⟩
  | 72 => ⟨S8x64x8x128, .f32⟩
  | 73 => ⟨S8x64x8x128, .f32⟩
  | 74 => ⟨S8x8x64x128, .f32⟩
  | 75 => ⟨S8x8x64x128, .f32⟩
  | 76 => ⟨S8x8x64x256, .f32⟩
  | 77 => ⟨S8x8x64, .f32⟩
  | 78 => ⟨S8x8x64, .f32⟩
  | 79 => ⟨S8x8x256x128, .f32⟩
  | 80 => ⟨S8x8x128, .f32⟩
  | 81 => ⟨S8x8, .f32⟩
  | 82 => ⟨S_, .i1⟩
  | 83 => ⟨S64x64, .i1⟩
  | 84 => ⟨S64x64, .i32⟩
  | 85 => ⟨S_, .i32⟩
  | 86 => ⟨S64x64, .i32⟩
  | 87 => ⟨S64x64, .i32⟩
  | 88 => ⟨S64x64, .i32⟩
  | 89 => ⟨S64x64, .i1⟩
  | 90 => ⟨S_, .i1⟩
  | 91 => ⟨S64x64, .i1⟩
  | 92 => ⟨S64x64, .i1⟩
  | 93 => ⟨S_, .f32⟩
  | 94 => ⟨S_, .f32⟩
  | 95 => ⟨S8x8x64, .f32⟩
  | 96 => ⟨S8x8x64x1, .f32⟩
  | 97 => ⟨S8x8x1x64, .f32⟩
  | 98 => ⟨S8x8x64x64, .f32⟩
  | 99 => ⟨S8x8x64x64, .f32⟩
  | 100 => ⟨S8x8x64x64, .f32⟩
  | 101 => ⟨S8x8x1x64, .f32⟩
  | 102 => ⟨S8x8x64x64, .f32⟩
  | 103 => ⟨S8x8x64x64, .f32⟩
  | 104 => ⟨S_, .f32⟩
  | 105 => ⟨S_, .f32⟩
  | 106 => ⟨S8x8x64x64, .i1⟩
  | 107 => ⟨S8x8x64x64, .f32⟩
  | 108 => ⟨S8x8x64x64, .f32⟩
  | 109 => ⟨S8x8x1, .f32⟩
  | 110 => ⟨S8x8x64, .f32⟩
  | 111 => ⟨S8x8x64, .f32⟩
  | 112 => ⟨S_, .f32⟩
  | 113 => ⟨S8x8x64, .f32⟩
  | 114 => ⟨S8x8x64, .f32⟩
  | 115 => ⟨S8x8x64, .f32⟩
  | 116 => ⟨S8x8x64, .f32⟩
  | 117 => ⟨S8x8x64x64, .f32⟩
  | 118 => ⟨S8x8x64x1, .f32⟩
  | 119 => ⟨S8x8x64x64, .f32⟩
  | 120 => ⟨S8x8x64x64, .f32⟩
  | 121 => ⟨S8x8x64x64, .f32⟩
  | 122 => ⟨S8x8x64x64, .f32⟩
  | 123 => ⟨S8x8x64x1, .f32⟩
  | 124 => ⟨S8x8x64x256, .f32⟩
  | 125 => ⟨S8x8x64x256, .f32⟩
  | 126 => ⟨S8x8x64x256, .f32⟩
  | 127 => ⟨S8x8x64x256, .f32⟩
  | _ => ⟨S16896x8192, .f32⟩

abbrev hbmTy0_1 (i : Nat) : BufTy := match i % 128 with
  | 0 => ⟨S8x8x64x256, .f32⟩
  | 1 => ⟨S8x8x64, .f32⟩
  | 2 => ⟨S8x8x64, .f32⟩
  | 3 => ⟨S_, .f32⟩
  | 4 => ⟨S8x8x64, .f32⟩
  | 5 => ⟨S8x8x64, .f32⟩
  | 6 => ⟨S8x8x64, .f32⟩
  | 7 => ⟨S8x8x64, .f32⟩
  | 8 => ⟨S8x8x64, .f32⟩
  | 9 => ⟨S8x8x64, .f32⟩
  | 10 => ⟨S8x8x64x1, .f32⟩
  | 11 => ⟨S8x8x64x256, .f32⟩
  | 12 => ⟨S8x8x64x256, .f32⟩
  | 13 => ⟨S8x8x1, .f32⟩
  | 14 => ⟨S8x8, .f32⟩
  | 15 => ⟨S8x8x1, .f32⟩
  | 16 => ⟨S8x8x64, .f32⟩
  | 17 => ⟨S8x8x64, .f32⟩
  | 18 => ⟨S8x8x64, .f32⟩
  | 19 => ⟨S8x8, .f32⟩
  | 20 => ⟨S_, .f32⟩
  | 21 => ⟨S8x8, .f32⟩
  | 22 => ⟨S8x8, .f32⟩
  | 23 => ⟨S8x8, .f32⟩
  | 24 => ⟨S8x8, .f32⟩
  | 25 => ⟨S8x8, .f32⟩
  | 26 => ⟨S8x8x1, .f32⟩
  | 27 => ⟨S8x8x64, .f32⟩
  | 28 => ⟨S8x8x64, .f32⟩
  | 29 => ⟨S8x8x64, .f32⟩
  | 30 => ⟨S8x8x1x1, .f32⟩
  | 31 => ⟨S8x8x256x128, .f32⟩
  | 32 => ⟨S8x8x256x128, .f32⟩
  | 33 => ⟨S8x8x64x1, .f32⟩
  | 34 => ⟨S8x8x64x128, .f32⟩
  | 35 => ⟨S8x8x64x128, .f32⟩
  | 36 => ⟨S8x8x256x128, .f32⟩
  | 37 => ⟨S8x8x256x128, .f32⟩
  | 38 => ⟨S8x8x1, .f32⟩
  | 39 => ⟨S8x8x128, .f32⟩
  | 40 => ⟨S8x8x128, .f32⟩
  | 41 => ⟨S8x8x128, .f32⟩
  | 42 => ⟨S8x8x128, .f32⟩
  | 43 => ⟨S8x64x8x256, .f32⟩
  | 44 => ⟨S8x64x8x256, .f32⟩
  | 45 => ⟨S_, .f32⟩
  | 46 => ⟨S8x64x8, .f32⟩
  | 47 => ⟨S8x64x8x1, .f32⟩
  | 48 => ⟨S_, .f32⟩
  | 49 => ⟨S8x64x8x1, .f32⟩
  | 50 => ⟨S8x64x8x1, .f32⟩
  | 51 => ⟨S_, .f32⟩
  | 52 => ⟨S8x64x8x1, .f32⟩
  | 53 => ⟨S8x64x8x1, .f32⟩
  | 54 => ⟨S8x64x8x1, .f32⟩
  | 55 => ⟨S8x64x8x256, .f32⟩
  | 56 => ⟨S8x64x8x256, .f32⟩
  | 57 => ⟨S8x64x8x256, .f32⟩
  | 58 => ⟨S2048, .f32⟩
  | 59 => ⟨S8x256, .f32⟩
  | 60 => ⟨S1x1x8x256, .f32⟩
  | 61 => ⟨S8x64x8x256, .f32⟩
  | 62 => ⟨S8x64x8x256, .f32⟩
  | 63 => ⟨S512x2048, .f32⟩
  | 64 => ⟨S512x2048, .bf16⟩
  | 65 => ⟨S512x2048, .bf16⟩
  | 66 => ⟨S512x4096, .bf16⟩
  | 67 => ⟨S16384x4096, .bf16⟩
  | 68 => ⟨S16896x4096, .bf16⟩
  | _ => ⟨S16896x8192, .f32⟩

abbrev hbmTy (i : Nat) : BufTy := match i / 128 with
  | 0 => hbmTy0_0 i
  | 1 => hbmTy0_1 i
  | _ => ⟨S16896x8192, .f32⟩

abbrev bufTy : (tb : Table) → Fin (tcTables nBuf tb) → BufTy
  | .hbm, ⟨i, _⟩ => hbmTy i
  | _, _ => ⟨S16896x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_v9 : Ref sig .tc := ⟨.hbm, 20, rfl⟩
abbrev main_cst_0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_call0_v0 : Ref sig .tc := ⟨.hbm, 58, rfl⟩
abbrev main_call0_v1 : Ref sig .tc := ⟨.hbm, 59, rfl⟩
abbrev main_call0_cst : Ref sig .tc := ⟨.hbm, 60, rfl⟩
abbrev main_call0_v2 : Ref sig .tc := ⟨.hbm, 61, rfl⟩
abbrev main_call0_v3 : Ref sig .tc := ⟨.hbm, 62, rfl⟩
abbrev main_call0_cst_0 : Ref sig .tc := ⟨.hbm, 63, rfl⟩
abbrev main_call0_v4 : Ref sig .tc := ⟨.hbm, 64, rfl⟩
abbrev main_call0_v5 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_1 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_c : Ref sig .tc := ⟨.hbm, 82, rfl⟩
abbrev main_v61 : Ref sig .tc := ⟨.hbm, 83, rfl⟩
abbrev main_call1_v0 : Ref sig .tc := ⟨.hbm, 84, rfl⟩
abbrev main_call1_c : Ref sig .tc := ⟨.hbm, 85, rfl⟩
abbrev main_call1_v1 : Ref sig .tc := ⟨.hbm, 86, rfl⟩
abbrev main_call1_v2 : Ref sig .tc := ⟨.hbm, 87, rfl⟩
abbrev main_call1_v3 : Ref sig .tc := ⟨.hbm, 88, rfl⟩
abbrev main_call1_v4 : Ref sig .tc := ⟨.hbm, 89, rfl⟩
abbrev main_call1_c_0 : Ref sig .tc := ⟨.hbm, 90, rfl⟩
abbrev main_call1_v5 : Ref sig .tc := ⟨.hbm, 91, rfl⟩
abbrev main_v62 : Ref sig .tc := ⟨.hbm, 92, rfl⟩
abbrev main_call2_call0_cst : Ref sig .tc := ⟨.hbm, 93, rfl⟩
abbrev main_call2_call0_v0 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_cst_2 : Ref sig .tc := ⟨.hbm, 104, rfl⟩
abbrev main_call3_v0 : Ref sig .tc := ⟨.hbm, 105, rfl⟩
abbrev main_call3_v1 : Ref sig .tc := ⟨.hbm, 106, rfl⟩
abbrev main_call3_v2 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_cst_3 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_cst_4 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_cst_5 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩
abbrev main_v129 : Ref sig .tc := ⟨.hbm, 168, rfl⟩
abbrev main_v130 : Ref sig .tc := ⟨.hbm, 169, rfl⟩
abbrev main_v131 : Ref sig .tc := ⟨.hbm, 170, rfl⟩
abbrev main_v132 : Ref sig .tc := ⟨.hbm, 171, rfl⟩
abbrev main_v133 : Ref sig .tc := ⟨.hbm, 172, rfl⟩
abbrev main_cst_6 : Ref sig .tc := ⟨.hbm, 173, rfl⟩
abbrev main_v134 : Ref sig .tc := ⟨.hbm, 174, rfl⟩
abbrev main_v135 : Ref sig .tc := ⟨.hbm, 175, rfl⟩
abbrev main_cst_7 : Ref sig .tc := ⟨.hbm, 176, rfl⟩
abbrev main_v136 : Ref sig .tc := ⟨.hbm, 177, rfl⟩
abbrev main_v137 : Ref sig .tc := ⟨.hbm, 178, rfl⟩
abbrev main_cst_8 : Ref sig .tc := ⟨.hbm, 179, rfl⟩
abbrev main_v138 : Ref sig .tc := ⟨.hbm, 180, rfl⟩
abbrev main_v139 : Ref sig .tc := ⟨.hbm, 181, rfl⟩
abbrev main_v140 : Ref sig .tc := ⟨.hbm, 182, rfl⟩
abbrev main_v141 : Ref sig .tc := ⟨.hbm, 183, rfl⟩
abbrev main_v142 : Ref sig .tc := ⟨.hbm, 184, rfl⟩
abbrev main_v143 : Ref sig .tc := ⟨.hbm, 185, rfl⟩
abbrev main_v144 : Ref sig .tc := ⟨.hbm, 186, rfl⟩
abbrev main_v145 : Ref sig .tc := ⟨.hbm, 187, rfl⟩
abbrev main_v146 : Ref sig .tc := ⟨.hbm, 188, rfl⟩
abbrev main_v147 : Ref sig .tc := ⟨.hbm, 189, rfl⟩
abbrev main_v148 : Ref sig .tc := ⟨.hbm, 190, rfl⟩
abbrev main_v149 : Ref sig .tc := ⟨.hbm, 191, rfl⟩
abbrev main_v150 : Ref sig .tc := ⟨.hbm, 192, rfl⟩
abbrev main_v151 : Ref sig .tc := ⟨.hbm, 193, rfl⟩
abbrev main_v152 : Ref sig .tc := ⟨.hbm, 194, rfl⟩
abbrev main_v153 : Ref sig .tc := ⟨.hbm, 195, rfl⟩
abbrev main_v154 : Ref sig .tc := ⟨.hbm, 196, rfl⟩

abbrev nD : Nat := 1
abbrev τ : Topo := Topo.v7x

variable {F : FTy → Type} [FloatOps F]
-- ==== Kernel2.lean ====
abbrev S41984x4096 : Shape := ⟨2, ![41984, 4096]⟩
abbrev S1x16x4096x1024 : Shape := ⟨4, ![1, 16, 4096, 1024]⟩
abbrev S82 : Shape := ⟨1, ![82]⟩
abbrev S1 : Shape := ⟨1, ![1]⟩
abbrev S16x4096x1024 : Shape := ⟨3, ![16, 4096, 1024]⟩
abbrev S41984x1024 : Shape := ⟨2, ![41984, 1024]⟩
abbrev S512x4096 : Shape := ⟨2, ![512, 4096]⟩
abbrev S1x4096x512 : Shape := ⟨3, ![1, 4096, 512]⟩
abbrev S512x512 : Shape := ⟨2, ![512, 512]⟩
abbrev S4096x512 : Shape := ⟨2, ![4096, 512]⟩

abbrev nBuf : Space → Nat
  | .hbm => 6
  | .vmem => 8
  | .smem => 2
  | _ => 0

abbrev bufTy : (tb : Table) → Fin (tcTables nBuf tb) → BufTy
  | .hbm, ⟨0, _⟩ => ⟨S41984x4096, .bf16⟩
  | .hbm, ⟨1, _⟩ => ⟨S1x16x4096x1024, .f32⟩
  | .hbm, ⟨2, _⟩ => ⟨S1x16x4096x1024, .f32⟩
  | .hbm, ⟨3, _⟩ => ⟨S16x4096x1024, .f32⟩
  | .hbm, ⟨4, _⟩ => ⟨S16x4096x1024, .f32⟩
  | .hbm, ⟨5, _⟩ => ⟨S41984x1024, .bf16⟩
  | .local _ .vmem, ⟨0, _⟩ => ⟨S512x4096, .bf16⟩
  | .local _ .vmem, ⟨1, _⟩ => ⟨S512x4096, .bf16⟩
  | .local _ .vmem, ⟨2, _⟩ => ⟨S1x4096x512, .f32⟩
  | .local _ .vmem, ⟨3, _⟩ => ⟨S1x4096x512, .f32⟩
  | .local _ .vmem, ⟨4, _⟩ => ⟨S1x4096x512, .f32⟩
  | .local _ .vmem, ⟨5, _⟩ => ⟨S1x4096x512, .f32⟩
  | .local _ .vmem, ⟨6, _⟩ => ⟨S512x512, .bf16⟩
  | .local _ .vmem, ⟨7, _⟩ => ⟨S512x512, .bf16⟩
  | .local _ .smem, ⟨0, _⟩ => ⟨S82, .i32⟩
  | .local _ .smem, ⟨1, _⟩ => ⟨S1, .i32⟩
  | _, _ => ⟨S41984x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_arg3 : Ref sig .tc := ⟨.smem, 0, rfl⟩
abbrev main_arg4 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 82], ![false, false]⟩

abbrev pre0 : Pipeline.Prefetch sig := ⟨2, ![main_arg3.idx, main_arg4.idx], fun | 0 => main_arg3.names | 1 => main_arg4.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_cond1 (i : grid0.Coords) (v0 : BitVec 32) : BitVec 1 :=
  let arg1 : BitVec 32 := BitVec.ofNat 32 (i 1).val
  let v1 : BitVec 1 := Scalar.cmpi .slt arg1 v0
  let v2 : BitVec 32 := Scalar.extui v1
  let c0_i32 : BitVec 32 := 0#32
  let v3 : BitVec 1 := Scalar.cmpi .ne v2 c0_i32
  v3

def k0_cond2 (i : grid0.Coords) (v4 : BitVec 32) : BitVec 1 :=
  let arg1 : BitVec 32 := BitVec.ofNat 32 (i 1).val
  let v5 : BitVec 1 := Scalar.cmpi .sge arg1 v4
  let v6 : BitVec 32 := Scalar.extui v5
  let c0_i32_1 : BitVec 32 := 0#32
  let v7 : BitVec 1 := Scalar.cmpi .ne v6 c0_i32_1
  v7

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (k0_off1_inb : ∀ i : grid0.Coords, ∀ a, (k0_off1 i) a + S1.size a ≤ S82.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S82) ![v0.toNat] S1.size (k0_off1_inb i)) numel1_S1
  let c0_i32 : BitVec 32 := 0#32
  let c0_i32_0 : BitVec 32 := 0#32
  ![v1.toNat, c0_i32.toNat, arg0.toNat]

def cc0_transform_2 (k0_off1_inb : ∀ i : grid0.Coords, ∀ a, (k0_off1 i) a + S1.size a ≤ S82.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S82) ![v0.toNat] S1.size (k0_off1_inb i)) numel1_S1
  let c0_i32 : BitVec 32 := 0#32
  let c0_i32_0 : BitVec 32 := 0#32
  ![v1.toNat, c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4096x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S41984x4096 : Shape := ⟨2, ![41984, 4096]⟩
abbrev S1x16x4096x1024 : Shape := ⟨4, ![1, 16, 4096, 1024]⟩
abbrev S82 : Shape := ⟨1, ![82]⟩
abbrev S1 : Shape := ⟨1, ![1]⟩
abbrev S_ : Shape := ⟨0, ![]⟩
abbrev S82x1 : Shape := ⟨2, ![82, 1]⟩
abbrev S82x512 : Shape := ⟨2, ![82, 512]⟩
abbrev S41984 : Shape := ⟨1, ![41984]⟩
abbrev S16x4096x1024 : Shape := ⟨3, ![16, 4096, 1024]⟩
abbrev S16x1024x41984 : Shape := ⟨3, ![16, 1024, 41984]⟩
abbrev S16x41984x1024 : Shape := ⟨3, ![16, 41984, 1024]⟩
abbrev S1x41984 : Shape := ⟨2, ![1, 41984]⟩
abbrev S16 : Shape := ⟨1, ![16]⟩
abbrev S16x1 : Shape := ⟨2, ![16, 1]⟩
abbrev S16x41984 : Shape := ⟨2, ![16, 41984]⟩
abbrev S16x41984x1 : Shape := ⟨3, ![16, 41984, 1]⟩
abbrev S41984x1024 : Shape := ⟨2, ![41984, 1024]⟩
abbrev S41984x1 : Shape := ⟨2, ![41984, 1]⟩

abbrev nBuf : Space → Nat
  | .hbm => 53
  | .vmem => 0
  | .smem => 0
  | _ => 0

abbrev bufTy : (tb : Table) → Fin (tcTables nBuf tb) → BufTy
  | .hbm, ⟨0, _⟩ => ⟨S41984x4096, .bf16⟩
  | .hbm, ⟨1, _⟩ => ⟨S1x16x4096x1024, .f32⟩
  | .hbm, ⟨2, _⟩ => ⟨S1x16x4096x1024, .f32⟩
  | .hbm, ⟨3, _⟩ => ⟨S82, .i32⟩
  | .hbm, ⟨4, _⟩ => ⟨S1, .i32⟩
  | .hbm, ⟨5, _⟩ => ⟨S41984x4096, .f32⟩
  | .hbm, ⟨6, _⟩ => ⟨S82, .i32⟩
  | .hbm, ⟨7, _⟩ => ⟨S_, .i32⟩
  | .hbm, ⟨8, _⟩ => ⟨S82, .i32⟩
  | .hbm, ⟨9, _⟩ => ⟨S82, .i1⟩
  | .hbm, ⟨10, _⟩ => ⟨S82x1, .i32⟩
  | .hbm, ⟨11, _⟩ => ⟨S82x512, .i32⟩
  | .hbm, ⟨12, _⟩ => ⟨S41984, .i32⟩
  | .hbm, ⟨13, _⟩ => ⟨S82x1, .i1⟩
  | .hbm, ⟨14, _⟩ => ⟨S82x512, .i1⟩
  | .hbm, ⟨15, _⟩ => ⟨S41984, .i1⟩
  | .hbm, ⟨16, _⟩ => ⟨S16x4096x1024, .f32⟩
  | .hbm, ⟨17, _⟩ => ⟨S16x1024x41984, .f32⟩
  | .hbm, ⟨18, _⟩ => ⟨S16x41984x1024, .f32⟩
  | .hbm, ⟨19, _⟩ => ⟨S16x41984x1024, .f32⟩
  | .hbm, ⟨20, _⟩ => ⟨S16x41984x1024, .f32⟩
  | .hbm, ⟨21, _⟩ => ⟨S_, .f32⟩
  | .hbm, ⟨22, _⟩ => ⟨S16x41984x1024, .f32⟩
  | .hbm, ⟨23, _⟩ => ⟨S16x41984x1024, .f32⟩
  | .hbm, ⟨24, _⟩ => ⟨S_, .f32⟩
  | .hbm, ⟨25, _⟩ => ⟨S16x41984x1024, .f32⟩
  | .hbm, ⟨26, _⟩ => ⟨S16x41984x1024, .f32⟩
  | .hbm, ⟨27, _⟩ => ⟨S16x41984x1024, .f32⟩
  | .hbm, ⟨28, _⟩ => ⟨S16x4096x1024, .f32⟩
  | .hbm, ⟨29, _⟩ => ⟨S16x1024x41984, .f32⟩
  | .hbm, ⟨30, _⟩ => ⟨S16x41984x1024, .f32⟩
  | .hbm, ⟨31, _⟩ => ⟨S16x41984x1024, .f32⟩
  | .hbm, ⟨32, _⟩ => ⟨S1x41984, .i32⟩
  | .hbm, ⟨33, _⟩ => ⟨S16, .i32⟩
  | .hbm, ⟨34, _⟩ => ⟨S16x1, .i32⟩
  | .hbm, ⟨35, _⟩ => ⟨S16x41984, .i32⟩
  | .hbm, ⟨36, _⟩ => ⟨S16x41984, .i32⟩
  | .hbm, ⟨37, _⟩ => ⟨S16x41984, .i1⟩
  | .hbm, ⟨38, _⟩ => ⟨S16x41984x1, .i1⟩
  | .hbm, ⟨39, _⟩ => ⟨S_, .f32⟩
  | .hbm, ⟨40, _⟩ => ⟨S_, .f32⟩
  | .hbm, ⟨41, _⟩ => ⟨S16x41984x1024, .i1⟩
  | .hbm, ⟨42, _⟩ => ⟨S16x41984x1024, .f32⟩
  | .hbm, ⟨43, _⟩ => ⟨S16x41984x1024, .f32⟩
  | .hbm, ⟨44, _⟩ => ⟨S_, .f32⟩
  | .hbm, ⟨45, _⟩ => ⟨S41984x1024, .f32⟩
  | .hbm, ⟨46, _⟩ => ⟨S41984x1, .i1⟩
  | .hbm, ⟨47, _⟩ => ⟨S_, .f32⟩
  | .hbm, ⟨48, _⟩ => ⟨S_, .f32⟩
  | .hbm, ⟨49, _⟩ => ⟨S41984x1024, .i1⟩
  | .hbm, ⟨50, _⟩ => ⟨S41984x1024, .f32⟩
  | .hbm, ⟨51, _⟩ => ⟨S41984x1024, .f32⟩
  | .hbm, ⟨52, _⟩ => ⟨S41984x1024, .bf16⟩
  | _, _ => ⟨S41984x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_call0_v0 : Ref sig .tc := ⟨.hbm, 19, rfl⟩
abbrev main_call0_v1 : Ref sig .tc := ⟨.hbm, 20, rfl⟩
abbrev main_call0_cst : Ref sig .tc := ⟨.hbm, 21, rfl⟩
abbrev main_call0_v2 : Ref sig .tc := ⟨.hbm, 22, rfl⟩
abbrev main_call0_v3 : Ref sig .tc := ⟨.hbm, 23, rfl⟩
abbrev main_call0_cst_0 : Ref sig .tc := ⟨.hbm, 24, rfl⟩
abbrev main_call0_v4 : Ref sig .tc := ⟨.hbm, 25, rfl⟩
abbrev main_call0_v5 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_v26 : Ref sig .tc := ⟨.hbm, 43, rfl⟩
abbrev main_cst_0 : Ref sig .tc := ⟨.hbm, 44, rfl⟩
abbrev main_v27 : Ref sig .tc := ⟨.hbm, 45, rfl⟩
abbrev main_v28 : Ref sig .tc := ⟨.hbm, 46, rfl⟩
abbrev main_cst_1 : Ref sig .tc := ⟨.hbm, 47, rfl⟩
abbrev main_call2_v0 : Ref sig .tc := ⟨.hbm, 48, rfl⟩
abbrev main_call2_v1 : Ref sig .tc := ⟨.hbm, 49, rfl⟩
abbrev main_call2_v2 : Ref sig .tc := ⟨.hbm, 50, rfl⟩
abbrev main_v29 : Ref sig .tc := ⟨.hbm, 51, rfl⟩
abbrev main_v30 : Ref sig .tc := ⟨.hbm, 52, rfl⟩

abbrev nD : Nat := 1
abbrev τ : Topo := Topo.v7x

variable {F : FTy → Type} [FloatOps F]
-- ==== Kernel3.lean ====
abbrev S8x2048x4096 : Shape := ⟨3, ![8, 2048, 4096]⟩
abbrev S8x64x4096 : Shape := ⟨3, ![8, 64, 4096]⟩
abbrev S1x4096x12320 : Shape := ⟨3, ![1, 4096, 12320]⟩
abbrev S1x16 : Shape := ⟨2, ![1, 16]⟩
abbrev S1x8 : Shape := ⟨2, ![1, 8]⟩
abbrev S1x8x3x2048 : Shape := ⟨4, ![1, 8, 3, 2048]⟩
abbrev S4096x12320 : Shape := ⟨2, ![4096, 12320]⟩
abbrev S4096x6144 : Shape := ⟨2, ![4096, 6144]⟩
abbrev S4096x16 : Shape := ⟨2, ![4096, 16]⟩
abbrev S4096x8 : Shape := ⟨2, ![4096, 8]⟩
abbrev S4096x32 : Shape := ⟨2, ![4096, 32]⟩
abbrev S_ : Shape := ⟨0, ![]⟩
abbrev S4096x128 : Shape := ⟨2, ![4096, 128]⟩
abbrev S16 : Shape := ⟨1, ![16]⟩
abbrev S8 : Shape := ⟨1, ![8]⟩
abbrev S32 : Shape := ⟨1, ![32]⟩
abbrev S128 : Shape := ⟨1, ![128]⟩
abbrev S1x128 : Shape := ⟨2, ![1, 128]⟩
abbrev S16384x4096 : Shape := ⟨2, ![16384, 4096]⟩
abbrev S512x4096 : Shape := ⟨2, ![512, 4096]⟩
abbrev S16896x4096 : Shape := ⟨2, ![16896, 4096]⟩
abbrev S16896x8192 : Shape := ⟨2, ![16896, 8192]⟩
abbrev S16896x128 : Shape := ⟨2, ![16896, 128]⟩
abbrev S1056x4096 : Shape := ⟨2, ![1056, 4096]⟩
abbrev S4096x512 : Shape := ⟨2, ![4096, 512]⟩
abbrev S1056x512 : Shape := ⟨2, ![1056, 512]⟩
abbrev S1056x128 : Shape := ⟨2, ![1056, 128]⟩
abbrev S16384x128 : Shape := ⟨2, ![16384, 128]⟩
abbrev S8x2048x128 : Shape := ⟨3, ![8, 2048, 128]⟩
abbrev S8x3x2048 : Shape := ⟨3, ![8, 3, 2048]⟩
abbrev S512x128 : Shape := ⟨2, ![512, 128]⟩
abbrev S8x64x128 : Shape := ⟨3, ![8, 64, 128]⟩
abbrev S16384x8192 : Shape := ⟨2, ![16384, 8192]⟩
abbrev S16384x2048 : Shape := ⟨2, ![16384, 2048]⟩
abbrev S8x2048x16x128 : Shape := ⟨4, ![8, 2048, 16, 128]⟩
abbrev S8x2048x2048 : Shape := ⟨3, ![8, 2048, 2048]⟩
abbrev S8x6x2048 : Shape := ⟨3, ![8, 6, 2048]⟩
abbrev S8x2048x16 : Shape := ⟨3, ![8, 2048, 16]⟩
abbrev S1x8x2048x16x128 : Shape := ⟨5, ![1, 8, 2048, 16, 128]⟩
abbrev S1x8x2048x16 : Shape := ⟨4, ![1, 8, 2048, 16]⟩
abbrev S512x8192 : Shape := ⟨2, ![512, 8192]⟩
abbrev S512x2048 : Shape := ⟨2, ![512, 2048]⟩
abbrev S8x64x16x128 : Shape := ⟨4, ![8, 64, 16, 128]⟩
abbrev S8x64x2048 : Shape := ⟨3, ![8, 64, 2048]⟩
abbrev S8x64x16 : Shape := ⟨3, ![8, 64, 16]⟩
abbrev S1x8x64x16x128 : Shape := ⟨5, ![1, 8, 64, 16, 128]⟩
abbrev S1x8x64x16 : Shape := ⟨4, ![1, 8, 64, 16]⟩
abbrev S16896x32 : Shape := ⟨2, ![16896, 32]⟩

abbrev nBuf : Space → Nat
  | .hbm => 77
  | .vmem => 14
  | .smem => 0
  | _ => 0

abbrev bufTy : (tb : Table) → Fin (tcTables nBuf tb) → BufTy
  | .hbm, ⟨0, _⟩ => ⟨S8x2048x4096, .f32⟩
  | .hbm, ⟨1, _⟩ => ⟨S8x64x4096, .f32⟩
  | .hbm, ⟨2, _⟩ => ⟨S1x4096x12320, .f32⟩
  | .hbm, ⟨3, _⟩ => ⟨S1x16, .f32⟩
  | .hbm, ⟨4, _⟩ => ⟨S1x8, .f32⟩
  | .hbm, ⟨5, _⟩ => ⟨S1x8, .f32⟩
  | .hbm, ⟨6, _⟩ => ⟨S1x8x3x2048, .f32⟩
  | .hbm, ⟨7, _⟩ => ⟨S4096x12320, .f32⟩
  | .hbm, ⟨8, _⟩ => ⟨S4096x6144, .f32⟩
  | .hbm, ⟨9, _⟩ => ⟨S4096x6144, .bf16⟩
  | .hbm, ⟨10, _⟩ => ⟨S4096x12320, .f32⟩
  | .hbm, ⟨11, _⟩ => ⟨S4096x6144, .f32⟩
  | .hbm, ⟨12, _⟩ => ⟨S4096x6144, .bf16⟩
  | .hbm, ⟨13, _⟩ => ⟨S4096x12320, .f32⟩
  | .hbm, ⟨14, _⟩ => ⟨S4096x16, .f32⟩
  | .hbm, ⟨15, _⟩ => ⟨S4096x12320, .f32⟩
  | .hbm, ⟨16, _⟩ => ⟨S4096x8, .f32⟩
  | .hbm, ⟨17, _⟩ => ⟨S4096x12320, .f32⟩
  | .hbm, ⟨18, _⟩ => ⟨S4096x8, .f32⟩
  | .hbm, ⟨19, _⟩ => ⟨S4096x32, .f32⟩
  | .hbm, ⟨20, _⟩ => ⟨S_, .i32⟩
  | .hbm, ⟨21, _⟩ => ⟨S_, .f32⟩
  | .hbm, ⟨22, _⟩ => ⟨S4096x128, .f32⟩
  | .hbm, ⟨23, _⟩ => ⟨S4096x128, .bf16⟩
  | .hbm, ⟨24, _⟩ => ⟨S16, .f32⟩
  | .hbm, ⟨25, _⟩ => ⟨S8, .f32⟩
  | .hbm, ⟨26, _⟩ => ⟨S8, .f32⟩
  | .hbm, ⟨27, _⟩ => ⟨S32, .f32⟩
  | .hbm, ⟨28, _⟩ => ⟨S_, .i32⟩
  | .hbm, ⟨29, _⟩ => ⟨S_, .f32⟩
  | .hbm, ⟨30, _⟩ => ⟨S128, .f32⟩
  | .hbm, ⟨31, _⟩ => ⟨S1x128, .f32⟩
  | .hbm, ⟨32, _⟩ => ⟨S16384x4096, .f32⟩
  | .hbm, ⟨33, _⟩ => ⟨S512x4096, .f32⟩
  | .hbm, ⟨34, _⟩ => ⟨S16896x4096, .f32⟩
  | .hbm, ⟨35, _⟩ => ⟨S16896x4096, .bf16⟩
  | .hbm, ⟨36, _⟩ => ⟨S16896x8192, .f32⟩
  | .hbm, ⟨37, _⟩ => ⟨S16896x4096, .bf16⟩
  | .hbm, ⟨38, _⟩ => ⟨S16896x128, .f32⟩
  | .hbm, ⟨39, _⟩ => ⟨S16384x128, .f32⟩
  | .hbm, ⟨40, _⟩ => ⟨S8x2048x128, .f32⟩
  | .hbm, ⟨41, _⟩ => ⟨S_, .f32⟩
  | .hbm, ⟨42, _⟩ => ⟨S8x3x2048, .f32⟩
  | .hbm, ⟨43, _⟩ => ⟨S512x128, .f32⟩
  | .hbm, ⟨44, _⟩ => ⟨S8x64x128, .f32⟩
  | .hbm, ⟨45, _⟩ => ⟨S16384x8192, .f32⟩
  | .hbm, ⟨46, _⟩ => ⟨S16384x2048, .f32⟩
  | .hbm, ⟨47, _⟩ => ⟨S8x2048x16x128, .f32⟩
  | .hbm, ⟨48, _⟩ => ⟨S16384x2048, .f32⟩
  | .hbm, ⟨49, _⟩ => ⟨S8x2048x16x128, .f32⟩
  | .hbm, ⟨50, _⟩ => ⟨S16384x2048, .f32⟩
  | .hbm, ⟨51, _⟩ => ⟨S8x2048x2048, .f32⟩
  | .hbm, ⟨52, _⟩ => ⟨S8x3x2048, .f32⟩
  | .hbm, ⟨53, _⟩ => ⟨S8x6x2048, .f32⟩
  | .hbm, ⟨54, _⟩ => ⟨S8x3x2048, .f32⟩
  | .hbm, ⟨55, _⟩ => ⟨S8x2048x16, .f32⟩
  | .hbm, ⟨56, _⟩ => ⟨S1x8x2048x16x128, .f32⟩
  | .hbm, ⟨57, _⟩ => ⟨S1x8x2048x16x128, .f32⟩
  | .hbm, ⟨58, _⟩ => ⟨S1x8x2048x16, .f32⟩
  | .hbm, ⟨59, _⟩ => ⟨S1x8x3x2048, .f32⟩
  | .hbm, ⟨60, _⟩ => ⟨S8x3x2048, .f32⟩
  | .hbm, ⟨61, _⟩ => ⟨S512x8192, .f32⟩
  | .hbm, ⟨62, _⟩ => ⟨S512x2048, .f32⟩
  | .hbm, ⟨63, _⟩ => ⟨S8x64x16x128, .f32⟩
  | .hbm, ⟨64, _⟩ => ⟨S512x2048, .f32⟩
  | .hbm, ⟨65, _⟩ => ⟨S8x64x16x128, .f32⟩
  | .hbm, ⟨66, _⟩ => ⟨S512x2048, .f32⟩
  | .hbm, ⟨67, _⟩ => ⟨S8x64x2048, .f32⟩
  | .hbm, ⟨68, _⟩ => ⟨S8x3x2048, .f32⟩
  | .hbm, ⟨69, _⟩ => ⟨S8x6x2048, .f32⟩
  | .hbm, ⟨70, _⟩ => ⟨S8x3x2048, .f32⟩
  | .hbm, ⟨71, _⟩ => ⟨S8x64x16, .f32⟩
  | .hbm, ⟨72, _⟩ => ⟨S1x8x64x16x128, .f32⟩
  | .hbm, ⟨73, _⟩ => ⟨S1x8x64x16x128, .f32⟩
  | .hbm, ⟨74, _⟩ => ⟨S1x8x64x16, .f32⟩
  | .hbm, ⟨75, _⟩ => ⟨S1x8x3x2048, .f32⟩
  | .hbm, ⟨76, _⟩ => ⟨S16896x32, .f32⟩
  | .local _ .vmem, ⟨0, _⟩ => ⟨S1056x4096, .bf16⟩
  | .local _ .vmem, ⟨1, _⟩ => ⟨S1056x4096, .bf16⟩
  | .local _ .vmem, ⟨2, _⟩ => ⟨S4096x512, .bf16⟩
  | .local _ .vmem, ⟨3, _⟩ => ⟨S4096x512, .bf16⟩
  | .local _ .vmem, ⟨4, _⟩ => ⟨S4096x512, .bf16⟩
  | .local _ .vmem, ⟨5, _⟩ => ⟨S4096x512, .bf16⟩
  | .local _ .vmem, ⟨6, _⟩ => ⟨S4096x128, .bf16⟩
  | .local _ .vmem, ⟨7, _⟩ => ⟨S1x128, .f32⟩
  | .local _ .vmem, ⟨8, _⟩ => ⟨S1056x512, .f32⟩
  | .local _ .vmem, ⟨9, _⟩ => ⟨S1056x512, .f32⟩
  | .local _ .vmem, ⟨10, _⟩ => ⟨S1056x512, .bf16⟩
  | .local _ .vmem, ⟨11, _⟩ => ⟨S1056x512, .bf16⟩
  | .local _ .vmem, ⟨12, _⟩ => ⟨S1056x128, .f32⟩
  | .local _ .vmem, ⟨13, _⟩ => ⟨S1056x128, .f32⟩
  | _, _ => ⟨S8x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c : Ref sig .tc := ⟨.hbm, 20, rfl⟩
abbrev main_call0_v0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_c_0 : Ref sig .tc := ⟨.hbm, 28, rfl⟩
abbrev main_call1_v0 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25_0 : Ref sig .tc := ⟨.hbm, 36, rfl⟩
abbrev main_v25_1 : Ref sig .tc := ⟨.hbm, 37, rfl⟩
abbrev main_v25_2 : Ref sig .tc := ⟨.hbm, 38, rfl⟩
abbrev main_v26 : Ref sig .tc := ⟨.hbm, 39, rfl⟩
abbrev main_v27 : Ref sig .tc := ⟨.hbm, 40, rfl⟩
abbrev main_cst : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![16, 24], ![false, false]⟩

def k0_cond1 (i : grid0.Coords) : BitVec 1 :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c3_i32 : BitVec 32 := 3#32
  let v17 : BitVec 1 := Scalar.cmpi .slt v16 c3_i32
  let v18 : BitVec 32 := Scalar.extui v17
  let c0_i32_4 : BitVec 32 := 0#32
  let v19 : BitVec 1 := Scalar.cmpi .ne v18 c0_i32_4
  v19

def k0_cond3 (i : grid0.Coords) : BitVec 1 :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c0_i32_12 : BitVec 32 := 0#32
  let v31 : BitVec 1 := Scalar.cmpi .eq v16 c0_i32_12
  let c4_i32_13 : BitVec 32 := 4#32
  let v32 : BitVec 1 := Scalar.cmpi .eq v16 c4_i32_13
  let v33 : BitVec 1 := Scalar.ori v31 v32
  let v_true : BitVec 1 := 1#1
  let v36 : BitVec 1 := Scalar.xori v33 v_true
  let v37 : BitVec 32 := Scalar.extui v36
  let c0_i32_15 : BitVec 32 := 0#32
  let v38 : BitVec 1 := Scalar.cmpi .ne v37 c0_i32_15
  v38

def k0_cond4 (i : grid0.Coords) : BitVec 1 :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c3_i32_5 : BitVec 32 := 3#32
  let v20 : BitVec 1 := Scalar.cmpi .sge v16 c3_i32_5
  let v21 : BitVec 32 := Scalar.extui v20
  let c0_i32_6 : BitVec 32 := 0#32
  let v22 : BitVec 1 := Scalar.cmpi .ne v21 c0_i32_6
  v22

def k0_cond6 (i : grid0.Coords) : BitVec 1 :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c0_i32_12 : BitVec 32 := 0#32
  let v31 : BitVec 1 := Scalar.cmpi .eq v16 c0_i32_12
  let c4_i32_13 : BitVec 32 := 4#32
  let v32 : BitVec 1 := Scalar.cmpi .eq v16 c4_i32_13
  let v33 : BitVec 1 := Scalar.ori v31 v32
  let v_true : BitVec 1 := 1#1
  let v36 : BitVec 1 := Scalar.xori v33 v_true
  let v37 : BitVec 32 := Scalar.extui v36
  let c0_i32_15 : BitVec 32 := 0#32
  let v38 : BitVec 1 := Scalar.cmpi .ne v37 c0_i32_15
  v38

def k0_cond2 (i : grid0.Coords) : BitVec 1 :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c0_i32_12 : BitVec 32 := 0#32
  let v31 : BitVec 1 := Scalar.cmpi .eq v16 c0_i32_12
  let c4_i32_13 : BitVec 32 := 4#32
  let v32 : BitVec 1 := Scalar.cmpi .eq v16 c4_i32_13
  let v33 : BitVec 1 := Scalar.ori v31 v32
  let v34 : BitVec 32 := Scalar.extui v33
  let c0_i32_14 : BitVec 32 := 0#32
  let v35 : BitVec 1 := Scalar.cmpi .ne v34 c0_i32_14
  v35

def k0_cond5 (i : grid0.Coords) : BitVec 1 :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c0_i32_12 : BitVec 32 := 0#32
  let v31 : BitVec 1 := Scalar.cmpi .eq v16 c0_i32_12
  let c4_i32_13 : BitVec 32 := 4#32
  let v32 : BitVec 1 := Scalar.cmpi .eq v16 c4_i32_13
  let v33 : BitVec 1 := Scalar.ori v31 v32
  let v34 : BitVec 32 := Scalar.extui v33
  let c0_i32_14 : BitVec 32 := 0#32
  let v35 : BitVec 1 := Scalar.cmpi .ne v34 c0_i32_14
  v35

def k0_cond7 (i : grid0.Coords) : BitVec 1 :=
  let arg1 : BitVec 32 := BitVec.ofNat 32 (i 1).val
  let c0_i32_7 : BitVec 32 := 0#32
  let v23 : BitVec 1 := Scalar.cmpi .eq arg1 c0_i32_7
  let v24 : BitVec 32 := Scalar.extui v23
  let c0_i32_8 : BitVec 32 := 0#32
  let v25 : BitVec 1 := Scalar.cmpi .ne v24 c0_i32_8
  v25

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.minsi arg1 c11_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.subi arg1 c12_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let v17 : BitVec 32 := Scalar.subi arg1 c4_i32_4
  let c0_i32_5 : BitVec 32 := 0#32
  let v18 : BitVec 32 := Scalar.addi c0_i32_5 v17
  let c1_i32_6 : BitVec 32 := 1#32
  let v19 : BitVec 1 := Scalar.cmpi .eq v16 c1_i32_6
  let c1_i32_7 : BitVec 32 := 1#32
  let v20 : BitVec 1 := Scalar.cmpi .sgt v16 c1_i32_7
  let c3_i32 : BitVec 32 := 3#32
  let c0_i32_8 : BitVec 32 := 0#32
  let v21 : BitVec 32 := Scalar.select v20 c3_i32 c0_i32_8
  let v22 : BitVec 32 := Scalar.select v19 v18 v21
  let c8_i32 : BitVec 32 := 8#32
  let v23 : BitVec 32 := Scalar.subi arg1 c8_i32
  let c4_i32_9 : BitVec 32 := 4#32
  let v24 : BitVec 32 := Scalar.addi c4_i32_9 v23
  let c2_i32 : BitVec 32 := 2#32
  let v25 : BitVec 1 := Scalar.cmpi .eq v16 c2_i32
  let c2_i32_10 : BitVec 32 := 2#32
  let v26 : BitVec 1 := Scalar.cmpi .sgt v16 c2_i32_10
  let c7_i32 : BitVec 32 := 7#32
  let v27 : BitVec 32 := Scalar.select v26 c7_i32 v22
  let v28 : BitVec 32 := Scalar.select v25 v24 v27
  let c12_i32 : BitVec 32 := 12#32
  let v29 : BitVec 32 := Scalar.subi arg1 c12_i32
  let c8_i32_11 : BitVec 32 := 8#32
  let v30 : BitVec 32 := Scalar.addi c8_i32_11 v29
  let c3_i32_12 : BitVec 32 := 3#32
  let v31 : BitVec 1 := Scalar.cmpi .eq v16 c3_i32_12
  let c3_i32_13 : BitVec 32 := 3#32
  let v32 : BitVec 1 := Scalar.cmpi .sgt v16 c3_i32_13
  let c11_i32 : BitVec 32 := 11#32
  let v33 : BitVec 32 := Scalar.select v32 c11_i32 v28
  let v34 : BitVec 32 := Scalar.select v31 v30 v33
  let c20_i32 : BitVec 32 := 20#32
  let v35 : BitVec 32 := Scalar.subi arg1 c20_i32
  let c12_i32_14 : BitVec 32 := 12#32
  let v36 : BitVec 32 := Scalar.addi c12_i32_14 v35
  let c5_i32 : BitVec 32 := 5#32
  let v37 : BitVec 1 := Scalar.cmpi .eq v16 c5_i32
  let c5_i32_15 : BitVec 32 := 5#32
  let v38 : BitVec 1 := Scalar.cmpi .sgt v16 c5_i32_15
  let c15_i32 : BitVec 32 := 15#32
  let v39 : BitVec 32 := Scalar.select v38 c15_i32 v34
  let v40 : BitVec 32 := Scalar.select v37 v36 v39
  let c0_i32_16 : BitVec 32 := 0#32
  ![arg0.toNat, v40.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.subi arg1 c0_i32_4
  let c0_i32_5 : BitVec 32 := 0#32
  let v18 : BitVec 32 := Scalar.addi c0_i32_5 v17
  let c0_i32_6 : BitVec 32 := 0#32
  let v19 : BitVec 1 := Scalar.cmpi .eq v16 c0_i32_6
  let c0_i32_7 : BitVec 32 := 0#32
  let v20 : BitVec 1 := Scalar.cmpi .sgt v16 c0_i32_7
  let c3_i32 : BitVec 32 := 3#32
  let c0_i32_8 : BitVec 32 := 0#32
  let v21 : BitVec 32 := Scalar.select v20 c3_i32 c0_i32_8
  let v22 : BitVec 32 := Scalar.select v19 v18 v21
  let c16_i32 : BitVec 32 := 16#32
  let v23 : BitVec 32 := Scalar.subi arg1 c16_i32
  let c4_i32_9 : BitVec 32 := 4#32
  let v24 : BitVec 32 := Scalar.addi c4_i32_9 v23
  let c4_i32_10 : BitVec 32 := 4#32
  let v25 : BitVec 1 := Scalar.cmpi .eq v16 c4_i32_10
  let c4_i32_11 : BitVec 32 := 4#32
  let v26 : BitVec 1 := Scalar.cmpi .sgt v16 c4_i32_11
  let c7_i32 : BitVec 32 := 7#32
  let v27 : BitVec 32 := Scalar.select v26 c7_i32 v22
  let v28 : BitVec 32 := Scalar.select v25 v24 v27
  let c0_i32_12 : BitVec 32 := 0#32
  ![arg0.toNat, v28.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1056x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S4096x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1056x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1056x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1056x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Reference3Ideal.lean ====
abbrev S8x2048x4096 : Shape := ⟨3, ![8, 2048, 4096]⟩
abbrev S8x64x4096 : Shape := ⟨3, ![8, 64, 4096]⟩
abbrev S1x4096x12320 : Shape := ⟨3, ![1, 4096, 12320]⟩
abbrev S1x16 : Shape := ⟨2, ![1, 16]⟩
abbrev S1x8 : Shape := ⟨2, ![1, 8]⟩
abbrev S1x8x3x2048 : Shape := ⟨4, ![1, 8, 3, 2048]⟩
abbrev S16384x4096 : Shape := ⟨2, ![16384, 4096]⟩
abbrev S512x4096 : Shape := ⟨2, ![512, 4096]⟩
abbrev S16896x4096 : Shape := ⟨2, ![16896, 4096]⟩
abbrev S4096x12320 : Shape := ⟨2, ![4096, 12320]⟩
abbrev S16896x12320 : Shape := ⟨2, ![16896, 12320]⟩
abbrev S16896x2048 : Shape := ⟨2, ![16896, 2048]⟩
abbrev S16896x16 : Shape := ⟨2, ![16896, 16]⟩
abbrev S16896x8 : Shape := ⟨2, ![16896, 8]⟩
abbrev S16 : Shape := ⟨1, ![16]⟩
abbrev S_ : Shape := ⟨0, ![]⟩
abbrev S8x3x2048 : Shape := ⟨3, ![8, 3, 2048]⟩
abbrev S16384x2048 : Shape := ⟨2, ![16384, 2048]⟩
abbrev S8x2048x2048 : Shape := ⟨3, ![8, 2048, 2048]⟩
abbrev S8x2051x2048 : Shape := ⟨3, ![8, 2051, 2048]⟩
abbrev S1x8x2048x16x128 : Shape := ⟨5, ![1, 8, 2048, 16, 128]⟩
abbrev S16384x16 : Shape := ⟨2, ![16384, 16]⟩
abbrev S8x2048x16 : Shape := ⟨3, ![8, 2048, 16]⟩
abbrev S1x8x2048x16 : Shape := ⟨4, ![1, 8, 2048, 16]⟩
abbrev S512x2048 : Shape := ⟨2, ![512, 2048]⟩
abbrev S8x64x2048 : Shape := ⟨3, ![8, 64, 2048]⟩
abbrev S8x67x2048 : Shape := ⟨3, ![8, 67, 2048]⟩
abbrev S1x8x64x16x128 : Shape := ⟨5, ![1, 8, 64, 16, 128]⟩
abbrev S512x16 : Shape := ⟨2, ![512, 16]⟩
abbrev S8x64x16 : Shape := ⟨3, ![8, 64, 16]⟩
abbrev S1x8x64x16 : Shape := ⟨4, ![1, 8, 64, 16]⟩
abbrev S16896x8192 : Shape := ⟨2, ![16896, 8192]⟩
abbrev S8 : Shape := ⟨1, ![8]⟩
abbrev S16896x32 : Shape := ⟨2, ![16896, 32]⟩

abbrev nBuf : Space → Nat
  | .hbm => 103
  | .vmem => 0
  | .smem => 0
  | _ => 0

abbrev bufTy : (tb : Table) → Fin (tcTables nBuf tb) → BufTy
  | .hbm, ⟨0, _⟩ => ⟨S8x2048x4096, .f32⟩
  | .hbm, ⟨1, _⟩ => ⟨S8x64x4096, .f32⟩
  | .hbm, ⟨2, _⟩ => ⟨S1x4096x12320, .f32⟩
  | .hbm, ⟨3, _⟩ => ⟨S1x16, .f32⟩
  | .hbm, ⟨4, _⟩ => ⟨S1x8, .f32⟩
  | .hbm, ⟨5, _⟩ => ⟨S1x8, .f32⟩
  | .hbm, ⟨6, _⟩ => ⟨S1x8x3x2048, .f32⟩
  | .hbm, ⟨7, _⟩ => ⟨S16384x4096, .f32⟩
  | .hbm, ⟨8, _⟩ => ⟨S512x4096, .f32⟩
  | .hbm, ⟨9, _⟩ => ⟨S16896x4096, .f32⟩
  | .hbm, ⟨10, _⟩ => ⟨S4096x12320, .f32⟩
  | .hbm, ⟨11, _⟩ => ⟨S16896x12320, .f32⟩
  | .hbm, ⟨12, _⟩ => ⟨S16896x2048, .f32⟩
  | .hbm, ⟨13, _⟩ => ⟨S16896x2048, .f32⟩
  | .hbm, ⟨14, _⟩ => ⟨S16896x2048, .f32⟩
  | .hbm, ⟨15, _⟩ => ⟨S16896x16, .f32⟩
  | .hbm, ⟨16, _⟩ => ⟨S16896x2048, .f32⟩
  | .hbm, ⟨17, _⟩ => ⟨S16896x2048, .f32⟩
  | .hbm, ⟨18, _⟩ => ⟨S16896x2048, .f32⟩
  | .hbm, ⟨19, _⟩ => ⟨S16896x8, .f32⟩
  | .hbm, ⟨20, _⟩ => ⟨S16896x8, .f32⟩
  | .hbm, ⟨21, _⟩ => ⟨S16, .f32⟩
  | .hbm, ⟨22, _⟩ => ⟨S1x16, .f32⟩
  | .hbm, ⟨23, _⟩ => ⟨S16896x16, .f32⟩
  | .hbm, ⟨24, _⟩ => ⟨S16896x16, .f32⟩
  | .hbm, ⟨25, _⟩ => ⟨S16896x16, .f32⟩
  | .hbm, ⟨26, _⟩ => ⟨S_, .f32⟩
  | .hbm, ⟨27, _⟩ => ⟨S16896x16, .f32⟩
  | .hbm, ⟨28, _⟩ => ⟨S16896x16, .f32⟩
  | .hbm, ⟨29, _⟩ => ⟨S16896x16, .f32⟩
  | .hbm, ⟨30, _⟩ => ⟨S16896x16, .f32⟩
  | .hbm, ⟨31, _⟩ => ⟨S16896x16, .i1⟩
  | .hbm, ⟨32, _⟩ => ⟨S16896x16, .f32⟩
  | .hbm, ⟨33, _⟩ => ⟨S16896x16, .f32⟩
  | .hbm, ⟨34, _⟩ => ⟨S16896x16, .f32⟩
  | .hbm, ⟨35, _⟩ => ⟨S16896x16, .f32⟩
  | .hbm, ⟨36, _⟩ => ⟨S16896x16, .f32⟩
  | .hbm, ⟨37, _⟩ => ⟨S16896x16, .f32⟩
  | .hbm, ⟨38, _⟩ => ⟨S16896x16, .f32⟩
  | .hbm, ⟨39, _⟩ => ⟨S16896x16, .f32⟩
  | .hbm, ⟨40, _⟩ => ⟨S16896x16, .f32⟩
  | .hbm, ⟨41, _⟩ => ⟨S_, .f32⟩
  | .hbm, ⟨42, _⟩ => ⟨S8x3x2048, .f32⟩
  | .hbm, ⟨43, _⟩ => ⟨S16384x2048, .f32⟩
  | .hbm, ⟨44, _⟩ => ⟨S8x2048x2048, .f32⟩
  | .hbm, ⟨45, _⟩ => ⟨S8x2051x2048, .f32⟩
  | .hbm, ⟨46, _⟩ => ⟨S8x3x2048, .f32⟩
  | .hbm, ⟨47, _⟩ => ⟨S16384x2048, .f32⟩
  | .hbm, ⟨48, _⟩ => ⟨S8x2048x2048, .f32⟩
  | .hbm, ⟨49, _⟩ => ⟨S1x8x2048x16x128, .f32⟩
  | .hbm, ⟨50, _⟩ => ⟨S16384x2048, .f32⟩
  | .hbm, ⟨51, _⟩ => ⟨S8x2048x2048, .f32⟩
  | .hbm, ⟨52, _⟩ => ⟨S1x8x2048x16x128, .f32⟩
  | .hbm, ⟨53, _⟩ => ⟨S16384x16, .f32⟩
  | .hbm, ⟨54, _⟩ => ⟨S8x2048x16, .f32⟩
  | .hbm, ⟨55, _⟩ => ⟨S1x8x2048x16, .f32⟩
  | .hbm, ⟨56, _⟩ => ⟨S1x8x3x2048, .f32⟩
  | .hbm, ⟨57, _⟩ => ⟨S8x3x2048, .f32⟩
  | .hbm, ⟨58, _⟩ => ⟨S512x2048, .f32⟩
  | .hbm, ⟨59, _⟩ => ⟨S8x64x2048, .f32⟩
  | .hbm, ⟨60, _⟩ => ⟨S8x67x2048, .f32⟩
  | .hbm, ⟨61, _⟩ => ⟨S8x3x2048, .f32⟩
  | .hbm, ⟨62, _⟩ => ⟨S512x2048, .f32⟩
  | .hbm, ⟨63, _⟩ => ⟨S8x64x2048, .f32⟩
  | .hbm, ⟨64, _⟩ => ⟨S1x8x64x16x128, .f32⟩
  | .hbm, ⟨65, _⟩ => ⟨S512x2048, .f32⟩
  | .hbm, ⟨66, _⟩ => ⟨S8x64x2048, .f32⟩
  | .hbm, ⟨67, _⟩ => ⟨S1x8x64x16x128, .f32⟩
  | .hbm, ⟨68, _⟩ => ⟨S512x16, .f32⟩
  | .hbm, ⟨69, _⟩ => ⟨S8x64x16, .f32⟩
  | .hbm, ⟨70, _⟩ => ⟨S1x8x64x16, .f32⟩
  | .hbm, ⟨71, _⟩ => ⟨S1x8x3x2048, .f32⟩
  | .hbm, ⟨72, _⟩ => ⟨S16896x8192, .f32⟩
  | .hbm, ⟨73, _⟩ => ⟨S_, .f32⟩
  | .hbm, ⟨74, _⟩ => ⟨S16896x2048, .f32⟩
  | .hbm, ⟨75, _⟩ => ⟨S16896x2048, .f32⟩
  | .hbm, ⟨76, _⟩ => ⟨S16896x4096, .f32⟩
  | .hbm, ⟨77, _⟩ => ⟨S16896x4096, .bf16⟩
  | .hbm, ⟨78, _⟩ => ⟨S8, .f32⟩
  | .hbm, ⟨79, _⟩ => ⟨S1x8, .f32⟩
  | .hbm, ⟨80, _⟩ => ⟨S16896x8, .f32⟩
  | .hbm, ⟨81, _⟩ => ⟨S16896x8, .f32⟩
  | .hbm, ⟨82, _⟩ => ⟨S8, .f32⟩
  | .hbm, ⟨83, _⟩ => ⟨S1x8, .f32⟩
  | .hbm, ⟨84, _⟩ => ⟨S16896x8, .f32⟩
  | .hbm, ⟨85, _⟩ => ⟨S16896x8, .f32⟩
  | .hbm, ⟨86, _⟩ => ⟨S16896x8, .f32⟩
  | .hbm, ⟨87, _⟩ => ⟨S_, .f32⟩
  | .hbm, ⟨88, _⟩ => ⟨S16896x8, .f32⟩
  | .hbm, ⟨89, _⟩ => ⟨S16896x8, .f32⟩
  | .hbm, ⟨90, _⟩ => ⟨S16896x8, .f32⟩
  | .hbm, ⟨91, _⟩ => ⟨S16896x8, .f32⟩
  | .hbm, ⟨92, _⟩ => ⟨S16896x8, .i1⟩
  | .hbm, ⟨93, _⟩ => ⟨S16896x8, .f32⟩
  | .hbm, ⟨94, _⟩ => ⟨S16896x8, .f32⟩
  | .hbm, ⟨95, _⟩ => ⟨S16896x8, .f32⟩
  | .hbm, ⟨96, _⟩ => ⟨S16896x8, .f32⟩
  | .hbm, ⟨97, _⟩ => ⟨S16896x8, .f32⟩
  | .hbm, ⟨98, _⟩ => ⟨S16896x8, .f32⟩
  | .hbm, ⟨99, _⟩ => ⟨S16896x8, .f32⟩
  | .hbm, ⟨100, _⟩ => ⟨S16896x8, .f32⟩
  | .hbm, ⟨101, _⟩ => ⟨S16896x8, .f32⟩
  | .hbm, ⟨102, _⟩ => ⟨S16896x32, .f32⟩
  | _, _ => ⟨S8x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_call0_v0 : Ref sig .tc := ⟨.hbm, 25, rfl⟩
abbrev main_call0_call0_cst : Ref sig .tc := ⟨.hbm, 26, rfl⟩
abbrev main_call0_call0_v0 : Ref sig .tc := ⟨.hbm, 27, rfl⟩
abbrev main_call0_call0_v1 : Ref sig .tc := ⟨.hbm, 28, rfl⟩
abbrev main_call0_call0_v2 : Ref sig .tc := ⟨.hbm, 29, rfl⟩
abbrev main_call0_call0_v3 : Ref sig .tc := ⟨.hbm, 30, rfl⟩
abbrev main_call0_call0_v4 : Ref sig .tc := ⟨.hbm, 31, rfl⟩
abbrev main_call0_call0_v5 : Ref sig .tc := ⟨.hbm, 32, rfl⟩
abbrev main_call0_call0_v6 : Ref sig .tc := ⟨.hbm, 33, rfl⟩
abbrev main_call0_call0_v7 : Ref sig .tc := ⟨.hbm, 34, rfl⟩
abbrev main_call0_call0_v8 : Ref sig .tc := ⟨.hbm, 35, rfl⟩
abbrev main_call0_call0_v9 : Ref sig .tc := ⟨.hbm, 36, rfl⟩
abbrev main_call0_call0_v10 : Ref sig .tc := ⟨.hbm, 37, rfl⟩
abbrev main_call0_call0_v11 : Ref sig .tc := ⟨.hbm, 38, rfl⟩
abbrev main_call0_v1 : Ref sig .tc := ⟨.hbm, 39, rfl⟩
abbrev main_v18 : Ref sig .tc := ⟨.hbm, 40, rfl⟩
abbrev main_cst : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_cst_0 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_call1_v0 : Ref sig .tc := ⟨.hbm, 86, rfl⟩
abbrev main_call1_call0_cst : Ref sig .tc := ⟨.hbm, 87, rfl⟩
abbrev main_call1_call0_v0 : Ref sig .tc := ⟨.hbm, 88, rfl⟩
abbrev main_call1_call0_v1 : Ref sig .tc := ⟨.hbm, 89, rfl⟩
abbrev main_call1_call0_v2 : Ref sig .tc := ⟨.hbm, 90, rfl⟩
abbrev main_call1_call0_v3 : Ref sig .tc := ⟨.hbm, 91, rfl⟩
abbrev main_call1_call0_v4 : Ref sig .tc := ⟨.hbm, 92, rfl⟩
abbrev main_call1_call0_v5 : Ref sig .tc := ⟨.hbm, 93, rfl⟩
abbrev main_call1_call0_v6 : Ref sig .tc := ⟨.hbm, 94, rfl⟩
abbrev main_call1_call0_v7 : Ref sig .tc := ⟨.hbm, 95, rfl⟩
abbrev main_call1_call0_v8 : Ref sig .tc := ⟨.hbm, 96, rfl⟩
abbrev main_call1_call0_v9 : Ref sig .tc := ⟨.hbm, 97, rfl⟩
abbrev main_call1_call0_v10 : Ref sig .tc := ⟨.hbm, 98, rfl⟩
abbrev main_call1_call0_v11 : Ref sig .tc := ⟨.hbm, 99, rfl⟩
abbrev main_call1_v1 : Ref sig .tc := ⟨.hbm, 100, rfl⟩
abbrev main_v62 : Ref sig .tc := ⟨.hbm, 101, rfl⟩
abbrev main_v63 : Ref sig .tc := ⟨.hbm, 102, rfl⟩

abbrev nD : Nat := 1
abbrev τ : Topo := Topo.v7x

variable {F : FTy → Type} [FloatOps F]
-- ==== Kernel4.lean ====
abbrev S41984x1024 : Shape := ⟨2, ![41984, 1024]⟩
abbrev S1x16x1024x4096 : Shape := ⟨4, ![1, 16, 1024, 4096]⟩
abbrev S82 : Shape := ⟨1, ![82]⟩
abbrev S1 : Shape := ⟨1, ![1]⟩
abbrev S16x1024x4096 : Shape := ⟨3, ![16, 1024, 4096]⟩
abbrev S41984x4096 : Shape := ⟨2, ![41984, 4096]⟩
abbrev S512x1024 : Shape := ⟨2, ![512, 1024]⟩
abbrev S1x1024x2048 : Shape := ⟨3, ![1, 1024, 2048]⟩
abbrev S512x2048 : Shape := ⟨2, ![512, 2048]⟩
abbrev S1024x2048 : Shape := ⟨2, ![1024, 2048]⟩

abbrev nBuf : Space → Nat
  | .hbm => 4
  | .vmem => 6
  | .smem => 2
  | _ => 0

abbrev bufTy : (tb : Table) → Fin (tcTables nBuf tb) → BufTy
  | .hbm, ⟨0, _⟩ => ⟨S41984x1024, .bf16⟩
  | .hbm, ⟨1, _⟩ => ⟨S1x16x1024x4096, .f32⟩
  | .hbm, ⟨2, _⟩ => ⟨S16x1024x4096, .f32⟩
  | .hbm, ⟨3, _⟩ => ⟨S41984x4096, .bf16⟩
  | .local _ .vmem, ⟨0, _⟩ => ⟨S512x1024, .bf16⟩
  | .local _ .vmem, ⟨1, _⟩ => ⟨S512x1024, .bf16⟩
  | .local _ .vmem, ⟨2, _⟩ => ⟨S1x1024x2048, .f32⟩
  | .local _ .vmem, ⟨3, _⟩ => ⟨S1x1024x2048, .f32⟩
  | .local _ .vmem, ⟨4, _⟩ => ⟨S512x2048, .bf16⟩
  | .local _ .vmem, ⟨5, _⟩ => ⟨S512x2048, .bf16⟩
  | .local _ .smem, ⟨0, _⟩ => ⟨S82, .i32⟩
  | .local _ .smem, ⟨1, _⟩ => ⟨S1, .i32⟩
  | _, _ => ⟨S41984x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_arg2 : Ref sig .tc := ⟨.smem, 0, rfl⟩
abbrev main_arg3 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 82], ![false, false]⟩

abbrev pre0 : Pipeline.Prefetch sig := ⟨2, ![main_arg2.idx, main_arg3.idx], fun | 0 => main_arg2.names | 1 => main_arg3.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_cond1 (i : grid0.Coords) (v0 : BitVec 32) : BitVec 1 :=
  let arg1 : BitVec 32 := BitVec.ofNat 32 (i 1).val
  let v1 : BitVec 1 := Scalar.cmpi .slt arg1 v0
  let v2 : BitVec 32 := Scalar.extui v1
  let c0_i32 : BitVec 32 := 0#32
  let v3 : BitVec 1 := Scalar.cmpi .ne v2 c0_i32
  v3

def k0_cond2 (i : grid0.Coords) (v4 : BitVec 32) : BitVec 1 :=
  let arg1 : BitVec 32 := BitVec.ofNat 32 (i 1).val
  let v5 : BitVec 1 := Scalar.cmpi .sge arg1 v4
  let v6 : BitVec 32 := Scalar.extui v5
  let c0_i32_1 : BitVec 32 := 0#32
  let v7 : BitVec 1 := Scalar.cmpi .ne v6 c0_i32_1
  v7

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (k0_off1_inb : ∀ i : grid0.Coords, ∀ a, (k0_off1 i) a + S1.size a ≤ S82.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S82) ![v0.toNat] S1.size (k0_off1_inb i)) numel1_S1
  let c0_i32 : BitVec 32 := 0#32
  let c0_i32_0 : BitVec 32 := 0#32
  ![v1.toNat, c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S41984x1024 : Shape := ⟨2, ![41984, 1024]⟩
abbrev S1x16x1024x4096 : Shape := ⟨4, ![1, 16, 1024, 4096]⟩
abbrev S82 : Shape := ⟨1, ![82]⟩
abbrev S1 : Shape := ⟨1, ![1]⟩
abbrev S_ : Shape := ⟨0, ![]⟩
abbrev S82x1 : Shape := ⟨2, ![82, 1]⟩
abbrev S82x512 : Shape := ⟨2, ![82, 512]⟩
abbrev S41984 : Shape := ⟨1, ![41984]⟩
abbrev S16x1024x4096 : Shape := ⟨3, ![16, 1024, 4096]⟩
abbrev S16x4096x41984 : Shape := ⟨3, ![16, 4096, 41984]⟩
abbrev S16x41984x4096 : Shape := ⟨3, ![16, 41984, 4096]⟩
abbrev S1x41984 : Shape := ⟨2, ![1, 41984]⟩
abbrev S16 : Shape := ⟨1, ![16]⟩
abbrev S16x1 : Shape := ⟨2, ![16, 1]⟩
abbrev S16x41984 : Shape := ⟨2, ![16, 41984]⟩
abbrev S16x41984x1 : Shape := ⟨3, ![16, 41984, 1]⟩
abbrev S41984x4096 : Shape := ⟨2, ![41984, 4096]⟩
abbrev S41984x1 : Shape := ⟨2, ![41984, 1]⟩

abbrev nBuf : Space → Nat
  | .hbm => 39
  | .vmem => 0
  | .smem => 0
  | _ => 0

abbrev bufTy : (tb : Table) → Fin (tcTables nBuf tb) → BufTy
  | .hbm, ⟨0, _⟩ => ⟨S41984x1024, .bf16⟩
  | .hbm, ⟨1, _⟩ => ⟨S1x16x1024x4096, .f32⟩
  | .hbm, ⟨2, _⟩ => ⟨S82, .i32⟩
  | .hbm, ⟨3, _⟩ => ⟨S1, .i32⟩
  | .hbm, ⟨4, _⟩ => ⟨S41984x1024, .f32⟩
  | .hbm, ⟨5, _⟩ => ⟨S82, .i32⟩
  | .hbm, ⟨6, _⟩ => ⟨S_, .i32⟩
  | .hbm, ⟨7, _⟩ => ⟨S82, .i32⟩
  | .hbm, ⟨8, _⟩ => ⟨S82, .i1⟩
  | .hbm, ⟨9, _⟩ => ⟨S82x1, .i32⟩
  | .hbm, ⟨10, _⟩ => ⟨S82x512, .i32⟩
  | .hbm, ⟨11, _⟩ => ⟨S41984, .i32⟩
  | .hbm, ⟨12, _⟩ => ⟨S82x1, .i1⟩
  | .hbm, ⟨13, _⟩ => ⟨S82x512, .i1⟩
  | .hbm, ⟨14, _⟩ => ⟨S41984, .i1⟩
  | .hbm, ⟨15, _⟩ => ⟨S16x1024x4096, .f32⟩
  | .hbm, ⟨16, _⟩ => ⟨S16x4096x41984, .f32⟩
  | .hbm, ⟨17, _⟩ => ⟨S16x41984x4096, .f32⟩
  | .hbm, ⟨18, _⟩ => ⟨S1x41984, .i32⟩
  | .hbm, ⟨19, _⟩ => ⟨S16, .i32⟩
  | .hbm, ⟨20, _⟩ => ⟨S16x1, .i32⟩
  | .hbm, ⟨21, _⟩ => ⟨S16x41984, .i32⟩
  | .hbm, ⟨22, _⟩ => ⟨S16x41984, .i32⟩
  | .hbm, ⟨23, _⟩ => ⟨S16x41984, .i1⟩
  | .hbm, ⟨24, _⟩ => ⟨S16x41984x1, .i1⟩
  | .hbm, ⟨25, _⟩ => ⟨S_, .f32⟩
  | .hbm, ⟨26, _⟩ => ⟨S_, .f32⟩
  | .hbm, ⟨27, _⟩ => ⟨S16x41984x4096, .i1⟩
  | .hbm, ⟨28, _⟩ => ⟨S16x41984x4096, .f32⟩
  | .hbm, ⟨29, _⟩ => ⟨S16x41984x4096, .f32⟩
  | .hbm, ⟨30, _⟩ => ⟨S_, .f32⟩
  | .hbm, ⟨31, _⟩ => ⟨S41984x4096, .f32⟩
  | .hbm, ⟨32, _⟩ => ⟨S41984x1, .i1⟩
  | .hbm, ⟨33, _⟩ => ⟨S_, .f32⟩
  | .hbm, ⟨34, _⟩ => ⟨S_, .f32⟩
  | .hbm, ⟨35, _⟩ => ⟨S41984x4096, .i1⟩
  | .hbm, ⟨36, _⟩ => ⟨S41984x4096, .f32⟩
  | .hbm, ⟨37, _⟩ => ⟨S41984x4096, .f32⟩
  | .hbm, ⟨38, _⟩ => ⟨S41984x4096, .bf16⟩
  | _, _ => ⟨S41984x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_cst : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_v21 : Ref sig .tc := ⟨.hbm, 29, rfl⟩
abbrev main_cst_0 : Ref sig .tc := ⟨.hbm, 30, rfl⟩
abbrev main_v22 : Ref sig .tc := ⟨.hbm, 31, rfl⟩
abbrev main_v23 : Ref sig .tc := ⟨.hbm, 32, rfl⟩
abbrev main_cst_1 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_v24 : Ref sig .tc := ⟨.hbm, 37, rfl⟩
abbrev main_v25 : Ref sig .tc := ⟨.hbm, 38, rfl⟩

abbrev nD : Nat := 1
abbrev τ : Topo := Topo.v7x

variable {F : FTy → Type} [FloatOps F]
-- ==== Kernel5.lean ====
abbrev S16896x4096 : Shape := ⟨2, ![16896, 4096]⟩
abbrev S1x4096x4096 : Shape := ⟨3, ![1, 4096, 4096]⟩
abbrev S8x2048x4096 : Shape := ⟨3, ![8, 2048, 4096]⟩
abbrev S8x64x4096 : Shape := ⟨3, ![8, 64, 4096]⟩
abbrev S16384x4096 : Shape := ⟨2, ![16384, 4096]⟩
abbrev S512x4096 : Shape := ⟨2, ![512, 4096]⟩
abbrev S4096x4096 : Shape := ⟨2, ![4096, 4096]⟩
abbrev S1056x4096 : Shape := ⟨2, ![1056, 4096]⟩
abbrev S4096x512 : Shape := ⟨2, ![4096, 512]⟩
abbrev S1056x512 : Shape := ⟨2, ![1056, 512]⟩
abbrev S512x512 : Shape := ⟨2, ![512, 512]⟩
abbrev S544x512 : Shape := ⟨2, ![544, 512]⟩

abbrev nBuf : Space → Nat
  | .hbm => 9
  | .vmem => 10
  | .smem => 0
  | _ => 0

abbrev bufTy : (tb : Table) → Fin (tcTables nBuf tb) → BufTy
  | .hbm, ⟨0, _⟩ => ⟨S16896x4096, .bf16⟩
  | .hbm, ⟨1, _⟩ => ⟨S1x4096x4096, .f32⟩
  | .hbm, ⟨2, _⟩ => ⟨S8x2048x4096, .f32⟩
  | .hbm, ⟨3, _⟩ => ⟨S8x64x4096, .f32⟩
  | .hbm, ⟨4, _⟩ => ⟨S16384x4096, .f32⟩
  | .hbm, ⟨5, _⟩ => ⟨S512x4096, .f32⟩
  | .hbm, ⟨6, _⟩ => ⟨S4096x4096, .f32⟩
  | .hbm, ⟨7, _⟩ => ⟨S4096x4096, .bf16⟩
  | .hbm, ⟨8, _⟩ => ⟨S16896x4096, .f32⟩
  | .local _ .vmem, ⟨0, _⟩ => ⟨S1056x4096, .bf16⟩
  | .local _ .vmem, ⟨1, _⟩ => ⟨S1056x4096, .bf16⟩
  | .local _ .vmem, ⟨2, _⟩ => ⟨S4096x512, .bf16⟩
  | .local _ .vmem, ⟨3, _⟩ => ⟨S4096x512, .bf16⟩
  | .local _ .vmem, ⟨4, _⟩ => ⟨S1056x512, .f32⟩
  | .local _ .vmem, ⟨5, _⟩ => ⟨S1056x512, .f32⟩
  | .local _ .vmem, ⟨6, _⟩ => ⟨S512x512, .f32⟩
  | .local _ .vmem, ⟨7, _⟩ => ⟨S512x512, .f32⟩
  | .local _ .vmem, ⟨8, _⟩ => ⟨S1056x512, .f32⟩
  | .local _ .vmem, ⟨9, _⟩ => ⟨S1056x512, .f32⟩
  | _, _ => ⟨S16896x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 8], ![false, false]⟩

def k0_cond1 (i : grid0.Coords) : BitVec 1 :=
  let arg0 : BitVec 32 := BitVec.ofNat 32 (i 0).val
  let c15_i32 : BitVec 32 := 15#32
  let v4 : BitVec 1 := Scalar.cmpi .slt arg0 c15_i32
  let v5 : BitVec 32 := Scalar.extui v4
  let c0_i32 : BitVec 32 := 0#32
  let v6 : BitVec 1 := Scalar.cmpi .ne v5 c0_i32
  v6

def k0_cond2 (i : grid0.Coords) : BitVec 1 :=
  let arg0 : BitVec 32 := BitVec.ofNat 32 (i 0).val
  let c15_i32_3 : BitVec 32 := 15#32
  let v7 : BitVec 1 := Scalar.cmpi .sge arg0 c15_i32_3
  let v8 : BitVec 32 := Scalar.extui v7
  let c0_i32_4 : BitVec 32 := 0#32
  let v9 : BitVec 1 := Scalar.cmpi .ne v8 c0_i32_4
  v9

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1056x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1056x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1056x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference5Ideal.lean ====
abbrev S16896x4096 : Shape := ⟨2, ![16896, 4096]⟩
abbrev S1x4096x4096 : Shape := ⟨3, ![1, 4096, 4096]⟩
abbrev S8x2048x4096 : Shape := ⟨3, ![8, 2048, 4096]⟩
abbrev S8x64x4096 : Shape := ⟨3, ![8, 64, 4096]⟩
abbrev S4096x4096 : Shape := ⟨2, ![4096, 4096]⟩
abbrev S16384x4096 : Shape := ⟨2, ![16384, 4096]⟩
abbrev S512x4096 : Shape := ⟨2, ![512, 4096]⟩

abbrev nBuf : Space → Nat
  | .hbm => 16
  | .vmem => 0
  | .smem => 0
  | _ => 0

abbrev bufTy : (tb : Table) → Fin (tcTables nBuf tb) → BufTy
  | .hbm, ⟨0, _⟩ => ⟨S16896x4096, .bf16⟩
  | .hbm, ⟨1, _⟩ => ⟨S1x4096x4096, .f32⟩
  | .hbm, ⟨2, _⟩ => ⟨S8x2048x4096, .f32⟩
  | .hbm, ⟨3, _⟩ => ⟨S8x64x4096, .f32⟩
  | .hbm, ⟨4, _⟩ => ⟨S16896x4096, .f32⟩
  | .hbm, ⟨5, _⟩ => ⟨S4096x4096, .f32⟩
  | .hbm, ⟨6, _⟩ => ⟨S16896x4096, .f32⟩
  | .hbm, ⟨7, _⟩ => ⟨S16384x4096, .f32⟩
  | .hbm, ⟨8, _⟩ => ⟨S8x2048x4096, .f32⟩
  | .hbm, ⟨9, _⟩ => ⟨S8x2048x4096, .f32⟩
  | .hbm, ⟨10, _⟩ => ⟨S512x4096, .f32⟩
  | .hbm, ⟨11, _⟩ => ⟨S8x64x4096, .f32⟩
  | .hbm, ⟨12, _⟩ => ⟨S8x64x4096, .f32⟩
  | .hbm, ⟨13, _⟩ => ⟨S16384x4096, .f32⟩
  | .hbm, ⟨14, _⟩ => ⟨S512x4096, .f32⟩
  | .hbm, ⟨15, _⟩ => ⟨S16896x4096, .f32⟩
  | _, _ => ⟨S16896x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== Kernel6.lean ====
abbrev S8x2048x4096 : Shape := ⟨3, ![8, 2048, 4096]⟩
abbrev S8x64x4096 : Shape := ⟨3, ![8, 64, 4096]⟩
abbrev S1x4096 : Shape := ⟨2, ![1, 4096]⟩
abbrev S16384x4096 : Shape := ⟨2, ![16384, 4096]⟩
abbrev S512x4096 : Shape := ⟨2, ![512, 4096]⟩
abbrev S4096 : Shape := ⟨1, ![4096]⟩
abbrev S16896x4096 : Shape := ⟨2, ![16896, 4096]⟩
abbrev S256x4096 : Shape := ⟨2, ![256, 4096]⟩
abbrev S256 : Shape := ⟨1, ![256]⟩
abbrev S256x1 : Shape := ⟨2, ![256, 1]⟩

abbrev nBuf : Space → Nat
  | .hbm => 8
  | .vmem => 7
  | .smem => 0
  | _ => 0

abbrev bufTy : (tb : Table) → Fin (tcTables nBuf tb) → BufTy
  | .hbm, ⟨0, _⟩ => ⟨S8x2048x4096, .f32⟩
  | .hbm, ⟨1, _⟩ => ⟨S8x64x4096, .f32⟩
  | .hbm, ⟨2, _⟩ => ⟨S1x4096, .f32⟩
  | .hbm, ⟨3, _⟩ => ⟨S16384x4096, .f32⟩
  | .hbm, ⟨4, _⟩ => ⟨S512x4096, .f32⟩
  | .hbm, ⟨5, _⟩ => ⟨S4096, .f32⟩
  | .hbm, ⟨6, _⟩ => ⟨S1x4096, .f32⟩
  | .hbm, ⟨7, _⟩ => ⟨S16896x4096, .bf16⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S1x4096, .f32⟩
  | .local _ .vmem, ⟨5, _⟩ => ⟨S256x4096, .bf16⟩
  | .local _ .vmem, ⟨6, _⟩ => ⟨S256x4096, .bf16⟩
  | _, _ => ⟨S8x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![66], ![false]⟩

def k0_cond1 (i : grid0.Coords) : BitVec 1 :=
  let arg0 : BitVec 32 := BitVec.ofNat 32 (i 0).val
  let c64_i32 : BitVec 32 := 64#32
  let v0 : BitVec 1 := Scalar.cmpi .slt arg0 c64_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c64_i32_0 : BitVec 32 := 64#32
  let v3 : BitVec 1 := Scalar.cmpi .sge arg0 c64_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c64_i32 : BitVec 32 := 64#32
  let v0 : BitVec 32 := Scalar.subi arg0 c64_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference6Ideal.lean ====
abbrev S8x2048x4096 : Shape := ⟨3, ![8, 2048, 4096]⟩
abbrev S8x64x4096 : Shape := ⟨3, ![8, 64, 4096]⟩
abbrev S1x4096 : Shape := ⟨2, ![1, 4096]⟩
abbrev S4096 : Shape := ⟨1, ![4096]⟩
abbrev S_ : Shape := ⟨0, ![]⟩
abbrev S8x2048 : Shape := ⟨2, ![8, 2048]⟩
abbrev S8x2048x1 : Shape := ⟨3, ![8, 2048, 1]⟩
abbrev S1x1x4096 : Shape := ⟨3, ![1, 1, 4096]⟩
abbrev S8x64 : Shape := ⟨2, ![8, 64]⟩
abbrev S8x64x1 : Shape := ⟨3, ![8, 64, 1]⟩
abbrev S16384x4096 : Shape := ⟨2, ![16384, 4096]⟩
abbrev S512x4096 : Shape := ⟨2, ![512, 4096]⟩
abbrev S16896x4096 : Shape := ⟨2, ![16896, 4096]⟩

abbrev nBuf : Space → Nat
  | .hbm => 41
  | .vmem => 0
  | .smem => 0
  | _ => 0

abbrev bufTy : (tb : Table) → Fin (tcTables nBuf tb) → BufTy
  | .hbm, ⟨0, _⟩ => ⟨S8x2048x4096, .f32⟩
  | .hbm, ⟨1, _⟩ => ⟨S8x64x4096, .f32⟩
  | .hbm, ⟨2, _⟩ => ⟨S1x4096, .f32⟩
  | .hbm, ⟨3, _⟩ => ⟨S4096, .f32⟩
  | .hbm, ⟨4, _⟩ => ⟨S8x2048x4096, .f32⟩
  | .hbm, ⟨5, _⟩ => ⟨S_, .f32⟩
  | .hbm, ⟨6, _⟩ => ⟨S8x2048, .f32⟩
  | .hbm, ⟨7, _⟩ => ⟨S8x2048x1, .f32⟩
  | .hbm, ⟨8, _⟩ => ⟨S_, .f32⟩
  | .hbm, ⟨9, _⟩ => ⟨S8x2048x1, .f32⟩
  | .hbm, ⟨10, _⟩ => ⟨S8x2048x1, .f32⟩
  | .hbm, ⟨11, _⟩ => ⟨S_, .f32⟩
  | .hbm, ⟨12, _⟩ => ⟨S8x2048x1, .f32⟩
  | .hbm, ⟨13, _⟩ => ⟨S8x2048x1, .f32⟩
  | .hbm, ⟨14, _⟩ => ⟨S8x2048x1, .f32⟩
  | .hbm, ⟨15, _⟩ => ⟨S8x2048x4096, .f32⟩
  | .hbm, ⟨16, _⟩ => ⟨S8x2048x4096, .f32⟩
  | .hbm, ⟨17, _⟩ => ⟨S1x1x4096, .f32⟩
  | .hbm, ⟨18, _⟩ => ⟨S8x2048x4096, .f32⟩
  | .hbm, ⟨19, _⟩ => ⟨S8x2048x4096, .f32⟩
  | .hbm, ⟨20, _⟩ => ⟨S4096, .f32⟩
  | .hbm, ⟨21, _⟩ => ⟨S8x64x4096, .f32⟩
  | .hbm, ⟨22, _⟩ => ⟨S_, .f32⟩
  | .hbm, ⟨23, _⟩ => ⟨S8x64, .f32⟩
  | .hbm, ⟨24, _⟩ => ⟨S8x64x1, .f32⟩
  | .hbm, ⟨25, _⟩ => ⟨S_, .f32⟩
  | .hbm, ⟨26, _⟩ => ⟨S8x64x1, .f32⟩
  | .hbm, ⟨27, _⟩ => ⟨S8x64x1, .f32⟩
  | .hbm, ⟨28, _⟩ => ⟨S_, .f32⟩
  | .hbm, ⟨29, _⟩ => ⟨S8x64x1, .f32⟩
  | .hbm, ⟨30, _⟩ => ⟨S8x64x1, .f32⟩
  | .hbm, ⟨31, _⟩ => ⟨S8x64x1, .f32⟩
  | .hbm, ⟨32, _⟩ => ⟨S8x64x4096, .f32⟩
  | .hbm, ⟨33, _⟩ => ⟨S8x64x4096, .f32⟩
  | .hbm, ⟨34, _⟩ => ⟨S1x1x4096, .f32⟩
  | .hbm, ⟨35, _⟩ => ⟨S8x64x4096, .f32⟩
  | .hbm, ⟨36, _⟩ => ⟨S8x64x4096, .f32⟩
  | .hbm, ⟨37, _⟩ => ⟨S16384x4096, .f32⟩
  | .hbm, ⟨38, _⟩ => ⟨S512x4096, .f32⟩
  | .hbm, ⟨39, _⟩ => ⟨S16896x4096, .f32⟩
  | .hbm, ⟨40, _⟩ => ⟨S16896x4096, .bf16⟩
  | _, _ => ⟨S8x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩

abbrev nD : Nat := 1
abbrev τ : Topo := Topo.v7x

variable {F : FTy → Type} [FloatOps F]
-- ==== Kernel7.lean ====
abbrev S16896x128 : Shape := ⟨2, ![16896, 128]⟩
abbrev S16384x128 : Shape := ⟨2, ![16384, 128]⟩
abbrev S2048x128 : Shape := ⟨2, ![2048, 128]⟩
abbrev S256x256 : Shape := ⟨2, ![256, 256]⟩
abbrev S1x128 : Shape := ⟨2, ![1, 128]⟩
abbrev S256x128 : Shape := ⟨2, ![256, 128]⟩

abbrev nBuf : Space → Nat
  | .hbm => 2
  | .vmem => 4
  | .smem => 0
  | _ => 0

abbrev bufTy : (tb : Table) → Fin (tcTables nBuf tb) → BufTy
  | .hbm, ⟨0, _⟩ => ⟨S16896x128, .f32⟩
  | .hbm, ⟨1, _⟩ => ⟨S16384x128, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | _, _ => ⟨S16896x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference7Ideal.lean ====
abbrev S16896x128 : Shape := ⟨2, ![16896, 128]⟩
abbrev S16384x128 : Shape := ⟨2, ![16384, 128]⟩
abbrev S8x2048x128 : Shape := ⟨3, ![8, 2048, 128]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S16896x128, .f32⟩
  | .hbm, ⟨1, _⟩ => ⟨S16384x128, .f32⟩
  | .hbm, ⟨2, _⟩ => ⟨S8x2048x128, .f32⟩
  | .hbm, ⟨3, _⟩ => ⟨S_, .f32⟩
  | .hbm, ⟨4, _⟩ => ⟨S_, .f32⟩
  | .hbm, ⟨5, _⟩ => ⟨S8x2048x128, .f32⟩
  | .hbm, ⟨6, _⟩ => ⟨S16384x128, .f32⟩
  | _, _ => ⟨S16896x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_call0_call0_cst : Ref sig .tc := ⟨.hbm, 3, rfl⟩
abbrev main_call0_call0_v0 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel8.lean ====
abbrev S16896x8192 : Shape := ⟨2, ![16896, 8192]⟩
abbrev S16896x4096 : Shape := ⟨2, ![16896, 4096]⟩
abbrev S16896x128 : Shape := ⟨2, ![16896, 128]⟩
abbrev S16384x128 : Shape := ⟨2, ![16384, 128]⟩
abbrev S1x4x2048 : Shape := ⟨3, ![1, 4, 2048]⟩
abbrev S1x2048 : Shape := ⟨2, ![1, 2048]⟩
abbrev S8x2048x128 : Shape := ⟨3, ![8, 2048, 128]⟩
abbrev S_ : Shape := ⟨0, ![]⟩
abbrev S8x3x2048 : Shape := ⟨3, ![8, 3, 2048]⟩
abbrev S8x128x2048 : Shape := ⟨3, ![8, 128, 2048]⟩
abbrev S4x2048 : Shape := ⟨2, ![4, 2048]⟩
abbrev S8x8x256x128 : Shape := ⟨4, ![8, 8, 256, 128]⟩
abbrev S8x8x128 : Shape := ⟨3, ![8, 8, 128]⟩
abbrev S8x8 : Shape := ⟨2, ![8, 8]⟩
abbrev S2048 : Shape := ⟨1, ![2048]⟩
abbrev S8x8x2048 : Shape := ⟨3, ![8, 8, 2048]⟩
abbrev S8x128x8x256 : Shape := ⟨4, ![8, 128, 8, 256]⟩
abbrev S8x8x1x128 : Shape := ⟨4, ![8, 8, 1, 128]⟩
abbrev S8x8x1x1 : Shape := ⟨4, ![8, 8, 1, 1]⟩
abbrev S8x1x256 : Shape := ⟨3, ![8, 1, 256]⟩
abbrev S2048x128 : Shape := ⟨2, ![2048, 128]⟩
abbrev S1x8x128 : Shape := ⟨3, ![1, 8, 128]⟩
abbrev S4x128 : Shape := ⟨2, ![4, 128]⟩
abbrev S2048x256 : Shape := ⟨2, ![2048, 256]⟩
abbrev S1x1x8x256 : Shape := ⟨4, ![1, 1, 8, 256]⟩
abbrev S1x1x256x128 : Shape := ⟨4, ![1, 1, 256, 128]⟩
abbrev S1x1x1x128 : Shape := ⟨4, ![1, 1, 1, 128]⟩
abbrev S1x1x256 : Shape := ⟨3, ![1, 1, 256]⟩
abbrev S2056x128 : Shape := ⟨2, ![2056, 128]⟩
abbrev S8x128 : Shape := ⟨2, ![8, 128]⟩
abbrev S1x128 : Shape := ⟨2, ![1, 128]⟩
abbrev S1x256 : Shape := ⟨2, ![1, 256]⟩
abbrev S256x256 : Shape := ⟨2, ![256, 256]⟩
abbrev S256x128 : Shape := ⟨2, ![256, 128]⟩
abbrev S256 : Shape := ⟨1, ![256]⟩
abbrev S256x1 : Shape := ⟨2, ![256, 1]⟩
abbrev S1x1x1x256 : Shape := ⟨4, ![1, 1, 1, 256]⟩
abbrev S1x1 : Shape := ⟨2, ![1, 1]⟩
abbrev S1 : Shape := ⟨1, ![1]⟩
abbrev S1x1x1x1 : Shape := ⟨4, ![1, 1, 1, 1]⟩
abbrev S128 : Shape := ⟨1, ![128]⟩

abbrev nBuf : Space → Nat
  | .hbm => 38
  | .vmem => 44
  | .smem => 0
  | _ => 0

abbrev bufTy : (tb : Table) → Fin (tcTables nBuf tb) → BufTy
  | .hbm, ⟨0, _⟩ => ⟨S16896x8192, .f32⟩
  | .hbm, ⟨1, _⟩ => ⟨S16896x4096, .bf16⟩
  | .hbm, ⟨2, _⟩ => ⟨S16896x128, .f32⟩
  | .hbm, ⟨3, _⟩ => ⟨S16384x128, .f32⟩
  | .hbm, ⟨4, _⟩ => ⟨S16896x4096, .bf16⟩
  | .hbm, ⟨5, _⟩ => ⟨S1x4x2048, .f32⟩
  | .hbm, ⟨6, _⟩ => ⟨S1x2048, .f32⟩
  | .hbm, ⟨7, _⟩ => ⟨S8x2048x128, .f32⟩
  | .hbm, ⟨8, _⟩ => ⟨S16384x128, .f32⟩
  | .hbm, ⟨9, _⟩ => ⟨S8x2048x128, .f32⟩
  | .hbm, ⟨10, _⟩ => ⟨S_, .f32⟩
  | .hbm, ⟨11, _⟩ => ⟨S8x3x2048, .f32⟩
  | .hbm, ⟨12, _⟩ => ⟨S8x128x2048, .f32⟩
  | .hbm, ⟨13, _⟩ => ⟨S8x128x2048, .f32⟩
  | .hbm, ⟨14, _⟩ => ⟨S4x2048, .f32⟩
  | .hbm, ⟨15, _⟩ => ⟨S_, .f32⟩
  | .hbm, ⟨16, _⟩ => ⟨S8x8x256x128, .f32⟩
  | .hbm, ⟨17, _⟩ => ⟨S_, .f32⟩
  | .hbm, ⟨18, _⟩ => ⟨S8x8x128, .f32⟩
  | .hbm, ⟨19, _⟩ => ⟨S_, .f32⟩
  | .hbm, ⟨20, _⟩ => ⟨S8x8, .f32⟩
  | .hbm, ⟨21, _⟩ => ⟨S2048, .f32⟩
  | .hbm, ⟨22, _⟩ => ⟨S_, .i32⟩
  | .hbm, ⟨23, _⟩ => ⟨S_, .f32⟩
  | .hbm, ⟨24, _⟩ => ⟨S8x8x2048, .f32⟩
  | .hbm, ⟨25, _⟩ => ⟨S8x128x8x256, .f32⟩
  | .hbm, ⟨26, _⟩ => ⟨S8x128x8x256, .f32⟩
  | .hbm, ⟨27, _⟩ => ⟨S8x8x1x128, .f32⟩
  | .hbm, ⟨28, _⟩ => ⟨S8x8x1x1, .f32⟩
  | .hbm, ⟨29, _⟩ => ⟨S8x8x1x128, .f32⟩
  | .hbm, ⟨30, _⟩ => ⟨S8x1x256, .f32⟩
  | .hbm, ⟨31, _⟩ => ⟨S16896x4096, .bf16⟩
  | .hbm, ⟨32, _⟩ => ⟨S8x8x256x128, .f32⟩
  | .hbm, ⟨33, _⟩ => ⟨S8x8x1x128, .f32⟩
  | .hbm, ⟨34, _⟩ => ⟨S8x8x1x128, .f32⟩
  | .hbm, ⟨35, _⟩ => ⟨S8x8x128, .f32⟩
  | .hbm, ⟨36, _⟩ => ⟨S8x8x1x1, .f32⟩
  | .hbm, ⟨37, _⟩ => ⟨S8x8, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S1x8x128, .f32⟩
  | .local _ .vmem, ⟨5, _⟩ => ⟨S1x8x128, .f32⟩
  | .local _ .vmem, ⟨6, _⟩ => ⟨S1x8x128, .f32⟩
  | .local _ .vmem, ⟨7, _⟩ => ⟨S1x8x128, .f32⟩
  | .local _ .vmem, ⟨8, _⟩ => ⟨S4x128, .f32⟩
  | .local _ .vmem, ⟨9, _⟩ => ⟨S4x128, .f32⟩
  | .local _ .vmem, ⟨10, _⟩ => ⟨S4x128, .f32⟩
  | .local _ .vmem, ⟨11, _⟩ => ⟨S4x128, .f32⟩
  | .local _ .vmem, ⟨12, _⟩ => ⟨S2048x256, .bf16⟩
  | .local _ .vmem, ⟨13, _⟩ => ⟨S2048x256, .bf16⟩
  | .local _ .vmem, ⟨14, _⟩ => ⟨S2048x256, .f32⟩
  | .local _ .vmem, ⟨15, _⟩ => ⟨S2048x256, .f32⟩
  | .local _ .vmem, ⟨16, _⟩ => ⟨S2048x128, .f32⟩
  | .local _ .vmem, ⟨17, _⟩ => ⟨S2048x128, .f32⟩
  | .local _ .vmem, ⟨18, _⟩ => ⟨S2048x128, .f32⟩
  | .local _ .vmem, ⟨19, _⟩ => ⟨S2048x128, .f32⟩
  | .local _ .vmem, ⟨20, _⟩ => ⟨S1x1x8x256, .f32⟩
  | .local _ .vmem, ⟨21, _⟩ => ⟨S1x1x8x256, .f32⟩
  | .local _ .vmem, ⟨22, _⟩ => ⟨S1x1x8x256, .f32⟩
  | .local _ .vmem, ⟨23, _⟩ => ⟨S1x1x8x256, .f32⟩
  | .local _ .vmem, ⟨24, _⟩ => ⟨S1x1x256x128, .f32⟩
  | .local _ .vmem, ⟨25, _⟩ => ⟨S1x1x256x128, .f32⟩
  | .local _ .vmem, ⟨26, _⟩ => ⟨S1x1x1x128, .f32⟩
  | .local _ .vmem, ⟨27, _⟩ => ⟨S1x1x1x128, .f32⟩
  | .local _ .vmem, ⟨28, _⟩ => ⟨S1x1x1x128, .f32⟩
  | .local _ .vmem, ⟨29, _⟩ => ⟨S1x1x1x128, .f32⟩
  | .local _ .vmem, ⟨30, _⟩ => ⟨S1x1x256, .f32⟩
  | .local _ .vmem, ⟨31, _⟩ => ⟨S1x1x256, .f32⟩
  | .local _ .vmem, ⟨32, _⟩ => ⟨S2048x256, .bf16⟩
  | .local _ .vmem, ⟨33, _⟩ => ⟨S2048x256, .bf16⟩
  | .local _ .vmem, ⟨34, _⟩ => ⟨S1x1x256x128, .f32⟩
  | .local _ .vmem, ⟨35, _⟩ => ⟨S1x1x256x128, .f32⟩
  | .local _ .vmem, ⟨36, _⟩ => ⟨S1x1x1x128, .f32⟩
  | .local _ .vmem, ⟨37, _⟩ => ⟨S1x1x1x128, .f32⟩
  | .local _ .vmem, ⟨38, _⟩ => ⟨S1x1x1x128, .f32⟩
  | .local _ .vmem, ⟨39, _⟩ => ⟨S1x1x1x128, .f32⟩
  | .local _ .vmem, ⟨40, _⟩ => ⟨S2056x128, .f32⟩
  | .local _ .vmem, ⟨41, _⟩ => ⟨S2056x128, .f32⟩
  | .local _ .vmem, ⟨42, _⟩ => ⟨S2048x128, .bf16⟩
  | .local _ .vmem, ⟨43, _⟩ => ⟨S2048x128, .bf16⟩
  | _, _ => ⟨S16896x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_c : Ref sig .tc := ⟨.hbm, 22, rfl⟩
abbrev main_call0_v0 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18_0 : Ref sig .tc := ⟨.hbm, 31, rfl⟩
abbrev main_v18_1 : Ref sig .tc := ⟨.hbm, 32, rfl⟩
abbrev main_v18_2 : Ref sig .tc := ⟨.hbm, 33, rfl⟩
abbrev main_v18_3 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_stg19_0 : Ref sig .tc := ⟨.vmem, 38, rfl⟩
abbrev cc0_stg19_1 : Ref sig .tc := ⟨.vmem, 39, rfl⟩
abbrev cc0_scratch0 : Ref sig .tc := ⟨.vmem, 40, rfl⟩
abbrev cc0_scratch1 : Ref sig .tc := ⟨.vmem, 41, rfl⟩
abbrev cc0_scratch2 : Ref sig .tc := ⟨.vmem, 42, rfl⟩
abbrev cc0_scratch3 : Ref sig .tc := ⟨.vmem, 43, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37
abbrev cc0_sem19_0 : DmaSem sig := 38
abbrev cc0_sem19_1 : DmaSem sig := 39

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c32_i32 : BitVec 32 := 32#32
  let v1 : BitVec 32 := Scalar.addi c32_i32 arg1
  let c0_i32_0 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c40_i32 : BitVec 32 := 40#32
  let v1 : BitVec 32 := Scalar.addi c40_i32 arg1
  let c0_i32_0 : BitVec 32 := 0#32
  ![v0.toNat, v1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

def cc0_transform_3 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c8_i32 : BitVec 32 := 8#32
  let v1 : BitVec 32 := Scalar.addi c8_i32 arg1
  let c0_i32_0 : BitVec 32 := 0#32
  ![v0.toNat, v1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c24_i32 : BitVec 32 := 24#32
  let v1 : BitVec 32 := Scalar.addi c24_i32 arg1
  let c0_i32_0 : BitVec 32 := 0#32
  ![v0.toNat, v1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 4 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  let c0_i32_1 : BitVec 32 := 0#32
  ![arg0.toNat, v0.toNat, c0_i32.toNat, c0_i32_0.toNat]

def cc0_transform_11 (i : grid0.Coords) : Fin 4 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg1
  let c0_i32 : BitVec 32 := 0#32
  let c0_i32_0 : BitVec 32 := 0#32
  let c0_i32_1 : BitVec 32 := 0#32
  ![arg0.toNat, v0.toNat, c0_i32.toNat, c0_i32_0.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_14 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c8_i32 : BitVec 32 := 8#32
  let v1 : BitVec 32 := Scalar.addi c8_i32 arg1
  let c0_i32_0 : BitVec 32 := 0#32
  ![v0.toNat, v1.toNat]

def cc0_transform_18 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_19 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_20 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S4x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2048x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2048x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S2048x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x1x8x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1x8x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1x256x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x1x1x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x1x1x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x1x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![false, true]

abbrev stage0_16 : Fin 2 → Memref sig .tc .vmem S2048x256 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x1x256x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x1x1x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x1x1x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]
-- ==== Reference8Ideal.lean ====
abbrev S16896x8192 : Shape := ⟨2, ![16896, 8192]⟩
abbrev S16896x4096 : Shape := ⟨2, ![16896, 4096]⟩
abbrev S16896x128 : Shape := ⟨2, ![16896, 128]⟩
abbrev S16384x128 : Shape := ⟨2, ![16384, 128]⟩
abbrev S1x4x2048 : Shape := ⟨3, ![1, 4, 2048]⟩
abbrev S1x2048 : Shape := ⟨2, ![1, 2048]⟩
abbrev S16384x2048 : Shape := ⟨2, ![16384, 2048]⟩
abbrev S8x2048x2048 : Shape := ⟨3, ![8, 2048, 2048]⟩
abbrev S8x2048x8x256 : Shape := ⟨4, ![8, 2048, 8, 256]⟩
abbrev S16384x8 : Shape := ⟨2, ![16384, 8]⟩
abbrev S8x2048x8 : Shape := ⟨3, ![8, 2048, 8]⟩
abbrev S_ : Shape := ⟨0, ![]⟩
abbrev S8x3x2048 : Shape := ⟨3, ![8, 3, 2048]⟩
abbrev S8x2051x2048 : Shape := ⟨3, ![8, 2051, 2048]⟩
abbrev S1x1x2048 : Shape := ⟨3, ![1, 1, 2048]⟩
abbrev S2048 : Shape := ⟨1, ![2048]⟩
abbrev S8x2048x1024 : Shape := ⟨3, ![8, 2048, 1024]⟩
abbrev S8x2048x8x128 : Shape := ⟨4, ![8, 2048, 8, 128]⟩
abbrev S8x8x2048x128 : Shape := ⟨4, ![8, 8, 2048, 128]⟩
abbrev S8x8x2048x256 : Shape := ⟨4, ![8, 8, 2048, 256]⟩
abbrev S8x8x2048 : Shape := ⟨3, ![8, 8, 2048]⟩
abbrev S8x8x256x128 : Shape := ⟨4, ![8, 8, 256, 128]⟩
abbrev S8x8x128 : Shape := ⟨3, ![8, 8, 128]⟩
abbrev S8x8 : Shape := ⟨2, ![8, 8]⟩
abbrev S8x8x1 : Shape := ⟨3, ![8, 8, 1]⟩
abbrev S8x8x1x1 : Shape := ⟨4, ![8, 8, 1, 1]⟩
abbrev S8x8x2048x1 : Shape := ⟨4, ![8, 8, 2048, 1]⟩

abbrev nBuf : Space → Nat
  | .hbm => 100
  | .vmem => 0
  | .smem => 0
  | _ => 0

abbrev bufTy : (tb : Table) → Fin (tcTables nBuf tb) → BufTy
  | .hbm, ⟨0, _⟩ => ⟨S16896x8192, .f32⟩
  | .hbm, ⟨1, _⟩ => ⟨S16896x4096, .bf16⟩
  | .hbm, ⟨2, _⟩ => ⟨S16896x128, .f32⟩
  | .hbm, ⟨3, _⟩ => ⟨S16384x128, .f32⟩
  | .hbm, ⟨4, _⟩ => ⟨S16896x4096, .bf16⟩
  | .hbm, ⟨5, _⟩ => ⟨S1x4x2048, .f32⟩
  | .hbm, ⟨6, _⟩ => ⟨S1x2048, .f32⟩
  | .hbm, ⟨7, _⟩ => ⟨S16384x2048, .f32⟩
  | .hbm, ⟨8, _⟩ => ⟨S8x2048x2048, .f32⟩
  | .hbm, ⟨9, _⟩ => ⟨S16384x2048, .bf16⟩
  | .hbm, ⟨10, _⟩ => ⟨S16384x2048, .f32⟩
  | .hbm, ⟨11, _⟩ => ⟨S8x2048x8x256, .f32⟩
  | .hbm, ⟨12, _⟩ => ⟨S16384x8, .f32⟩
  | .hbm, ⟨13, _⟩ => ⟨S8x2048x8, .f32⟩
  | .hbm, ⟨14, _⟩ => ⟨S16384x8, .f32⟩
  | .hbm, ⟨15, _⟩ => ⟨S8x2048x8, .f32⟩
  | .hbm, ⟨16, _⟩ => ⟨S_, .f32⟩
  | .hbm, ⟨17, _⟩ => ⟨S8x3x2048, .f32⟩
  | .hbm, ⟨18, _⟩ => ⟨S8x2051x2048, .f32⟩
  | .hbm, ⟨19, _⟩ => ⟨S8x2048x2048, .f32⟩
  | .hbm, ⟨20, _⟩ => ⟨S1x1x2048, .f32⟩
  | .hbm, ⟨21, _⟩ => ⟨S2048, .f32⟩
  | .hbm, ⟨22, _⟩ => ⟨S1x1x2048, .f32⟩
  | .hbm, ⟨23, _⟩ => ⟨S8x2048x2048, .f32⟩
  | .hbm, ⟨24, _⟩ => ⟨S8x2048x2048, .f32⟩
  | .hbm, ⟨25, _⟩ => ⟨S8x2048x2048, .f32⟩
  | .hbm, ⟨26, _⟩ => ⟨S1x1x2048, .f32⟩
  | .hbm, ⟨27, _⟩ => ⟨S2048, .f32⟩
  | .hbm, ⟨28, _⟩ => ⟨S1x1x2048, .f32⟩
  | .hbm, ⟨29, _⟩ => ⟨S8x2048x2048, .f32⟩
  | .hbm, ⟨30, _⟩ => ⟨S8x2048x2048, .f32⟩
  | .hbm, ⟨31, _⟩ => ⟨S8x2048x2048, .f32⟩
  | .hbm, ⟨32, _⟩ => ⟨S8x2048x2048, .f32⟩
  | .hbm, ⟨33, _⟩ => ⟨S1x1x2048, .f32⟩
  | .hbm, ⟨34, _⟩ => ⟨S2048, .f32⟩
  | .hbm, ⟨35, _⟩ => ⟨S1x1x2048, .f32⟩
  | .hbm, ⟨36, _⟩ => ⟨S8x2048x2048, .f32⟩
  | .hbm, ⟨37, _⟩ => ⟨S8x2048x2048, .f32⟩
  | .hbm, ⟨38, _⟩ => ⟨S8x2048x2048, .f32⟩
  | .hbm, ⟨39, _⟩ => ⟨S8x2048x2048, .f32⟩
  | .hbm, ⟨40, _⟩ => ⟨S1x1x2048, .f32⟩
  | .hbm, ⟨41, _⟩ => ⟨S2048, .f32⟩
  | .hbm, ⟨42, _⟩ => ⟨S1x1x2048, .f32⟩
  | .hbm, ⟨43, _⟩ => ⟨S8x2048x2048, .f32⟩
  | .hbm, ⟨44, _⟩ => ⟨S8x2048x2048, .f32⟩
  | .hbm, ⟨45, _⟩ => ⟨S8x2048x2048, .f32⟩
  | .hbm, ⟨46, _⟩ => ⟨S8x2048x2048, .f32⟩
  | .hbm, ⟨47, _⟩ => ⟨S8x2048x2048, .f32⟩
  | .hbm, ⟨48, _⟩ => ⟨S_, .f32⟩
  | .hbm, ⟨49, _⟩ => ⟨S8x2048x2048, .f32⟩
  | .hbm, ⟨50, _⟩ => ⟨S8x2048x2048, .f32⟩
  | .hbm, ⟨51, _⟩ => ⟨S_, .f32⟩
  | .hbm, ⟨52, _⟩ => ⟨S8x2048x2048, .f32⟩
  | .hbm, ⟨53, _⟩ => ⟨S8x2048x2048, .f32⟩
  | .hbm, ⟨54, _⟩ => ⟨S8x2048x2048, .f32⟩
  | .hbm, ⟨55, _⟩ => ⟨S8x2048x1024, .f32⟩
  | .hbm, ⟨56, _⟩ => ⟨S8x2048x8x128, .f32⟩
  | .hbm, ⟨57, _⟩ => ⟨S_, .f32⟩
  | .hbm, ⟨58, _⟩ => ⟨S8x2048x8x128, .f32⟩
  | .hbm, ⟨59, _⟩ => ⟨S8x2048x8x128, .f32⟩
  | .hbm, ⟨60, _⟩ => ⟨S8x8x2048x128, .f32⟩
  | .hbm, ⟨61, _⟩ => ⟨S8x8x2048x256, .f32⟩
  | .hbm, ⟨62, _⟩ => ⟨S8x8x2048, .f32⟩
  | .hbm, ⟨63, _⟩ => ⟨S8x8x2048, .f32⟩
  | .hbm, ⟨64, _⟩ => ⟨S_, .f32⟩
  | .hbm, ⟨65, _⟩ => ⟨S8x8x256x128, .f32⟩
  | .hbm, ⟨66, _⟩ => ⟨S_, .f32⟩
  | .hbm, ⟨67, _⟩ => ⟨S8x8x128, .f32⟩
  | .hbm, ⟨68, _⟩ => ⟨S_, .f32⟩
  | .hbm, ⟨69, _⟩ => ⟨S8x8, .f32⟩
  | .hbm, ⟨70, _⟩ => ⟨S8x8x1, .f32⟩
  | .hbm, ⟨71, _⟩ => ⟨S8x8, .f32⟩
  | .hbm, ⟨72, _⟩ => ⟨S8x8x1, .f32⟩
  | .hbm, ⟨73, _⟩ => ⟨S8x8x2048, .f32⟩
  | .hbm, ⟨74, _⟩ => ⟨S8x8x2048, .f32⟩
  | .hbm, ⟨75, _⟩ => ⟨S8x8x2048, .f32⟩
  | .hbm, ⟨76, _⟩ => ⟨S8x8, .f32⟩
  | .hbm, ⟨77, _⟩ => ⟨S_, .f32⟩
  | .hbm, ⟨78, _⟩ => ⟨S8x8, .f32⟩
  | .hbm, ⟨79, _⟩ => ⟨S8x8, .f32⟩
  | .hbm, ⟨80, _⟩ => ⟨S8x8, .f32⟩
  | .hbm, ⟨81, _⟩ => ⟨S8x8, .f32⟩
  | .hbm, ⟨82, _⟩ => ⟨S8x8, .f32⟩
  | .hbm, ⟨83, _⟩ => ⟨S8x8x1, .f32⟩
  | .hbm, ⟨84, _⟩ => ⟨S8x8x2048, .f32⟩
  | .hbm, ⟨85, _⟩ => ⟨S8x8x2048, .f32⟩
  | .hbm, ⟨86, _⟩ => ⟨S8x8x2048, .f32⟩
  | .hbm, ⟨87, _⟩ => ⟨S8x8x1x1, .f32⟩
  | .hbm, ⟨88, _⟩ => ⟨S8x8x256x128, .f32⟩
  | .hbm, ⟨89, _⟩ => ⟨S8x8x256x128, .f32⟩
  | .hbm, ⟨90, _⟩ => ⟨S8x8x2048x1, .f32⟩
  | .hbm, ⟨91, _⟩ => ⟨S8x8x2048x128, .f32⟩
  | .hbm, ⟨92, _⟩ => ⟨S8x8x2048x128, .f32⟩
  | .hbm, ⟨93, _⟩ => ⟨S8x8x256x128, .f32⟩
  | .hbm, ⟨94, _⟩ => ⟨S8x8x256x128, .f32⟩
  | .hbm, ⟨95, _⟩ => ⟨S8x8x1, .f32⟩
  | .hbm, ⟨96, _⟩ => ⟨S8x8x128, .f32⟩
  | .hbm, ⟨97, _⟩ => ⟨S8x8x128, .f32⟩
  | .hbm, ⟨98, _⟩ => ⟨S8x8x128, .f32⟩
  | .hbm, ⟨99, _⟩ => ⟨S8x8x128, .f32⟩
  | _, _ => ⟨S16896x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_call0_v0 : Ref sig .tc := ⟨.hbm, 46, rfl⟩
abbrev main_call0_v1 : Ref sig .tc := ⟨.hbm, 47, rfl⟩
abbrev main_call0_cst : Ref sig .tc := ⟨.hbm, 48, rfl⟩
abbrev main_call0_v2 : Ref sig .tc := ⟨.hbm, 49, rfl⟩
abbrev main_call0_v3 : Ref sig .tc := ⟨.hbm, 50, rfl⟩
abbrev main_call0_cst_0 : Ref sig .tc := ⟨.hbm, 51, rfl⟩
abbrev main_call0_v4 : Ref sig .tc := ⟨.hbm, 52, rfl⟩
abbrev main_call0_v5 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_0 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_1 : Ref sig .tc := ⟨.hbm, 64, rfl⟩
abbrev main_v47 : Ref sig .tc := ⟨.hbm, 65, rfl⟩
abbrev main_cst_2 : Ref sig .tc := ⟨.hbm, 66, rfl⟩
abbrev main_v48 : Ref sig .tc := ⟨.hbm, 67, rfl⟩
abbrev main_cst_3 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_cst_4 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩

abbrev nD : Nat := 1
abbrev τ : Topo := Topo.v7x

variable {F : FTy → Type} [FloatOps F]
-- ==== Proof.Experts.Setup.lean ====
module

public import proofs.«01_k».proof.Proof.Gen.Kernel2Ideal.Launch
public import proofs.«01_k».proof.Proof.Gen.Kernel2Ideal.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

/-! The expert call's pipeline as its region meets it: what the host leaves in each array, the two tables read before
    the grid is walked, and the blocks of the input windows. -/

@[expose] public section

set_option maxRecDepth 16384

noncomputable section

namespace Cert.Kernel2Ideal.Experts

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A core's arrays when the pipeline is entered: the two weight arrays re-shaped, the rest as launched. -/
abbrev V (c : Dev nD) (b : Ref sig .tc) : Buf (Elt F) ((c : Thread nD τ).loc b) :=
  StableHlo.after hostOps0 (fun b => m (c, b)) b

theorem host_fresh : (hostOps0 : List (HloOp τ sig (Elt F))).Forall fun op => op.fresh = ∅ := by
  simp only [List.Forall]; repeat' constructor

/-- The program is its host operations, then the pipeline on the arrays they leave. -/
theorem main_upto (𝒱₀ : Variants) :
    Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub host_fresh main_chain

/-- A buffer the two re-shapes do not write is as launched. -/
theorem V_kept (c : Dev nD) (b : Ref sig .tc) (h0 : b ≠ main_v0) (h1 : b ≠ main_v1) :
    V m c b = m ((c : Thread nD τ).loc b) :=
  StableHlo.after_of_forall_not_mem (b := Proc.devRef .tc b) _ _ (List.forall_iff_forall_mem.mp (by
    simp only [hostOps0, List.Forall, StableHlo.reshape_writes, Finset.mem_singleton]
    exact ⟨StableHlo.devRef_ne_of_ne h0, StableHlo.devRef_ne_of_ne h1⟩))

/-! ## The two tables -/

/-- The tables: each tile's expert, and the number of tiles that hold rows. -/
def tbl : pre0.Contents (Elt F) := fun j => V m (0 : Dev nD) (pre0.ref j)

theorem V_tbl (c : Dev nD) (j : Fin 2) : V m c (pre0.ref j) = tbl m j := by
  obtain rfl : c = 0 := Subsingleton.elim _ _; rfl

/-- Every block the tables name lies in its array. -/
abbrev Ok : Prop := ok0 (F := F) (tbl m)

abbrev adm (hO : Ok m) : (pcfg0 (F := F)).Adm := ⟨tbl m, hO⟩
/-- The pipeline at the tables' contents. -/
abbrev cfgM (hO : Ok m) : Pipeline.Cfg sig Λ₀ := cfg0 (adm m hO)

/-- The two tables as the body is handed them. -/
abbrev tb0 : Memref sig .tc .smem S82 .i32 := Memref.whole main_arg3
abbrev tb1 : Memref sig .tc .smem S1 .i32 := Memref.whole main_arg4

abbrev TBuf (c : Dev nD) {S : Shape} {e : EltTy} (M : Memref sig .tc .smem S e) : Type :=
  Buf (Elt F) (M.view.loc (c : Thread nD τ))
/-- A table held by the body at half the full share, the half it may read and not write. -/
abbrev tbPt (c : Dev nD) {S : Shape} {e : EltTy} (M : Memref sig .tc .smem S e) (f : TBuf (F := F) c M) : sProp 𝕄 :=
  M.view.loc (c : Thread nD τ) ↦{fullShare.right} f

/-- What the pipeline lends the body of the tables, table by table. -/
theorem lent_eq (c : Dev nD) :
    (Pipeline.ΦT pre0 (tbl m) c : sProp 𝕄) = iprop(tbPt c tb0 (tbl m 0) ∗ tbPt c tb1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-! ## The windows -/

/-- Window `w`'s block at point `t`, off its array. -/
def iblk (hO : Ok m) (c : Dev nD) (w : Fin (cfgM m hO).W) (t : Fin (cfgM m hO).N) :
    (((cfgM m hO).win w).xblock ((cfgM m hO).grid.coords t)).Idx → Elt F ((cfgM m hO).win w).elt :=
  (((cfgM m hO).win w).blk t).view.read (Elt F) (V m c (Pipeline.arrRef spec0 w))

/-- Input window 0's staged block at every point is its block of the array, where the body leaves it in place. -/
theorem staged0 (hO : Ok m) {c : Dev nD} (dat : Dat τ (Elt F) Unit ℕ (UR sig nD τ) ℕ (cfgM m hO) c)
    (hA : dat.A 0 = V m c (Pipeline.arrRef spec0 0)) (hafter : ∀ t, dat.after 0 t = iblk m hO c 0 t)
    (t : Fin (cfgM m hO).N) (d) : dat.before 0 t d = iblk m hO c 0 t :=
  (dat.before_in_eq_fetched 0 rfl (fun _ => rfl) (fun _ _ _ => rfl)
    (fun t => by rw [hafter]; unfold Dat.blockOf iblk; rw [hA]; try rfl) t d).trans
    (by unfold Dat.fetched Dat.blockOf iblk; rw [hA]; try rfl)

/-- Input window 1's staged block at every point is its block of the array, where the body leaves it in place. -/
theorem staged1 (hO : Ok m) {c : Dev nD} (dat : Dat τ (Elt F) Unit ℕ (UR sig nD τ) ℕ (cfgM m hO) c)
    (hA : dat.A 1 = V m c (Pipeline.arrRef spec0 1)) (hafter : ∀ t, dat.after 1 t = iblk m hO c 1 t)
    (t : Fin (cfgM m hO).N) (d) : dat.before 1 t d = iblk m hO c 1 t :=
  (dat.before_in_eq_fetched 1 rfl (fun _ => rfl) (fun _ _ _ => rfl)
    (fun t => by rw [hafter]; unfold Dat.blockOf iblk; rw [hA]; try rfl) t d).trans
    (by unfold Dat.fetched Dat.blockOf iblk; rw [hA]; try rfl)

/-- Input window 2's staged block at every point is its block of the array, where the body leaves it in place. -/
theorem staged2 (hO : Ok m) {c : Dev nD} (dat : Dat τ (Elt F) Unit ℕ (UR sig nD τ) ℕ (cfgM m hO) c)
    (hA : dat.A 2 = V m c (Pipeline.arrRef spec0 2)) (hafter : ∀ t, dat.after 2 t = iblk m hO c 2 t)
    (t : Fin (cfgM m hO).N) (d) : dat.before 2 t d = iblk m hO c 2 t :=
  (dat.before_in_eq_fetched 2 rfl (fun _ => rfl) (fun _ _ _ => rfl)
    (fun t => by rw [hafter]; unfold Dat.blockOf iblk; rw [hA]; try rfl) t d).trans
    (by unfold Dat.fetched Dat.blockOf iblk; rw [hA]; try rfl)

/-- The result's block is written back at every point. -/
theorem flush3 (a : (pcfg0 (F := F)).Adm) : ∀ t : Fin (cfg0 a).N, ((cfg0 a).win 3).flush t = true :=
  (fun t => (Pipeline.Window.flushOf_reads cc0_transform_3 reads0_3 hreads0_3 1 (by decide) (by decide)
    (Pipeline.Window.sep_of_coord cc0_transform_3 1 0 (fun _ => rfl) (by decide)) (P := 1) (m := 0) (by decide) rfl t).mpr
    (Nat.mod_one _) : ∀ t : Fin grid0.N, Pipeline.Window.flushOf grid0 true cc0_transform_3 t = true)

/-- The memref each window's block is staged in at point `t`. -/
abbrev ms0 (hO : Ok m) (t : Fin (cfgM m hO).N) : Memref sig .tc .vmem S512x4096 .bf16 := spec0_0.stage ((cfgM m hO).slots t 0)
abbrev ms1 (hO : Ok m) (t : Fin (cfgM m hO).N) : Memref sig .tc .vmem S1x4096x512 .f32 := spec0_1.stage ((cfgM m hO).slots t 1)
abbrev ms2 (hO : Ok m) (t : Fin (cfgM m hO).N) : Memref sig .tc .vmem S1x4096x512 .f32 := spec0_2.stage ((cfgM m hO).slots t 2)
abbrev ms3 (hO : Ok m) (t : Fin (cfgM m hO).N) : Memref sig .tc .vmem S512x512 .bf16 := spec0_3.stage ((cfgM m hO).slots t 3)
abbrev hs0 (hO : Ok m) (t : Fin (cfgM m hO).N) : (ms0 m hO t).IsWhole := hstage0_0 (((cfgM m hO).slots t 0).cast nbuf0_0)
abbrev hs1 (hO : Ok m) (t : Fin (cfgM m hO).N) : (ms1 m hO t).IsWhole := hstage0_1 (((cfgM m hO).slots t 1).cast nbuf0_1)
abbrev hs2 (hO : Ok m) (t : Fin (cfgM m hO).N) : (ms2 m hO t).IsWhole := hstage0_2 (((cfgM m hO).slots t 2).cast nbuf0_2)
abbrev hs3 (hO : Ok m) (t : Fin (cfgM m hO).N) : (ms3 m hO t).IsWhole := hstage0_3 (((cfgM m hO).slots t 3).cast nbuf0_3)

/-- The kernel body as the pipeline calls it at point `t`. -/
abbrev bodyAt (hO : Ok m) (t : Fin (cfgM m hO).N) : Prog (TpuEff nD τ sig (Elt F) Λ₀ .tc) PUnit :=
  cc0_expert_up (grid0.coords t) tb0 (Memref.isWhole_whole _) tb1 (Memref.isWhole_whole _)
    (ms0 m hO t) (hs0 m hO t) (ms1 m hO t) (hs1 m hO t) (ms2 m hO t) (hs2 m hO t) (ms3 m hO t) (hs3 m hO t)

end Cert.Kernel2Ideal.Experts

end
-- ==== Proof.Experts.Body.lean ====
module

public import proofs.«01_k».proof.Proof.Experts.Setup
public import Idealize.ShloMosaic.Lib.VecWindow
public import Idealize.ShloMosaic.Lib.Pointwise

/-! The body of the expert call at one point of its grid. -/

@[expose] public section

set_option maxRecDepth 16384

noncomputable section

namespace Cert.Kernel2Ideal.Experts

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal.Gen

variable {F : FTy → Type} [FloatOps F]

local notation "𝕄" => MT nD τ sig Unit (Elt F) ℕ (UR sig nD τ) ℕ

/-- The block the body leaves: where the tile is one of the `w` that hold rows, the gated rows; else zeros. -/
def block (i : grid0.Coords) (w : BitVec 32) (x0 : Vec F S512x4096 .bf16) (x1 x2 : Vec F S1x4096x512 .f32) :
    Vec F S512x512 .bf16 :=
  if k0_cond1 i w = 1#1 then k0_pay1 x0 x1 x2 else k0_pay2

/-- The first condition: the tile comes before the `w`-th. -/
theorem cond1_iff (i : grid0.Coords) (w : BitVec 32) : k0_cond1 i w = 1#1 ↔ (BitVec.ofNat 32 (i 1).val).slt w = true := by
  unfold k0_cond1
  simp only [Scalar.cmpi, Scalar.extui, IntOp.cmpi]
  cases (BitVec.ofNat 32 (i 1).val).slt w <;> decide

/-- The second: it does not. -/
theorem cond2_iff (i : grid0.Coords) (w : BitVec 32) : k0_cond2 i w = 1#1 ↔ w.sle (BitVec.ofNat 32 (i 1).val) = true := by
  unfold k0_cond2
  simp only [Scalar.cmpi, Scalar.extui, IntOp.cmpi]
  cases w.sle (BitVec.ofNat 32 (i 1).val) <;> decide

/-- A tile holds rows or it does not: one of the body's two conditions holds, never both. -/
theorem cond_split (i : grid0.Coords) (w : BitVec 32) : k0_cond2 i w = 1#1 ↔ ¬ k0_cond1 i w = 1#1 := by
  rw [cond1_iff, cond2_iff, BitVec.sle_iff_toInt_le, BitVec.slt_iff_toInt_lt, not_lt]

/-- The second table has one entry. -/
theorem one_idx (x y : S1.Idx) : x = y := funext fun a => by
  match a with
  | ⟨0, _⟩ => exact Subsingleton.elim (α := Fin 1) _ _

/-- The word the body reads: the one word of the second table. -/
abbrev word (c : Dev nD) (xt1 : TBuf (F := F) c tb1) : BitVec 32 :=
  (show S1.Idx → BitVec 32 from xt1) (ix1 (0 : Fin 1))

/-- The body on whole staging memrefs: the inputs' blocks and the tables come back as they were, the result's
    buffer holds `block`. -/
theorem run_body (c : Dev nD) (i : grid0.Coords) (arg4 : Memref sig .tc .vmem S512x4096 .bf16) (harg4 : arg4.IsWhole)
    (arg5 : Memref sig .tc .vmem S1x4096x512 .f32) (harg5 : arg5.IsWhole)
    (arg6 : Memref sig .tc .vmem S1x4096x512 .f32) (harg6 : arg6.IsWhole)
    (arg7 : Memref sig .tc .vmem S512x512 .bf16) (harg7 : arg7.IsWhole)
    (x0 : Vec F S512x4096 .bf16) (x1 : Vec F S1x4096x512 .f32) (x2 : Vec F S1x4096x512 .f32)
    (xt0 : TBuf (F := F) c tb0) (xt1 : TBuf (F := F) c tb1) (E : Set ℕ) (K : PUnit → sProp 𝕄) :
    iprop(owns (c : Thread nD τ) arg4 fullShare x0 ∗ owns (c : Thread nD τ) arg5 fullShare x1
        ∗ owns (c : Thread nD τ) arg6 fullShare x2 ∗ (∃ d, owns (c : Thread nD τ) arg7 fullShare d)
        ∗ tbPt c tb0 xt0 ∗ tbPt c tb1 xt1
        ∗ (iprop(owns (c : Thread nD τ) arg4 fullShare x0 ∗ owns (c : Thread nD τ) arg5 fullShare x1
            ∗ owns (c : Thread nD τ) arg6 fullShare x2
            ∗ owns (c : Thread nD τ) arg7 fullShare (block i (word c xt1) x0 x1 x2)
            ∗ tbPt c tb0 xt0 ∗ tbPt c tb1 xt1) -∗ K ⟨⟩))
      ⊢ wp frame (wpE (defs₀ (F := F)) Variants.none c none) E
          (cc0_expert_up i tb0 (Memref.isWhole_whole _) tb1 (Memref.isWhole_whole _)
            arg4 harg4 arg5 harg5 arg6 harg6 arg7 harg7) K := by
  simp only [cc0_expert_up_eq_skeleton]; unfold cc0_expert_up_skel
  unfold owns
  iintro ⟨⟨%f0, %hf0, H0⟩, ⟨%f1, %hf1, H1⟩, ⟨%f2, %hf2, H2⟩, ⟨%d3, %f3, -, H3⟩, HT0, HT1, Hk⟩
  obtain rfl := harg4.eq_unread hf0; obtain rfl := harg5.eq_unread hf1; obtain rfl := harg6.eq_unread hf2
  sl_exec
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr; · ipureintro; exact harg6.read_unread _
    iexact H2
  isplitl [H3]
  · iexists _; isplitr
    swap; · iexact H3
    ipureintro
    have hw : run_body.sl.r c xt1 = word c xt1 :=
      congrArg (fun y : S1.Idx => (show S1.Idx → BitVec 32 from xt1) y) (one_idx _ _)
    rw [hw]
    unfold block
    by_cases h : k0_cond1 i (word c xt1) = 1#1
    · rw [dif_neg (fun h2 => (cond_split i _).mp h2 h), dif_pos h, if_pos h]
      refine (View.read_writes_full _ _ _ _ _).trans ?_
      rw [View.readAt_full, View.readAt_full, View.readAt_full, harg4.read_unread, harg5.read_unread, harg6.read_unread]
    · rw [dif_pos ((cond_split i _).mpr h), if_neg h]
      exact View.read_writes_full _ _ _ _ _
  isplitl [HT0]; · iexact HT0
  iexact HT1

end Cert.Kernel2Ideal.Experts

end
-- ==== Proof.Experts.Run.lean ====
module

public import proofs.«01_k».proof.Proof.Experts.Body

/-! The expert call run whole: its body at every point of the grid, and what every run of the program leaves. -/

@[expose] public section

set_option maxRecDepth 16384

noncomputable section

namespace Cert.Kernel2Ideal.Experts

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The number of tiles that hold rows, as launched. -/
abbrev count (c : Dev nD) : BitVec 32 := word (F := F) c (tbl m 1)

/-- The result's block at point `t`, from the input blocks there. -/
def left (hO : Ok m) (c : Dev nD) (t : Fin (cfgM m hO).N) : Vec F S512x512 .bf16 :=
  block (grid0.coords t) (count m c) (iblk m hO c 0 t) (iblk m hO c 1 t) (iblk m hO c 2 t)

/-- The pipeline's data: each input's block stays in place, the result's becomes `left`; nothing is owed. -/
def dat (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => (left m hO c t)
  Φ _ := iprop(Pipeline.ΦA spec0 c ∗ Pipeline.ΦT pre0 (tbl m) c)
  q _ := fullShare
  owed _ := 0

theorem dat_A (hO : Ok m) (c : Dev nD) (w : Fin (cfgM m hO).W) : (dat m hO 0 c).A w = V m c (Pipeline.arrRef spec0 w) := by
  dsimp only [dat]

theorem after0 (hO : Ok m) (c : Dev nD) (t : Fin (cfgM m hO).N) : (dat m hO 0 c).after 0 t = iblk m hO c 0 t := by dsimp only [dat]; try rfl
theorem after1 (hO : Ok m) (c : Dev nD) (t : Fin (cfgM m hO).N) : (dat m hO 0 c).after 1 t = iblk m hO c 1 t := by dsimp only [dat]; try rfl
theorem after2 (hO : Ok m) (c : Dev nD) (t : Fin (cfgM m hO).N) : (dat m hO 0 c).after 2 t = iblk m hO c 2 t := by dsimp only [dat]; try rfl
theorem after3 (hO : Ok m) (c : Dev nD) (t : Fin (cfgM m hO).N) : (dat m hO 0 c).after 3 t = left m hO c t := by dsimp only [dat]; try rfl

theorem before0 (hO : Ok m) (c : Dev nD) (t : Fin (cfgM m hO).N) (d) : (dat m hO 0 c).before 0 t d = iblk m hO c 0 t :=
  staged0 m hO (dat m hO 0 c) (dat_A m hO c 0) (after0 m hO c) t d
theorem before1 (hO : Ok m) (c : Dev nD) (t : Fin (cfgM m hO).N) (d) : (dat m hO 0 c).before 1 t d = iblk m hO c 1 t :=
  staged1 m hO (dat m hO 0 c) (dat_A m hO c 1) (after1 m hO c) t d
theorem before2 (hO : Ok m) (c : Dev nD) (t : Fin (cfgM m hO).N) (d) : (dat m hO 0 c).before 2 t d = iblk m hO c 2 t :=
  staged2 m hO (dat m hO 0 c) (dat_A m hO c 2) (after2 m hO c) t d

/-- What the body is given at point `t`. -/
def given (hO : Ok m) (c : Dev nD) (t : Fin (cfgM m hO).N) : sProp 𝕄 :=
  iprop((dat m hO 0 c).Φ t.castSucc ∗ (dat m hO 0 c).owesAt () t.castSucc
    ∗ (∃ d, owns (c : Thread nD τ) (ms0 m hO t) fullShare ((dat m hO 0 c).before 0 t d))
    ∗ (∃ d, owns (c : Thread nD τ) (ms1 m hO t) fullShare ((dat m hO 0 c).before 1 t d))
    ∗ (∃ d, owns (c : Thread nD τ) (ms2 m hO t) fullShare ((dat m hO 0 c).before 2 t d))
    ∗ (∃ d, owns (c : Thread nD τ) (ms3 m hO t) fullShare ((dat m hO 0 c).before 3 t d)))

/-- What it gives back. -/
def returned (hO : Ok m) (c : Dev nD) (t : Fin (cfgM m hO).N) : sProp 𝕄 :=
  iprop((dat m hO 0 c).Φ t.succ ∗ (dat m hO 0 c).owesAt () t.succ
    ∗ owns (c : Thread nD τ) (ms0 m hO t) fullShare ((dat m hO 0 c).after 0 t)
    ∗ owns (c : Thread nD τ) (ms1 m hO t) fullShare ((dat m hO 0 c).after 1 t)
    ∗ owns (c : Thread nD τ) (ms2 m hO t) fullShare ((dat m hO 0 c).after 2 t)
    ∗ owns (c : Thread nD τ) (ms3 m hO t) fullShare ((dat m hO 0 c).after 3 t))

/-- The body at any point of the grid. -/
theorem body_at (hO : Ok m) (c : Dev nD) (t : Fin (cfgM m hO).N) :
    given m hO c t ⊢ wp frame (wpE (defs₀ (F := F)) Variants.none c none) Set.univ (bodyAt m hO t) (fun _ => returned m hO c t) := by
  unfold given returned bodyAt
  simp only [before0, before1, before2]
  rw [show (dat m hO 0 c).Φ t.succ = (dat m hO 0 c).Φ t.castSucc from rfl,
    show (dat m hO 0 c).owesAt () t.succ = (dat m hO 0 c).owesAt () t.castSucc from rfl,
    after0, after1, after2, after3]
  rw [show (dat m hO 0 c).Φ t.castSucc = iprop(Pipeline.ΦA spec0 c ∗ Pipeline.ΦT pre0 (tbl m) c) from rfl, lent_eq]
  unfold left
  iintro ⟨⟨HΦ, ⟨HT0, HT1⟩⟩, Ho, ⟨%d0, H0⟩, ⟨%d1, H1⟩, ⟨%d2, H2⟩, ⟨%d3, H3⟩⟩
  iapply (run_body c (grid0.coords t) _ _ _ _ _ _ _ _ (iblk m hO c 0 t) (iblk m hO c 1 t) (iblk m hO c 2 t) (tbl m 0) (tbl m 1) Set.univ _)
  isplitl [H0]; · iexact H0
  isplitl [H1]; · iexact H1
  isplitl [H2]; · iexact H2
  isplitl [H3]; · iexists _; iexact H3
  isplitl [HT0]; · iexact HT0
  isplitl [HT1]; · iexact HT1
  iintro ⟨H0, H1, H2, H3, HT0, HT1⟩
  isplitl [HΦ HT0 HT1]
  · isplitl [HΦ]
    · iexact HΦ
    isplitl [HT0]; · iexact HT0
    iexact HT1
  isplitl [Ho]; · iexact Ho
  isplitl [H0]; · iexact H0
  isplitl [H1]; · iexact H1
  isplitl [H2]; · iexact H2
  iexact H3

theorem row_eq (hO : Ok m) (t : Fin (cfgM m hO).N) :
    defs₀ (F := F) .tc (cfgM m hO).body ((cfgM m hO).bodyArgs t ((cfgM m hO).slots t)) = bodyAt m hO t := by
  unfold defs₀; rw [Defs.onTc_tc]

/-- The result's block is written back at every point, so what the loop asks of it is what the body leaves. -/
theorem leaves3 (hO : Ok m) (c : Dev nD) (t : Fin (cfgM m hO).N) :
    owns (c : Thread nD τ) (ms3 m hO t) fullShare ((dat m hO 0 c).after 3 t) ⊢ (dat m hO 0 c).leavesExact 3 t := by
  have hf : ((cfgM m hO).win 3).flush t = true := flush3 (adm m hO) t
  unfold Dat.leavesExact
  rw [hf]
  cases (cfgM m hO).idle 3 ((cfgM m hO).grid.coords t)
  · exact .rfl
  · exact .rfl

theorem obligation (hO : Ok m) (c : Dev nD) :
    BodyObligation (dat (F := F) m hO 0 c) (defs₀ (F := F)) Variants.none () Set.univ := fun t => by
  rw [bigSep_W0, bigSep_W0, row_eq m hO]
  exact triple_restated (body_at m hO c t) rfl .rfl fun _ =>
    sep_mono .rfl (sep_mono .rfl (sep_mono .rfl (sep_mono .rfl (sep_mono .rfl (leaves3 m hO c t)))))

-- the launch theorem's implicit arguments are found by unfolding definitions in a metavariable's type
set_option backward.isDefEq.respectTransparency.types false in
/-- The launch: every run ends, with each window's array at what the pipeline's data compute, every other array as the
    region found it, and every semaphore at zero. -/
theorem run_quiet (hO : Ok m) : θ_run defs (onTc (τ := τ) (main (F := F))) (s₀ m ρ)
    (fun r => (Pipeline.FramePost (Pipeline.pin pcfgs fun _ => adm m hO) (dat m hO) 0 (V m)) r ∧ r.2.sem = fun _ => 0) :=
  Pipeline.θ_run_frameP (Q' := _) pcfgs (fun _ => adm m hO) (dat m hO) (0 : Fin 1) launch0 defs₀ Variants.none m ρ main
    (hbody := fun c => (obligation m hO c).loose) (hshare := fun c => (dat m hO 0 c).share_full fun _ => rfl)
    (howed := fun _ _ => rfl) (V := V m) (hmain := main_upto m Variants.none) (hA := dat_A m hO) (hpf := V_tbl m)
    (hΦ := fun _ _ => rfl)

/-- Every run ends with the arguments unchanged, the result array as the pipeline's data compute it, and every
    semaphore at zero. -/
theorem run_out (hO : Ok m) : θ_run defs (onTc (τ := τ) (main (F := F))) ⟨m, fun _ => 0, ρ⟩ (fun r => ((∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0)
      ∧ ∀ c : Dev nD, r.2.mem ((c.tc : Thread nD τ).loc main_v2) = (dat m hO 0 c).arrAt 3 (Fin.last (cfgM m hO).N)) :=
  (θ_run defs _ _).mono (fun _ h => ⟨⟨fun c =>
    ⟨((h.1 c).1 0).trans (((dat m hO 0 c).arrAt_in 0 rfl _).trans ((dat_A m hO c 0).trans (V_kept m c main_arg0 (by decide) (by decide)))),
      ((h.1 c).2 main_arg1 (by decide : main_arg1 ∈ Pipeline.restRefs sig spec0)).trans (V_kept m c main_arg1 (by decide) (by decide)),
      ((h.1 c).2 main_arg2 (by decide : main_arg2 ∈ Pipeline.restRefs sig spec0)).trans (V_kept m c main_arg2 (by decide) (by decide)),
      ((h.1 c).2 main_arg3 (by decide : main_arg3 ∈ Pipeline.restRefs sig spec0)).trans (V_kept m c main_arg3 (by decide) (by decide)),
      ((h.1 c).2 main_arg4 (by decide : main_arg4 ∈ Pipeline.restRefs sig spec0)).trans (V_kept m c main_arg4 (by decide) (by decide))⟩, h.2⟩,
    fun c => (h.1 c).1 3⟩) (run_quiet m ρ hO)

/-- The frame: every run ends, the arguments unchanged and every semaphore at zero. -/
theorem frame_exit (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => h.1) (run_out m ρ hO)

end Cert.Kernel2Ideal.Experts

end
-- ==== Proof.Experts.Pre.lean ====
module

public import proofs.«01_k».proof.Proof.Experts.Run
public import proofs.«01_k».proof.Proof.Gen.Pre_experts
public import Idealize.ShloMosaic.Lib.ReduceAll
public import Idealize.ShloMosaic.Lib.WordCmp
public import Idealize.ShloMosaic.Lib.Pointwise

/-! What the precondition gives the run: the blocks the first table names lie in the weight arrays. -/

@[expose] public section

set_option maxRecDepth 16384

noncomputable section

namespace Cert.Kernel2Ideal.Experts

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal.Gen

variable {F : FTy → Type} [FloatOps F]

local notation "𝕄" => MT nD τ sig Unit (Elt F) ℕ (UR sig nD τ) ℕ

/-- The precondition says of every tile's expert that it is one of the sixteen. -/
theorem expert_lt {x0 : FVec F Cert.Pre_experts.S41984x4096 .bf16} {x1 x2 : FVec F Cert.Pre_experts.S1x16x4096x1024 .f32}
    {te : IVec Cert.Pre_experts.S82 32} {n : IVec Cert.Pre_experts.S1 32}
    (h : Cert.Pre_experts.fn x0 x1 x2 te n = fun _ => 1#1) (t : Fin 82) : (te (ix1 t)).toNat < 16 := by
  unfold Cert.Pre_experts.fn at h
  have e := Host.reduce_andi_eq_one _ _ _ _ _ (congrFun h (fun a => a.elim0)) (ix1 t) (funext fun a => a.elim0)
  have e' : IntOp.andi (IntOp.cmpi .sge (te (ix1 t)) 0#32) (IntOp.cmpi .slt (te (ix1 t)) (BitVec.ofNat 32 16)) = 1#1 := e
  rw [WordCmp.andi_sge_zero_slt_ofNat (by decide)] at e'
  by_contra hn
  rw [decide_eq_false hn] at e'
  exact absurd e' (by decide)

variable (m : (ℓ : Loc nD τ sig) → Buf (Elt F) ℓ)

/-- Tile `t`'s expert, as launched. -/
abbrev expert (c : Dev nD) (t : Fin 82) : BitVec 32 :=
  (show S82.Idx → BitVec 32 from m ((c.tc : Thread nD τ).loc main_arg3)) (ix1 t)

/-- The word the two weight windows' index maps read at a point is its tile's expert. -/
theorem read_expert (i : grid0.Coords) :
    (tbl m).at 0 (Rect.unit (s := S82) ![(Scalar.indexCast (BitVec.ofNat 32 (i 1).val)).toNat] S1.size (k0_off1_inb i)) numel1_S1
      = expert m 0 (i 1) := by
  have hi : (i 1).val < 82 := (i 1).isLt
  have hv : V m (0 : Dev nD) main_arg3 = m (((0 : Dev nD).tc : Thread nD τ).loc main_arg3) :=
    V_kept m 0 main_arg3 (by decide) (by decide)
  refine (congrFun hv _).trans ?_
  refine congrArg (show S82.Idx → BitVec 32 from m (((0 : Dev nD).tc : Thread nD τ).loc main_arg3)) (funext fun a => ?_)
  match a with
  | ⟨0, _⟩ =>
    refine Fin.ext ?_
    show (BitVec.ofNat 32 (i 1).val).toNat + 1 * 0 = (i 1).val
    rw [BitVec.toNat_ofNat]; omega

theorem map1_eq (i : grid0.Coords) :
    cc0_transform_1 k0_off1_inb numel1_S1 (tbl m) i = ![(expert m 0 (i 1)).toNat, 0, (i 0).val] := by
  unfold cc0_transform_1
  have hi : (i 0).val < 2 := (i 0).isLt
  have h0 : (BitVec.ofNat 32 (i 0).val).toNat = (i 0).val := by rw [BitVec.toNat_ofNat]; omega
  dsimp only
  rw [read_expert m i, h0]; rfl

theorem map2_eq (i : grid0.Coords) :
    cc0_transform_2 k0_off1_inb numel1_S1 (tbl m) i = ![(expert m 0 (i 1)).toNat, 0, (i 0).val] := map1_eq m i

/-- Every block the tables name lies in its array, as every tile's expert is one of the sixteen. -/
theorem ok_of_lt (h : ∀ t, (expert m 0 t).toNat < 16) : Ok m := by
  have key : ∀ i : grid0.Coords, ∀ a, (![(expert m 0 (i 1)).toNat, 0, (i 0).val] a + 1) * S1x4096x512.size a ≤ S16x4096x1024.size a := by
    intro i a
    have h1 := h (i 1)
    have h0 : (i 0).val < 2 := (i 0).isLt
    match a with
    | ⟨0, _⟩ => show ((expert m 0 (i 1)).toNat + 1) * 1 ≤ 16; omega
    | ⟨1, _⟩ => show (0 + 1) * 4096 ≤ 4096; omega
    | ⟨2, _⟩ => show ((i 0).val + 1) * 512 ≤ 1024; omega
  exact ⟨fun i => ⟨by rw [map1_eq]; exact key i, .inl rfl⟩, fun i => ⟨by rw [map2_eq]; exact key i, .inl rfl⟩⟩

end Cert.Kernel2Ideal.Experts

end
-- ==== Proof.Experts.RefRun.lean ====
module

public import proofs.«01_k».proof.Proof.Gen.Reference2Ideal.Run
public import proofs.«01_k».proof.Proof.Gen.Reference2Ideal.Read

@[expose] public section

end
-- ==== Proof.Experts.Spec.lean ====
module
public import Idealize.ShloMosaic.Lib.Pipeline.ValueKit
public import Idealize.ShloMosaic.Lib.Pointwise
/-!
# The hidden rows of the experts

Rows are gathered in tiles of 512, each tile the rows of one expert. A row of a tile that holds rows becomes
`silu (x · W_gate) * (x · W_up)` with its own expert's two matrices; a row of any other tile becomes zero.
-/
@[expose] public section
set_option maxRecDepth 16384
noncomputable section
open Idealize.ShloMosaic Idealize.ShloMosaic.TcCoe Idealize.SL.Sem
namespace Cert.ExpertSpec

/-- One hidden element: a row against a column of the gate's matrix and the same column of the other. -/
def hidden (x wg wu : Fin 4096 → EReal) : EReal :=
  (∑ d, x d * wg d) * Ideal.logistic (∑ d, x d * wg d) * ∑ d, x d * wu d

variable (x : (⟨2, ![41984, 4096]⟩ : Shape).Idx → EReal) (wg wu : (⟨4, ![1, 16, 4096, 1024]⟩ : Shape).Idx → EReal)
  (te : (⟨1, ![82]⟩ : Shape).Idx → BitVec 32) (n : (⟨1, ![1]⟩ : Shape).Idx → BitVec 32)

/-- A tile's expert. -/
def own (t : Fin 82) : Fin 16 := Fin.ofNat 16 (te (ix1 t)).toNat

/-- The element at row `r`, column `f` of the hidden rows; the row lies in tile `t`. -/
def elem (t : Fin 82) (r : Fin 41984) (f : Fin 1024) : EReal :=
  if (BitVec.ofNat 32 t.val).slt (n (ix1 0)) = true then
    hidden (fun d => x (ix2 r d)) (fun d => wg (ix4 0 (own te t) d f)) (fun d => wu (ix4 0 (own te t) d f))
  else 0

/-- The tile of a row. -/
def tile (r : Fin 41984) : Fin 82 := ⟨r.val / 512, by omega⟩

/-- The hidden rows. -/
def rows : (⟨2, ![41984, 1024]⟩ : Shape).Idx → EReal := fun y => elem x wg wu te n (tile (y 0)) (y 0) (y 1)

end Cert.ExpertSpec

end
-- ==== Proof.Experts.Pay.lean ====
module
public import proofs.«01_k».proof.Proof.Gen.Kernel2Ideal.Skeleton
public import proofs.«01_k».proof.Proof.Experts.Spec
/-!
# The body's values on scalars
-/
@[expose] public section
set_option maxRecDepth 16384
noncomputable section
open Idealize.ShloMosaic Idealize.ShloMosaic.TcCoe Idealize.SL.Sem
namespace Cert.Kernel2Ideal.Experts
open Cert.Kernel2Ideal Cert.Kernel2Ideal.Gen Cert.ExpertSpec

/-- The block the body writes where the tile holds rows. -/
theorem pay1 (x0 : FVec Ideal S512x4096 .bf16) (x1 x2 : FVec Ideal S1x4096x512 .f32) (r l : Fin 512) :
    (k0_pay1 (F := Ideal) x0 x1 x2 (ix2 r l) : EReal)
      = hidden (fun d => x0 (ix2 r d)) (fun d => x1 (ix3 0 d l)) (fun d => x2 (ix3 0 d l)) := by
  pointwise [k0_pay1]
  rfl

/-- The block it writes elsewhere. -/
theorem pay2 (r l : Fin 512) : (k0_pay2 (F := Ideal) (ix2 r l) : EReal) = 0 := by
  pointwise [k0_pay2]

end Cert.Kernel2Ideal.Experts

end
-- ==== Proof.Experts.Arrays.lean ====
module
public import proofs.«01_k».proof.Proof.Experts.Pre
public import proofs.«01_k».proof.Proof.Experts.Pay
public import Idealize.ShloMosaic.Lib.Pipeline.Covers
/-!
# What the expert call leaves in its result array
-/
@[expose] public section
set_option maxRecDepth 16384
noncomputable section
open Idealize.ShloMosaic Idealize.ShloMosaic.TcCoe Idealize.SL.Sem
open Idealize.ShloMosaic.Pipeline (Dat)
namespace Cert.Kernel2Ideal.Experts
open Cert.Kernel2Ideal Cert.Kernel2Ideal.Gen Cert.ExpertSpec

variable (m : (ℓ : Loc nD τ sig) → Buf (Elt Ideal) ℓ) (hO : Ok m) (c : Dev nD)

/-- The gate matrices as the region finds them. -/
theorem entry_gate (e : Fin 16) (d : Fin 4096) (f : Fin 1024) :
    (V m c main_v0 (ix3 e d f) : EReal) = m ((c : Thread nD τ).loc main_arg1) (ix4 0 e d f) := by
  show (StableHlo.after hostOps0 (fun b => m (c, b)) (Proc.devRef .tc main_v0) (ix3 e d f) : EReal) = _
  entry_read
  pointwise []

/-- The other matrices as the region finds them. -/
theorem entry_up (e : Fin 16) (d : Fin 4096) (f : Fin 1024) :
    (V m c main_v1 (ix3 e d f) : EReal) = m ((c : Thread nD τ).loc main_arg2) (ix4 0 e d f) := by
  show (StableHlo.after hostOps0 (fun b => m (c, b)) (Proc.devRef .tc main_v1) (ix3 e d f) : EReal) = _
  entry_read
  pointwise []

/-- A point's tile and column half. -/
theorem coords_at : ∀ t : Fin grid0.N, (grid0.coords t 0).val = t.val / 82 ∧ (grid0.coords t 1).val = t.val % 82 :=
  (by decide +kernel)

theorem idx0 (t : Fin (cfgM m hO).N) : ((cfgM m hO).win 0).index t = ![t.val % 82, 0] := by
  have h : ∀ t : Fin grid0.N, cc0_transform_0 (grid0.coords t) = ![t.val % 82, 0] := by decide +kernel
  exact h t
theorem idx3 (t : Fin (cfgM m hO).N) : ((cfgM m hO).win 3).index t = ![t.val % 82, t.val / 82] := by
  have h : ∀ t : Fin grid0.N, cc0_transform_3 (grid0.coords t) = ![t.val % 82, t.val / 82] := by decide +kernel
  exact h t
theorem idx1 (t : Fin (cfgM m hO).N) : ((cfgM m hO).win 1).index t = ![(expert m 0 (grid0.coords t 1)).toNat, 0, t.val / 82] := by
  rw [← (coords_at t).1]; exact map1_eq m (grid0.coords t)
theorem idx2 (t : Fin (cfgM m hO).N) : ((cfgM m hO).win 2).index t = ![(expert m 0 (grid0.coords t 1)).toNat, 0, t.val / 82] := by
  rw [← (coords_at t).1]; exact map2_eq m (grid0.coords t)

theorem t_lt (t : Fin (cfgM m hO).N) : t.val < 164 := t.isLt

theorem blk_x (t : Fin (cfgM m hO).N) (r : Fin 512) (d : Fin 4096) : (iblk m hO c 0 t (ix2 r d) : EReal)
    = V m c main_arg0 (ix2 ⟨t.val % 82 * 512 + r.val, by omega⟩ d) := by
  blk_ext [iblk, idx0 m hO t]

theorem blk_gate (h : ∀ t, (expert m 0 t).toNat < 16) (t : Fin (cfgM m hO).N) (d : Fin 4096) (l : Fin 512) :
    (iblk m hO c 1 t (ix3 0 d l) : EReal)
      = V m c main_v0 (ix3 ⟨(expert m 0 (grid0.coords t 1)).toNat, h _⟩ d ⟨t.val / 82 * 512 + l.val, by have := t_lt m hO t; omega⟩) := by
  blk_ext [iblk, idx1 m hO t]

theorem blk_up (h : ∀ t, (expert m 0 t).toNat < 16) (t : Fin (cfgM m hO).N) (d : Fin 4096) (l : Fin 512) :
    (iblk m hO c 2 t (ix3 0 d l) : EReal)
      = V m c main_v1 (ix3 ⟨(expert m 0 (grid0.coords t 1)).toNat, h _⟩ d ⟨t.val / 82 * 512 + l.val, by have := t_lt m hO t; omega⟩) := by
  blk_ext [iblk, idx2 m hO t]

/-- The blocks written back cover the result array. -/
theorem covers3 : ((cfgM m hO).win 3).Covers :=
  ((cfgM m hO).win 3).covers_of_index_surj rfl (fun a => by
      match a with
      | ⟨0, _⟩ => exact (by decide : 0 < 512)
      | ⟨1, _⟩ => exact (by decide : 0 < 512)) fun β => by
    have h0 : (β (0 : Fin 2)).val < 82 :=
      (β (0 : Fin 2)).isLt.trans_eq (show (41984 + 512 - 1) / 512 = 82 by decide)
    have h1 : (β (1 : Fin 2)).val < 2 :=
      (β (1 : Fin 2)).isLt.trans_eq (show (1024 + 512 - 1) / 512 = 2 by decide)
    refine ⟨⟨(β (1 : Fin 2)).val * 82 + (β (0 : Fin 2)).val, show _ < 164 by omega⟩, fun a => ?_⟩
    rw [idx3]
    match a with
    | ⟨0, _⟩ => show ((β (1 : Fin 2)).val * 82 + (β (0 : Fin 2)).val) % 82 = (β (0 : Fin 2)).val; omega
    | ⟨1, _⟩ => show ((β (1 : Fin 2)).val * 82 + (β (0 : Fin 2)).val) / 82 = (β (1 : Fin 2)).val; omega

/-- A point's block, element by element. -/
theorem block_at (h : ∀ t, (expert m 0 t).toNat < 16) (t : Fin (cfgM m hO).N) (r l : Fin 512) :
    (block (grid0.coords t) (count m c) (iblk m hO c 0 t) (iblk m hO c 1 t) (iblk m hO c 2 t) (ix2 r l) : EReal)
      = rows (m ((c : Thread nD τ).loc main_arg0)) (m ((c : Thread nD τ).loc main_arg1)) (m ((c : Thread nD τ).loc main_arg2))
          (m ((c : Thread nD τ).loc main_arg3)) (m ((c : Thread nD τ).loc main_arg4))
          (ix2 ⟨t.val % 82 * 512 + r.val, by omega⟩ ⟨t.val / 82 * 512 + l.val, by have := t_lt m hO t; omega⟩) := by
  obtain rfl : c = 0 := Subsingleton.elim _ _
  have htile : tile ⟨t.val % 82 * 512 + r.val, by omega⟩ = grid0.coords t 1 :=
    Fin.ext (by show (t.val % 82 * 512 + r.val) / 512 = _; rw [(coords_at t).2]; omega)
  have hcount : count m 0 = (show S1.Idx → BitVec 32 from m (((0 : Dev nD) : Thread nD τ).loc main_arg4)) (ix1 0) :=
    congrFun (V_kept m 0 main_arg4 (by decide) (by decide)) _
  have hown : own (m (((0 : Dev nD) : Thread nD τ).loc main_arg3)) (grid0.coords t 1)
      = ⟨(expert m 0 (grid0.coords t 1)).toNat, h _⟩ := Fin.ext (Nat.mod_eq_of_lt (h _))
  show _ = elem _ _ _ _ _ (tile ⟨t.val % 82 * 512 + r.val, by omega⟩) _ _
  rw [htile]
  unfold elem block
  rw [hown]
  have hcond : k0_cond1 (grid0.coords t) (count m 0) = 1#1 ↔ (BitVec.ofNat 32 (grid0.coords t 1).val).slt
      ((show S1.Idx → BitVec 32 from m (((0 : Dev nD) : Thread nD τ).loc main_arg4)) (ix1 0)) = true :=
    (cond1_iff _ _).trans (iff_of_eq (congrArg (fun w => (BitVec.ofNat 32 (grid0.coords t 1).val).slt w = true) hcount))
  by_cases hc : k0_cond1 (grid0.coords t) (count m 0) = 1#1
  · rw [if_pos hc]
    refine ((pay1 _ _ _ r l).trans ?_).trans (if_pos (hcond.mp hc)).symm
    exact congr (congrArg₂ ExpertSpec.hidden
        (funext fun d => (blk_x m hO 0 t r d).trans (congrFun (V_kept m 0 main_arg0 (by decide) (by decide)) _))
        (funext fun d => (blk_gate m hO 0 h t d l).trans (entry_gate m 0 _ d _)))
      (funext fun d => (blk_up m hO 0 h t d l).trans (entry_up m 0 _ d _))
  · rw [if_neg hc]
    exact (pay2 r l).trans (if_neg fun hh => hc (hcond.mpr hh)).symm

/-- The result array. -/
theorem arr_eq (h : ∀ t, (expert m 0 t).toNat < 16) :
    (dat m hO 0 c).arrAt 3 (Fin.last (cfgM m hO).N) = rows (m ((c : Thread nD τ).loc main_arg0)) (m ((c : Thread nD τ).loc main_arg1))
      (m ((c : Thread nD τ).loc main_arg2)) (m ((c : Thread nD τ).loc main_arg3)) (m ((c : Thread nD τ).loc main_arg4)) := by
  obtain rfl : c = 0 := Subsingleton.elim _ _
  refine (dat m hO 0 0).arrAt_eq_of_covers 3 _ (covers3 m hO) fun t hf y => ?_
  have ht : t.val < 164 := t.isLt
  blk_simp
  rw [after3]
  unfold left
  obtain ⟨r, l, rfl⟩ : ∃ (r l : Fin 512), y = ix2 r l :=
    ⟨(show S512x512.Idx from y) 0, (show S512x512.Idx from y) 1, eq_ix2 (show S512x512.Idx from y)⟩
  have hx : ((View.whole main_v2).slice (((cfgM m hO).win 3).rect t)).emb (ix2 r l)
      = ix2 ⟨t.val % 82 * 512 + r.val, by omega⟩ ⟨t.val / 82 * 512 + l.val, by omega⟩ := by
    blk_ext [idx3 m hO t]
  refine (block_at m hO 0 h t r l).trans (congrArg (rows _ _ _ _ _) hx).symm

end Cert.Kernel2Ideal.Experts

end
-- ==== Proof.Experts.Ref.lean ====
module
public import proofs.«01_k».proof.Proof.Gen.Reference2Ideal.Read
public import proofs.«01_k».proof.Proof.Experts.Spec
/-!
# The reference's values on scalars
-/
@[expose] public section
set_option maxRecDepth 16384
noncomputable section
open Idealize.ShloMosaic Idealize.ShloMosaic.TcCoe Idealize.SL.Sem
namespace Cert.Reference2Ideal.Experts
open Cert.Reference2Ideal Cert.Reference2Ideal.Gen Cert.Reference2Ideal.Read Cert.ExpertSpec

variable (x0 : FVec Ideal S41984x4096 .bf16) (x1 x2 : FVec Ideal S1x16x4096x1024 .f32) (x3 : IVec S82 32) (x4 : IVec S1 32)

/-- The rows against every expert's gate matrix. -/
theorem gate_at (e : Fin 16) (r : Fin 41984) (f : Fin 1024) :
    (val_main_v13 (F := Ideal) x0 x1 (ix3 e r f) : EReal) = ∑ d : Fin 4096, x0 (ix2 r d) * x1 (ix4 0 e d f) := by
  pointwise [val_main_v13, val_main_v12, val_main_v11, val_main_v0]
  exact Finset.sum_congr rfl fun d _ => mul_comm _ _

/-- The rows against every expert's other matrix. -/
theorem up_at (e : Fin 16) (r : Fin 41984) (f : Fin 1024) :
    (val_main_v17 (F := Ideal) x0 x2 (ix3 e r f) : EReal) = ∑ d : Fin 4096, x0 (ix2 r d) * x2 (ix4 0 e d f) := by
  pointwise [val_main_v17, val_main_v16, val_main_v15, val_main_v0]
  exact Finset.sum_congr rfl fun d _ => mul_comm _ _

/-- Which expert's product is a row's own. -/
theorem own_at (e : Fin 16) (r : Fin 41984) (f : Fin 1024) :
    (val_main_call1_v1 (F := Ideal) x3 (ix3 e r f) : BitVec 1) = IntOp.cmpi .eq (x3 (ix1 (tile r))) (BitVec.ofNat 32 e.val) := by
  pointwise [val_main_call1_v1, val_main_v25, val_main_v24, val_main_v23, val_main_v22, val_main_v21, val_main_v20, val_main_v19, val_main_v7, val_main_v6, val_main_v5]
  rfl

/-- Which rows lie in a tile that holds rows. -/
theorem filled_at (r : Fin 41984) (f : Fin 1024) :
    (val_main_call2_v1 (F := Ideal) x4 (ix2 r f) : BitVec 1) = IntOp.cmpi .slt (BitVec.ofNat 32 (tile r).val) (x4 (ix1 0)) := by
  pointwise [val_main_call2_v1, val_main_v28, val_main_v10, val_main_v9, val_main_v8, val_main_v4, val_main_v3, val_main_v2, val_main_v1]
  rfl

/-- Every expert's hidden element of a row. -/
theorem hidden_at (e : Fin 16) (r : Fin 41984) (f : Fin 1024) :
    (val_main_v18 (F := Ideal) x0 x1 x2 (ix3 e r f) : EReal)
      = hidden (fun d => x0 (ix2 r d)) (fun d => x1 (ix4 0 e d f)) (fun d => x2 (ix4 0 e d f)) := by
  pointwise [val_main_v18, val_main_v14, val_main_call0_v5, val_main_call0_v4, val_main_call0_cst_0, val_main_call0_v3,
    val_main_call0_v2, val_main_call0_cst, val_main_call0_v1, val_main_call0_v0]
  simp only [gate_at, up_at]
  rfl

variable {x3} in
/-- A tile's expert compares equal to exactly one of the sixteen. -/
theorem own_iff (h : ∀ t : Fin 82, (x3 (ix1 t)).toNat < 16) (t : Fin 82) (e : Fin 16) :
    IntOp.cmpi .eq (x3 (ix1 t)) (BitVec.ofNat 32 e.val) = if e = own x3 t then 1#1 else 0#1 := by
  have hv : (own x3 t).val = (x3 (ix1 t)).toNat := Nat.mod_eq_of_lt (h t)
  have he : (BitVec.ofNat 32 e.val).toNat = e.val := by rw [BitVec.toNat_ofNat]; omega
  have key : x3 (ix1 t) = BitVec.ofNat 32 e.val ↔ e = own x3 t := by
    rw [← BitVec.toNat_inj, he, ← hv, Fin.ext_iff]; exact eq_comm
  by_cases hh : e = own x3 t
  · rw [if_pos hh, ← key.mpr hh]; simp [IntOp.cmpi]
  · rw [if_neg hh]
    have : ¬ x3 (ix1 t) = BitVec.ofNat 32 e.val := fun h => hh (key.mp h)
    rw [show IntOp.cmpi .eq (x3 (ix1 t)) (BitVec.ofNat 32 e.val) = BitVec.ofBool (x3 (ix1 t) == BitVec.ofNat 32 e.val) from rfl,
      beq_eq_false_iff_ne.mpr this]
    rfl

/-- The word of no bits is zero. -/
theorem zero_word : (id (constant (F := Ideal) S_ .f32 0x00000000#32) ix0 : EReal) = 0 := Ideal.ofBits_zero_f32

variable {x3} in
/-- The sum over the experts of what is a row's own is its own expert's hidden element. -/
theorem sum_at (h : ∀ t : Fin 82, (x3 (ix1 t)).toNat < 16) (r : Fin 41984) (f : Fin 1024) :
    (val_main_v27 (F := Ideal) x0 x1 x2 x3 (ix2 r f) : EReal)
      = hidden (fun d => x0 (ix2 r d)) (fun d => x1 (ix4 0 (own x3 (tile r)) d f)) (fun d => x2 (ix4 0 (own x3 (tile r)) d f)) := by
  pointwise [val_main_v27, val_main_v26, val_main_cst_0, val_main_call1_v2, val_main_call1_v0, val_main_cst]
  simp only [own_at, hidden_at, own_iff h]
  refine (Finset.sum_eq_single (own x3 (tile r)) (fun e _ he => ?_) fun hn => absurd (Finset.mem_univ _) hn).trans ?_
  · rw [if_neg he]; exact zero_word
  · rw [if_pos rfl]; rfl

variable {x3} in
/-- The reference's result. -/
theorem result_eq (h : ∀ t : Fin 82, (x3 (ix1 t)).toNat < 16) :
    (val_main_v30 (F := Ideal) x0 x1 x2 x3 x4 : S41984x1024.Idx → EReal) = rows x0 x1 x2 x3 x4 := by
  funext y
  obtain ⟨r, f, rfl⟩ : ∃ (r : Fin 41984) (f : Fin 1024), y = ix2 r f := ⟨y 0, y 1, eq_ix2 y⟩
  pointwise [val_main_v30, val_main_v29, val_main_call2_v2, val_main_call2_v0, val_main_cst_1]
  simp only [filled_at, sum_at x0 x1 x2 h]
  show _ = elem x0 x1 x2 x3 x4 (tile r) r f
  unfold elem
  simp only [IntOp.cmpi]
  cases hs : (BitVec.ofNat 32 (tile r).val).slt (x4 (ix1 0))
  · exact zero_word.trans (if_neg (by decide)).symm
  · exact (if_pos rfl).symm

end Cert.Reference2Ideal.Experts

end
-- ==== Proof.Experts.Claims.lean ====
module

public import proofs.«01_k».proof.Defs
public import proofs.«01_k».proof.Proof.Gen.Kernel2
public import proofs.«01_k».proof.Proof.Gen.Kernel2Ideal
public import proofs.«01_k».proof.Proof.Gen.Reference2Ideal
public import proofs.«01_k».proof.Proof.Gen.Pre_experts
public import proofs.«01_k».proof.Proof.Experts.Pre
public import proofs.«01_k».proof.Proof.Experts.RefRun
public import proofs.«01_k».proof.Proof.Experts.Arrays
public import proofs.«01_k».proof.Proof.Experts.Ref
public import Idealize.ShloMosaic.Adequacy
public import Idealize.ShloMosaic.Init
public import Idealize.ShloMosaic.Lib.Claim

/-! The claims of the expert call. -/

@[expose] public section

noncomputable section

namespace Cert.Proof.Experts

open Idealize.ShloMosaic Idealize.SL.Sem
open Cert.Kernel2Ideal.Experts

/-- The call over the extended reals terminates from any memory whose tiles' experts are of the sixteen, leaves its
    arguments unchanged and its counters at zero. -/
theorem frame_ideal : Cert.quiescent_Kernel2Ideal := fun m ρ h =>
  frame_exit m ρ (ok_of_lt m fun t => expert_lt (h 0) t)

/-- The two programs' tables of bodies are one. -/
theorem bodies_same : Cert.Kernel2.defs₀ (F := Bits)
    = (show Defs Cert.Kernel2.nD Cert.Kernel2.τ Cert.Kernel2.sig (Elt Bits) Cert.Kernel2.Λ₀ from by
        with_unfolding_all exact Cert.Kernel2Ideal.defs₀ (F := Bits)) := by
  unfold Cert.Kernel2.defs₀ Cert.Kernel2Ideal.defs₀
  refine congrArg Defs.onTc (funext fun l => funext fun a => ?_)
  match l, a with
  | ⟨0, _⟩, (t, s) => with_unfolding_all rfl

/-- The same of the call over machine words: the two programs are one text. -/
theorem frame_kernel : Cert.quiescent_Kernel2 := fun m ρ h => by
  unfold Cert.Kernel2.defs
  rw [bodies_same]
  with_unfolding_all exact frame_exit (F := Bits) m ρ (ok_of_lt (F := Bits) m fun t => expert_lt (F := Bits) (h 0) t)

/-- The same of the reference, which declares no semaphore. -/
theorem frame_reference : Cert.quiescent_Reference2Ideal := fun m ρ _ =>
  (θ_run Cert.Reference2Ideal.defs _ _).mono
    (fun r h => ⟨fun c => (h c).2, sem_eq_zero_of_no_sems (by decide) r.2⟩)
    (Cert.Reference2Ideal.Value.run m ρ)

/-- The call and the reference end with equal hidden rows. -/
theorem values : Cert.algebraic_Kernel2Ideal_Reference2Ideal := by
  intro m ρ m' ρ' hpre hagree
  have hlt : ∀ t, (expert m 0 t).toNat < 16 := fun t => expert_lt (hpre 0) t
  refine ⟨_, θ_run_mono (run_out m ρ (ok_of_lt m hlt))
    (fun r h c => ⟨(h.2 c).trans (arr_eq m (ok_of_lt m hlt) c hlt), h.1.1 c⟩), ?_⟩
  refine θ_run_mono (Cert.Reference2Ideal.Value.run m' ρ') ?_
  intro r h c
  obtain ⟨a0, a1, a2, a3, a4⟩ := hagree c
  obtain rfl : c = 0 := Subsingleton.elim _ _
  refine ⟨(h 0).1.trans ?_, (h 0).2⟩
  rw [Cert.Reference2Ideal.Read.val_main_v30_eq]
  refine (Cert.Reference2Ideal.Experts.result_eq _ _ _ _ ?_).trans ?_
  · intro t
    rw [a3]
    exact hlt t
  · rw [a0, a1, a2, a3, a4]

end Cert.Proof.Experts

end
-- ==== Proof.InProj.Body.lean ====
module

public import proofs.«01_k».proof.Proof.Gen.Kernel3Ideal.Frame
public import proofs.«01_k».proof.Proof.Gen.Kernel3Ideal.Skeleton
public import Idealize.ShloMosaic.Lib.VecWindow
public import Idealize.ShloMosaic.Lib.Pointwise

/-! The in-projection's body at any point of its grid. -/

@[expose] public section

set_option maxRecDepth 16384

noncomputable section

namespace Cert.Kernel3Ideal.InProj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal.Gen

variable {F : FTy → Type} [FloatOps F]

local notation "𝕄" => MT nD τ sig Unit (Elt F) ℕ (UR sig nD τ) ℕ

/-- The point writes the float block. -/
abbrev wide (i : grid0.Coords) : Prop := 4 ≤ (i 1).val ∧ ((i 1).val < 16 ∨ 20 ≤ (i 1).val)

/-- The float block after the body: the rows' product with the point's columns where the point writes it, else what was there. -/
def new5 (i : grid0.Coords) (x : Vec F S1056x4096 .bf16) (a b : Vec F S4096x512 .bf16) (o : Vec F S1056x512 .f32) :
    Vec F S1056x512 .f32 :=
  if wide i then (if (i 1).val < 12 then k0_pay1 x a else k0_pay3 x b) else o

/-- The rounded block after the body. -/
def new6 (i : grid0.Coords) (x : Vec F S1056x4096 .bf16) (a b : Vec F S4096x512 .bf16) (o : Vec F S1056x512 .bf16) :
    Vec F S1056x512 .bf16 :=
  if wide i then o else (if (i 1).val < 12 then k0_pay2 i x a else k0_pay4 i x b)

/-- The gates' block after the body: written at the first column block of a row block. -/
def new7 (i : grid0.Coords) (x : Vec F S1056x4096 .bf16) (g : Vec F S4096x128 .bf16) (b : Vec F S1x128 .f32)
    (o : Vec F S1056x128 .f32) : Vec F S1056x128 .f32 :=
  if (i 1).val = 0 then k0_pay5 x g b else o

theorem cond1_iff (i : grid0.Coords) : k0_cond1 i = 1#1 ↔ (i 1).val < 12 := by
  have h : ∀ j : Fin 24, k0_cond1 (fun a => match a with | ⟨0, _⟩ => (0 : Fin 16) | ⟨1, _⟩ => j) = 1#1 ↔ j.val < 12 := by decide +kernel
  exact h (i 1)
theorem cond4_iff (i : grid0.Coords) : k0_cond4 i = 1#1 ↔ 12 ≤ (i 1).val := by
  have h : ∀ j : Fin 24, k0_cond4 (fun a => match a with | ⟨0, _⟩ => (0 : Fin 16) | ⟨1, _⟩ => j) = 1#1 ↔ 12 ≤ j.val := by decide +kernel
  exact h (i 1)
theorem cond2_iff (i : grid0.Coords) : k0_cond2 i = 1#1 ↔ ¬ wide i := by
  have h : ∀ j : Fin 24, k0_cond2 (fun a => match a with | ⟨0, _⟩ => (0 : Fin 16) | ⟨1, _⟩ => j) = 1#1 ↔ ¬ (4 ≤ j.val ∧ (j.val < 16 ∨ 20 ≤ j.val)) := by decide +kernel
  exact h (i 1)
theorem cond3_iff (i : grid0.Coords) : k0_cond3 i = 1#1 ↔ wide i := by
  have h : ∀ j : Fin 24, k0_cond3 (fun a => match a with | ⟨0, _⟩ => (0 : Fin 16) | ⟨1, _⟩ => j) = 1#1 ↔ (4 ≤ j.val ∧ (j.val < 16 ∨ 20 ≤ j.val)) := by decide +kernel
  exact h (i 1)
theorem cond5_iff (i : grid0.Coords) : k0_cond5 i = 1#1 ↔ ¬ wide i := by
  have h : ∀ j : Fin 24, k0_cond5 (fun a => match a with | ⟨0, _⟩ => (0 : Fin 16) | ⟨1, _⟩ => j) = 1#1 ↔ ¬ (4 ≤ j.val ∧ (j.val < 16 ∨ 20 ≤ j.val)) := by decide +kernel
  exact h (i 1)
theorem cond6_iff (i : grid0.Coords) : k0_cond6 i = 1#1 ↔ wide i := by
  have h : ∀ j : Fin 24, k0_cond6 (fun a => match a with | ⟨0, _⟩ => (0 : Fin 16) | ⟨1, _⟩ => j) = 1#1 ↔ (4 ≤ j.val ∧ (j.val < 16 ∨ 20 ≤ j.val)) := by decide +kernel
  exact h (i 1)
theorem cond7_iff (i : grid0.Coords) : k0_cond7 i = 1#1 ↔ (i 1).val = 0 := by
  have h : ∀ j : Fin 24, k0_cond7 (fun a => match a with | ⟨0, _⟩ => (0 : Fin 16) | ⟨1, _⟩ => j) = 1#1 ↔ j.val = 0 := by decide +kernel
  exact h (i 1)

set_option maxHeartbeats 1600000 in
/-- The body on whole staging memrefs: the inputs' blocks come back as they were, each result's buffer holds what the
    point leaves there. -/
theorem run_body (c : Dev nD) (i : grid0.Coords) (arg2 : Memref sig .tc .vmem S1056x4096 .bf16) (harg2 : arg2.IsWhole)
    (arg3 : Memref sig .tc .vmem S4096x512 .bf16) (harg3 : arg3.IsWhole)
    (arg4 : Memref sig .tc .vmem S4096x512 .bf16) (harg4 : arg4.IsWhole)
    (arg5 : Memref sig .tc .vmem S4096x128 .bf16) (harg5 : arg5.IsWhole)
    (arg6 : Memref sig .tc .vmem S1x128 .f32) (harg6 : arg6.IsWhole)
    (arg7 : Memref sig .tc .vmem S1056x512 .f32) (harg7 : arg7.IsWhole)
    (arg8 : Memref sig .tc .vmem S1056x512 .bf16) (harg8 : arg8.IsWhole)
    (arg9 : Memref sig .tc .vmem S1056x128 .f32) (harg9 : arg9.IsWhole)
    (x : Vec F S1056x4096 .bf16) (a b : Vec F S4096x512 .bf16) (g : Vec F S4096x128 .bf16) (d : Vec F S1x128 .f32)
    (o5 : Vec F S1056x512 .f32) (o6 : Vec F S1056x512 .bf16) (o7 : Vec F S1056x128 .f32)
    (E : Set ℕ) (K : PUnit → sProp 𝕄) :
    iprop(owns (c : Thread nD τ) arg2 fullShare x ∗ owns (c : Thread nD τ) arg3 fullShare a
        ∗ owns (c : Thread nD τ) arg4 fullShare b ∗ owns (c : Thread nD τ) arg5 fullShare g
        ∗ owns (c : Thread nD τ) arg6 fullShare d ∗ owns (c : Thread nD τ) arg7 fullShare o5
        ∗ owns (c : Thread nD τ) arg8 fullShare o6 ∗ owns (c : Thread nD τ) arg9 fullShare o7
        ∗ (iprop(owns (c : Thread nD τ) arg2 fullShare x ∗ owns (c : Thread nD τ) arg3 fullShare a
            ∗ owns (c : Thread nD τ) arg4 fullShare b ∗ owns (c : Thread nD τ) arg5 fullShare g
            ∗ owns (c : Thread nD τ) arg6 fullShare d
            ∗ owns (c : Thread nD τ) arg7 fullShare (new5 i x a b o5)
            ∗ owns (c : Thread nD τ) arg8 fullShare (new6 i x a b o6)
            ∗ owns (c : Thread nD τ) arg9 fullShare (new7 i x g d o7)) -∗ K ⟨⟩))
      ⊢ wp frame (wpE (defs₀ (F := F)) Variants.none c none) E
          (cc0_in_projection i arg2 harg2 arg3 harg3 arg4 harg4 arg5 harg5 arg6 harg6 arg7 harg7 arg8 harg8 arg9 harg9) K := by
  simp only [cc0_in_projection_eq_skeleton]; unfold cc0_in_projection_skel
  have e1 := cond1_iff i; have e2 := cond2_iff i; have e3 := cond3_iff i; have e4 := cond4_iff i
  have e5 := cond5_iff i; have e6 := cond6_iff i; have e7 := cond7_iff i
  unfold new5 new6 new7
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hf6; obtain rfl := harg9.eq_unread hf7
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr
    swap; · iexact H5
    ipureintro
    by_cases hw : wide i
    · by_cases h12 : (i 1).val < 12
      · rw [dif_neg (fun h => absurd (e4.mp h) (not_le.mpr h12)), dif_pos (e1.mpr h12), dif_pos (e3.mpr hw), if_pos hw, if_pos h12]
        refine (View.read_writes_full _ _ _ _ _).trans ?_
        rw [View.readAt_full, View.readAt_full, harg2.read_unread, harg3.read_unread]
      · rw [dif_pos (e4.mpr (not_lt.mp h12)), dif_pos (e6.mpr hw), if_pos hw, if_neg h12]
        refine (View.read_writes_full _ _ _ _ _).trans ?_
        rw [View.readAt_full, View.readAt_full, harg2.read_unread, harg4.read_unread]
    · rw [if_neg hw]
      by_cases h12 : (i 1).val < 12
      · rw [dif_neg (fun h => absurd (e4.mp h) (not_le.mpr h12)), dif_pos (e1.mpr h12), dif_neg (fun h => hw (e3.mp h))]
        exact harg7.read_unread _
      · rw [dif_pos (e4.mpr (not_lt.mp h12)), dif_neg (fun h => hw (e6.mp h)), dif_neg (fun h => h12 (e1.mp h))]
        exact harg7.read_unread _
  isplitl [H6]
  · iexists _; isplitr
    swap; · iexact H6
    ipureintro
    by_cases hw : wide i
    · rw [if_pos hw]
      by_cases h12 : (i 1).val < 12
      · rw [dif_neg (fun h => absurd (e4.mp h) (not_le.mpr h12)), dif_pos (e1.mpr h12), dif_neg (fun h => e2.mp h hw)]
        exact harg8.read_unread _
      · rw [dif_pos (e4.mpr (not_lt.mp h12)), dif_neg (fun h => e5.mp h hw), dif_neg (fun h => h12 (e1.mp h))]
        exact harg8.read_unread _
    · by_cases h12 : (i 1).val < 12
      · rw [dif_neg (fun h => absurd (e4.mp h) (not_le.mpr h12)), dif_pos (e1.mpr h12), dif_pos (e2.mpr hw), if_neg hw, if_pos h12]
        refine (View.read_writes_full _ _ _ _ _).trans ?_
        rw [View.readAt_full, View.readAt_full, harg2.read_unread, harg3.read_unread]
      · rw [dif_pos (e4.mpr (not_lt.mp h12)), dif_pos (e5.mpr hw), if_neg hw, if_neg h12]
        refine (View.read_writes_full _ _ _ _ _).trans ?_
        rw [View.readAt_full, View.readAt_full, harg2.read_unread, harg4.read_unread]
  · iexists _; isplitr
    swap; · iexact H7
    ipureintro
    by_cases h0 : (i 1).val = 0
    swap
    · rw [dif_neg (fun h => h0 (e7.mp h)), if_neg h0]
      exact harg9.read_unread _
    rw [dif_pos (e7.mpr h0), if_pos h0]
    refine (View.read_writes_full _ _ _ _ _).trans ?_
    rw [View.readAt_full, View.readAt_full, View.readAt_full, harg2.read_unread, harg5.read_unread, harg6.read_unread]

end Cert.Kernel3Ideal.InProj

end
-- ==== Proof.InProj.Run.lean ====
module

public import proofs.«01_k».proof.Proof.InProj.Body

/-! The in-projection run whole: what each result's staging buffer holds at every point of the grid, and what every run
of the program leaves. Each block is written at one
point and may stay staged over several; `src5`, `src6`, `src7` name that point. -/

@[expose] public section

set_option maxRecDepth 16384

noncomputable section

namespace Cert.Kernel3Ideal.InProj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The point `k` before `t`. -/
abbrev ago (t : Fin cfg0.N) (k : ℕ) : Fin cfg0.N := ⟨t.val - k, lt_of_le_of_lt (Nat.sub_le _ _) t.isLt⟩

/-- The point that wrote the float block staged at `t`. -/
def src5 (t : Fin cfg0.N) : Fin cfg0.N := if 16 ≤ t.val % 24 ∧ t.val % 24 < 20 then ago t (t.val % 24 - 15) else t
/-- The point that wrote the rounded block staged at `t`. -/
def src6 (t : Fin cfg0.N) : Fin cfg0.N :=
  if 4 ≤ t.val % 24 ∧ t.val % 24 < 16 then ago t (t.val % 24 - 3) else if 20 ≤ t.val % 24 then ago t (t.val % 24 - 19) else t
/-- The point that wrote the gates' block staged at `t`. -/
def src7 (t : Fin cfg0.N) : Fin cfg0.N := ago t (t.val % 24)

/-- The float block written at point `s`. -/
def blk5 (c : Dev nD) (s : Fin cfg0.N) : Vec F S1056x512 .f32 :=
  if (grid0.coords s 1).val < 12 then k0_pay1 (iblk m c 0 s) (iblk m c 1 s) else k0_pay3 (iblk m c 0 s) (iblk m c 2 s)
/-- The rounded block written at point `s`. -/
def blk6 (c : Dev nD) (s : Fin cfg0.N) : Vec F S1056x512 .bf16 :=
  if (grid0.coords s 1).val < 12 then k0_pay2 (grid0.coords s) (iblk m c 0 s) (iblk m c 1 s)
    else k0_pay4 (grid0.coords s) (iblk m c 0 s) (iblk m c 2 s)
/-- The gates' block written at point `s`. -/
def blk7 (c : Dev nD) (s : Fin cfg0.N) : Vec F S1056x128 .f32 := k0_pay5 (iblk m c 0 s) (iblk m c 3 s) (iblk m c 4 s)

/-- The pipeline's data: each input's block stays in place, each result's buffer holds the block written at its point. -/
def dat (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => blk5 m c (src5 t)
    | ⟨6, _⟩ => blk6 m c (src6 t)
    | ⟨7, _⟩ => blk7 m c (src7 t)
  Φ _ := Pipeline.ΦA spec0 c
  q _ := fullShare
  owed _ := 0

theorem dat_A (c : Dev nD) (w : Fin cfg0.W) : (dat m 0 c).A w = V m c (Pipeline.arrRef spec0 w) := by
  dsimp only [dat]

theorem after0 (c : Dev nD) (t : Fin cfg0.N) : (dat m 0 c).after 0 t = iblk m c 0 t := by dsimp only [dat]; try rfl
theorem after1 (c : Dev nD) (t : Fin cfg0.N) : (dat m 0 c).after 1 t = iblk m c 1 t := by dsimp only [dat]; try rfl
theorem after2 (c : Dev nD) (t : Fin cfg0.N) : (dat m 0 c).after 2 t = iblk m c 2 t := by dsimp only [dat]; try rfl
theorem after3 (c : Dev nD) (t : Fin cfg0.N) : (dat m 0 c).after 3 t = iblk m c 3 t := by dsimp only [dat]; try rfl
theorem after4 (c : Dev nD) (t : Fin cfg0.N) : (dat m 0 c).after 4 t = iblk m c 4 t := by dsimp only [dat]; try rfl
theorem after5 (c : Dev nD) (t : Fin cfg0.N) : (dat m 0 c).after 5 t = blk5 m c (src5 t) := by dsimp only [dat]; try rfl
theorem after6 (c : Dev nD) (t : Fin cfg0.N) : (dat m 0 c).after 6 t = blk6 m c (src6 t) := by dsimp only [dat]; try rfl
theorem after7 (c : Dev nD) (t : Fin cfg0.N) : (dat m 0 c).after 7 t = blk7 m c (src7 t) := by dsimp only [dat]; try rfl

theorem before0 (c : Dev nD) (t : Fin cfg0.N) (d) : (dat m 0 c).before 0 t d = iblk m c 0 t :=
  before0_0_of m (dat m 0 c) (dat_A m c 0) (after0 m c) t d
theorem before1 (c : Dev nD) (t : Fin cfg0.N) (d) : (dat m 0 c).before 1 t d = iblk m c 1 t :=
  before0_1_of m (dat m 0 c) (dat_A m c 1) (after1 m c) t d
theorem before2 (c : Dev nD) (t : Fin cfg0.N) (d) : (dat m 0 c).before 2 t d = iblk m c 2 t :=
  before0_2_of m (dat m 0 c) (dat_A m c 2) (after2 m c) t d
theorem before3 (c : Dev nD) (t : Fin cfg0.N) (d) : (dat m 0 c).before 3 t d = iblk m c 3 t :=
  before0_3_of m (dat m 0 c) (dat_A m c 3) (after3 m c) t d
theorem before4 (c : Dev nD) (t : Fin cfg0.N) (d) : (dat m 0 c).before 4 t d = iblk m c 4 t :=
  before0_4_of m (dat m 0 c) (dat_A m c 4) (after4 m c) t d

/-! ### The grid's points -/

theorem coords1 (t : Fin cfg0.N) : (grid0.coords t 1).val = t.val % 24 := by
  have h : ∀ t : Fin grid0.N, (grid0.coords t 1).val = t.val % 24 := by decide +kernel
  exact h t
theorem coords0 (t : Fin cfg0.N) : (grid0.coords t 0).val = t.val / 24 := by
  have h : ∀ t : Fin grid0.N, (grid0.coords t 0).val = t.val / 24 := by decide +kernel
  exact h t

theorem wide_iff (t : Fin cfg0.N) : wide (grid0.coords t) ↔ 4 ≤ t.val % 24 ∧ (t.val % 24 < 16 ∨ 20 ≤ t.val % 24) := by
  unfold wide; rw [coords1]

theorem flush5 (t : Fin cfg0.N) : (cfg0.win 5).flush t = true ↔ (4 ≤ t.val % 24 ∧ t.val % 24 < 15) ∨ 19 ≤ t.val % 24 := by
  have h : ∀ t : Fin grid0.N, win0_5.flush t = true ↔ (4 ≤ t.val % 24 ∧ t.val % 24 < 15) ∨ 19 ≤ t.val % 24 := by decide +kernel
  exact h t
theorem flush6 (t : Fin cfg0.N) : (cfg0.win 6).flush t = true ↔
    t.val % 24 < 3 ∨ (15 ≤ t.val % 24 ∧ t.val % 24 < 19) ∨ t.val % 24 = 23 := by
  have h : ∀ t : Fin grid0.N, win0_6.flush t = true ↔ t.val % 24 < 3 ∨ (15 ≤ t.val % 24 ∧ t.val % 24 < 19) ∨ t.val % 24 = 23 := by
    decide +kernel
  exact h t

theorem idle5 (t : Fin cfg0.N) : cfg0.idle 5 (cfg0.grid.coords t) = true ↔ ¬ wide (grid0.coords t) := by
  have e : cfg0.idle 5 (cfg0.grid.coords t) = (!(k0_cond1 (grid0.coords t) == 1#1 && k0_cond3 (grid0.coords t) == 1#1)
    && !(k0_cond4 (grid0.coords t) == 1#1 && k0_cond6 (grid0.coords t) == 1#1)) := rfl
  rw [e, Bool.and_eq_true, Bool.not_eq_true', Bool.not_eq_true', Bool.and_eq_false_iff, Bool.and_eq_false_iff]
  simp only [beq_eq_false_iff_ne, ne_eq, cond1_iff, cond3_iff, cond4_iff, cond6_iff]
  have := lt_or_ge (grid0.coords t 1).val 12
  constructor
  · rintro ⟨h1, h2⟩ hw
    rcases this with h | h
    · exact h1.elim (fun k => k h) (fun k => k hw)
    · exact h2.elim (fun k => k h) (fun k => k hw)
  · exact fun hw => ⟨.inr hw, .inr hw⟩
theorem idle6 (t : Fin cfg0.N) : cfg0.idle 6 (cfg0.grid.coords t) = true ↔ wide (grid0.coords t) := by
  have e : cfg0.idle 6 (cfg0.grid.coords t) = (!(k0_cond1 (grid0.coords t) == 1#1 && k0_cond2 (grid0.coords t) == 1#1)
    && !(k0_cond4 (grid0.coords t) == 1#1 && k0_cond5 (grid0.coords t) == 1#1)) := rfl
  rw [e, Bool.and_eq_true, Bool.not_eq_true', Bool.not_eq_true', Bool.and_eq_false_iff, Bool.and_eq_false_iff]
  simp only [beq_eq_false_iff_ne, ne_eq, cond1_iff, cond2_iff, cond4_iff, cond5_iff, not_not]
  have := lt_or_ge (grid0.coords t 1).val 12
  constructor
  · rintro ⟨h1, h2⟩
    rcases this with h | h
    · exact h1.elim (fun k => absurd h k) id
    · exact h2.elim (fun k => absurd h k) id
  · exact fun hw => ⟨.inr hw, .inr hw⟩
theorem idle7 (t : Fin cfg0.N) : cfg0.idle 7 (cfg0.grid.coords t) = true ↔ t.val % 24 ≠ 0 := by
  have e : cfg0.idle 7 (cfg0.grid.coords t) = (!(k0_cond7 (grid0.coords t) == 1#1)) := rfl
  rw [e, Bool.not_eq_true', beq_eq_false_iff_ne, ne_eq, cond7_iff, coords1]

/-! ### What a result's buffer holds before the body -/

/-- After a point that did not write the block back, a result's buffer holds what that point's body left. -/
theorem before_step (c : Dev nD) (w : Fin cfg0.W) (hw : (cfg0.win w).isOut = true)
    (hclip : ∀ i a, (cfg0.win w).clip i a = none) (t : Fin cfg0.N) (ht : t.val ≠ 0)
    (hf : (cfg0.win w).flush (ago t 1) = false) (d)
    (hi : cfg0.idle w (cfg0.grid.coords (ago t 1)) = true → (dat m 0 c).before w (ago t 1) d = (dat m 0 c).after w (ago t 1)) :
    (dat m 0 c).before w t d = (dat m 0 c).after w (ago t 1) := by
  rw [(dat m 0 c).before_of_pos w t ht (Window.fetch_out _ hw t) d, hf, if_neg Bool.false_ne_true]
  unfold Dat.left
  cases h : cfg0.idle w (cfg0.grid.coords (ago t 1)) with
  | true => exact hi h
  | false =>
    show (dat m 0 c).kept w (ago t 1) d = _
    unfold Dat.kept
    rw [Pipeline.fill_of_clip_none w _ (hclip _) d ((dat m 0 c).after w (ago t 1)), Window.fill_cut]

theorem false_of_not {b : Bool} (h : ¬ b = true) : b = false := by cases b <;> simp_all

theorem clip5 (i : grid0.Coords) (a) : (cfg0.win 5).clip i a = none := rfl
theorem clip6 (i : grid0.Coords) (a) : (cfg0.win 6).clip i a = none := rfl
theorem clip7 (i : grid0.Coords) (a) : (cfg0.win 7).clip i a = none := rfl

/-- While a float block stays staged unwritten, the buffer holds it. -/
theorem held5 (c : Dev nD) (d) : ∀ (n : ℕ) (h : n < cfg0.N), 16 ≤ n % 24 → n % 24 < 20 →
    (dat m 0 c).before 5 ⟨n, h⟩ d = (dat m 0 c).after 5 ⟨n, h⟩
  | 0, _, h1, _ => absurd h1 (by decide)
  | n + 1, h, h1, h2 => by
    have hs : src5 (⟨n + 1, h⟩ : Fin cfg0.N) = src5 (ago ⟨n + 1, h⟩ 1) := by
      unfold src5; dsimp only [ago]; rw [if_pos ⟨h1, h2⟩]
      by_cases h16 : (n + 1) % 24 = 16
      · rw [if_neg (by omega)]; exact Fin.ext (by dsimp only; omega)
      · rw [if_pos (by omega)]; exact Fin.ext (by dsimp only; omega)
    rw [after5, hs, ← after5]
    refine before_step m c 5 rfl clip5 ⟨n + 1, h⟩ (Nat.succ_ne_zero n) (false_of_not fun hf => ?_) d fun hi => ?_
    · have := (flush5 _).mp hf; dsimp only [ago] at this; omega
    · have hi' := (idle5 _).mp hi
      rw [wide_iff] at hi'; dsimp only [ago] at hi'
      exact held5 c d n (Nat.lt_of_succ_lt h) (by omega) (by omega)

/-- While a rounded block stays staged unwritten, the buffer holds it. -/
theorem held6 (c : Dev nD) (d) : ∀ (n : ℕ) (h : n < cfg0.N), 4 ≤ n % 24 → (n % 24 < 16 ∨ 20 ≤ n % 24) →
    (dat m 0 c).before 6 ⟨n, h⟩ d = (dat m 0 c).after 6 ⟨n, h⟩
  | 0, _, h1, _ => absurd h1 (by decide)
  | n + 1, h, h1, h2 => by
    have hs : src6 (⟨n + 1, h⟩ : Fin cfg0.N) = src6 (ago ⟨n + 1, h⟩ 1) := by
      unfold src6; dsimp only [ago]
      by_cases h3 : (n + 1) % 24 < 16
      · rw [if_pos ⟨h1, h3⟩]
        by_cases h16 : (n + 1) % 24 = 4
        · rw [if_neg (by omega), if_neg (by omega)]; exact Fin.ext (by dsimp only; omega)
        · rw [if_pos (by omega)]; exact Fin.ext (by dsimp only; omega)
      · rw [if_neg (by omega), if_pos (by omega)]
        by_cases h16 : (n + 1) % 24 = 20
        · rw [if_neg (by omega), if_neg (by omega)]; exact Fin.ext (by dsimp only; omega)
        · rw [if_neg (by omega), if_pos (by omega)]; exact Fin.ext (by dsimp only; omega)
    rw [after6, hs, ← after6]
    refine before_step m c 6 rfl clip6 ⟨n + 1, h⟩ (Nat.succ_ne_zero n) (false_of_not fun hf => ?_) d fun hi => ?_
    · have := (flush6 _).mp hf; dsimp only [ago] at this; omega
    · have hi' := (idle6 _).mp hi
      rw [wide_iff] at hi'; dsimp only [ago] at hi'
      exact held6 c d n (Nat.lt_of_succ_lt h) (by omega) (by omega)

/-- While a gates' block stays staged unwritten, the buffer holds it. -/
theorem held7 (c : Dev nD) (d) : ∀ (n : ℕ) (h : n < cfg0.N), n % 24 ≠ 0 →
    (dat m 0 c).before 7 ⟨n, h⟩ d = (dat m 0 c).after 7 ⟨n, h⟩
  | 0, _, h1 => absurd rfl h1
  | n + 1, h, h1 => by
    have hs : src7 (⟨n + 1, h⟩ : Fin cfg0.N) = src7 (ago ⟨n + 1, h⟩ 1) := by
      unfold src7; exact Fin.ext (by dsimp only; omega)
    rw [after7, hs, ← after7]
    refine before_step m c 7 rfl clip7 ⟨n + 1, h⟩ (Nat.succ_ne_zero n) (false_of_not fun hf => ?_) d fun hi => ?_
    · have := (flush0_7 _).mp hf; dsimp only [ago] at this; omega
    · have hi' := (idle7 _).mp hi
      dsimp only [ago] at hi'
      exact held7 c d n (Nat.lt_of_succ_lt h) hi'

/-! ### The body at a point -/

/-- What a buffer holds after the body is what the loop asks of it, given that it is the data's contents where the
    point writes the block or writes it back, and what the body found where it does neither. -/
theorem leaves_of (c : Dev nD) (w : Fin cfg0.W) (t : Fin cfg0.N) (d) (X : (cfg0.win w).block.Idx → Elt F (cfg0.win w).elt)
    (h1 : cfg0.idle w (cfg0.grid.coords t) = false → X = (dat m 0 c).after w t)
    (h2 : cfg0.idle w (cfg0.grid.coords t) = true → X = (dat m 0 c).before w t d)
    (h3 : cfg0.idle w (cfg0.grid.coords t) = true → (cfg0.win w).flush t = true → X = (dat m 0 c).after w t) :
    owns (c : Thread nD τ) ((cfg0.win w).stage (cfg0.slots t w)) fullShare X ⊢ (dat m 0 c).leavesExact w t := by
  unfold Dat.leavesExact
  cases hi : cfg0.idle w (cfg0.grid.coords t) with
  | false => rw [h1 hi]
  | true =>
    cases hf : (cfg0.win w).flush t with
    | true => rw [h3 hi hf]
    | false => rw [h2 hi]; iintro H; iexists d; iexact H

theorem leaves5 (c : Dev nD) (t : Fin cfg0.N) (d) :
    owns (c : Thread nD τ) (st0_5 t) fullShare
        (new5 (grid0.coords t) (iblk m c 0 t) (iblk m c 1 t) (iblk m c 2 t) ((dat m 0 c).before 5 t d))
      ⊢ (dat m 0 c).leavesExact 5 t := by
  refine leaves_of m c 5 t d _ (fun hi => ?_) (fun hi => ?_) (fun hi hf => ?_)
  · have hw : wide (grid0.coords t) := by
      by_contra h; rw [(idle5 t).mpr h] at hi; exact absurd hi (by decide)
    unfold new5; rw [if_pos hw, after5]
    have hs : src5 t = t := by have := (wide_iff t).mp hw; unfold src5; rw [if_neg (by omega)]
    rw [hs]; rfl
  · unfold new5; rw [if_neg ((idle5 t).mp hi)]
  · unfold new5; rw [if_neg ((idle5 t).mp hi)]
    have hw := (idle5 t).mp hi; rw [wide_iff] at hw
    have := (flush5 t).mp hf
    exact held5 m c d t.val t.isLt (by omega) (by omega)

theorem leaves6 (c : Dev nD) (t : Fin cfg0.N) (d) :
    owns (c : Thread nD τ) (st0_6 t) fullShare
        (new6 (grid0.coords t) (iblk m c 0 t) (iblk m c 1 t) (iblk m c 2 t) ((dat m 0 c).before 6 t d))
      ⊢ (dat m 0 c).leavesExact 6 t := by
  refine leaves_of m c 6 t d _ (fun hi => ?_) (fun hi => ?_) (fun hi hf => ?_)
  · have hw : ¬ wide (grid0.coords t) := fun h => by
      rw [(idle6 t).mpr h] at hi; exact absurd hi (by decide)
    unfold new6; rw [if_neg hw, after6]
    have hs : src6 t = t := by rw [wide_iff] at hw; unfold src6; rw [if_neg (by omega), if_neg (by omega)]
    rw [hs]; rfl
  · unfold new6; rw [if_pos ((idle6 t).mp hi)]
  · unfold new6; rw [if_pos ((idle6 t).mp hi)]
    have hw := (idle6 t).mp hi; rw [wide_iff] at hw
    exact held6 m c d t.val t.isLt hw.1 hw.2

theorem leaves7 (c : Dev nD) (t : Fin cfg0.N) (d) :
    owns (c : Thread nD τ) (st0_7 t) fullShare
        (new7 (grid0.coords t) (iblk m c 0 t) (iblk m c 3 t) (iblk m c 4 t) ((dat m 0 c).before 7 t d))
      ⊢ (dat m 0 c).leavesExact 7 t := by
  refine leaves_of m c 7 t d _ (fun hi => ?_) (fun hi => ?_) (fun hi hf => ?_)
  · have hw : t.val % 24 = 0 := by
      by_contra h; rw [(idle7 t).mpr h] at hi; exact absurd hi (by decide)
    unfold new7; rw [if_pos ((coords1 t).trans hw), after7]
    have hs : src7 t = t := by unfold src7; exact Fin.ext (by dsimp only; omega)
    rw [hs]; rfl
  · unfold new7; rw [if_neg (by rw [coords1]; exact (idle7 t).mp hi)]
  · unfold new7; rw [if_neg (by rw [coords1]; exact (idle7 t).mp hi)]
    exact held7 m c d t.val t.isLt ((idle7 t).mp hi)

/-- What the body is given at point `t`. -/
def given (c : Dev nD) (t : Fin cfg0.N) : sProp 𝕄 :=
  iprop((dat m 0 c).Φ t.castSucc ∗ (dat m 0 c).owesAt () t.castSucc
    ∗ (∃ d, owns (c : Thread nD τ) (st0_0 t) fullShare ((dat m 0 c).before 0 t d))
    ∗ (∃ d, owns (c : Thread nD τ) (st0_1 t) fullShare ((dat m 0 c).before 1 t d))
    ∗ (∃ d, owns (c : Thread nD τ) (st0_2 t) fullShare ((dat m 0 c).before 2 t d))
    ∗ (∃ d, owns (c : Thread nD τ) (st0_3 t) fullShare ((dat m 0 c).before 3 t d))
    ∗ (∃ d, owns (c : Thread nD τ) (st0_4 t) fullShare ((dat m 0 c).before 4 t d))
    ∗ (∃ d, owns (c : Thread nD τ) (st0_5 t) fullShare ((dat m 0 c).before 5 t d))
    ∗ (∃ d, owns (c : Thread nD τ) (st0_6 t) fullShare ((dat m 0 c).before 6 t d))
    ∗ (∃ d, owns (c : Thread nD τ) (st0_7 t) fullShare ((dat m 0 c).before 7 t d)))

/-- What it gives back. -/
def returned (c : Dev nD) (t : Fin cfg0.N) : sProp 𝕄 :=
  iprop((dat m 0 c).Φ t.succ ∗ (dat m 0 c).owesAt () t.succ
    ∗ owns (c : Thread nD τ) (st0_0 t) fullShare ((dat m 0 c).after 0 t)
    ∗ owns (c : Thread nD τ) (st0_1 t) fullShare ((dat m 0 c).after 1 t)
    ∗ owns (c : Thread nD τ) (st0_2 t) fullShare ((dat m 0 c).after 2 t)
    ∗ owns (c : Thread nD τ) (st0_3 t) fullShare ((dat m 0 c).after 3 t)
    ∗ owns (c : Thread nD τ) (st0_4 t) fullShare ((dat m 0 c).after 4 t)
    ∗ (dat m 0 c).leavesExact 5 t ∗ (dat m 0 c).leavesExact 6 t ∗ (dat m 0 c).leavesExact 7 t)

/-- The body at any point of the grid. -/
theorem body_at (c : Dev nD) (t : Fin cfg0.N) :
    given m c t ⊢ wp frame (wpE (defs₀ (F := F)) Variants.none c none) Set.univ (bodyAt0 t) (fun _ => returned m c t) := by
  unfold given returned bodyAt0
  simp only [before0, before1, before2, before3, before4]
  rw [show (dat m 0 c).Φ t.succ = (dat m 0 c).Φ t.castSucc from rfl,
    show (dat m 0 c).owesAt () t.succ = (dat m 0 c).owesAt () t.castSucc from rfl,
    after0, after1, after2, after3, after4]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (run_body c (grid0.coords t) _ _ _ _ _ _ _ _ _ _ _ _ _ _ _ _ (iblk m c 0 t) (iblk m c 1 t) (iblk m c 2 t)
    (iblk m c 3 t) (iblk m c 4 t) ((dat m 0 c).before 5 t d5) ((dat m 0 c).before 6 t d6) ((dat m 0 c).before 7 t d7) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]
  · iapply (leaves5 m c t d5); iexact H5
  isplitl [H6]
  · iapply (leaves6 m c t d6); iexact H6
  iapply (leaves7 m c t d7); iexact H7

theorem row_eq (t : Fin cfg0.N) :
    defs₀ (F := F) .tc cfg0.body (cfg0.bodyArgs t (cfg0.slots t)) = bodyAt0 t := by
  unfold defs₀; rw [Defs.onTc_tc]

theorem obligation (c : Dev nD) :
    BodyObligation (dat (F := F) m 0 c) (defs₀ (F := F)) Variants.none () Set.univ := fun t => by
  rw [bigSep_W0, bigSep_W0, row_eq]
  exact triple_restated (body_at m c t) rfl .rfl fun _ => .rfl

-- the launch theorem's implicit arguments are found by unfolding definitions in a metavariable's type
set_option backward.isDefEq.respectTransparency.types false in
/-- The launch: every run ends, with each window's array at what the pipeline's data compute, every other array as the
    host lines leave it, and every semaphore at zero. -/
theorem run_quiet : θ_run defs (onTc (τ := τ) (main (F := F))) (s₀ m ρ)
    (fun r => (Pipeline.FramePost cfgs (dat m) 0 (Pipeline.afterTail₀ cfgs (dat m) 0 (V0 m) [hostOps1])) r ∧ r.2.sem = fun _ => 0) :=
  Pipeline.θ_run_frame_around (Q' := _) cfgs (dat m) (0 : Fin 1) launch0 defs₀ Variants.none m ρ main
    (hbody := fun c => (obligation m c).loose) (hshare := fun c => (dat m 0 c).share_full fun _ => rfl)
    (howed := fun _ _ => rfl) (V₀ := V0 m) (opss := [hostOps1]) (hsub := sfx_sub) (hfresh := sfx_fresh) (hkeep := sfx_keeps)
    (hmain := hmain m Variants.none) (hA := dat_A m) (hΦ := fun _ _ => rfl)

end Cert.Kernel3Ideal.InProj

end
-- ==== Proof.InProj.Spec.lean ====
module
public import Idealize.ShloMosaic.Lib.Pipeline.ValueKit
public import Idealize.ShloMosaic.Lib.Pointwise
/-!
# The in-projection on scalars

The log-sigmoid in the two forms met: `-(max (-z) 0 + log (1 + e^{-|z|}))` and `min z 0 - log (1 + e^{-|z|})`.
-/
@[expose] public section
set_option maxRecDepth 16384
noncomputable section
open Idealize.ShloMosaic Idealize.ShloMosaic.TcCoe Idealize.SL.Sem
namespace Cert.InProjSpec

/-- The log-sigmoid. -/
def lsg (z : EReal) : EReal := min z 0 - Ideal.log1p (Ideal.exp (0 - max z (-z)))

theorem exp_nonneg (x : EReal) : 0 ≤ Ideal.exp x := by
  induction x with
  | bot => exact le_rfl
  | top => exact le_top
  | coe r => exact EReal.coe_nonneg.mpr (Real.exp_pos r).le

theorem log1p_nonneg (x : EReal) (h : 0 ≤ x) : 0 ≤ Ideal.log1p x := by
  induction x with
  | bot => exact absurd h (by simp)
  | top =>
    have e : (1 : EReal) + ⊤ = ⊤ := rfl
    show 0 ≤ Ideal.log (1 + ⊤)
    rw [e]
    exact (le_top : (0 : EReal) ≤ ⊤)
  | coe r =>
    have hr : 0 ≤ r := EReal.coe_nonneg.mp h
    have e : (1 : EReal) + (r : EReal) = ((1 + r : ℝ) : EReal) := by push_cast; rfl
    show 0 ≤ Ideal.log (1 + (r : EReal))
    rw [e]
    show (0 : EReal) ≤ if 1 + r ≤ 0 then ⊥ else (Real.log (1 + r) : EReal)
    rw [if_neg (by linarith)]
    exact EReal.coe_nonneg.mpr (Real.log_nonneg (by linarith))

/-- The negated softplus of `-z` is the log-sigmoid of `z`. -/
theorem neg_softplus (z : EReal) :
    -(max (-z) 0 + Ideal.log1p (Ideal.exp (-(max (-z) (-(-z)))))) = lsg z := by
  have hl : 0 ≤ Ideal.log1p (Ideal.exp (-(max (-z) (-(-z))))) := log1p_nonneg _ (exp_nonneg _)
  have hm : (0 : EReal) ≤ max (-z) 0 := le_max_right _ _
  rw [EReal.neg_add (.inl (fun h => by rw [h] at hm; exact absurd hm (by simp)))
    (.inr (fun h => by rw [h] at hl; exact absurd hl (by simp)))]
  have hneg : -max (-z) 0 = min z 0 := by
    rcases le_total z 0 with h | h
    · rw [min_eq_left h, max_eq_left (EReal.neg_nonneg.mpr h), neg_neg]
    · rw [min_eq_right h, max_eq_right (EReal.neg_le_neg_iff.mpr h |>.trans_eq neg_zero), neg_zero]
  rw [hneg, neg_neg, max_comm (-z) z]
  unfold lsg
  rw [zero_sub]

end Cert.InProjSpec
end
-- ==== Proof.InProj.Pay.lean ====
module
public import proofs.«01_k».proof.Proof.InProj.Body
public import proofs.«01_k».proof.Proof.InProj.Spec
/-!
# What the body writes, element by element
-/
@[expose] public section
set_option maxRecDepth 16384
noncomputable section
open Idealize.ShloMosaic Idealize.ShloMosaic.TcCoe Idealize.SL.Sem
namespace Cert.Kernel3Ideal.InProj
open Cert.Kernel3Ideal Cert.Kernel3Ideal.Gen Cert.InProjSpec

/-- The rows' product with columns of the first half of the weights. -/
theorem pay1 (x : FVec Ideal S1056x4096 .bf16) (w : FVec Ideal S4096x512 .bf16) (r : Fin 1056) (l : Fin 512) :
    (k0_pay1 (F := Ideal) x w (ix2 r l) : EReal) = ∑ d : Fin 4096, x (ix2 r d) * w (ix2 d l) := by
  pointwise [k0_pay1]

/-- The same of the second half. -/
theorem pay3 (x : FVec Ideal S1056x4096 .bf16) (w : FVec Ideal S4096x512 .bf16) (r : Fin 1056) (l : Fin 512) :
    (k0_pay3 (F := Ideal) x w (ix2 r l) : EReal) = ∑ d : Fin 4096, x (ix2 r d) * w (ix2 d l) := by
  pointwise [k0_pay3]

/-- The factor of a block of columns: the queries' first four blocks are scaled. -/
def factor (j : Nat) : EReal := if j < 4 then Ideal.ofBits .f32 1040356334#32 else 1

/-- The kernel's test whether the block's number divided by four, rounded down, is zero. -/
def firstFour (j : BitVec 32) : BitVec 1 :=
  Scalar.cmpi .eq
    (Scalar.select
      (Scalar.andi
        (Scalar.cmpi .ne
          (Scalar.subi (Scalar.extui (Scalar.cmpi .sgt j 0#32)) (Scalar.extui (Scalar.cmpi .slt j 0#32)))
          (Scalar.subi (Scalar.extui (Scalar.cmpi .sgt 4#32 0#32) : BitVec 32) (Scalar.extui (Scalar.cmpi .slt 4#32 0#32))))
        (Scalar.cmpi .ne (Scalar.remsi j 4#32) 0#32))
      (Scalar.subi (Scalar.divsi j 4#32) 1#32)
      (Scalar.divsi j 4#32))
    0#32

theorem firstFour_eq : ∀ j : Fin 24, firstFour (BitVec.ofNat 32 j.val) = if j.val < 4 then 1#1 else 0#1 := by
  decide +kernel

theorem factor_eq (i : grid0.Coords) :
    (Scalar.select (firstFour (BitVec.ofNat 32 (i 1).val)) (Ideal.ofBits .f32 1040356334#32) (1 : EReal)) = factor (i 1).val := by
  unfold factor
  rw [show firstFour (BitVec.ofNat 32 (i 1).val) = _ from firstFour_eq (i 1)]
  split <;> rfl

/-- The rows' product with columns of the first half, times the block's factor. -/
theorem pay2 (i : grid0.Coords) (x : FVec Ideal S1056x4096 .bf16) (w : FVec Ideal S4096x512 .bf16) (r : Fin 1056) (l : Fin 512) :
    (k0_pay2 (F := Ideal) i x w (ix2 r l) : EReal) = (∑ d : Fin 4096, x (ix2 r d) * w (ix2 d l)) * factor (i 1).val := by
  rw [← factor_eq]
  pointwise [k0_pay2, k0_pay1]
  try rfl

/-- The same of the second half. -/
theorem pay4 (i : grid0.Coords) (x : FVec Ideal S1056x4096 .bf16) (w : FVec Ideal S4096x512 .bf16) (r : Fin 1056) (l : Fin 512) :
    (k0_pay4 (F := Ideal) i x w (ix2 r l) : EReal) = (∑ d : Fin 4096, x (ix2 r d) * w (ix2 d l)) * factor (i 1).val := by
  rw [← factor_eq]
  pointwise [k0_pay4, k0_pay3]
  try rfl

/-- The gates: the product with the bias added, sent through the log-sigmoid except on eight of the lanes. -/
theorem pay5 (x : FVec Ideal S1056x4096 .bf16) (w : FVec Ideal S4096x128 .bf16) (b : FVec Ideal S1x128 .f32) (r : Fin 1056) (l : Fin 128) :
    (k0_pay5 (F := Ideal) x w b (ix2 r l) : EReal) = if 16 ≤ l.val ∧ l.val < 24
      then (∑ d : Fin 4096, x (ix2 r d) * w (ix2 d l)) + b (ix2 0 l)
      else lsg ((∑ d : Fin 4096, x (ix2 r d) * w (ix2 d l)) + b (ix2 0 l)) := by
  have hl : ∀ l : Fin 128, (IntOp.andi (IntOp.cmpi .sge (BitVec.ofNat 32 l.val) 16#32) (IntOp.cmpi .slt (BitVec.ofNat 32 l.val) 24#32))
      = if 16 ≤ l.val ∧ l.val < 24 then 1#1 else 0#1 := by decide +kernel
  pointwise [k0_pay5]
  rw [hl l]
  split
  · rfl
  · rfl
end Cert.Kernel3Ideal.InProj
end
-- ==== Proof.InProj.RefRun.lean ====
module

public import proofs.«01_k».proof.Proof.Gen.Reference3Ideal.Run
public import proofs.«01_k».proof.Proof.Gen.Reference3Ideal.Read
public import proofs.«01_k».proof.Proof.Gen.Kernel3

/-! The run of the plain in-projection. -/
-- ==== Proof.InProj.Ref.lean ====
module
public import proofs.«01_k».proof.Proof.InProj.RefRun
public import proofs.«01_k».proof.Proof.InProj.Spec
public import Idealize.ShloMosaic.Lib.Pointwise
/-!
# The reference's values on scalars
-/
@[expose] public section
set_option maxRecDepth 16384
noncomputable section
open Idealize.ShloMosaic Idealize.ShloMosaic.TcCoe Idealize.SL.Sem
namespace Cert.Reference3Ideal.InProj
open Cert.InProjSpec Cert.Reference3Ideal Cert.Reference3Ideal.Gen Cert.Reference3Ideal.Read

variable (x0 : FVec Ideal S8x2048x4096 .f32) (x1 : FVec Ideal S8x64x4096 .f32) (x2 : FVec Ideal S1x4096x12320 .f32)
  (x3 : FVec Ideal S1x16 .f32) (x4 x5 : FVec Ideal S1x8 .f32) (x6 : FVec Ideal S1x8x3x2048 .f32)

theorem proj_at (n : Fin 16896) (e : Fin 12320) :
    (val_main_v4 (F := Ideal) x0 x1 x2 (ix2 n e) : EReal) = ∑ d : Fin 4096, val_main_v2 (F := Ideal) x0 x1 (ix2 n d) * x2 (ix3 0 d e) := by
  pointwise [val_main_v4, val_main_v3]

/-- The forget gates' logarithms. -/
theorem t1 (n : Fin 16896) (e : Fin 16) :
    (val_main_v18 (F := Ideal) x0 x1 x2 x3 (ix2 n e) : EReal)
      = lsg (val_main_v4 (F := Ideal) x0 x1 x2 (ix2 n ⟨6144 + e.val, by omega⟩) + x3 (ix2 0 e)) := by
  rw [← neg_softplus]
  pointwise [val_main_v18, val_main_call0_v1, val_main_call0_call0_v11, val_main_call0_call0_v10, val_main_call0_call0_v9, val_main_call0_call0_v8, val_main_call0_call0_v7, val_main_call0_call0_v6, val_main_call0_call0_v5, val_main_call0_call0_v4, val_main_call0_call0_v3, val_main_call0_call0_v2, val_main_call0_call0_v1, val_main_call0_call0_v0, val_main_call0_call0_cst, val_main_call0_v0, val_main_v17, val_main_v16, val_main_v15, val_main_v14, val_main_v8]
  rw [if_neg (fun h => h rfl)]
  rfl

/-- The same of the other family of heads. -/
theorem t1' (n : Fin 16896) (e : Fin 8) :
    (val_main_v62 (F := Ideal) x0 x1 x2 x5 (ix2 n e) : EReal)
      = lsg (val_main_v4 (F := Ideal) x0 x1 x2 (ix2 n ⟨12312 + e.val, by omega⟩) + x5 (ix2 0 e)) := by
  rw [← neg_softplus]
  pointwise [val_main_v62, val_main_call1_v1, val_main_call1_call0_v11, val_main_call1_call0_v10, val_main_call1_call0_v9, val_main_call1_call0_v8, val_main_call1_call0_v7, val_main_call1_call0_v6, val_main_call1_call0_v5, val_main_call1_call0_v4, val_main_call1_call0_v3, val_main_call1_call0_v2, val_main_call1_call0_v1, val_main_call1_call0_v0, val_main_call1_call0_cst, val_main_call1_v0, val_main_v61, val_main_v60, val_main_v59, val_main_v58, val_main_v13]
  rw [if_neg (fun h => h rfl)]
  rfl

/-- Where a column of the wide array is among the projected columns. -/
def col32 (e : Fin 8192) : Fin 12320 :=
  if h : e.val < 4096 then ⟨e.val + 2048, by omega⟩ else if h : e.val < 6144 then ⟨e.val + 2064, by omega⟩ else ⟨e.val + 4112, by omega⟩

theorem col32_val (e : Fin 8192) :
    (col32 e).val = if e.val < 4096 then e.val + 2048 else if e.val < 6144 then e.val + 2064 else e.val + 4112 := by
  unfold col32
  split_ifs <;> rfl

/-- Two columns with the same number. -/
theorem same_col (n : Fin 16896) {a b : Fin 12320} (h : a.val = b.val) :
    (val_main_v4 (F := Ideal) x0 x1 x2 (ix2 n a) : EReal) = val_main_v4 (F := Ideal) x0 x1 x2 (ix2 n b) := by
  rw [Fin.ext h]

theorem same_row {a b : Fin 16896} (e : Fin 12320) (h : a.val = b.val) :
    (val_main_v4 (F := Ideal) x0 x1 x2 (ix2 a e) : EReal) = val_main_v4 (F := Ideal) x0 x1 x2 (ix2 b e) := by
  rw [Fin.ext h]

/-- The keys, the values, the two middle heads' queries and keys and the output gates, side by side. -/
theorem t2 (n : Fin 16896) (e : Fin 8192) :
    (val_main_v49 (F := Ideal) x0 x1 x2 (ix2 n e) : EReal) = val_main_v4 (F := Ideal) x0 x1 x2 (ix2 n (col32 e)) := by
  have he := e.isLt
  have hc := col32_val e
  pointwise [val_main_v49, val_main_v6, val_main_v7, val_main_v9, val_main_v11]
  split_ifs <;> refine same_col x0 x1 x2 n ?_ <;> dsimp only <;> rw [hc] <;> split_ifs <;> omega

/-- The queries and the values of the narrow array. -/
theorem t3 (n : Fin 16896) (e : Fin 4096) :
    (val_main_v53 (F := Ideal) x0 x1 x2 (ix2 n e) : EReal) = if h : e.val < 2048
      then val_main_v4 (F := Ideal) x0 x1 x2 (ix2 n ⟨e.val, by omega⟩) * Ideal.ofBits .f32 1040356334#32
      else val_main_v4 (F := Ideal) x0 x1 x2 (ix2 n ⟨e.val + 6160, by omega⟩) := by
  have he := e.isLt
  pointwise [val_main_v53, val_main_v52, val_main_v51, val_main_v50, val_main_v10, val_main_v5, val_main_cst_0]
  by_cases h : e.val < 2048
  · rw [dif_pos h, dif_pos h]
  · rw [dif_neg h, dif_neg h]
    refine same_col x0 x1 x2 n ?_
    dsimp only
    omega

/-- The gates. -/
theorem t4 (n : Fin 16896) (e : Fin 32) :
    (val_main_v63 (F := Ideal) x0 x1 x2 x3 x4 x5 (ix2 n e) : EReal) = if h : e.val < 16
      then lsg (val_main_v4 (F := Ideal) x0 x1 x2 (ix2 n ⟨6144 + e.val, by omega⟩) + x3 (ix2 0 ⟨e.val, h⟩))
      else if h' : e.val < 24
      then val_main_v4 (F := Ideal) x0 x1 x2 (ix2 n ⟨12304 + (e.val - 16), by omega⟩) + x4 (ix2 0 ⟨e.val - 16, by omega⟩)
      else lsg (val_main_v4 (F := Ideal) x0 x1 x2 (ix2 n ⟨12312 + (e.val - 24), by omega⟩) + x5 (ix2 0 ⟨e.val - 24, by omega⟩)) := by
  have he := e.isLt
  pointwise [val_main_v63, val_main_v57, val_main_v56, val_main_v55, val_main_v54, val_main_v12]
  by_cases h : e.val < 16
  · rw [dif_pos h, dif_pos h]
    exact t1 x0 x1 x2 x3 n ⟨e.val, h⟩
  · rw [dif_neg h, dif_neg h]
    by_cases h' : e.val < 24
    · rw [dif_pos (show e.val - 16 < 8 by omega), dif_pos h']
    · rw [dif_neg (show ¬ e.val - 16 < 8 by omega), dif_neg h']
      exact (congrArg (fun a : Fin 8 => (val_main_v62 (F := Ideal) x0 x1 x2 x5 (ix2 n a) : EReal))
        (Fin.ext (by dsimp only; omega))).trans (t1' x0 x1 x2 x5 n ⟨e.val - 24, by omega⟩)

/-- The prompt's keys. -/
theorem t5 (b : Fin 8) (t : Fin 2048) (h : Fin 16) (k : Fin 128) :
    (val_main_v26 (F := Ideal) x0 x1 x2 (ix5 0 b t h k) : EReal)
      = val_main_v4 (F := Ideal) x0 x1 x2 (ix2 ⟨b.val * 2048 + t.val, by omega⟩ ⟨2048 + (h.val * 128 + k.val), by omega⟩) := by
  pointwise [val_main_v26, val_main_v25, val_main_v24, val_main_v6]
/-- The prompt's values. -/
theorem t6 (b : Fin 8) (t : Fin 2048) (h : Fin 16) (k : Fin 128) :
    (val_main_v29 (F := Ideal) x0 x1 x2 (ix5 0 b t h k) : EReal)
      = val_main_v4 (F := Ideal) x0 x1 x2 (ix2 ⟨b.val * 2048 + t.val, by omega⟩ ⟨4096 + (h.val * 128 + k.val), by omega⟩) := by
  pointwise [val_main_v29, val_main_v28, val_main_v27, val_main_v7]
/-- The prompt's forget gates. -/
theorem t7 (b : Fin 8) (t : Fin 2048) (h : Fin 16) :
    (val_main_v32 (F := Ideal) x0 x1 x2 x3 (ix4 0 b t h) : EReal)
      = val_main_v18 (F := Ideal) x0 x1 x2 x3 (ix2 ⟨b.val * 2048 + t.val, by omega⟩ h) := by
  pointwise [val_main_v32, val_main_v31, val_main_v30]
/-- The prompt's last rows. -/
theorem t8 (b : Fin 8) (t : Fin 3) (k : Fin 2048) :
    (val_main_v33 (F := Ideal) x0 x1 x2 (ix4 0 b t k) : EReal)
      = val_main_v4 (F := Ideal) x0 x1 x2 (ix2 ⟨b.val * 2048 + (2045 + t.val), by omega⟩ ⟨6160 + k.val, by omega⟩) := by
  pointwise [val_main_v33, val_main_v23, val_main_v22, val_main_v21, val_main_v20, val_main_v19, val_main_v9, val_main_cst]
  rw [dif_neg (by omega)]
  exact same_row x0 x1 x2 _ (by dsimp only; omega)
/-- The sample's keys. -/
theorem t9 (b : Fin 8) (t : Fin 64) (h : Fin 16) (k : Fin 128) :
    (val_main_v41 (F := Ideal) x0 x1 x2 (ix5 0 b t h k) : EReal)
      = val_main_v4 (F := Ideal) x0 x1 x2 (ix2 ⟨16384 + (b.val * 64 + t.val), by omega⟩ ⟨2048 + (h.val * 128 + k.val), by omega⟩) := by
  pointwise [val_main_v41, val_main_v40, val_main_v39, val_main_v6]
/-- The sample's values. -/
theorem t10 (b : Fin 8) (t : Fin 64) (h : Fin 16) (k : Fin 128) :
    (val_main_v44 (F := Ideal) x0 x1 x2 (ix5 0 b t h k) : EReal)
      = val_main_v4 (F := Ideal) x0 x1 x2 (ix2 ⟨16384 + (b.val * 64 + t.val), by omega⟩ ⟨4096 + (h.val * 128 + k.val), by omega⟩) := by
  pointwise [val_main_v44, val_main_v43, val_main_v42, val_main_v7]
/-- The sample's forget gates. -/
theorem t11 (b : Fin 8) (t : Fin 64) (h : Fin 16) :
    (val_main_v47 (F := Ideal) x0 x1 x2 x3 (ix4 0 b t h) : EReal)
      = val_main_v18 (F := Ideal) x0 x1 x2 x3 (ix2 ⟨16384 + (b.val * 64 + t.val), by omega⟩ h) := by
  pointwise [val_main_v47, val_main_v46, val_main_v45]
/-- The sample's last rows. -/
theorem t12 (b : Fin 8) (t : Fin 3) (k : Fin 2048) :
    (val_main_v48 (F := Ideal) x0 x1 x2 x6 (ix4 0 b t k) : EReal)
      = val_main_v4 (F := Ideal) x0 x1 x2 (ix2 ⟨16384 + (b.val * 64 + (61 + t.val)), by omega⟩ ⟨6160 + k.val, by omega⟩) := by
  pointwise [val_main_v48, val_main_v38, val_main_v37, val_main_v36, val_main_v35, val_main_v34, val_main_v9]
  rw [dif_neg (by omega)]
  exact same_row x0 x1 x2 _ (by dsimp only; omega)
end Cert.Reference3Ideal.InProj
end
-- ==== Proof.InProj.Arrays.lean ====
module
public import proofs.«01_k».proof.Proof.InProj.Run
public import proofs.«01_k».proof.Proof.InProj.Pay
public import proofs.«01_k».proof.Proof.InProj.Ref
public import Idealize.ShloMosaic.Lib.Pipeline.Covers
/-!
# What the in-projection leaves in its three arrays
-/
@[expose] public section
set_option maxRecDepth 16384
noncomputable section
open Idealize.ShloMosaic Idealize.ShloMosaic.TcCoe Idealize.SL.Sem
open Idealize.ShloMosaic.Pipeline (Dat)
namespace Cert.Kernel3Ideal.InProj
open Cert.Kernel3Ideal Cert.Kernel3Ideal.Gen Cert.InProjSpec
open Cert.Reference3Ideal.InProj (col32 col32_val)
open Cert.Reference3Ideal.Read (val_main_v0 val_main_v1 val_main_v2 val_main_v4)

variable (m : (ℓ : Loc nD τ sig) → Buf (Elt Ideal) ℓ) (c : Dev nD)

/-- The program's arguments. -/
abbrev arg0 : FVec Ideal S8x2048x4096 .f32 := m ((c : Thread nD τ).loc main_arg0)
abbrev arg1 : FVec Ideal S8x64x4096 .f32 := m ((c : Thread nD τ).loc main_arg1)
abbrev arg2 : FVec Ideal S1x4096x12320 .f32 := m ((c : Thread nD τ).loc main_arg2)
abbrev arg3 : FVec Ideal S1x16 .f32 := m ((c : Thread nD τ).loc main_arg3)
abbrev arg4 : FVec Ideal S1x8 .f32 := m ((c : Thread nD τ).loc main_arg4)
abbrev arg5 : FVec Ideal S1x8 .f32 := m ((c : Thread nD τ).loc main_arg5)
abbrev arg6 : FVec Ideal S1x8x3x2048 .f32 := m ((c : Thread nD τ).loc main_arg6)

/-- The rows of both groups, one under the other, as the reference has them. -/
theorem cat_x (A : FVec Ideal S8x2048x4096 .f32) (B : FVec Ideal S8x64x4096 .f32) (n : Fin 16896) (d : Fin 4096) :
    (truncf .bf16 (concatenate S16896x4096 0 [⟨S16384x4096, shapeCast S16384x4096 A shapeCasts_S8x2048x4096_S16384x4096⟩,
        ⟨S512x4096, shapeCast S512x4096 B shapeCasts_S8x64x4096_S512x4096⟩] concatenates_S16384x4096_S512x4096_S16896x4096_d0 : FVec Ideal S16896x4096 .f32)
        bitsLt_bf16_f32 (ix2 n d) : EReal) = val_main_v2 (F := Ideal) A B (ix2 n d) := by
  pointwise [val_main_v2, val_main_v1, val_main_v0]

/-- The three groups of gate columns, side by side. -/
theorem cat_w (W : FVec Ideal S1x4096x12320 .f32) (d : Fin 4096) (e : Fin 32) :
    (concatenate S4096x32 1 [⟨S4096x16, extractStridedSlice S4096x16 ![0, 6144] (shapeCast S4096x12320 W shapeCasts_S1x4096x12320_S4096x12320) slices_S4096x12320_S4096x16_0_6144⟩,
        ⟨S4096x8, extractStridedSlice S4096x8 ![0, 12304] (shapeCast S4096x12320 W shapeCasts_S1x4096x12320_S4096x12320) slices_S4096x12320_S4096x8_0_12304⟩,
        ⟨S4096x8, extractStridedSlice S4096x8 ![0, 12312] (shapeCast S4096x12320 W shapeCasts_S1x4096x12320_S4096x12320) slices_S4096x12320_S4096x8_0_12312⟩]
        concatenates_S4096x16_S4096x8_S4096x8_S4096x32_d1 (ix2 d e) : EReal)
      = W (ix3 0 d (if e.val < 16 then ⟨6144 + e.val, by omega⟩ else ⟨12304 + (e.val - 16), by omega⟩)) := by
  have he := e.isLt
  pointwise []
  by_cases h : e.val < 16
  · rw [dif_pos h, if_pos h]
  · rw [dif_neg h, if_neg h]
    by_cases h' : e.val - 16 < 8
    · rw [dif_pos h']
    · rw [dif_neg h']
      exact congrArg (fun a => (W (ix3 0 d a) : EReal)) (Fin.ext (by dsimp only; omega))

/-- The three biases, side by side. -/
theorem cat_b (A : FVec Ideal S1x16 .f32) (B C : FVec Ideal S1x8 .f32) (e : Fin 32) :
    (concatenate S32 0 [⟨S16, shapeCast S16 A shapeCasts_S1x16_S16⟩, ⟨S8, shapeCast S8 B shapeCasts_S1x8_S8⟩,
        ⟨S8, shapeCast S8 C shapeCasts_S1x8_S8⟩] concatenates_S16_S8_S8_S32_d0 (ix1 e) : EReal)
      = if h : e.val < 16 then A (ix2 0 ⟨e.val, h⟩)
        else if h' : e.val < 24 then B (ix2 0 ⟨e.val - 16, by omega⟩) else C (ix2 0 ⟨e.val - 24, by omega⟩) := by
  have he := e.isLt
  pointwise []
  by_cases h : e.val < 16
  · rw [dif_pos h, dif_pos h]
  · rw [dif_neg h, dif_neg h]
    by_cases h' : e.val < 24
    · rw [dif_pos (show e.val - 16 < 8 by omega), dif_pos h']
    · rw [dif_neg (show ¬ e.val - 16 < 8 by omega), dif_neg h']
      exact congrArg (fun a => (C (ix2 0 a) : EReal)) (Fin.ext (by dsimp only; omega))

/-- Padding on the right leaves the columns on the left. -/
theorem pad_w (X : FVec Ideal S4096x32 .f32) (z : FVec Ideal S_ .f32) (d : Fin 4096) (e : Fin 32) :
    (pad S4096x128 ![0, 0] ![0, 96] ![0, 0] X z pads_S4096x32_S4096x128_000_0960 h_S_ (ix2 d ⟨e.val, by omega⟩) : EReal) = X (ix2 d e) := by
  pointwise []

theorem pad_b (X : FVec Ideal S32 .f32) (z : FVec Ideal S_ .f32) (e : Fin 32) :
    (pad S128 ![0] ![96] ![0] X z pads_S32_S128_0960 h_S_ (ix1 ⟨e.val, by omega⟩) : EReal) = X (ix1 e) := by
  pointwise []

section Host
variable (σ : Valuation τ sig (Elt Ideal))

theorem h_x (n : Fin 16896) (d : Fin 4096) :
    (StableHlo.after hostOps0_4 σ (Proc.devRef .tc main_v24) (ix2 n d) : EReal)
      = val_main_v2 (F := Ideal) (σ (Proc.devRef .tc main_arg0)) (σ (Proc.devRef .tc main_arg1)) (ix2 n d) := by
  entry_read
  exact cat_x (σ (Proc.devRef .tc main_arg0)) (σ (Proc.devRef .tc main_arg1)) n d

theorem h_wa (d : Fin 4096) (e : Fin 6144) : (StableHlo.after hostOps0 σ (Proc.devRef .tc main_v2) (ix2 d e) : EReal)
    = σ (Proc.devRef .tc main_arg2) (ix3 0 d ⟨e.val, by omega⟩) := by
  entry_read
  pointwise []

theorem h_wb (d : Fin 4096) (e : Fin 6144) : (StableHlo.after hostOps0 σ (Proc.devRef .tc main_v5) (ix2 d e) : EReal)
    = σ (Proc.devRef .tc main_arg2) (ix3 0 d ⟨6160 + e.val, by omega⟩) := by
  entry_read
  pointwise []

theorem h_wg (d : Fin 4096) (e : Fin 32) : (StableHlo.after hostOps0 σ (Proc.devRef .tc main_v12) (ix2 d e) : EReal)
    = σ (Proc.devRef .tc main_arg2) (ix3 0 d (if e.val < 16 then ⟨6144 + e.val, by omega⟩ else ⟨12304 + (e.val - 16), by omega⟩)) :=
  cat_w (σ (Proc.devRef .tc main_arg2)) d e

theorem h_wg13 (d : Fin 4096) (e : Fin 32) : (StableHlo.after hostOps0_1 σ (Proc.devRef .tc main_v13) (ix2 d ⟨e.val, by omega⟩) : EReal)
    = σ (Proc.devRef .tc main_v12) (ix2 d e) := by
  entry_read
  exact pad_w (σ (Proc.devRef .tc main_v12)) (sitofp .f32 (show IVec S_ 32 from σ (Proc.devRef .tc main_c))) d e

theorem h_wg14 (d : Fin 4096) (e : Fin 128) : (StableHlo.after hostOps0_2 σ (Proc.devRef .tc main_v14) (ix2 d e) : EReal)
    = σ (Proc.devRef .tc main_v13) (ix2 d e) := by
  entry_read
  pointwise []

theorem h_b18 (e : Fin 32) : (StableHlo.after hostOps0_2 σ (Proc.devRef .tc main_v18) (ix1 e) : EReal)
    = if h : e.val < 16 then σ (Proc.devRef .tc main_arg3) (ix2 0 ⟨e.val, h⟩)
      else if h' : e.val < 24 then σ (Proc.devRef .tc main_arg4) (ix2 0 ⟨e.val - 16, by omega⟩) else σ (Proc.devRef .tc main_arg5) (ix2 0 ⟨e.val - 24, by omega⟩) :=
  cat_b (σ (Proc.devRef .tc main_arg3)) (σ (Proc.devRef .tc main_arg4)) (σ (Proc.devRef .tc main_arg5)) e

theorem h_b19 (e : Fin 32) : (StableHlo.after hostOps0_3 σ (Proc.devRef .tc main_v19) (ix1 ⟨e.val, by omega⟩) : EReal)
    = σ (Proc.devRef .tc main_v18) (ix1 e) := by
  entry_read
  exact pad_b (σ (Proc.devRef .tc main_v18)) (sitofp .f32 (show IVec S_ 32 from σ (Proc.devRef .tc main_c_0))) e

theorem h_b20 (e : Fin 128) : (StableHlo.after hostOps0_4 σ (Proc.devRef .tc main_v20) (ix2 0 e) : EReal)
    = σ (Proc.devRef .tc main_v19) (ix1 e) := by
  entry_read
  pointwise []

end Host

/-- The buffers after each list of host operations. -/
abbrev H1 : Valuation τ sig (Elt Ideal) := StableHlo.after hostOps0 (fun b => m (c, b))
abbrev H2 : Valuation τ sig (Elt Ideal) := StableHlo.after hostOps0_1 (H1 m c)
abbrev H3 : Valuation τ sig (Elt Ideal) := StableHlo.after hostOps0_2 (H2 m c)
abbrev H4 : Valuation τ sig (Elt Ideal) := StableHlo.after hostOps0_3 (H3 m c)

theorem V0_eq : V0 m c = StableHlo.after hostOps0_4 (H4 m c) := rfl
theorem H4_arg (b : Ref sig .tc) (h : b ∈ [main_arg0, main_arg1]) : H4 m c (Proc.devRef .tc b) = m ((c : Thread nD τ).loc b) := by
  fin_cases h <;> rfl

theorem entry_x (n : Fin 16896) (d : Fin 4096) :
    (V m c main_v24 (ix2 n d) : EReal) = val_main_v2 (F := Ideal) (arg0 m c) (arg1 m c) (ix2 n d) :=
  (congrFun (congrFun (V0_eq m c) (Proc.devRef .tc main_v24)) _).trans (h_x (H4 m c) n d)

theorem entry_wa (d : Fin 4096) (e : Fin 6144) :
    (V m c main_v2 (ix2 d e) : EReal) = arg2 m c (ix3 0 d ⟨e.val, by omega⟩) :=
  h_wa (fun b => m (c, b)) d e

theorem entry_wb (d : Fin 4096) (e : Fin 6144) :
    (V m c main_v5 (ix2 d e) : EReal) = arg2 m c (ix3 0 d ⟨6160 + e.val, by omega⟩) :=
  h_wb (fun b => m (c, b)) d e

theorem entry_wg (d : Fin 4096) (e : Fin 32) :
    (V m c main_v14 (ix2 d ⟨e.val, by omega⟩) : EReal) = arg2 m c (ix3 0 d (if e.val < 16 then ⟨6144 + e.val, by omega⟩ else ⟨12304 + (e.val - 16), by omega⟩)) :=
  (h_wg14 (H2 m c) d _).trans ((h_wg13 (H1 m c) d e).trans (h_wg (fun b => m (c, b)) d e))

theorem entry_bg (e : Fin 32) :
    (V m c main_v20 (ix2 0 ⟨e.val, by omega⟩) : EReal) = if h : e.val < 16 then arg3 m c (ix2 0 ⟨e.val, h⟩)
      else if h' : e.val < 24 then arg4 m c (ix2 0 ⟨e.val - 16, by omega⟩) else arg5 m c (ix2 0 ⟨e.val - 24, by omega⟩) :=
  (h_b20 (H4 m c) _).trans ((h_b19 (H3 m c) e).trans (h_b18 (H2 m c) e))

theorem idx0 (t : Fin cfg0.N) : (cfg0.win 0).index t = ![t.val / 24, 0] := by
  have h : ∀ t : Fin grid0.N, cc0_transform_0 (grid0.coords t) = ![t.val / 24, 0] := by decide +kernel
  exact h t
theorem idx1 (t : Fin cfg0.N) : (cfg0.win 1).index t = ![0, min (t.val % 24) 11] := by
  have h : ∀ t : Fin grid0.N, cc0_transform_1 (grid0.coords t) = ![0, min (t.val % 24) 11] := by decide +kernel
  exact h t
theorem idx2 (t : Fin cfg0.N) : (cfg0.win 2).index t = ![0, t.val % 24 - 12] := by
  have h : ∀ t : Fin grid0.N, cc0_transform_2 (grid0.coords t) = ![0, t.val % 24 - 12] := by decide +kernel
  exact h t
/-- The wide array's block, where one is written back. -/
def wide32 (j : Nat) : Nat := if j < 4 then 0 else if j < 16 then j - 4 else if j < 20 then 11 else j - 8
/-- The narrow array's block. -/
def wide16 (j : Nat) : Nat := if j < 4 then j else if j < 16 then 3 else if j < 20 then j - 12 else 7
theorem idx5 (t : Fin cfg0.N) : (cfg0.win 5).index t = ![t.val / 24, wide32 (t.val % 24)] := by
  have h : ∀ t : Fin grid0.N, cc0_transform_5 (grid0.coords t) = ![t.val / 24, wide32 (t.val % 24)] := by decide +kernel
  exact h t
theorem idx6 (t : Fin cfg0.N) : (cfg0.win 6).index t = ![t.val / 24, wide16 (t.val % 24)] := by
  have h : ∀ t : Fin grid0.N, cc0_transform_6 (grid0.coords t) = ![t.val / 24, wide16 (t.val % 24)] := by decide +kernel
  exact h t
theorem idx7 (t : Fin cfg0.N) : (cfg0.win 7).index t = ![t.val / 24, 0] := by
  have h : ∀ t : Fin grid0.N, cc0_transform_7 (grid0.coords t) = ![t.val / 24, 0] := by decide +kernel
  exact h t
theorem idx3 (t : Fin cfg0.N) : (cfg0.win 3).index t = ![0, 0] := by
  have h : ∀ t : Fin grid0.N, cc0_transform_3 (grid0.coords t) = ![0, 0] := by decide +kernel
  exact h t
theorem idx4 (t : Fin cfg0.N) : (cfg0.win 4).index t = ![0, 0] := by
  have h : ∀ t : Fin grid0.N, cc0_transform_4 (grid0.coords t) = ![0, 0] := by decide +kernel
  exact h t

theorem t_lt (t : Fin cfg0.N) : t.val < 384 := t.isLt

theorem blk_x (t : Fin cfg0.N) (r : Fin 1056) (d : Fin 4096) : (iblk m c 0 t (ix2 r d) : EReal)
    = V m c main_v24 (ix2 ⟨t.val / 24 * 1056 + r.val, by have := t_lt t; omega⟩ d) := by
  blk_ext [iblk, idx0 t]
theorem blk_wa (t : Fin cfg0.N) (d : Fin 4096) (l : Fin 512) : (iblk m c 1 t (ix2 d l) : EReal)
    = V m c main_v2 (ix2 d ⟨min (t.val % 24) 11 * 512 + l.val, by omega⟩) := by
  blk_ext [iblk, idx1 t]
theorem blk_wb (t : Fin cfg0.N) (d : Fin 4096) (l : Fin 512) : (iblk m c 2 t (ix2 d l) : EReal)
    = V m c main_v5 (ix2 d ⟨(t.val % 24 - 12) * 512 + l.val, by omega⟩) := by
  blk_ext [iblk, idx2 t]
theorem blk_wg (t : Fin cfg0.N) (d : Fin 4096) (l : Fin 128) : (iblk m c 3 t (ix2 d l) : EReal)
    = V m c main_v14 (ix2 d l) := by
  blk_ext [iblk, idx3 t]
theorem blk_bg (t : Fin cfg0.N) (l : Fin 128) : (iblk m c 4 t (ix2 0 l) : EReal)
    = V m c main_v20 (ix2 0 l) := by
  blk_ext [iblk, idx4 t]

/-- A row of the projected array: the reference's product at the program's arguments. -/
def P (n : Fin 16896) (e : Fin 12320) : EReal := val_main_v4 (F := Ideal) (arg0 m c) (arg1 m c) (arg2 m c) (ix2 n e)

theorem P_eq (n : Fin 16896) (e : Fin 12320) :
    P m c n e = ∑ d : Fin 4096, val_main_v2 (F := Ideal) (arg0 m c) (arg1 m c) (ix2 n d) * arg2 m c (ix3 0 d e) :=
  Cert.Reference3Ideal.InProj.proj_at _ _ _ n e

/-- The row of a block's row, and the weights' column of a block's column at the points that multiply by the one half
or the other. -/
abbrev rowOf (t : Fin cfg0.N) (r : Fin 1056) : Fin 16896 := ⟨t.val / 24 * 1056 + r.val, by have := t_lt t; omega⟩
def colOf (j : Nat) (hj : j < 24) (l : Fin 512) : Fin 12320 :=
  if h : j < 12 then ⟨j * 512 + l.val, by omega⟩ else ⟨6160 + ((j - 12) * 512 + l.val), by omega⟩
theorem colOf_val (j : Nat) (hj : j < 24) (l : Fin 512) :
    (colOf j hj l).val = if j < 12 then j * 512 + l.val else 6160 + ((j - 12) * 512 + l.val) := by
  unfold colOf; split_ifs <;> rfl

/-- The blocks a point reads: rows, columns of either half, the gates' columns and their biases. -/
def X (s : Fin cfg0.N) : FVec Ideal S1056x4096 .bf16 := iblk m c 0 s
def WA (s : Fin cfg0.N) : FVec Ideal S4096x512 .bf16 := iblk m c 1 s
def WB (s : Fin cfg0.N) : FVec Ideal S4096x512 .bf16 := iblk m c 2 s
def WG (s : Fin cfg0.N) : FVec Ideal S4096x128 .bf16 := iblk m c 3 s
def BG (s : Fin cfg0.N) : FVec Ideal S1x128 .f32 := iblk m c 4 s

/-- The product at a point that multiplies by the first half. -/
theorem sum_a (s : Fin cfg0.N) (hj : s.val % 24 < 12) (r : Fin 1056) (l : Fin 512) :
    (∑ d : Fin 4096, X m c s (ix2 r d) * WA m c s (ix2 d l)) = P m c (rowOf s r) (colOf (s.val % 24) (by omega) l) := by
  rw [P_eq]
  refine Finset.sum_congr rfl fun d _ => congrArg₂ (· * ·) ((blk_x m c s r d).trans (entry_x m c _ d)) ?_
  refine (blk_wa m c s d l).trans ((entry_wa m c d _).trans (congrArg (fun a => (arg2 m c (ix3 0 d a) : EReal)) (Fin.ext ?_)))
  rw [colOf_val, if_pos hj]
  dsimp only
  rw [Nat.min_eq_left (by omega)]

/-- The product at a point that multiplies by the second half. -/
theorem sum_b (s : Fin cfg0.N) (hj : ¬ s.val % 24 < 12) (r : Fin 1056) (l : Fin 512) :
    (∑ d : Fin 4096, X m c s (ix2 r d) * WB m c s (ix2 d l)) = P m c (rowOf s r) (colOf (s.val % 24) (by omega) l) := by
  rw [P_eq]
  refine Finset.sum_congr rfl fun d _ => congrArg₂ (· * ·) ((blk_x m c s r d).trans (entry_x m c _ d)) ?_
  refine (blk_wb m c s d l).trans ((entry_wb m c d _).trans (congrArg (fun a => (arg2 m c (ix3 0 d a) : EReal)) (Fin.ext ?_)))
  rw [colOf_val, if_neg hj]

theorem blk5_at (s : Fin cfg0.N) (r : Fin 1056) (l : Fin 512) :
    (blk5 m c s (ix2 r l) : EReal) = P m c (rowOf s r) (colOf (s.val % 24) (by omega) l) := by
  unfold blk5
  rw [coords1]
  by_cases hj : s.val % 24 < 12
  · rw [if_pos hj]; exact (pay1 (X m c s) (WA m c s) r l).trans (sum_a m c s hj r l)
  · rw [if_neg hj]; exact (pay3 (X m c s) (WB m c s) r l).trans (sum_b m c s hj r l)

theorem blk6_at (s : Fin cfg0.N) (r : Fin 1056) (l : Fin 512) :
    (blk6 m c s (ix2 r l) : EReal) = P m c (rowOf s r) (colOf (s.val % 24) (by omega) l) * factor (s.val % 24) := by
  unfold blk6
  rw [coords1]
  by_cases hj : s.val % 24 < 12
  · rw [if_pos hj]
    refine (pay2 (grid0.coords s) (X m c s) (WA m c s) r l).trans (congrArg₂ (· * ·) (sum_a m c s hj r l) ?_)
    rw [coords1]
  · rw [if_neg hj]
    refine (pay4 (grid0.coords s) (X m c s) (WB m c s) r l).trans (congrArg₂ (· * ·) (sum_b m c s hj r l) ?_)
    rw [coords1]

/-- A gate before the log-sigmoid, on each of the 128 lanes. -/
def pre (n : Fin 16896) (l : Fin 128) : EReal :=
  (∑ d : Fin 4096, val_main_v2 (F := Ideal) (arg0 m c) (arg1 m c) (ix2 n d) * (V m c main_v14 (ix2 d l) : EReal)) + V m c main_v20 (ix2 0 l)
/-- A gate. -/
def gate (n : Fin 16896) (l : Fin 128) : EReal := if 16 ≤ l.val ∧ l.val < 24 then pre m c n l else lsg (pre m c n l)

theorem blk7_at (s : Fin cfg0.N) (r : Fin 1056) (l : Fin 128) : (blk7 m c s (ix2 r l) : EReal) = gate m c (rowOf s r) l := by
  have h : (∑ d : Fin 4096, X m c s (ix2 r d) * WG m c s (ix2 d l)) + BG m c s (ix2 0 l) = pre m c (rowOf s r) l :=
    congrArg₂ (· + ·) (Finset.sum_congr rfl fun d _ => congrArg₂ (· * ·) ((blk_x m c s r d).trans (entry_x m c _ d)) (blk_wg m c s d l))
      (blk_bg m c s l)
  unfold blk7
  refine (pay5 (X m c s) (WG m c s) (BG m c s) r l).trans ?_
  rw [h]
  rfl

/-- The point that wrote the block staged at a point lies in the same row of blocks. -/
theorem src5_val (t : Fin cfg0.N) : (src5 t).val = if 16 ≤ t.val % 24 ∧ t.val % 24 < 20 then t.val - (t.val % 24 - 15) else t.val := by
  unfold src5; split_ifs <;> rfl
theorem src6_val (t : Fin cfg0.N) : (src6 t).val = if 4 ≤ t.val % 24 ∧ t.val % 24 < 16 then t.val - (t.val % 24 - 3)
    else if 20 ≤ t.val % 24 then t.val - (t.val % 24 - 19) else t.val := by
  unfold src6; split_ifs <;> rfl

/-- The blocks written back cover each array. -/
theorem covers5 : (cfg0.win 5).Covers :=
  (cfg0.win 5).covers_of_index_surj rfl (fun a => by
      match a with
      | ⟨0, _⟩ => exact (by decide : 0 < 1056)
      | ⟨1, _⟩ => exact (by decide : 0 < 512)) fun β => by
    have h0 : (β (0 : Fin 2)).val < 16 := (β (0 : Fin 2)).isLt.trans_eq (show (16896 + 1056 - 1) / 1056 = 16 by decide)
    have h1 : (β (1 : Fin 2)).val < 16 := (β (1 : Fin 2)).isLt.trans_eq (show (8192 + 512 - 1) / 512 = 16 by decide)
    refine ⟨⟨(β (0 : Fin 2)).val * 24 + (if (β (1 : Fin 2)).val < 12 then (β (1 : Fin 2)).val + 4 else (β (1 : Fin 2)).val + 8),
      show _ < 384 by split_ifs <;> omega⟩, fun a => ?_⟩
    rw [idx5]
    match a with
    | ⟨0, _⟩ => dsimp only; show (_ : Nat) / 24 = (β (0 : Fin 2)).val; split_ifs <;> omega
    | ⟨1, _⟩ => show wide32 (_ % 24) = (β (1 : Fin 2)).val; unfold wide32; dsimp only; split_ifs <;> omega
theorem covers6 : (cfg0.win 6).Covers :=
  (cfg0.win 6).covers_of_index_surj rfl (fun a => by
      match a with
      | ⟨0, _⟩ => exact (by decide : 0 < 1056)
      | ⟨1, _⟩ => exact (by decide : 0 < 512)) fun β => by
    have h0 : (β (0 : Fin 2)).val < 16 := (β (0 : Fin 2)).isLt.trans_eq (show (16896 + 1056 - 1) / 1056 = 16 by decide)
    have h1 : (β (1 : Fin 2)).val < 8 := (β (1 : Fin 2)).isLt.trans_eq (show (4096 + 512 - 1) / 512 = 8 by decide)
    refine ⟨⟨(β (0 : Fin 2)).val * 24 + (if (β (1 : Fin 2)).val < 4 then (β (1 : Fin 2)).val else (β (1 : Fin 2)).val + 12),
      show _ < 384 by split_ifs <;> omega⟩, fun a => ?_⟩
    rw [idx6]
    match a with
    | ⟨0, _⟩ => dsimp only; show (_ : Nat) / 24 = (β (0 : Fin 2)).val; split_ifs <;> omega
    | ⟨1, _⟩ => show wide16 (_ % 24) = (β (1 : Fin 2)).val; unfold wide16; dsimp only; split_ifs <;> omega
theorem covers7 : (cfg0.win 7).Covers :=
  (cfg0.win 7).covers_of_index_surj rfl (fun a => by
      match a with
      | ⟨0, _⟩ => exact (by decide : 0 < 1056)
      | ⟨1, _⟩ => exact (by decide : 0 < 128)) fun β => by
    have h0 : (β (0 : Fin 2)).val < 16 := (β (0 : Fin 2)).isLt.trans_eq (show (16896 + 1056 - 1) / 1056 = 16 by decide)
    have h1 : (β (1 : Fin 2)).val < 1 := (β (1 : Fin 2)).isLt.trans_eq (show (128 + 128 - 1) / 128 = 1 by decide)
    refine ⟨⟨(β (0 : Fin 2)).val * 24, show _ < 384 by omega⟩, fun a => ?_⟩
    rw [idx7]
    match a with
    | ⟨0, _⟩ => show (_ : Nat) * 24 / 24 = (β (0 : Fin 2)).val; omega
    | ⟨1, _⟩ => show (0 : Nat) = (β (1 : Fin 2)).val; omega

/-- Two elements of the projected array with the same row and column. -/
theorem P_congr {n n' : Fin 16896} {e e' : Fin 12320} (hn : n.val = n'.val) (he : e.val = e'.val) : P m c n e = P m c n' e' := by
  rw [Fin.ext hn, Fin.ext he]

/-- The wide array. -/
def wideArr : S16896x8192.Idx → EReal := fun y => P m c (y 0) (col32 (y 1))

theorem arr5 : (dat m 0 c).arrAt 5 (Fin.last cfg0.N) = wideArr m c := by
  refine (dat m 0 c).arrAt_eq_of_covers 5 _ covers5 fun t hf y => ?_
  have ht := t_lt t
  have hw := (flush5 t).mp hf
  blk_simp
  rw [after5]
  obtain ⟨r, l, rfl⟩ : ∃ (r : Fin 1056) (l : Fin 512), y = ix2 r l :=
    ⟨(show S1056x512.Idx from y) 0, (show S1056x512.Idx from y) 1, eq_ix2 (show S1056x512.Idx from y)⟩
  have hb : wide32 (t.val % 24) < 16 := by unfold wide32; split_ifs <;> omega
  have hx : ((View.whole main_v25_0).slice ((cfg0.win 5).rect t)).emb (ix2 r l)
      = ix2 ⟨t.val / 24 * 1056 + r.val, by omega⟩ ⟨wide32 (t.val % 24) * 512 + l.val, by omega⟩ := by
    blk_ext [idx5 t]
  refine (blk5_at m c (src5 t) r l).trans (Eq.trans ?_ (congrArg (wideArr m c) hx).symm)
  have hs := src5_val t
  refine P_congr m c ?_ ?_
  · show (src5 t).val / 24 * 1056 + r.val = t.val / 24 * 1056 + r.val
    rw [hs]; split_ifs <;> omega
  · show (colOf ((src5 t).val % 24) _ l).val = (col32 ⟨wide32 (t.val % 24) * 512 + l.val, _⟩).val
    rw [colOf_val, col32_val, hs]
    unfold wide32
    dsimp only
    split_ifs <;> omega

/-- The narrow array. -/
def narrowArr : S16896x4096.Idx → EReal := fun y => if h : (y 1).val < 2048
  then P m c (y 0) ⟨(y 1).val, by omega⟩ * Ideal.ofBits .f32 1040356334#32
  else P m c (y 0) ⟨(y 1).val + 6160, by have : (y 1).val < 4096 := (y 1).isLt; omega⟩

theorem arr6 : (dat m 0 c).arrAt 6 (Fin.last cfg0.N) = narrowArr m c := by
  refine (dat m 0 c).arrAt_eq_of_covers 6 _ covers6 fun t hf y => ?_
  have ht := t_lt t
  have hw := (flush6 t).mp hf
  blk_simp
  rw [after6]
  obtain ⟨r, l, rfl⟩ : ∃ (r : Fin 1056) (l : Fin 512), y = ix2 r l :=
    ⟨(show S1056x512.Idx from y) 0, (show S1056x512.Idx from y) 1, eq_ix2 (show S1056x512.Idx from y)⟩
  have hb : wide16 (t.val % 24) < 8 := by unfold wide16; split_ifs <;> omega
  have hx : ((View.whole main_v25_1).slice ((cfg0.win 6).rect t)).emb (ix2 r l)
      = ix2 ⟨t.val / 24 * 1056 + r.val, by omega⟩ ⟨wide16 (t.val % 24) * 512 + l.val, by omega⟩ := by
    blk_ext [idx6 t]
  refine (blk6_at m c (src6 t) r l).trans (Eq.trans ?_ (congrArg (narrowArr m c) hx).symm)
  have hs := src6_val t
  have hrow : (src6 t).val / 24 * 1056 + r.val = t.val / 24 * 1056 + r.val := by rw [hs]; split_ifs <;> omega
  have hcol := colOf_val ((src6 t).val % 24) (by omega) l
  unfold narrowArr
  by_cases h : (src6 t).val % 24 < 4
  · have h' : wide16 (t.val % 24) * 512 + l.val < 2048 := by
      revert h; rw [hs]; unfold wide16; split_ifs <;> omega
    refine Eq.trans ?_ (dif_pos h').symm
    refine congrArg₂ (· * ·) (P_congr m c hrow ?_) (if_pos h)
    show (colOf ((src6 t).val % 24) _ l).val = wide16 (t.val % 24) * 512 + l.val
    rw [hcol, if_pos (by omega)]
    revert h; rw [hs]; unfold wide16; split_ifs <;> omega
  · have h' : ¬ wide16 (t.val % 24) * 512 + l.val < 2048 := by
      revert h; rw [hs]; unfold wide16; split_ifs <;> omega
    refine Eq.trans ?_ (dif_neg h').symm
    refine Eq.trans (congrArg₂ (· * ·) (P_congr m c hrow ?_) (if_neg h)) (mul_one _)
    show (colOf ((src6 t).val % 24) _ l).val = wide16 (t.val % 24) * 512 + l.val + 6160
    rw [hcol]
    revert h; rw [hs]; unfold wide16; split_ifs <;> omega

/-- The gates' array. -/
def gateArr : S16896x128.Idx → EReal := fun y => gate m c (y 0) (y 1)

theorem arr7 : (dat m 0 c).arrAt 7 (Fin.last cfg0.N) = gateArr m c := by
  refine (dat m 0 c).arrAt_eq_of_covers 7 _ covers7 fun t hf y => ?_
  have ht := t_lt t
  blk_simp
  rw [after7]
  obtain ⟨r, l, rfl⟩ : ∃ (r : Fin 1056) (l : Fin 128), y = ix2 r l :=
    ⟨(show S1056x128.Idx from y) 0, (show S1056x128.Idx from y) 1, eq_ix2 (show S1056x128.Idx from y)⟩
  have hx : ((View.whole main_v25_2).slice ((cfg0.win 7).rect t)).emb (ix2 r l)
      = ix2 ⟨t.val / 24 * 1056 + r.val, by omega⟩ l := by
    blk_ext [idx7 t]
  refine (blk7_at m c (src7 t) r l).trans (Eq.trans ?_ (congrArg (gateArr m c) hx).symm)
  refine congrArg (fun n => gate m c n l) (Fin.ext ?_)
  show (t.val - t.val % 24) / 24 * 1056 + r.val = t.val / 24 * 1056 + r.val
  omega

/-- The gates that are used, in terms of the projected columns. -/
theorem gate_at (n : Fin 16896) (e : Fin 32) : gate m c n ⟨e.val, by omega⟩
    = if h : e.val < 16 then lsg (P m c n ⟨6144 + e.val, by omega⟩ + arg3 m c (ix2 0 ⟨e.val, h⟩))
      else if h' : e.val < 24 then P m c n ⟨12304 + (e.val - 16), by omega⟩ + arg4 m c (ix2 0 ⟨e.val - 16, by omega⟩)
      else lsg (P m c n ⟨12312 + (e.val - 24), by omega⟩ + arg5 m c (ix2 0 ⟨e.val - 24, by omega⟩)) := by
  have hp : pre m c n ⟨e.val, by omega⟩ = P m c n (if e.val < 16 then ⟨6144 + e.val, by omega⟩ else ⟨12304 + (e.val - 16), by omega⟩)
      + (if h : e.val < 16 then arg3 m c (ix2 0 ⟨e.val, h⟩)
        else if h' : e.val < 24 then arg4 m c (ix2 0 ⟨e.val - 16, by omega⟩) else arg5 m c (ix2 0 ⟨e.val - 24, by omega⟩) : EReal) := by
    rw [P_eq]
    exact congrArg₂ (· + ·) (Finset.sum_congr rfl fun d _ => congrArg₂ (· * ·) rfl (entry_wg m c d e)) (entry_bg m c e)
  unfold gate
  rw [hp]
  by_cases h : e.val < 16
  · rw [if_neg (fun hh => absurd hh.1 (by dsimp only; omega)), dif_pos h, if_pos h, dif_pos h]
  · by_cases h' : e.val < 24
    · rw [if_pos (show 16 ≤ e.val ∧ e.val < 24 by omega), dif_neg h, if_neg h, dif_neg h, dif_pos h', dif_pos h']
    · rw [if_neg (fun hh => absurd hh.2 h'), dif_neg h, if_neg h, dif_neg h, dif_neg h', dif_neg h']
      exact congrArg (fun a => lsg (a + _)) (P_congr m c rfl (by dsimp only; omega))
end Cert.Kernel3Ideal.InProj
end
-- ==== Proof.InProj.Tail.lean ====
module
public import proofs.«01_k».proof.Proof.InProj.Arrays
public import Idealize.ShloMosaic.Lib.Claim
/-!
# What the host makes of the three arrays

The states of the two groups of sequences and the gates that are used.
-/
@[expose] public section
set_option maxRecDepth 16384
noncomputable section
open Idealize.ShloMosaic Idealize.ShloMosaic.TcCoe Idealize.SL.Sem
open Idealize.ShloMosaic.Pipeline (Dat)
namespace Cert.Kernel3Ideal.InProj
open Cert.Kernel3Ideal Cert.Kernel3Ideal.Gen Cert.InProjSpec

section Host
variable (σ : Valuation τ sig (Elt Ideal))

/-- The last three of six rows, of which the first three are another array's. -/
theorem last_three (A B : FVec Ideal S8x3x2048 .f32) (b : Fin 8) (t : Fin 3) (k : Fin 2048) :
    (broadcastInDim S1x8x3x2048 ![1, 2, 3] bcast_S8x3x2048_S1x8x3x2048_1_2_3 (extractStridedSlice S8x3x2048 ![0, 3, 0]
        (concatenate S8x6x2048 1 [⟨S8x3x2048, A⟩, ⟨S8x3x2048, B⟩] concatenates_S8x3x2048_S8x3x2048_S8x6x2048_d1 : FVec Ideal S8x6x2048 .f32)
        slices_S8x6x2048_S8x3x2048_0_3_0) (ix4 0 b t k) : EReal) = B (ix3 b t k) := by
  pointwise []

/-- The prompt's keys. -/
theorem h_v42 (b : Fin 8) (t : Fin 2048) (h : Fin 16) (k : Fin 128) :
    (StableHlo.after hostOps1 σ (Proc.devRef .tc main_v42) (ix5 0 b t h k) : EReal)
      = σ (Proc.devRef .tc main_v25_0) (ix2 ⟨b.val * 2048 + t.val, by omega⟩ ⟨h.val * 128 + k.val, by omega⟩) := by
  entry_read
  pointwise []

/-- The prompt's values. -/
theorem h_v43 (b : Fin 8) (t : Fin 2048) (h : Fin 16) (k : Fin 128) :
    (StableHlo.after hostOps1 σ (Proc.devRef .tc main_v43) (ix5 0 b t h k) : EReal)
      = σ (Proc.devRef .tc main_v25_0) (ix2 ⟨b.val * 2048 + t.val, by omega⟩ ⟨2048 + (h.val * 128 + k.val), by omega⟩) := by
  entry_read
  pointwise []

/-- The prompt's forget gates. -/
theorem h_v44 (b : Fin 8) (t : Fin 2048) (h : Fin 16) :
    (StableHlo.after hostOps1 σ (Proc.devRef .tc main_v44) (ix4 0 b t h) : EReal)
      = σ (Proc.devRef .tc main_v25_2) (ix2 ⟨b.val * 2048 + t.val, by omega⟩ ⟨h.val, by omega⟩) := by
  entry_read
  pointwise []

/-- The prompt's last rows. -/
theorem h_v45 (b : Fin 8) (t : Fin 3) (k : Fin 2048) :
    (StableHlo.after hostOps1 σ (Proc.devRef .tc main_v45) (ix4 0 b t k) : EReal)
      = σ (Proc.devRef .tc main_v25_0) (ix2 ⟨b.val * 2048 + (2045 + t.val), by omega⟩ ⟨4096 + k.val, by omega⟩) := by
  entry_read
  refine (last_three _ _ b t k).trans ?_
  pointwise []

/-- The sample's keys. -/
theorem h_v58 (b : Fin 8) (t : Fin 64) (h : Fin 16) (k : Fin 128) :
    (StableHlo.after hostOps1 σ (Proc.devRef .tc main_v58) (ix5 0 b t h k) : EReal)
      = σ (Proc.devRef .tc main_v25_0) (ix2 ⟨16384 + (b.val * 64 + t.val), by omega⟩ ⟨h.val * 128 + k.val, by omega⟩) := by
  entry_read
  pointwise []

/-- The sample's values. -/
theorem h_v59 (b : Fin 8) (t : Fin 64) (h : Fin 16) (k : Fin 128) :
    (StableHlo.after hostOps1 σ (Proc.devRef .tc main_v59) (ix5 0 b t h k) : EReal)
      = σ (Proc.devRef .tc main_v25_0) (ix2 ⟨16384 + (b.val * 64 + t.val), by omega⟩ ⟨2048 + (h.val * 128 + k.val), by omega⟩) := by
  entry_read
  pointwise []

/-- The sample's forget gates. -/
theorem h_v60 (b : Fin 8) (t : Fin 64) (h : Fin 16) :
    (StableHlo.after hostOps1 σ (Proc.devRef .tc main_v60) (ix4 0 b t h) : EReal)
      = σ (Proc.devRef .tc main_v25_2) (ix2 ⟨16384 + (b.val * 64 + t.val), by omega⟩ ⟨h.val, by omega⟩) := by
  entry_read
  pointwise []

/-- The sample's last rows. -/
theorem h_v61 (b : Fin 8) (t : Fin 3) (k : Fin 2048) :
    (StableHlo.after hostOps1 σ (Proc.devRef .tc main_v61) (ix4 0 b t k) : EReal)
      = σ (Proc.devRef .tc main_v25_0) (ix2 ⟨16384 + (b.val * 64 + (61 + t.val)), by omega⟩ ⟨4096 + k.val, by omega⟩) := by
  entry_read
  refine (last_three _ _ b t k).trans ?_
  pointwise []

/-- The gates that are used. -/
theorem h_v62 (n : Fin 16896) (e : Fin 32) :
    (StableHlo.after hostOps1 σ (Proc.devRef .tc main_v62) (ix2 n e) : EReal)
      = σ (Proc.devRef .tc main_v25_2) (ix2 n ⟨e.val, by omega⟩) := by
  entry_read
  pointwise []

end Host

section Results
open Cert.Reference3Ideal.Read
open Cert.Reference3Ideal.InProj (t1 t2 t3 t4 t5 t6 t7 t8 t9 t10 t11 t12 col32 col32_val)
variable (m : (ℓ : Loc nD τ sig) → Buf (Elt Ideal) ℓ) (c : Dev nD)

/-- The buffers when the call has returned. -/
def σ₁ : Valuation τ sig (Elt Ideal) := Pipeline.withArrays spec0 c (V0 m c) fun w => (dat m 0 c).arrAt w cfg0.N

theorem hinj : Function.Injective (Pipeline.arrRef spec0) := by decide

theorem s_wide (n : Fin 16896) (e : Fin 8192) : (σ₁ m c (Proc.devRef .tc main_v25_0) (ix2 n e) : EReal) = P m c n (col32 e) :=
  (congrFun (Pipeline.withArrays_arr spec0 hinj c (V0 m c) (fun w => (dat m 0 c).arrAt w cfg0.N) 5) _).trans (congrFun (arr5 m c) (ix2 n e))
theorem s_gate (n : Fin 16896) (e : Fin 128) : (σ₁ m c (Proc.devRef .tc main_v25_2) (ix2 n e) : EReal) = gate m c n e :=
  (congrFun (Pipeline.withArrays_arr spec0 hinj c (V0 m c) (fun w => (dat m 0 c).arrAt w cfg0.N) 7) _).trans (congrFun (arr7 m c) (ix2 n e))

/-- The forget gates' lanes. -/
theorem s_logf (n : Fin 16896) (h : Fin 16) : (σ₁ m c (Proc.devRef .tc main_v25_2) (ix2 n ⟨h.val, by omega⟩) : EReal)
    = val_main_v18 (F := Ideal) (arg0 m c) (arg1 m c) (arg2 m c) (arg3 m c) (ix2 n h) :=
  (s_gate m c n _).trans ((gate_at m c n ⟨h.val, by omega⟩).trans ((dif_pos h.isLt).trans
    (t1 (arg0 m c) (arg1 m c) (arg2 m c) (arg3 m c) n h).symm))

/-- The contents of a buffer at the end. -/
abbrev fin (b : Ref sig .tc) : Buf (Elt Ideal) ((c : Thread nD τ).loc b) := Pipeline.afterTail₀ cfgs (dat m) 0 (V0 m) [hostOps1] c b

theorem fin_eq (b : Ref sig .tc) : fin m c b = StableHlo.after hostOps1 (σ₁ m c) (Proc.devRef .tc b) := rfl

theorem r0 : (show FVec Ideal S1x8x2048x16x128 .f32 from fin m c main_v42) = val_main_v26 (F := Ideal) (arg0 m c) (arg1 m c) (arg2 m c) := by
  funext y
  idx_vars y
  obtain rfl : y0 = 0 := Subsingleton.elim _ _
  refine (congrFun (fin_eq m c main_v42) _).trans ((h_v42 (σ₁ m c) y1 y2 y3 y4).trans ((s_wide m c _ _).trans (Eq.trans ?_ (t5 (arg0 m c) (arg1 m c) (arg2 m c) y1 y2 y3 y4).symm)))
  exact P_congr m c rfl (by rw [col32_val]; dsimp only; rw [if_pos (by omega)]; omega)

theorem r1 : (show FVec Ideal S1x8x2048x16x128 .f32 from fin m c main_v43) = val_main_v29 (F := Ideal) (arg0 m c) (arg1 m c) (arg2 m c) := by
  funext y
  idx_vars y
  obtain rfl : y0 = 0 := Subsingleton.elim _ _
  refine (congrFun (fin_eq m c main_v43) _).trans ((h_v43 (σ₁ m c) y1 y2 y3 y4).trans ((s_wide m c _ _).trans (Eq.trans ?_ (t6 (arg0 m c) (arg1 m c) (arg2 m c) y1 y2 y3 y4).symm)))
  exact P_congr m c rfl (by rw [col32_val]; dsimp only; rw [if_pos (by omega)]; omega)

theorem r2 : (show FVec Ideal S1x8x2048x16 .f32 from fin m c main_v44) = val_main_v32 (F := Ideal) (arg0 m c) (arg1 m c) (arg2 m c) (arg3 m c) := by
  funext y
  idx_vars y
  obtain rfl : y0 = 0 := Subsingleton.elim _ _
  exact (congrFun (fin_eq m c main_v44) _).trans ((h_v44 (σ₁ m c) y1 y2 y3).trans ((s_logf m c _ y3).trans (t7 (arg0 m c) (arg1 m c) (arg2 m c) (arg3 m c) y1 y2 y3).symm))

theorem r3 : (show FVec Ideal S1x8x3x2048 .f32 from fin m c main_v45) = val_main_v33 (F := Ideal) (arg0 m c) (arg1 m c) (arg2 m c) := by
  funext y
  idx_vars y
  obtain rfl : y0 = 0 := Subsingleton.elim _ _
  refine (congrFun (fin_eq m c main_v45) _).trans ((h_v45 (σ₁ m c) y1 y2 y3).trans ((s_wide m c _ _).trans (Eq.trans ?_ (t8 (arg0 m c) (arg1 m c) (arg2 m c) y1 y2 y3).symm)))
  exact P_congr m c rfl (by rw [col32_val]; dsimp only; rw [if_neg (by omega), if_pos (by omega)]; omega)

theorem r4 : (show FVec Ideal S1x8x64x16x128 .f32 from fin m c main_v58) = val_main_v41 (F := Ideal) (arg0 m c) (arg1 m c) (arg2 m c) := by
  funext y
  idx_vars y
  obtain rfl : y0 = 0 := Subsingleton.elim _ _
  refine (congrFun (fin_eq m c main_v58) _).trans ((h_v58 (σ₁ m c) y1 y2 y3 y4).trans ((s_wide m c _ _).trans (Eq.trans ?_ (t9 (arg0 m c) (arg1 m c) (arg2 m c) y1 y2 y3 y4).symm)))
  exact P_congr m c rfl (by rw [col32_val]; dsimp only; rw [if_pos (by omega)]; omega)

theorem r5 : (show FVec Ideal S1x8x64x16x128 .f32 from fin m c main_v59) = val_main_v44 (F := Ideal) (arg0 m c) (arg1 m c) (arg2 m c) := by
  funext y
  idx_vars y
  obtain rfl : y0 = 0 := Subsingleton.elim _ _
  refine (congrFun (fin_eq m c main_v59) _).trans ((h_v59 (σ₁ m c) y1 y2 y3 y4).trans ((s_wide m c _ _).trans (Eq.trans ?_ (t10 (arg0 m c) (arg1 m c) (arg2 m c) y1 y2 y3 y4).symm)))
  exact P_congr m c rfl (by rw [col32_val]; dsimp only; rw [if_pos (by omega)]; omega)

theorem r6 : (show FVec Ideal S1x8x64x16 .f32 from fin m c main_v60) = val_main_v47 (F := Ideal) (arg0 m c) (arg1 m c) (arg2 m c) (arg3 m c) := by
  funext y
  idx_vars y
  obtain rfl : y0 = 0 := Subsingleton.elim _ _
  exact (congrFun (fin_eq m c main_v60) _).trans ((h_v60 (σ₁ m c) y1 y2 y3).trans ((s_logf m c _ y3).trans (t11 (arg0 m c) (arg1 m c) (arg2 m c) (arg3 m c) y1 y2 y3).symm))

theorem r7 : (show FVec Ideal S1x8x3x2048 .f32 from fin m c main_v61) = val_main_v48 (F := Ideal) (arg0 m c) (arg1 m c) (arg2 m c) (arg6 m c) := by
  funext y
  idx_vars y
  obtain rfl : y0 = 0 := Subsingleton.elim _ _
  refine (congrFun (fin_eq m c main_v61) _).trans ((h_v61 (σ₁ m c) y1 y2 y3).trans ((s_wide m c _ _).trans (Eq.trans ?_ (t12 (arg0 m c) (arg1 m c) (arg2 m c) (arg6 m c) y1 y2 y3).symm)))
  exact P_congr m c rfl (by rw [col32_val]; dsimp only; rw [if_neg (by omega), if_pos (by omega)]; omega)

/-- The wide array is the reference's. -/
theorem r8 : wideArr m c = val_main_v49 (F := Ideal) (arg0 m c) (arg1 m c) (arg2 m c) := by
  funext y
  idx_vars y
  exact (t2 (arg0 m c) (arg1 m c) (arg2 m c) y0 y1).symm

/-- The narrow array is the reference's. -/
theorem r9 : narrowArr m c = val_main_v53 (F := Ideal) (arg0 m c) (arg1 m c) (arg2 m c) := by
  funext y
  idx_vars y
  exact (t3 (arg0 m c) (arg1 m c) (arg2 m c) y0 y1).symm

/-- The gates are the reference's. -/
theorem r10 : (show FVec Ideal S16896x32 .f32 from fin m c main_v62) = val_main_v63 (F := Ideal) (arg0 m c) (arg1 m c) (arg2 m c) (arg3 m c) (arg4 m c) (arg5 m c) := by
  funext y
  idx_vars y
  exact (congrFun (fin_eq m c main_v62) _).trans ((h_v62 (σ₁ m c) y0 y1).trans ((s_gate m c y0 _).trans ((gate_at m c y0 y1).trans
    (t4 (arg0 m c) (arg1 m c) (arg2 m c) (arg3 m c) (arg4 m c) (arg5 m c) y0 y1).symm)))

end Results
end Cert.Kernel3Ideal.InProj
end
-- ==== Proof.InProj.Claims.lean ====
module

public import proofs.«01_k».proof.Defs
public import proofs.«01_k».proof.Proof.Gen.Kernel3
public import proofs.«01_k».proof.Proof.Gen.Kernel3Ideal
public import proofs.«01_k».proof.Proof.Gen.Reference3Ideal
public import proofs.«01_k».proof.Proof.InProj.Tail
public import Idealize.ShloMosaic.Adequacy
public import Idealize.ShloMosaic.Init
public import Idealize.ShloMosaic.Lib.Claim

/-! The claims of the in-projection. -/

@[expose] public section

noncomputable section

namespace Cert.Kernel3Ideal.InProj

open Idealize.ShloMosaic Idealize.SL.Sem
open Cert.Kernel3Ideal Cert.Kernel3Ideal.Gen

variable {F : FTy → Type} [FloatOps F]

/-- No argument is written. -/
theorem args_kept (m : (ℓ : Loc nD τ sig) → Buf (Elt F) ℓ) {r : PUnit × MemSt nD τ sig (Elt F)}
    (h : Pipeline.FramePost cfgs (dat m) 0 (Pipeline.afterTail₀ cfgs (dat m) 0 (V0 m) [hostOps1]) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6) :=
  ⟨((h c).2 main_arg0 (Pipeline.mem_restRefs_of main_arg0 (by decide) (by decide))).trans (W_main_arg0 m (dat m) c),
      ((h c).2 main_arg1 (Pipeline.mem_restRefs_of main_arg1 (by decide) (by decide))).trans (W_main_arg1 m (dat m) c),
      ((h c).2 main_arg2 (Pipeline.mem_restRefs_of main_arg2 (by decide) (by decide))).trans (W_main_arg2 m (dat m) c),
      ((h c).2 main_arg3 (Pipeline.mem_restRefs_of main_arg3 (by decide) (by decide))).trans (W_main_arg3 m (dat m) c),
      ((h c).2 main_arg4 (Pipeline.mem_restRefs_of main_arg4 (by decide) (by decide))).trans (W_main_arg4 m (dat m) c),
      ((h c).2 main_arg5 (Pipeline.mem_restRefs_of main_arg5 (by decide) (by decide))).trans (W_main_arg5 m (dat m) c),
      ((h c).2 main_arg6 (Pipeline.mem_restRefs_of main_arg6 (by decide) (by decide))).trans (W_main_arg6 m (dat m) c)⟩

/-- The call terminates, leaves its arguments unchanged and its counters at zero. -/
theorem frame_exit (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => args_kept m h.1 c, h.2⟩) (run_quiet m ρ)

end Cert.Kernel3Ideal.InProj

namespace Cert.Proof.InProj

open Idealize.ShloMosaic Idealize.SL.Sem
open Cert.Kernel3Ideal.InProj Cert.Kernel3Ideal Cert.Kernel3Ideal.Gen

/-- The call over the extended reals terminates from any memory, leaves its arguments unchanged and its counters at zero. -/
theorem frame_ideal : Cert.quiescent_Kernel3Ideal := fun m ρ _ => frame_exit m ρ

/-- The two programs' tables of bodies are one. -/
theorem bodies_same : Cert.Kernel3.defs₀ (F := Bits)
    = (show Defs Cert.Kernel3.nD Cert.Kernel3.τ Cert.Kernel3.sig (Elt Bits) Cert.Kernel3.Λ₀ from by
        with_unfolding_all exact Cert.Kernel3Ideal.defs₀ (F := Bits)) := by
  unfold Cert.Kernel3.defs₀ Cert.Kernel3Ideal.defs₀
  refine congrArg Defs.onTc (funext fun l => funext fun a => ?_)
  match l, a with
  | ⟨0, _⟩, (t, s) => with_unfolding_all rfl

set_option maxHeartbeats 4000000 in
/-- The same of the call over machine words: the two programs are one text. -/
theorem frame_kernel : Cert.quiescent_Kernel3 := fun m ρ _ => by
  unfold Cert.Kernel3.defs
  rw [bodies_same]
  with_unfolding_all exact frame_exit (F := Bits) m ρ

/-- The same of the reference, which declares no semaphore. -/
theorem frame_reference : Cert.quiescent_Reference3Ideal := fun m ρ _ =>
  (θ_run Cert.Reference3Ideal.defs _ _).mono
    (fun r h => ⟨fun c => (h c).2.2.2.2.2.2.2.2.2.2.2, sem_eq_zero_of_no_sems (by decide) r.2⟩)
    (Cert.Reference3Ideal.Value.run m ρ)

/-- The call and the reference end with equal states, wide and narrow arrays and gates. -/
theorem values : Cert.algebraic_Kernel3Ideal_Reference3Ideal := by
  intro m ρ m' ρ' _ hagree
  refine ⟨_, _, _, _, _, _, _, _, _, _, _, θ_run_mono (run_quiet m ρ) (fun r h c =>
    ⟨((h.1 c).2 main_v42 (Pipeline.mem_restRefs_of main_v42 (by decide) (by decide))).trans (r0 m c),
      ((h.1 c).2 main_v43 (Pipeline.mem_restRefs_of main_v43 (by decide) (by decide))).trans (r1 m c),
      ((h.1 c).2 main_v44 (Pipeline.mem_restRefs_of main_v44 (by decide) (by decide))).trans (r2 m c),
      ((h.1 c).2 main_v45 (Pipeline.mem_restRefs_of main_v45 (by decide) (by decide))).trans (r3 m c),
      ((h.1 c).2 main_v58 (Pipeline.mem_restRefs_of main_v58 (by decide) (by decide))).trans (r4 m c),
      ((h.1 c).2 main_v59 (Pipeline.mem_restRefs_of main_v59 (by decide) (by decide))).trans (r5 m c),
      ((h.1 c).2 main_v60 (Pipeline.mem_restRefs_of main_v60 (by decide) (by decide))).trans (r6 m c),
      ((h.1 c).2 main_v61 (Pipeline.mem_restRefs_of main_v61 (by decide) (by decide))).trans (r7 m c),
      ((h.1 c).1 5).trans ((arr5 m c).trans (r8 m c)),
      ((h.1 c).1 6).trans ((arr6 m c).trans (r9 m c)),
      ((h.1 c).2 main_v62 (Pipeline.mem_restRefs_of main_v62 (by decide) (by decide))).trans (r10 m c),
      args_kept m h.1 c⟩), ?_⟩
  refine θ_run_mono (Cert.Reference3Ideal.Value.run m' ρ') ?_
  intro r h c
  obtain ⟨a0, a1, a2, a3, a4, a5, a6⟩ := hagree c
  have h0 := h c
  exact ⟨(h0.1).trans ((Cert.Reference3Ideal.Read.val_main_v26_eq _ _ _ ).trans (by rw [a0, a1, a2])),
    (h0.2.1).trans ((Cert.Reference3Ideal.Read.val_main_v29_eq _ _ _ ).trans (by rw [a0, a1, a2])),
    (h0.2.2.1).trans ((Cert.Reference3Ideal.Read.val_main_v32_eq m' c).trans (by rw [a0, a1, a2, a3])),
    (h0.2.2.2.1).trans ((Cert.Reference3Ideal.Read.val_main_v33_eq _ _ _ ).trans (by rw [a0, a1, a2])),
    (h0.2.2.2.2.1).trans ((Cert.Reference3Ideal.Read.val_main_v41_eq _ _ _ ).trans (by rw [a0, a1, a2])),
    (h0.2.2.2.2.2.1).trans ((Cert.Reference3Ideal.Read.val_main_v44_eq _ _ _ ).trans (by rw [a0, a1, a2])),
    (h0.2.2.2.2.2.2.1).trans ((Cert.Reference3Ideal.Read.val_main_v47_eq m' c).trans (by rw [a0, a1, a2, a3])),
    (h0.2.2.2.2.2.2.2.1).trans ((Cert.Reference3Ideal.Read.val_main_v48_eq _ _ _ _ ).trans (by rw [a0, a1, a2, a6])),
    (h0.2.2.2.2.2.2.2.2.1).trans ((Cert.Reference3Ideal.Read.val_main_v49_eq _ _ _ ).trans (by rw [a0, a1, a2])),
    (h0.2.2.2.2.2.2.2.2.2.1).trans ((Cert.Reference3Ideal.Read.val_main_v53_eq _ _ _ ).trans (by rw [a0, a1, a2])),
    (h0.2.2.2.2.2.2.2.2.2.2.1).trans ((Cert.Reference3Ideal.Read.val_main_v63_eq m' c).trans (by rw [a0, a1, a2, a3, a4, a5])),
    h0.2.2.2.2.2.2.2.2.2.2.2⟩

end Cert.Proof.InProj

end
-- ==== Proof.Down.Setup.lean ====
module

public import proofs.«01_k».proof.Proof.Gen.Kernel4Ideal.Launch
public import proofs.«01_k».proof.Proof.Gen.Kernel4Ideal.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

/-! The down-projection's pipeline as its region meets it: what the host leaves in each array, the two tables read before
    the grid is walked, and the blocks of the input windows. -/

@[expose] public section

set_option maxRecDepth 16384

noncomputable section

namespace Cert.Kernel4Ideal.Down

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A core's arrays when the pipeline is entered: the weight array re-shaped, the rest as launched. -/
abbrev V (c : Dev nD) (b : Ref sig .tc) : Buf (Elt F) ((c : Thread nD τ).loc b) :=
  StableHlo.after hostOps0 (fun b => m (c, b)) b

theorem host_fresh : (hostOps0 : List (HloOp τ sig (Elt F))).Forall fun op => op.fresh = ∅ := by
  simp only [List.Forall]; repeat' constructor

/-- The program is its host operations, then the pipeline on the arrays they leave. -/
theorem main_upto (𝒱₀ : Variants) :
    Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub host_fresh main_chain

/-- A buffer the re-shape does not write is as launched. -/
theorem V_kept (c : Dev nD) (b : Ref sig .tc) (h0 : b ≠ main_v0) :
    V m c b = m ((c : Thread nD τ).loc b) :=
  StableHlo.after_of_forall_not_mem (b := Proc.devRef .tc b) _ _ (List.forall_iff_forall_mem.mp (by
    simp only [hostOps0, List.Forall, StableHlo.reshape_writes, Finset.mem_singleton]
    exact StableHlo.devRef_ne_of_ne h0))

/-! ## The two tables -/

/-- The tables: each tile's expert, and the number of tiles that hold rows. -/
def tbl : pre0.Contents (Elt F) := fun j => V m (0 : Dev nD) (pre0.ref j)

theorem V_tbl (c : Dev nD) (j : Fin 2) : V m c (pre0.ref j) = tbl m j := by
  obtain rfl : c = 0 := Subsingleton.elim _ _; rfl

/-- Every block the tables name lies in its array. -/
abbrev Ok : Prop := ok0 (F := F) (tbl m)

abbrev adm (hO : Ok m) : (pcfg0 (F := F)).Adm := ⟨tbl m, hO⟩
/-- The pipeline at the tables' contents. -/
abbrev cfgM (hO : Ok m) : Pipeline.Cfg sig Λ₀ := cfg0 (adm m hO)

/-- The two tables as the body is handed them. -/
abbrev tb0 : Memref sig .tc .smem S82 .i32 := Memref.whole main_arg2
abbrev tb1 : Memref sig .tc .smem S1 .i32 := Memref.whole main_arg3

abbrev TBuf (c : Dev nD) {S : Shape} {e : EltTy} (M : Memref sig .tc .smem S e) : Type :=
  Buf (Elt F) (M.view.loc (c : Thread nD τ))
/-- A table held by the body at half the full share, the half it may read and not write. -/
abbrev tbPt (c : Dev nD) {S : Shape} {e : EltTy} (M : Memref sig .tc .smem S e) (f : TBuf (F := F) c M) : sProp 𝕄 :=
  M.view.loc (c : Thread nD τ) ↦{fullShare.right} f

/-- What the pipeline lends the body of the tables, table by table. -/
theorem lent_eq (c : Dev nD) :
    (Pipeline.ΦT pre0 (tbl m) c : sProp 𝕄) = iprop(tbPt c tb0 (tbl m 0) ∗ tbPt c tb1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-! ## The windows -/

/-- Window `w`'s block at point `t`, off its array. -/
def iblk (hO : Ok m) (c : Dev nD) (w : Fin (cfgM m hO).W) (t : Fin (cfgM m hO).N) :
    (((cfgM m hO).win w).xblock ((cfgM m hO).grid.coords t)).Idx → Elt F ((cfgM m hO).win w).elt :=
  (((cfgM m hO).win w).blk t).view.read (Elt F) (V m c (Pipeline.arrRef spec0 w))

/-- Input window 0's staged block at every point is its block of the array, where the body leaves it in place. -/
theorem staged0 (hO : Ok m) {c : Dev nD} (dat : Dat τ (Elt F) Unit ℕ (UR sig nD τ) ℕ (cfgM m hO) c)
    (hA : dat.A 0 = V m c (Pipeline.arrRef spec0 0)) (hafter : ∀ t, dat.after 0 t = iblk m hO c 0 t)
    (t : Fin (cfgM m hO).N) (d) : dat.before 0 t d = iblk m hO c 0 t :=
  (dat.before_in_eq_fetched 0 rfl (fun _ => rfl) (fun _ _ _ => rfl)
    (fun t => by rw [hafter]; unfold Dat.blockOf iblk; rw [hA]; try rfl) t d).trans
    (by unfold Dat.fetched Dat.blockOf iblk; rw [hA]; try rfl)

/-- Input window 1's staged block at every point is its block of the array, where the body leaves it in place. -/
theorem staged1 (hO : Ok m) {c : Dev nD} (dat : Dat τ (Elt F) Unit ℕ (UR sig nD τ) ℕ (cfgM m hO) c)
    (hA : dat.A 1 = V m c (Pipeline.arrRef spec0 1)) (hafter : ∀ t, dat.after 1 t = iblk m hO c 1 t)
    (t : Fin (cfgM m hO).N) (d) : dat.before 1 t d = iblk m hO c 1 t :=
  (dat.before_in_eq_fetched 1 rfl (fun _ => rfl) (fun _ _ _ => rfl)
    (fun t => by rw [hafter]; unfold Dat.blockOf iblk; rw [hA]; try rfl) t d).trans
    (by unfold Dat.fetched Dat.blockOf iblk; rw [hA]; try rfl)

/-- The result's block is written back at every point. -/
theorem flush2 (a : (pcfg0 (F := F)).Adm) : ∀ t : Fin (cfg0 a).N, ((cfg0 a).win 2).flush t = true :=
  (fun t => (Pipeline.Window.flushOf_reads cc0_transform_2 reads0_2 hreads0_2 1 (by decide) (by decide)
    (Pipeline.Window.sep_of_coord cc0_transform_2 1 0 (fun _ => rfl) (by decide)) (P := 1) (m := 0) (by decide) rfl t).mpr
    (Nat.mod_one _) : ∀ t : Fin grid0.N, Pipeline.Window.flushOf grid0 true cc0_transform_2 t = true)

/-- The memref each window's block is staged in at point `t`. -/
abbrev ms0 (hO : Ok m) (t : Fin (cfgM m hO).N) : Memref sig .tc .vmem S512x1024 .bf16 := spec0_0.stage ((cfgM m hO).slots t 0)
abbrev ms1 (hO : Ok m) (t : Fin (cfgM m hO).N) : Memref sig .tc .vmem S1x1024x2048 .f32 := spec0_1.stage ((cfgM m hO).slots t 1)
abbrev ms2 (hO : Ok m) (t : Fin (cfgM m hO).N) : Memref sig .tc .vmem S512x2048 .bf16 := spec0_2.stage ((cfgM m hO).slots t 2)
abbrev hs0 (hO : Ok m) (t : Fin (cfgM m hO).N) : (ms0 m hO t).IsWhole := hstage0_0 (((cfgM m hO).slots t 0).cast nbuf0_0)
abbrev hs1 (hO : Ok m) (t : Fin (cfgM m hO).N) : (ms1 m hO t).IsWhole := hstage0_1 (((cfgM m hO).slots t 1).cast nbuf0_1)
abbrev hs2 (hO : Ok m) (t : Fin (cfgM m hO).N) : (ms2 m hO t).IsWhole := hstage0_2 (((cfgM m hO).slots t 2).cast nbuf0_2)

/-- The kernel body as the pipeline calls it at point `t`. -/
abbrev bodyAt (hO : Ok m) (t : Fin (cfgM m hO).N) : Prog (TpuEff nD τ sig (Elt F) Λ₀ .tc) PUnit :=
  cc0_expert_down (grid0.coords t) tb0 (Memref.isWhole_whole _) tb1 (Memref.isWhole_whole _)
    (ms0 m hO t) (hs0 m hO t) (ms1 m hO t) (hs1 m hO t) (ms2 m hO t) (hs2 m hO t)

end Cert.Kernel4Ideal.Down

end
-- ==== Proof.Down.Body.lean ====
module

public import proofs.«01_k».proof.Proof.Down.Setup
public import Idealize.ShloMosaic.Lib.VecWindow
public import Idealize.ShloMosaic.Lib.Pointwise

/-! The body of the down-projection at one point of its grid. -/

@[expose] public section

set_option maxRecDepth 16384

noncomputable section

namespace Cert.Kernel4Ideal.Down

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal.Gen

variable {F : FTy → Type} [FloatOps F]

local notation "𝕄" => MT nD τ sig Unit (Elt F) ℕ (UR sig nD τ) ℕ

/-- The block the body leaves: where the tile is one of the `w` that hold rows, the rows' product; else zeros. -/
def block (i : grid0.Coords) (w : BitVec 32) (x0 : Vec F S512x1024 .bf16) (x1 : Vec F S1x1024x2048 .f32) :
    Vec F S512x2048 .bf16 :=
  if k0_cond1 i w = 1#1 then k0_pay1 x0 x1 else k0_pay2

/-- The first condition: the tile comes before the `w`-th. -/
theorem cond1_iff (i : grid0.Coords) (w : BitVec 32) : k0_cond1 i w = 1#1 ↔ (BitVec.ofNat 32 (i 1).val).slt w = true := by
  unfold k0_cond1
  simp only [Scalar.cmpi, Scalar.extui, IntOp.cmpi]
  cases (BitVec.ofNat 32 (i 1).val).slt w <;> decide

/-- The second: it does not. -/
theorem cond2_iff (i : grid0.Coords) (w : BitVec 32) : k0_cond2 i w = 1#1 ↔ w.sle (BitVec.ofNat 32 (i 1).val) = true := by
  unfold k0_cond2
  simp only [Scalar.cmpi, Scalar.extui, IntOp.cmpi]
  cases w.sle (BitVec.ofNat 32 (i 1).val) <;> decide

/-- A tile holds rows or it does not: one of the body's two conditions holds, never both. -/
theorem cond_split (i : grid0.Coords) (w : BitVec 32) : k0_cond2 i w = 1#1 ↔ ¬ k0_cond1 i w = 1#1 := by
  rw [cond1_iff, cond2_iff, BitVec.sle_iff_toInt_le, BitVec.slt_iff_toInt_lt, not_lt]

/-- The second table has one entry. -/
theorem one_idx (x y : S1.Idx) : x = y := funext fun a => by
  match a with
  | ⟨0, _⟩ => exact Subsingleton.elim (α := Fin 1) _ _

/-- The word the body reads: the one word of the second table. -/
abbrev word (c : Dev nD) (xt1 : TBuf (F := F) c tb1) : BitVec 32 :=
  (show S1.Idx → BitVec 32 from xt1) (ix1 (0 : Fin 1))

/-- The body on whole staging memrefs: the inputs' blocks and the tables come back as they were, the result's
    buffer holds `block`. -/
theorem run_body (c : Dev nD) (i : grid0.Coords) (arg4 : Memref sig .tc .vmem S512x1024 .bf16) (harg4 : arg4.IsWhole)
    (arg5 : Memref sig .tc .vmem S1x1024x2048 .f32) (harg5 : arg5.IsWhole)
    (arg6 : Memref sig .tc .vmem S512x2048 .bf16) (harg6 : arg6.IsWhole)
    (x0 : Vec F S512x1024 .bf16) (x1 : Vec F S1x1024x2048 .f32)
    (xt0 : TBuf (F := F) c tb0) (xt1 : TBuf (F := F) c tb1) (E : Set ℕ) (K : PUnit → sProp 𝕄) :
    iprop(owns (c : Thread nD τ) arg4 fullShare x0 ∗ owns (c : Thread nD τ) arg5 fullShare x1
        ∗ (∃ d, owns (c : Thread nD τ) arg6 fullShare d)
        ∗ tbPt c tb0 xt0 ∗ tbPt c tb1 xt1
        ∗ (iprop(owns (c : Thread nD τ) arg4 fullShare x0 ∗ owns (c : Thread nD τ) arg5 fullShare x1
            ∗ owns (c : Thread nD τ) arg6 fullShare (block i (word c xt1) x0 x1)
            ∗ tbPt c tb0 xt0 ∗ tbPt c tb1 xt1) -∗ K ⟨⟩))
      ⊢ wp frame (wpE (defs₀ (F := F)) Variants.none c none) E
          (cc0_expert_down i tb0 (Memref.isWhole_whole _) tb1 (Memref.isWhole_whole _)
            arg4 harg4 arg5 harg5 arg6 harg6) K := by
  simp only [cc0_expert_down_eq_skeleton]; unfold cc0_expert_down_skel
  unfold owns
  iintro ⟨⟨%f0, %hf0, H0⟩, ⟨%f1, %hf1, H1⟩, ⟨%d2, %f2, -, H2⟩, HT0, HT1, Hk⟩
  obtain rfl := harg4.eq_unread hf0; obtain rfl := harg5.eq_unread hf1
  sl_exec
  sl_step
  iapply Hk
  isplitl [H0]
  · iexists _; isplitr; · ipureintro; exact harg4.read_unread _
    iexact H0
  isplitl [H1]
  · iexists _; isplitr; · ipureintro; exact harg5.read_unread _
    iexact H1
  isplitl [H2]
  · iexists _; isplitr
    swap; · iexact H2
    ipureintro
    have hw : run_body.sl.r c xt1 = word c xt1 :=
      congrArg (fun y : S1.Idx => (show S1.Idx → BitVec 32 from xt1) y) (one_idx _ _)
    rw [hw]
    unfold block
    by_cases h : k0_cond1 i (word c xt1) = 1#1
    · rw [dif_neg (fun h2 => (cond_split i _).mp h2 h), dif_pos h, if_pos h]
      refine (View.read_writes_full _ _ _ _ _).trans ?_
      rw [View.readAt_full, View.readAt_full, harg4.read_unread, harg5.read_unread]
    · rw [dif_pos ((cond_split i _).mpr h), if_neg h]
      exact View.read_writes_full _ _ _ _ _
  isplitl [HT0]; · iexact HT0
  iexact HT1

end Cert.Kernel4Ideal.Down

end
-- ==== Proof.Down.Run.lean ====
module

public import proofs.«01_k».proof.Proof.Down.Body

/-! The down-projection run whole: its body at every point of the grid, and what every run of the program leaves. -/

@[expose] public section

set_option maxRecDepth 16384

noncomputable section

namespace Cert.Kernel4Ideal.Down

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The number of tiles that hold rows, as launched. -/
abbrev count (c : Dev nD) : BitVec 32 := word (F := F) c (tbl m 1)

/-- The result's block at point `t`, from the input blocks there. -/
def left (hO : Ok m) (c : Dev nD) (t : Fin (cfgM m hO).N) : Vec F S512x2048 .bf16 :=
  block (grid0.coords t) (count m c) (iblk m hO c 0 t) (iblk m hO c 1 t)

/-- The pipeline's data: each input's block stays in place, the result's becomes `left`; nothing is owed. -/
def dat (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => (left m hO c t)
  Φ _ := iprop(Pipeline.ΦA spec0 c ∗ Pipeline.ΦT pre0 (tbl m) c)
  q _ := fullShare
  owed _ := 0

theorem dat_A (hO : Ok m) (c : Dev nD) (w : Fin (cfgM m hO).W) : (dat m hO 0 c).A w = V m c (Pipeline.arrRef spec0 w) := by
  dsimp only [dat]

theorem after0 (hO : Ok m) (c : Dev nD) (t : Fin (cfgM m hO).N) : (dat m hO 0 c).after 0 t = iblk m hO c 0 t := by dsimp only [dat]; try rfl
theorem after1 (hO : Ok m) (c : Dev nD) (t : Fin (cfgM m hO).N) : (dat m hO 0 c).after 1 t = iblk m hO c 1 t := by dsimp only [dat]; try rfl
theorem after2 (hO : Ok m) (c : Dev nD) (t : Fin (cfgM m hO).N) : (dat m hO 0 c).after 2 t = left m hO c t := by dsimp only [dat]; try rfl

theorem before0 (hO : Ok m) (c : Dev nD) (t : Fin (cfgM m hO).N) (d) : (dat m hO 0 c).before 0 t d = iblk m hO c 0 t :=
  staged0 m hO (dat m hO 0 c) (dat_A m hO c 0) (after0 m hO c) t d
theorem before1 (hO : Ok m) (c : Dev nD) (t : Fin (cfgM m hO).N) (d) : (dat m hO 0 c).before 1 t d = iblk m hO c 1 t :=
  staged1 m hO (dat m hO 0 c) (dat_A m hO c 1) (after1 m hO c) t d

/-- What the body is given at point `t`. -/
def given (hO : Ok m) (c : Dev nD) (t : Fin (cfgM m hO).N) : sProp 𝕄 :=
  iprop((dat m hO 0 c).Φ t.castSucc ∗ (dat m hO 0 c).owesAt () t.castSucc
    ∗ (∃ d, owns (c : Thread nD τ) (ms0 m hO t) fullShare ((dat m hO 0 c).before 0 t d))
    ∗ (∃ d, owns (c : Thread nD τ) (ms1 m hO t) fullShare ((dat m hO 0 c).before 1 t d))
    ∗ (∃ d, owns (c : Thread nD τ) (ms2 m hO t) fullShare ((dat m hO 0 c).before 2 t d)))

/-- What it gives back. -/
def returned (hO : Ok m) (c : Dev nD) (t : Fin (cfgM m hO).N) : sProp 𝕄 :=
  iprop((dat m hO 0 c).Φ t.succ ∗ (dat m hO 0 c).owesAt () t.succ
    ∗ owns (c : Thread nD τ) (ms0 m hO t) fullShare ((dat m hO 0 c).after 0 t)
    ∗ owns (c : Thread nD τ) (ms1 m hO t) fullShare ((dat m hO 0 c).after 1 t)
    ∗ owns (c : Thread nD τ) (ms2 m hO t) fullShare ((dat m hO 0 c).after 2 t))

/-- The body at any point of the grid. -/
theorem body_at (hO : Ok m) (c : Dev nD) (t : Fin (cfgM m hO).N) :
    given m hO c t ⊢ wp frame (wpE (defs₀ (F := F)) Variants.none c none) Set.univ (bodyAt m hO t) (fun _ => returned m hO c t) := by
  unfold given returned bodyAt
  simp only [before0, before1]
  rw [show (dat m hO 0 c).Φ t.succ = (dat m hO 0 c).Φ t.castSucc from rfl,
    show (dat m hO 0 c).owesAt () t.succ = (dat m hO 0 c).owesAt () t.castSucc from rfl,
    after0, after1, after2]
  rw [show (dat m hO 0 c).Φ t.castSucc = iprop(Pipeline.ΦA spec0 c ∗ Pipeline.ΦT pre0 (tbl m) c) from rfl, lent_eq]
  unfold left
  iintro ⟨⟨HΦ, ⟨HT0, HT1⟩⟩, Ho, ⟨%d0, H0⟩, ⟨%d1, H1⟩, ⟨%d2, H2⟩⟩
  iapply (run_body c (grid0.coords t) _ _ _ _ _ _ (iblk m hO c 0 t) (iblk m hO c 1 t) (tbl m 0) (tbl m 1) Set.univ _)
  isplitl [H0]; · iexact H0
  isplitl [H1]; · iexact H1
  isplitl [H2]; · iexists _; iexact H2
  isplitl [HT0]; · iexact HT0
  isplitl [HT1]; · iexact HT1
  iintro ⟨H0, H1, H2, HT0, HT1⟩
  isplitl [HΦ HT0 HT1]
  · isplitl [HΦ]
    · iexact HΦ
    isplitl [HT0]; · iexact HT0
    iexact HT1
  isplitl [Ho]; · iexact Ho
  isplitl [H0]; · iexact H0
  isplitl [H1]; · iexact H1
  iexact H2

theorem row_eq (hO : Ok m) (t : Fin (cfgM m hO).N) :
    defs₀ (F := F) .tc (cfgM m hO).body ((cfgM m hO).bodyArgs t ((cfgM m hO).slots t)) = bodyAt m hO t := by
  unfold defs₀; rw [Defs.onTc_tc]

/-- The result's block is written back at every point, so what the loop asks of it is what the body leaves. -/
theorem leaves2 (hO : Ok m) (c : Dev nD) (t : Fin (cfgM m hO).N) :
    owns (c : Thread nD τ) (ms2 m hO t) fullShare ((dat m hO 0 c).after 2 t) ⊢ (dat m hO 0 c).leavesExact 2 t := by
  have hf : ((cfgM m hO).win 2).flush t = true := flush2 (adm m hO) t
  unfold Dat.leavesExact
  rw [hf]
  cases (cfgM m hO).idle 2 ((cfgM m hO).grid.coords t)
  · exact .rfl
  · exact .rfl

theorem obligation (hO : Ok m) (c : Dev nD) :
    BodyObligation (dat (F := F) m hO 0 c) (defs₀ (F := F)) Variants.none () Set.univ := fun t => by
  rw [bigSep_W0, bigSep_W0, row_eq m hO]
  exact triple_restated (body_at m hO c t) rfl .rfl fun _ =>
    sep_mono .rfl (sep_mono .rfl (sep_mono .rfl (sep_mono .rfl (leaves2 m hO c t))))

-- the launch theorem's implicit arguments are found by unfolding definitions in a metavariable's type
set_option backward.isDefEq.respectTransparency.types false in
/-- The launch: every run ends, with each window's array at what the pipeline's data compute, every other array as the
    region found it, and every semaphore at zero. -/
theorem run_quiet (hO : Ok m) : θ_run defs (onTc (τ := τ) (main (F := F))) (s₀ m ρ)
    (fun r => (Pipeline.FramePost (Pipeline.pin pcfgs fun _ => adm m hO) (dat m hO) 0 (V m)) r ∧ r.2.sem = fun _ => 0) :=
  Pipeline.θ_run_frameP (Q' := _) pcfgs (fun _ => adm m hO) (dat m hO) (0 : Fin 1) launch0 defs₀ Variants.none m ρ main
    (hbody := fun c => (obligation m hO c).loose) (hshare := fun c => (dat m hO 0 c).share_full fun _ => rfl)
    (howed := fun _ _ => rfl) (V := V m) (hmain := main_upto m Variants.none) (hA := dat_A m hO) (hpf := V_tbl m)
    (hΦ := fun _ _ => rfl)

/-- Every run ends with the arguments unchanged, the result array as the pipeline's data compute it, and every
    semaphore at zero. -/
theorem run_out (hO : Ok m) : θ_run defs (onTc (τ := τ) (main (F := F))) ⟨m, fun _ => 0, ρ⟩ (fun r => ((∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0)
      ∧ ∀ c : Dev nD, r.2.mem ((c.tc : Thread nD τ).loc main_v1) = (dat m hO 0 c).arrAt 2 (Fin.last (cfgM m hO).N)) :=
  (θ_run defs _ _).mono (fun _ h => ⟨⟨fun c =>
    ⟨((h.1 c).1 0).trans (((dat m hO 0 c).arrAt_in 0 rfl _).trans ((dat_A m hO c 0).trans (V_kept m c main_arg0 (by decide)))),
      ((h.1 c).2 main_arg1 (by decide : main_arg1 ∈ Pipeline.restRefs sig spec0)).trans (V_kept m c main_arg1 (by decide)),
      ((h.1 c).2 main_arg2 (by decide : main_arg2 ∈ Pipeline.restRefs sig spec0)).trans (V_kept m c main_arg2 (by decide)),
      ((h.1 c).2 main_arg3 (by decide : main_arg3 ∈ Pipeline.restRefs sig spec0)).trans (V_kept m c main_arg3 (by decide))⟩, h.2⟩,
    fun c => (h.1 c).1 2⟩) (run_quiet m ρ hO)

/-- The frame: every run ends, the arguments unchanged and every semaphore at zero. -/
theorem frame_exit (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => h.1) (run_out m ρ hO)

end Cert.Kernel4Ideal.Down

end
-- ==== Proof.Down.Pre.lean ====
module

public import proofs.«01_k».proof.Proof.Down.Run
public import proofs.«01_k».proof.Proof.Gen.Pre_down_experts
public import Idealize.ShloMosaic.Lib.ReduceAll
public import Idealize.ShloMosaic.Lib.WordCmp
public import Idealize.ShloMosaic.Lib.Pointwise

/-! What the precondition gives the run: the blocks the first table names lie in the weight array. -/

@[expose] public section

set_option maxRecDepth 16384

noncomputable section

namespace Cert.Kernel4Ideal.Down

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal.Gen

variable {F : FTy → Type} [FloatOps F]

local notation "𝕄" => MT nD τ sig Unit (Elt F) ℕ (UR sig nD τ) ℕ

/-- The precondition says of every tile's expert that it is one of the sixteen. -/
theorem expert_lt {x0 : FVec F Cert.Pre_down_experts.S41984x1024 .bf16} {x1 : FVec F Cert.Pre_down_experts.S1x16x1024x4096 .f32}
    {te : IVec Cert.Pre_down_experts.S82 32} {n : IVec Cert.Pre_down_experts.S1 32}
    (h : Cert.Pre_down_experts.fn x0 x1 te n = fun _ => 1#1) (t : Fin 82) : (te (ix1 t)).toNat < 16 := by
  unfold Cert.Pre_down_experts.fn at h
  have e := Host.reduce_andi_eq_one _ _ _ _ _ (congrFun h (fun a => a.elim0)) (ix1 t) (funext fun a => a.elim0)
  have e' : IntOp.andi (IntOp.cmpi .sge (te (ix1 t)) 0#32) (IntOp.cmpi .slt (te (ix1 t)) (BitVec.ofNat 32 16)) = 1#1 := e
  rw [WordCmp.andi_sge_zero_slt_ofNat (by decide)] at e'
  by_contra hn
  rw [decide_eq_false hn] at e'
  exact absurd e' (by decide)

variable (m : (ℓ : Loc nD τ sig) → Buf (Elt F) ℓ)

/-- Tile `t`'s expert, as launched. -/
abbrev expert (c : Dev nD) (t : Fin 82) : BitVec 32 :=
  (show S82.Idx → BitVec 32 from m ((c.tc : Thread nD τ).loc main_arg2)) (ix1 t)

/-- The word the weight window's index map reads at a point is its tile's expert. -/
theorem read_expert (i : grid0.Coords) :
    (tbl m).at 0 (Rect.unit (s := S82) ![(Scalar.indexCast (BitVec.ofNat 32 (i 1).val)).toNat] S1.size (k0_off1_inb i)) numel1_S1
      = expert m 0 (i 1) := by
  have hi : (i 1).val < 82 := (i 1).isLt
  have hv : V m (0 : Dev nD) main_arg2 = m (((0 : Dev nD).tc : Thread nD τ).loc main_arg2) :=
    V_kept m 0 main_arg2 (by decide)
  refine (congrFun hv _).trans ?_
  refine congrArg (show S82.Idx → BitVec 32 from m (((0 : Dev nD).tc : Thread nD τ).loc main_arg2)) (funext fun a => ?_)
  match a with
  | ⟨0, _⟩ =>
    refine Fin.ext ?_
    show (BitVec.ofNat 32 (i 1).val).toNat + 1 * 0 = (i 1).val
    rw [BitVec.toNat_ofNat]; omega

theorem map1_eq (i : grid0.Coords) :
    cc0_transform_1 k0_off1_inb numel1_S1 (tbl m) i = ![(expert m 0 (i 1)).toNat, 0, (i 0).val] := by
  unfold cc0_transform_1
  have hi : (i 0).val < 2 := (i 0).isLt
  have h0 : (BitVec.ofNat 32 (i 0).val).toNat = (i 0).val := by rw [BitVec.toNat_ofNat]; omega
  dsimp only
  rw [read_expert m i, h0]; rfl

/-- Every block the tables name lies in its array, as every tile's expert is one of the sixteen. -/
theorem ok_of_lt (h : ∀ t, (expert m 0 t).toNat < 16) : Ok m := by
  have key : ∀ i : grid0.Coords, ∀ a, (![(expert m 0 (i 1)).toNat, 0, (i 0).val] a + 1) * S1x1024x2048.size a ≤ S16x1024x4096.size a := by
    intro i a
    have h1 := h (i 1)
    have h0 : (i 0).val < 2 := (i 0).isLt
    match a with
    | ⟨0, _⟩ => show ((expert m 0 (i 1)).toNat + 1) * 1 ≤ 16; omega
    | ⟨1, _⟩ => show (0 + 1) * 1024 ≤ 1024; omega
    | ⟨2, _⟩ => show ((i 0).val + 1) * 2048 ≤ 4096; omega
  exact fun i => ⟨by rw [map1_eq]; exact key i, .inl rfl⟩

end Cert.Kernel4Ideal.Down

end
-- ==== Proof.Down.RefRun.lean ====
module

public import proofs.«01_k».proof.Proof.Gen.Reference4Ideal.Run
public import proofs.«01_k».proof.Proof.Gen.Reference4Ideal.Read

@[expose] public section

end
-- ==== Proof.Down.Spec.lean ====
module
public import proofs.«01_k».proof.Proof.Experts.Spec
/-!
# The outputs of the experts

Rows are gathered in tiles of 512, each tile the rows of one expert. A hidden row of a tile that holds rows is multiplied
with its own expert's second matrix; a row of any other tile becomes zero.
-/
@[expose] public section
set_option maxRecDepth 16384
noncomputable section
open Idealize.ShloMosaic Idealize.ShloMosaic.TcCoe Idealize.SL.Sem
namespace Cert.DownSpec
open Cert.ExpertSpec (own tile)

variable (x : (⟨2, ![41984, 1024]⟩ : Shape).Idx → EReal) (w : (⟨4, ![1, 16, 1024, 4096]⟩ : Shape).Idx → EReal)
  (te : (⟨1, ![82]⟩ : Shape).Idx → BitVec 32) (n : (⟨1, ![1]⟩ : Shape).Idx → BitVec 32)

/-- The element at row `r`, column `d` of the outputs; the row lies in tile `t`. -/
def elem (t : Fin 82) (r : Fin 41984) (d : Fin 4096) : EReal :=
  if (BitVec.ofNat 32 t.val).slt (n (ix1 0)) = true then ∑ f : Fin 1024, x (ix2 r f) * w (ix4 0 (own te t) f d) else 0

/-- The outputs. -/
def rows : (⟨2, ![41984, 4096]⟩ : Shape).Idx → EReal := fun y => elem x w te n (tile (y 0)) (y 0) (y 1)

end Cert.DownSpec

end
-- ==== Proof.Down.Pay.lean ====
module
public import proofs.«01_k».proof.Proof.Gen.Kernel4Ideal.Skeleton
public import proofs.«01_k».proof.Proof.Down.Spec
/-!
# The body's values on scalars
-/
@[expose] public section
set_option maxRecDepth 16384
noncomputable section
open Idealize.ShloMosaic Idealize.ShloMosaic.TcCoe Idealize.SL.Sem
namespace Cert.Kernel4Ideal.Down
open Cert.Kernel4Ideal Cert.Kernel4Ideal.Gen Cert.DownSpec

/-- The block the body writes where the tile holds rows. -/
theorem pay1 (x0 : FVec Ideal S512x1024 .bf16) (x1 : FVec Ideal S1x1024x2048 .f32) (r : Fin 512) (l : Fin 2048) :
    (k0_pay1 (F := Ideal) x0 x1 (ix2 r l) : EReal) = ∑ f : Fin 1024, x0 (ix2 r f) * x1 (ix3 0 f l) := by
  pointwise [k0_pay1]

/-- The block it writes elsewhere. -/
theorem pay2 (r : Fin 512) (l : Fin 2048) : (k0_pay2 (F := Ideal) (ix2 r l) : EReal) = 0 := by
  pointwise [k0_pay2]

end Cert.Kernel4Ideal.Down

end
-- ==== Proof.Down.Arrays.lean ====
module
public import proofs.«01_k».proof.Proof.Down.Pre
public import proofs.«01_k».proof.Proof.Down.Pay
public import Idealize.ShloMosaic.Lib.Pipeline.Covers
/-!
# What the down-projection leaves in its result array
-/
@[expose] public section
set_option maxRecDepth 16384
noncomputable section
open Idealize.ShloMosaic Idealize.ShloMosaic.TcCoe Idealize.SL.Sem
open Idealize.ShloMosaic.Pipeline (Dat)
namespace Cert.Kernel4Ideal.Down
open Cert.Kernel4Ideal Cert.Kernel4Ideal.Gen Cert.DownSpec
open Cert.ExpertSpec (own tile)

variable (m : (ℓ : Loc nD τ sig) → Buf (Elt Ideal) ℓ) (hO : Ok m) (c : Dev nD)

/-- The matrices as the region finds them. -/
theorem entry_w (e : Fin 16) (f : Fin 1024) (d : Fin 4096) :
    (V m c main_v0 (ix3 e f d) : EReal) = m ((c : Thread nD τ).loc main_arg1) (ix4 0 e f d) := by
  show (StableHlo.after hostOps0 (fun b => m (c, b)) (Proc.devRef .tc main_v0) (ix3 e f d) : EReal) = _
  entry_read
  pointwise []

/-- A point's tile and column half. -/
theorem coords_at : ∀ t : Fin grid0.N, (grid0.coords t 0).val = t.val / 82 ∧ (grid0.coords t 1).val = t.val % 82 :=
  (by decide +kernel)

theorem idx0 (t : Fin (cfgM m hO).N) : ((cfgM m hO).win 0).index t = ![t.val % 82, 0] := by
  have h : ∀ t : Fin grid0.N, cc0_transform_0 (grid0.coords t) = ![t.val % 82, 0] := by decide +kernel
  exact h t
theorem idx2 (t : Fin (cfgM m hO).N) : ((cfgM m hO).win 2).index t = ![t.val % 82, t.val / 82] := by
  have h : ∀ t : Fin grid0.N, cc0_transform_2 (grid0.coords t) = ![t.val % 82, t.val / 82] := by decide +kernel
  exact h t
theorem idx1 (t : Fin (cfgM m hO).N) : ((cfgM m hO).win 1).index t = ![(expert m 0 (grid0.coords t 1)).toNat, 0, t.val / 82] := by
  rw [← (coords_at t).1]; exact map1_eq m (grid0.coords t)

theorem t_lt (t : Fin (cfgM m hO).N) : t.val < 164 := t.isLt

theorem blk_x (t : Fin (cfgM m hO).N) (r : Fin 512) (f : Fin 1024) : (iblk m hO c 0 t (ix2 r f) : EReal)
    = V m c main_arg0 (ix2 ⟨t.val % 82 * 512 + r.val, by omega⟩ f) := by
  blk_ext [iblk, idx0 m hO t]

theorem blk_w (h : ∀ t, (expert m 0 t).toNat < 16) (t : Fin (cfgM m hO).N) (f : Fin 1024) (l : Fin 2048) :
    (iblk m hO c 1 t (ix3 0 f l) : EReal)
      = V m c main_v0 (ix3 ⟨(expert m 0 (grid0.coords t 1)).toNat, h _⟩ f ⟨t.val / 82 * 2048 + l.val, by have := t_lt m hO t; omega⟩) := by
  blk_ext [iblk, idx1 m hO t]

/-- The blocks written back cover the result array. -/
theorem covers2 : ((cfgM m hO).win 2).Covers :=
  ((cfgM m hO).win 2).covers_of_index_surj rfl (fun a => by
      match a with
      | ⟨0, _⟩ => exact (by decide : 0 < 512)
      | ⟨1, _⟩ => exact (by decide : 0 < 2048)) fun β => by
    have h0 : (β (0 : Fin 2)).val < 82 :=
      (β (0 : Fin 2)).isLt.trans_eq (show (41984 + 512 - 1) / 512 = 82 by decide)
    have h1 : (β (1 : Fin 2)).val < 2 :=
      (β (1 : Fin 2)).isLt.trans_eq (show (4096 + 2048 - 1) / 2048 = 2 by decide)
    refine ⟨⟨(β (1 : Fin 2)).val * 82 + (β (0 : Fin 2)).val, show _ < 164 by omega⟩, fun a => ?_⟩
    rw [idx2]
    match a with
    | ⟨0, _⟩ => show ((β (1 : Fin 2)).val * 82 + (β (0 : Fin 2)).val) % 82 = (β (0 : Fin 2)).val; omega
    | ⟨1, _⟩ => show ((β (1 : Fin 2)).val * 82 + (β (0 : Fin 2)).val) / 82 = (β (1 : Fin 2)).val; omega

/-- A point's block, element by element. -/
theorem block_at (h : ∀ t, (expert m 0 t).toNat < 16) (t : Fin (cfgM m hO).N) (r : Fin 512) (l : Fin 2048) :
    (block (grid0.coords t) (count m c) (iblk m hO c 0 t) (iblk m hO c 1 t) (ix2 r l) : EReal)
      = rows (m ((c : Thread nD τ).loc main_arg0)) (m ((c : Thread nD τ).loc main_arg1))
          (m ((c : Thread nD τ).loc main_arg2)) (m ((c : Thread nD τ).loc main_arg3))
          (ix2 ⟨t.val % 82 * 512 + r.val, by omega⟩ ⟨t.val / 82 * 2048 + l.val, by have := t_lt m hO t; omega⟩) := by
  obtain rfl : c = 0 := Subsingleton.elim _ _
  have htile : tile ⟨t.val % 82 * 512 + r.val, by omega⟩ = grid0.coords t 1 :=
    Fin.ext (by show (t.val % 82 * 512 + r.val) / 512 = _; rw [(coords_at t).2]; omega)
  have hcount : count m 0 = (show S1.Idx → BitVec 32 from m (((0 : Dev nD) : Thread nD τ).loc main_arg3)) (ix1 0) :=
    congrFun (V_kept m 0 main_arg3 (by decide)) _
  have hown : own (m (((0 : Dev nD) : Thread nD τ).loc main_arg2)) (grid0.coords t 1)
      = ⟨(expert m 0 (grid0.coords t 1)).toNat, h _⟩ := Fin.ext (Nat.mod_eq_of_lt (h _))
  show _ = elem _ _ _ _ (tile ⟨t.val % 82 * 512 + r.val, by omega⟩) _ _
  rw [htile]
  unfold elem block
  rw [hown]
  have hcond : k0_cond1 (grid0.coords t) (count m 0) = 1#1 ↔ (BitVec.ofNat 32 (grid0.coords t 1).val).slt
      ((show S1.Idx → BitVec 32 from m (((0 : Dev nD) : Thread nD τ).loc main_arg3)) (ix1 0)) = true :=
    (cond1_iff _ _).trans (iff_of_eq (congrArg (fun w => (BitVec.ofNat 32 (grid0.coords t 1).val).slt w = true) hcount))
  by_cases hc : k0_cond1 (grid0.coords t) (count m 0) = 1#1
  · rw [if_pos hc]
    refine ((pay1 _ _ r l).trans ?_).trans (if_pos (hcond.mp hc)).symm
    exact Finset.sum_congr rfl fun f _ => congrArg₂ (· * ·)
      ((blk_x m hO 0 t r f).trans (congrFun (V_kept m 0 main_arg0 (by decide)) _))
      ((blk_w m hO 0 h t f l).trans (entry_w m 0 _ f _))
  · rw [if_neg hc]
    exact (pay2 r l).trans (if_neg fun hh => hc (hcond.mpr hh)).symm

/-- The result array. -/
theorem arr_eq (h : ∀ t, (expert m 0 t).toNat < 16) :
    (dat m hO 0 c).arrAt 2 (Fin.last (cfgM m hO).N) = rows (m ((c : Thread nD τ).loc main_arg0)) (m ((c : Thread nD τ).loc main_arg1))
      (m ((c : Thread nD τ).loc main_arg2)) (m ((c : Thread nD τ).loc main_arg3)) := by
  obtain rfl : c = 0 := Subsingleton.elim _ _
  refine (dat m hO 0 0).arrAt_eq_of_covers 2 _ (covers2 m hO) fun t hf y => ?_
  have ht : t.val < 164 := t.isLt
  blk_simp
  rw [after2]
  unfold left
  obtain ⟨r, l, rfl⟩ : ∃ (r : Fin 512) (l : Fin 2048), y = ix2 r l :=
    ⟨(show S512x2048.Idx from y) 0, (show S512x2048.Idx from y) 1, eq_ix2 (show S512x2048.Idx from y)⟩
  have hx : ((View.whole main_v1).slice (((cfgM m hO).win 2).rect t)).emb (ix2 r l)
      = ix2 ⟨t.val % 82 * 512 + r.val, by omega⟩ ⟨t.val / 82 * 2048 + l.val, by omega⟩ := by
    blk_ext [idx2 m hO t]
  refine (block_at m hO 0 h t r l).trans (congrArg (rows _ _ _ _) hx).symm

end Cert.Kernel4Ideal.Down

end
-- ==== Proof.Down.Ref.lean ====
module
public import proofs.«01_k».proof.Proof.Gen.Reference4Ideal.Read
public import proofs.«01_k».proof.Proof.Down.Spec
public import proofs.«01_k».proof.Proof.Experts.Ref
/-!
# The reference's values on scalars
-/
@[expose] public section
set_option maxRecDepth 16384
noncomputable section
open Idealize.ShloMosaic Idealize.ShloMosaic.TcCoe Idealize.SL.Sem
namespace Cert.Reference4Ideal.Down
open Cert.Reference4Ideal Cert.Reference4Ideal.Gen Cert.Reference4Ideal.Read Cert.DownSpec
open Cert.ExpertSpec (own tile)
open Cert.Reference2Ideal.Experts (own_iff zero_word)

variable (x0 : FVec Ideal S41984x1024 .bf16) (x1 : FVec Ideal S1x16x1024x4096 .f32) (x2 : IVec S82 32) (x3 : IVec S1 32)

/-- The rows against every expert's matrix. -/
theorem out_at (e : Fin 16) (r : Fin 41984) (d : Fin 4096) :
    (val_main_v13 (F := Ideal) x0 x1 (ix3 e r d) : EReal) = ∑ f : Fin 1024, x0 (ix2 r f) * x1 (ix4 0 e f d) := by
  pointwise [val_main_v13, val_main_v12, val_main_v11, val_main_v0]
  exact Finset.sum_congr rfl fun f _ => mul_comm _ _

/-- Which expert's product is a row's own. -/
theorem own_at (e : Fin 16) (r : Fin 41984) (d : Fin 4096) :
    (val_main_call0_v1 (F := Ideal) x2 (ix3 e r d) : BitVec 1) = IntOp.cmpi .eq (x2 (ix1 (tile r))) (BitVec.ofNat 32 e.val) := by
  pointwise [val_main_call0_v1, val_main_v20, val_main_v19, val_main_v18, val_main_v17, val_main_v16, val_main_v15, val_main_v14, val_main_v7, val_main_v6, val_main_v5]
  rfl

/-- Which rows lie in a tile that holds rows. -/
theorem filled_at (r : Fin 41984) (d : Fin 4096) :
    (val_main_call1_v1 (F := Ideal) x3 (ix2 r d) : BitVec 1) = IntOp.cmpi .slt (BitVec.ofNat 32 (tile r).val) (x3 (ix1 0)) := by
  pointwise [val_main_call1_v1, val_main_v23, val_main_v10, val_main_v9, val_main_v8, val_main_v4, val_main_v3, val_main_v2, val_main_v1]
  rfl

variable {x2} in
/-- The sum over the experts of what is a row's own is its own expert's product. -/
theorem sum_at (h : ∀ t : Fin 82, (x2 (ix1 t)).toNat < 16) (r : Fin 41984) (d : Fin 4096) :
    (val_main_v22 (F := Ideal) x0 x1 x2 (ix2 r d) : EReal)
      = ∑ f : Fin 1024, x0 (ix2 r f) * x1 (ix4 0 (own x2 (tile r)) f d) := by
  pointwise [val_main_v22, val_main_v21, val_main_cst_0, val_main_call0_v2, val_main_call0_v0, val_main_cst]
  simp only [own_at, out_at, own_iff h]
  refine (Finset.sum_eq_single (own x2 (tile r)) (fun e _ he => ?_) fun hn => absurd (Finset.mem_univ _) hn).trans ?_
  · rw [if_neg he]; exact zero_word
  · rw [if_pos rfl]; rfl

variable {x2} in
/-- The reference's result. -/
theorem result_eq (h : ∀ t : Fin 82, (x2 (ix1 t)).toNat < 16) :
    (val_main_v25 (F := Ideal) x0 x1 x2 x3 : S41984x4096.Idx → EReal) = rows x0 x1 x2 x3 := by
  funext y
  obtain ⟨r, d, rfl⟩ : ∃ (r : Fin 41984) (d : Fin 4096), y = ix2 r d := ⟨y 0, y 1, eq_ix2 y⟩
  pointwise [val_main_v25, val_main_v24, val_main_call1_v2, val_main_call1_v0, val_main_cst_1]
  simp only [filled_at, sum_at x0 x1 h]
  show _ = elem x0 x1 x2 x3 (tile r) r d
  unfold elem
  simp only [IntOp.cmpi]
  cases hs : (BitVec.ofNat 32 (tile r).val).slt (x3 (ix1 0))
  · exact zero_word.trans (if_neg (by decide)).symm
  · exact (if_pos rfl).symm

end Cert.Reference4Ideal.Down

end
-- ==== Proof.Down.Claims.lean ====
module

public import proofs.«01_k».proof.Defs
public import proofs.«01_k».proof.Proof.Gen.Kernel4
public import proofs.«01_k».proof.Proof.Gen.Kernel4Ideal
public import proofs.«01_k».proof.Proof.Gen.Reference4Ideal
public import proofs.«01_k».proof.Proof.Gen.Pre_down_experts
public import proofs.«01_k».proof.Proof.Down.Pre
public import proofs.«01_k».proof.Proof.Down.RefRun
public import proofs.«01_k».proof.Proof.Down.Arrays
public import proofs.«01_k».proof.Proof.Down.Ref
public import Idealize.ShloMosaic.Adequacy
public import Idealize.ShloMosaic.Init
public import Idealize.ShloMosaic.Lib.Claim

/-! The claims of the experts' down-projection. -/

@[expose] public section

noncomputable section

namespace Cert.Proof.Down

open Idealize.ShloMosaic Idealize.SL.Sem
open Cert.Kernel4Ideal.Down

/-- The call over the extended reals terminates from any memory whose tiles' experts are of the sixteen, leaves its
    arguments unchanged and its counters at zero. -/
theorem frame_ideal : Cert.quiescent_Kernel4Ideal := fun m ρ h =>
  frame_exit m ρ (ok_of_lt m fun t => expert_lt (h 0) t)

/-- The two programs' tables of bodies are one. -/
theorem bodies_same : Cert.Kernel4.defs₀ (F := Bits)
    = (show Defs Cert.Kernel4.nD Cert.Kernel4.τ Cert.Kernel4.sig (Elt Bits) Cert.Kernel4.Λ₀ from by
        with_unfolding_all exact Cert.Kernel4Ideal.defs₀ (F := Bits)) := by
  unfold Cert.Kernel4.defs₀ Cert.Kernel4Ideal.defs₀
  refine congrArg Defs.onTc (funext fun l => funext fun a => ?_)
  match l, a with
  | ⟨0, _⟩, (t, s) => with_unfolding_all rfl

/-- The same of the call over machine words: the two programs are one text. -/
theorem frame_kernel : Cert.quiescent_Kernel4 := fun m ρ h => by
  unfold Cert.Kernel4.defs
  rw [bodies_same]
  with_unfolding_all exact frame_exit (F := Bits) m ρ (ok_of_lt (F := Bits) m fun t => expert_lt (F := Bits) (h 0) t)

/-- The same of the reference, which declares no semaphore. -/
theorem frame_reference : Cert.quiescent_Reference4Ideal := fun m ρ _ =>
  (θ_run Cert.Reference4Ideal.defs _ _).mono
    (fun r h => ⟨fun c => (h c).2, sem_eq_zero_of_no_sems (by decide) r.2⟩)
    (Cert.Reference4Ideal.Value.run m ρ)

/-- The call and the reference end with equal outputs. -/
theorem values : Cert.algebraic_Kernel4Ideal_Reference4Ideal := by
  intro m ρ m' ρ' hpre hagree
  have hlt : ∀ t, (expert m 0 t).toNat < 16 := fun t => expert_lt (hpre 0) t
  refine ⟨_, θ_run_mono (run_out m ρ (ok_of_lt m hlt))
    (fun r h c => ⟨(h.2 c).trans (arr_eq m (ok_of_lt m hlt) c hlt), h.1.1 c⟩), ?_⟩
  refine θ_run_mono (Cert.Reference4Ideal.Value.run m' ρ') ?_
  intro r h c
  obtain ⟨a0, a1, a2, a3⟩ := hagree c
  obtain rfl : c = 0 := Subsingleton.elim _ _
  refine ⟨(h 0).1.trans ?_, (h 0).2⟩
  rw [Cert.Reference4Ideal.Read.val_main_v25_eq]
  refine (Cert.Reference4Ideal.Down.result_eq _ _ _ ?_).trans ?_
  · intro t
    rw [a2]
    exact hlt t
  · rw [a0, a1, a2, a3]

end Cert.Proof.Down

end
-- ==== Proof.OutProj.RefRun.lean ====
module

public import proofs.«01_k».proof.Proof.Gen.Reference5Ideal.Run
public import proofs.«01_k».proof.Proof.Gen.Reference5Ideal.Read
public import proofs.«01_k».proof.Proof.Gen.Kernel5

/-! The run of the plain out-projection. -/
-- ==== Proof.OutProj.Body.lean ====
module

public import proofs.«01_k».proof.Proof.Gen.Kernel5Ideal.Frame
public import proofs.«01_k».proof.Proof.Gen.Kernel5Ideal.Skeleton
public import Idealize.ShloMosaic.Lib.VecWindow
public import Idealize.ShloMosaic.Lib.WritesUnit
public import Idealize.ShloMosaic.Lib.Pointwise

/-! The out-projection's body at any point of its grid. -/

@[expose] public section

set_option maxRecDepth 16384

noncomputable section

namespace Cert.Kernel5Ideal.OutProj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel5Ideal.Gen

variable {F : FTy → Type} [FloatOps F]

local notation "𝕄" => MT nD τ sig Unit (Elt F) ℕ (UR sig nD τ) ℕ

/-- The first 544 rows of a block. -/
def top (x : Vec F S1056x512 .f32) : Vec F S544x512 .f32 :=
  VecWindow.window x ![0, 0] S544x512.size Facts₀.inb_S1056x512_S544x512_0_0

/-- The block the body leaves. In the first fifteen row blocks: the product added to the prompt's rows. In the last:
    544 rows added to the prompt's, the 512 below them added to the sample's. -/
def block (i : grid0.Coords) (x0 : Vec F S1056x4096 .bf16) (x1 : Vec F S4096x512 .bf16) (x2 : Vec F S1056x512 .f32)
    (x3 : Vec F S512x512 .f32) : Vec F S1056x512 .f32 :=
  if (i 0).val < 15 then k0_pay2 x0 x1 x2
  else fun y => if h : (y (0 : Fin 2)).val < 544 then k0_pay3 x0 x1 (top x2) (ix2 ⟨(y (0 : Fin 2)).val, h⟩ (y (1 : Fin 2)))
    else k0_pay4 x0 x1 x3 (ix2 ⟨(y (0 : Fin 2)).val - 544, by have h1 : (y (0 : Fin 2)).val < 1056 := (y (0 : Fin 2)).isLt; omega⟩ (y (1 : Fin 2)))

theorem cond1_iff (i : grid0.Coords) : k0_cond1 i = 1#1 ↔ (i 0).val < 15 := by
  have h : ∀ j : Fin 16, k0_cond1 (fun a => match a with | ⟨0, _⟩ => j | ⟨1, _⟩ => (0 : Fin 8)) = 1#1 ↔ j.val < 15 := by decide +kernel
  exact h (i 0)
theorem cond2_iff (i : grid0.Coords) : k0_cond2 i = 1#1 ↔ ¬ (i 0).val < 15 := by
  have h : ∀ j : Fin 16, k0_cond2 (fun a => match a with | ⟨0, _⟩ => j | ⟨1, _⟩ => (0 : Fin 8)) = 1#1 ↔ ¬ j.val < 15 := by decide +kernel
  exact h (i 0)

set_option maxHeartbeats 1600000 in
/-- The body on whole staging memrefs: the inputs' blocks come back as they were, the result's buffer holds `block`. -/
theorem run_body (c : Dev nD) (i : grid0.Coords) (arg2 : Memref sig .tc .vmem S1056x4096 .bf16) (harg2 : arg2.IsWhole)
    (arg3 : Memref sig .tc .vmem S4096x512 .bf16) (harg3 : arg3.IsWhole)
    (arg4 : Memref sig .tc .vmem S1056x512 .f32) (harg4 : arg4.IsWhole)
    (arg5 : Memref sig .tc .vmem S512x512 .f32) (harg5 : arg5.IsWhole)
    (arg6 : Memref sig .tc .vmem S1056x512 .f32) (harg6 : arg6.IsWhole)
    (x0 : Vec F S1056x4096 .bf16) (x1 : Vec F S4096x512 .bf16) (x2 : Vec F S1056x512 .f32) (x3 : Vec F S512x512 .f32)
    (E : Set ℕ) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ (∃ d, owns (c : Thread nD τ) arg6 fullShare d)
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare (block i x0 x1 x2 x3)) -∗ K ⟨⟩))
      ⊢ wp frame (wpE (defs₀ (F := F)) Variants.none c none) E
          (cc0_out_projection i arg2 harg2 arg3 harg3 arg4 harg4 arg5 harg5 arg6 harg6) K := by
  simp only [cc0_out_projection_eq_skeleton]; unfold cc0_out_projection_skel
  unfold owns
  iintro ⟨⟨%f0, %hf0, H0⟩, ⟨%f1, %hf1, H1⟩, ⟨%f2, %hf2, H2⟩, ⟨%f3, %hf3, H3⟩, ⟨%d4, %f4, -, H4⟩, Hk⟩
  obtain rfl := harg2.eq_unread hf0; obtain rfl := harg3.eq_unread hf1
  obtain rfl := harg4.eq_unread hf2; obtain rfl := harg5.eq_unread hf3
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr
  swap; · iexact H4
  ipureintro
  unfold block
  by_cases h : (i 0).val < 15
  · rw [dif_neg (fun h2 => (cond2_iff i).mp h2 h), dif_pos ((cond1_iff i).mpr h), if_pos h]
    refine (View.read_writes_full _ _ _ _ _).trans ?_
    rw [View.readAt_full, View.readAt_full, View.readAt_full, harg2.read_unread, harg3.read_unread, harg4.read_unread]
  · rw [dif_pos ((cond2_iff i).mpr h), dif_neg (fun h1 => h ((cond1_iff i).mp h1)), if_neg h]
    rw [View.readAt_full, View.readAt_full, View.readAt_full, harg2.read_unread, harg3.read_unread, harg5.read_unread,
      View.readAt_unit arg4.view _ _ rfl Facts₀.inb_S1056x512_S544x512_0_0, harg4.read_unread]
    funext y
    have h1 : (y (0 : Fin 2)).val < 1056 := (y (0 : Fin 2)).isLt
    by_cases hy : (y (0 : Fin 2)).val < 544
    · rw [dif_pos hy]
      refine (View.read_writes_cons_rows_of_not_mem (o := 544) (W := 512) _ _ _ _ _ _ rfl rfl (.inl hy)).trans ?_
      exact View.read_writes_cons_rows_of_mem (o := 0) _ _ _ _ _ _ (ix2 ⟨(y (0 : Fin 2)).val, hy⟩ (y (1 : Fin 2))) rfl
        (Nat.zero_add _).symm rfl
    · rw [dif_neg hy]
      exact View.read_writes_cons_rows_of_mem (o := 544) _ _ _ _ _ _
        (ix2 ⟨(y (0 : Fin 2)).val - 544, by omega⟩ (y (1 : Fin 2))) rfl
        (show (y (0 : Fin 2)).val = 544 + ((y (0 : Fin 2)).val - 544) by omega) rfl

end Cert.Kernel5Ideal.OutProj

end
-- ==== Proof.OutProj.Run.lean ====
module

public import proofs.«01_k».proof.Proof.OutProj.Body

/-! The out-projection run whole: its body at every point of the grid, and what every run of the program leaves. -/

@[expose] public section

set_option maxRecDepth 16384

noncomputable section

namespace Cert.Kernel5Ideal.OutProj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Kernel5Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A point's row block. -/
theorem coords0 : ∀ t : Fin grid0.N, (grid0.coords t 0).val = t.val / 8 := by decide +kernel

/-- Where a row block of the prompt ends inside the array: all of it in the first fifteen, 544 rows in the last. -/
theorem clip_rows (t : Fin grid0.N) (h : t.val / 8 < 15) : ∀ a, win0_2.clip (grid0.coords t) a = none := by
  have h' : ∀ t : Fin grid0.N, t.val / 8 < 15 → ∀ a : Fin 2, win0_2.clip (grid0.coords t) a = none := by decide +kernel
  exact h' t h
theorem xsize_rows : ∀ (t : Fin grid0.N) (a : Fin 2), ![544, 512] a ≤ win0_2.xsize (grid0.coords t) a := by decide +kernel

/-- The prompt's block at point `t`: the rows the array has, and over the array's end whatever `d` holds. -/
def rows (c : Dev nD) (t : Fin cfg0.N) (d : Vec F S1056x512 .f32) : Vec F S1056x512 .f32 :=
  win0_2.fill (grid0.coords t) d (iblk m c 2 t)

/-- The result's block at point `t`, from the input blocks there and what lies over the prompt's end. -/
def left (c : Dev nD) (t : Fin cfg0.N) (d : Vec F S1056x512 .f32) : Vec F S1056x512 .f32 :=
  block (grid0.coords t) (iblk m c 0 t) (iblk m c 1 t) (rows m c t d) (iblk m c 3 t)

/-- Zeros, to stand over the prompt's end. -/
def zeros : Vec F S1056x512 .f32 := constant S1056x512 .f32 0x00000000#32

/-- A row the array has is not taken from what lies over the end. -/
theorem rows_of_lt (c : Dev nD) (t : Fin cfg0.N) (d : Vec F S1056x512 .f32) (y : S1056x512.Idx)
    (hy : ∀ a, (y a).val < win0_2.xsize (grid0.coords t) a) :
    rows m c t d y = iblk m c 2 t (fun a => ⟨(y a).val, hy a⟩) := by
  unfold rows Window.fill
  exact dif_pos ((win0_2.moved_iff (grid0.coords t) y).mpr hy)

/-- What lies over the prompt's end does not reach the result. -/
theorem left_eq (c : Dev nD) (t : Fin cfg0.N) (d : Vec F S1056x512 .f32) : left m c t d = left m c t zeros := by
  unfold left block
  by_cases h : (grid0.coords t 0).val < 15
  · rw [if_pos h, if_pos h]
    exact congrArg (fun x => k0_pay2 (iblk m c 0 t) (iblk m c 1 t) x)
      (Pipeline.fill_of_clip_none (cfg := cfg0) 2 (grid0.coords t) (clip_rows t ((coords0 t) ▸ h)) _ _ _)
  · rw [if_neg h, if_neg h]
    have ht : top (rows m c t d) = top (rows m c t zeros) := funext fun y => by
      unfold top VecWindow.window
      have hy : ∀ a : Fin 2, ((Rect.unit (s := S1056x512) ![0, 0] S544x512.size Facts₀.inb_S1056x512_S544x512_0_0).emb y a).val
          < win0_2.xsize (grid0.coords t) a := fun a => by
        refine Nat.lt_of_lt_of_le ?_ (xsize_rows t a)
        have := (y a).isLt
        match a with
        | ⟨0, _⟩ => show 0 + 1 * (y (0 : Fin 2)).val < 544; have h0 : (y (0 : Fin 2)).val < 544 := (y (0 : Fin 2)).isLt; omega
        | ⟨1, _⟩ => show 0 + 1 * (y (1 : Fin 2)).val < 512; have h0 : (y (1 : Fin 2)).val < 512 := (y (1 : Fin 2)).isLt; omega
      exact (rows_of_lt m c t d _ hy).trans (rows_of_lt m c t zeros _ hy).symm
    rw [ht]

/-- The pipeline's data: each input's block stays in place, the result's becomes `left`; nothing is owed. -/
def dat (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (rows m c t zeros)
    | ⟨3, _⟩ => iblk m c 3 t
    | ⟨4, _⟩ => (left m c t zeros)
  Φ _ := Pipeline.ΦA spec0 c
  q _ := fullShare
  owed _ := 0

theorem dat_A (c : Dev nD) (w : Fin cfg0.W) : (dat m 0 c).A w = V m c (Pipeline.arrRef spec0 w) := by dsimp only [dat]

theorem after0 (c : Dev nD) (t : Fin cfg0.N) : (dat m 0 c).after 0 t = iblk m c 0 t := by dsimp only [dat]; try rfl
theorem after1 (c : Dev nD) (t : Fin cfg0.N) : (dat m 0 c).after 1 t = iblk m c 1 t := by dsimp only [dat]; try rfl
theorem after2 (c : Dev nD) (t : Fin cfg0.N) : (dat m 0 c).after 2 t = rows m c t zeros := by dsimp only [dat]; try rfl
theorem after3 (c : Dev nD) (t : Fin cfg0.N) : (dat m 0 c).after 3 t = iblk m c 3 t := by dsimp only [dat]; try rfl
theorem after4 (c : Dev nD) (t : Fin cfg0.N) : (dat m 0 c).after 4 t = left m c t zeros := by dsimp only [dat]; try rfl

theorem before0 (c : Dev nD) (t : Fin cfg0.N) (d) : (dat m 0 c).before 0 t d = iblk m c 0 t :=
  before0_0_of m (dat m 0 c) (dat_A m c 0) (after0 m c) t d
theorem before1 (c : Dev nD) (t : Fin cfg0.N) (d) : (dat m 0 c).before 1 t d = iblk m c 1 t :=
  before0_1_of m (dat m 0 c) (dat_A m c 1) (after1 m c) t d
theorem before3 (c : Dev nD) (t : Fin cfg0.N) (d) : (dat m 0 c).before 3 t d = iblk m c 3 t :=
  before0_3_of m (dat m 0 c) (dat_A m c 3) (after3 m c) t d
/-- The prompt's block is fetched at every point: the rows the array has over what the buffer held. -/
theorem before2 (c : Dev nD) (t : Fin cfg0.N) (d) : (dat m 0 c).before 2 t d = rows m c t d :=
  ((dat m 0 c).before_fetched 2 t (fetch0_2 t) d).trans (by unfold Dat.fetched Dat.blockOf rows iblk; rw [dat_A]; try rfl)

/-- What the body is given at point `t`. -/
def given (c : Dev nD) (t : Fin cfg0.N) : sProp 𝕄 :=
  iprop((dat m 0 c).Φ t.castSucc ∗ (dat m 0 c).owesAt () t.castSucc
    ∗ (∃ d, owns (c : Thread nD τ) (st0_0 t) fullShare ((dat m 0 c).before 0 t d))
    ∗ (∃ d, owns (c : Thread nD τ) (st0_1 t) fullShare ((dat m 0 c).before 1 t d))
    ∗ (∃ d, owns (c : Thread nD τ) (st0_2 t) fullShare ((dat m 0 c).before 2 t d))
    ∗ (∃ d, owns (c : Thread nD τ) (st0_3 t) fullShare ((dat m 0 c).before 3 t d))
    ∗ (∃ d, owns (c : Thread nD τ) (st0_4 t) fullShare ((dat m 0 c).before 4 t d)))

/-- What it gives back: of the prompt's buffer, only the rows the array has are told. -/
def returned (c : Dev nD) (t : Fin cfg0.N) : sProp 𝕄 :=
  iprop((dat m 0 c).Φ t.succ ∗ (dat m 0 c).owesAt () t.succ
    ∗ owns (c : Thread nD τ) (st0_0 t) fullShare ((dat m 0 c).after 0 t)
    ∗ owns (c : Thread nD τ) (st0_1 t) fullShare ((dat m 0 c).after 1 t)
    ∗ (∃ d, owns (c : Thread nD τ) (st0_2 t) fullShare (win0_2.fill (grid0.coords t) d (win0_2.cut (grid0.coords t) ((dat m 0 c).after 2 t))))
    ∗ owns (c : Thread nD τ) (st0_3 t) fullShare ((dat m 0 c).after 3 t)
    ∗ owns (c : Thread nD τ) (st0_4 t) fullShare ((dat m 0 c).after 4 t))

theorem cut_rows (c : Dev nD) (t : Fin cfg0.N) : win0_2.cut (grid0.coords t) (rows m c t zeros) = iblk m c 2 t := by
  unfold rows; exact win0_2.cut_fill _ _ _

/-- The body at any point of the grid. -/
theorem body_at (c : Dev nD) (t : Fin cfg0.N) :
    given m c t ⊢ wp frame (wpE (defs₀ (F := F)) Variants.none c none) Set.univ (bodyAt0 t) (fun _ => returned m c t) := by
  unfold given returned bodyAt0
  simp only [before0, before1, before2, before3]
  rw [show (dat m 0 c).Φ t.succ = (dat m 0 c).Φ t.castSucc from rfl,
    show (dat m 0 c).owesAt () t.succ = (dat m 0 c).owesAt () t.castSucc from rfl,
    after0, after1, after2, after3, after4, cut_rows]
  iintro ⟨HΦ, Ho, ⟨%d0, H0⟩, ⟨%d1, H1⟩, ⟨%d2, H2⟩, ⟨%d3, H3⟩, ⟨%d4, H4⟩⟩
  iapply (run_body c (grid0.coords t) _ _ _ _ _ _ _ _ _ _ (iblk m c 0 t) (iblk m c 1 t) (rows m c t d2)
    (iblk m c 3 t) Set.univ _)
  isplitl [H0]; · iexact H0
  isplitl [H1]; · iexact H1
  isplitl [H2]; · iexact H2
  isplitl [H3]; · iexact H3
  isplitl [H4]; · iexists _; iexact H4
  rw [← left_eq m c t d2]
  iintro ⟨H0, H1, H2, H3, H4⟩
  isplitl [HΦ]; · iexact HΦ
  isplitl [Ho]; · iexact Ho
  isplitl [H0]; · iexact H0
  isplitl [H1]; · iexact H1
  isplitl [H2]; · iexists d2; iexact H2
  isplitl [H3]; · iexact H3
  iexact H4

theorem row_eq (t : Fin cfg0.N) :
    defs₀ (F := F) .tc cfg0.body (cfg0.bodyArgs t (cfg0.slots t)) = bodyAt0 t := by
  unfold defs₀; rw [Defs.onTc_tc]

/-- The result's block is written back at every point, so what the loop asks of it is what the body leaves. -/
theorem leaves4 (c : Dev nD) (t : Fin cfg0.N) :
    owns (c : Thread nD τ) (st0_4 t) fullShare ((dat m 0 c).after 4 t) ⊢ (dat m 0 c).leaves 4 t := by
  have hf : (cfg0.win 4).flush t = true := flush0_4 t
  unfold Dat.leaves
  rw [hf]
  cases cfg0.idle 4 (cfg0.grid.coords t)
  · exact .rfl
  · exact .rfl

theorem obligation (c : Dev nD) :
    BodyObligationLoose (dat (F := F) m 0 c) (defs₀ (F := F)) Variants.none () Set.univ := fun t => by
  rw [bigSep_W0, bigSep_W0, row_eq]
  exact triple_restated (body_at m c t) rfl .rfl fun _ =>
    sep_mono .rfl (sep_mono .rfl (sep_mono .rfl (sep_mono .rfl (sep_mono .rfl (sep_mono .rfl (leaves4 m c t))))))

-- the launch theorem's implicit arguments are found by unfolding definitions in a metavariable's type
set_option backward.isDefEq.respectTransparency.types false in
/-- The launch: every run ends, with each window's array at what the pipeline's data compute, every other array as the
    region found it, and every semaphore at zero. -/
theorem run_quiet : θ_run defs (onTc (τ := τ) (main (F := F))) (s₀ m ρ)
    (fun r => (Pipeline.FramePost cfgs (dat m) 0 (V m)) r ∧ r.2.sem = fun _ => 0) :=
  Pipeline.θ_run_frame (Q' := _) cfgs (dat m) (0 : Fin 1) launch0 defs₀ Variants.none m ρ main
    (hbody := obligation m) (hshare := fun c => (dat m 0 c).share_full fun _ => rfl)
    (howed := fun _ _ => rfl) (V := V m) (hmain := hmain m Variants.none) (hA := dat_A m)
    (hΦ := fun _ _ => rfl)

/-- Every run ends with the arguments unchanged, the result array as the pipeline's data compute it, and every
    semaphore at zero. -/
theorem run_out : θ_run defs (onTc (τ := τ) (main (F := F))) ⟨m, fun _ => 0, ρ⟩ (fun r => ((∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0)
      ∧ ∀ c : Dev nD, r.2.mem ((c.tc : Thread nD τ).loc main_v4) = (dat m 0 c).arrAt 4 (Fin.last cfg0.N)) :=
  (θ_run defs _ _).mono (fun _ h => ⟨⟨fun c =>
    ⟨((h.1 c).1 0).trans (((dat m 0 c).arrAt_in 0 rfl _).trans ((dat_A m c 0).trans (V_main_arg0 m c))),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c)⟩, h.2⟩,
    fun c => (h.1 c).1 4⟩) (run_quiet m ρ)

/-- The frame: every run ends, the arguments unchanged and every semaphore at zero. -/
theorem frame_exit : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => h.1) (run_out m ρ)

end Cert.Kernel5Ideal.OutProj

end
-- ==== Proof.OutProj.Pay.lean ====
module
public import proofs.«01_k».proof.Proof.Gen.Kernel5Ideal.Skeleton
public import Idealize.ShloMosaic.Lib.Pointwise
/-!
# The body's values on scalars
-/
@[expose] public section
noncomputable section
open Idealize.ShloMosaic Idealize.ShloMosaic.TcCoe
namespace Cert.Kernel5Ideal.OutProj
open Cert.Kernel5Ideal Cert.Kernel5Ideal.Gen

/-- The rows' product with the point's columns. -/
theorem pay1 (x0 : FVec Ideal S1056x4096 .bf16) (x1 : FVec Ideal S4096x512 .bf16) (r : Fin 1056) (l : Fin 512) :
    (k0_pay1 (F := Ideal) x0 x1 (ix2 r l) : EReal) = ∑ d : Fin 4096, x0 (ix2 r d) * x1 (ix2 d l) := by
  pointwise [k0_pay1]

/-- The block of the first fifteen row blocks: the product added to the prompt's rows. -/
theorem pay2 (x0 : FVec Ideal S1056x4096 .bf16) (x1 : FVec Ideal S4096x512 .bf16) (x2 : FVec Ideal S1056x512 .f32)
    (r : Fin 1056) (l : Fin 512) :
    (k0_pay2 (F := Ideal) x0 x1 x2 (ix2 r l) : EReal) = x2 (ix2 r l) + ∑ d : Fin 4096, x0 (ix2 r d) * x1 (ix2 d l) := by
  pointwise [k0_pay2, k0_pay1]

/-- The upper rows of the last row block. -/
theorem pay3 (x0 : FVec Ideal S1056x4096 .bf16) (x1 : FVec Ideal S4096x512 .bf16) (x2 : FVec Ideal S544x512 .f32)
    (r : Fin 544) (l : Fin 512) :
    (k0_pay3 (F := Ideal) x0 x1 x2 (ix2 r l) : EReal)
      = x2 (ix2 r l) + ∑ d : Fin 4096, x0 (ix2 ⟨r.val, by omega⟩ d) * x1 (ix2 d l) := by
  pointwise [k0_pay3, k0_pay1]

/-- Its lower rows. -/
theorem pay4 (x0 : FVec Ideal S1056x4096 .bf16) (x1 : FVec Ideal S4096x512 .bf16) (x3 : FVec Ideal S512x512 .f32)
    (r : Fin 512) (l : Fin 512) :
    (k0_pay4 (F := Ideal) x0 x1 x3 (ix2 r l) : EReal)
      = x3 (ix2 r l) + ∑ d : Fin 4096, x0 (ix2 ⟨544 + r.val, by omega⟩ d) * x1 (ix2 d l) := by
  pointwise [k0_pay4, k0_pay1]

end Cert.Kernel5Ideal.OutProj

end
-- ==== Proof.OutProj.Ref.lean ====
module
public import proofs.«01_k».proof.Proof.Gen.Reference5Ideal.Read
public import Idealize.ShloMosaic.Lib.Pointwise
/-!
# The reference's values on scalars
-/
@[expose] public section
set_option maxRecDepth 16384
noncomputable section
open Idealize.ShloMosaic Idealize.ShloMosaic.TcCoe Idealize.SL.Sem
namespace Cert.Reference5Ideal.OutProj
open Cert.Reference5Ideal Cert.Reference5Ideal.Gen Cert.Reference5Ideal.Read

variable (x0 : FVec Ideal S16896x4096 .bf16) (x1 : FVec Ideal S1x4096x4096 .f32) (x2 : FVec Ideal S8x2048x4096 .f32)
  (x3 : FVec Ideal S8x64x4096 .f32)

/-- A row of heads against a column of the output matrix. -/
def mix (n : Fin 16896) (d : Fin 4096) : EReal := ∑ e : Fin 4096, x0 (ix2 n e) * x1 (ix3 0 e d)

/-- What a row is added to: the prompt's rows, sequence by sequence, then the sample's. -/
def base (n : Fin 16896) (d : Fin 4096) : EReal :=
  if h : n.val < 16384 then x2 (ix3 ⟨n.val / 2048, by omega⟩ ⟨n.val % 2048, by omega⟩ d)
  else x3 (ix3 ⟨(n.val - 16384) / 64, by omega⟩ ⟨(n.val - 16384) % 64, by omega⟩ d)

/-- The result array: each row and what it is added to. -/
def sums : FVec Ideal S16896x4096 .f32 := fun y => base x2 x3 (y 0) (y 1) + mix x0 x1 (y 0) (y 1)

theorem mix_at (n : Fin 16896) (d : Fin 4096) : (val_main_v2 (F := Ideal) x0 x1 (ix2 n d) : EReal) = mix x0 x1 n d := by
  unfold mix
  pointwise [val_main_v2, val_main_v1, val_main_v0]

/-- The prompt's rows of the result. -/
theorem prompt_at (n : Fin 16384) (d : Fin 4096) : (val_main_v9 (F := Ideal) x0 x1 x2 (ix2 n d) : EReal)
    = x2 (ix3 ⟨n.val / 2048, by omega⟩ ⟨n.val % 2048, by omega⟩ d) + mix x0 x1 ⟨n.val, by omega⟩ d := by
  rw [← mix_at]
  pointwise [val_main_v9, val_main_v5, val_main_v4, val_main_v3]

/-- The sample's. -/
theorem sample_at (n : Fin 512) (d : Fin 4096) : (val_main_v10 (F := Ideal) x0 x1 x3 (ix2 n d) : EReal)
    = x3 (ix3 ⟨n.val / 64, by omega⟩ ⟨n.val % 64, by omega⟩ d) + mix x0 x1 ⟨16384 + n.val, by omega⟩ d := by
  rw [← mix_at]
  pointwise [val_main_v10, val_main_v8, val_main_v7, val_main_v6]

/-- One array under another. -/
theorem under (A : FVec Ideal S16384x4096 .f32) (B : FVec Ideal S512x4096 .f32) (n : Fin 16896) (d : Fin 4096) :
    (concatenate S16896x4096 0 [⟨S16384x4096, A⟩, ⟨S512x4096, B⟩] concatenates_S16384x4096_S512x4096_S16896x4096_d0 (ix2 n d) : EReal)
      = if h : n.val < 16384 then A (ix2 ⟨n.val, h⟩ d) else B (ix2 ⟨n.val - 16384, by omega⟩ d) := by
  pointwise []

/-- The reference's result. -/
theorem result_eq : val_main_v11 (F := Ideal) x0 x1 x2 x3 = sums x0 x1 x2 x3 := funext fun y => by
  obtain ⟨n, d, rfl⟩ : ∃ (n : Fin 16896) (d : Fin 4096), y = ix2 n d := ⟨y 0, y 1, eq_ix2 y⟩
  refine (under (val_main_v9 (F := Ideal) x0 x1 x2) (val_main_v10 (F := Ideal) x0 x1 x3) n d).trans ?_
  show _ = base x2 x3 n d + mix x0 x1 n d
  unfold base
  by_cases h : n.val < 16384
  · rw [dif_pos h, dif_pos h]
    exact prompt_at x0 x1 x2 ⟨n.val, h⟩ d
  · rw [dif_neg h, dif_neg h]
    refine (sample_at x0 x1 x3 ⟨n.val - 16384, by omega⟩ d).trans ?_
    exact congrArg (fun a => _ + mix x0 x1 a d) (Fin.ext (by dsimp only; omega))

end Cert.Reference5Ideal.OutProj

end
-- ==== Proof.OutProj.Arrays.lean ====
module
public import proofs.«01_k».proof.Proof.OutProj.Run
public import proofs.«01_k».proof.Proof.OutProj.Pay
public import proofs.«01_k».proof.Proof.OutProj.Ref
public import Idealize.ShloMosaic.Lib.Pipeline.Covers
public import Idealize.ShloMosaic.Lib.Pipeline.ValueKit
/-!
# What the out-projection leaves in its result array
-/
@[expose] public section
set_option maxRecDepth 16384
noncomputable section
open Idealize.ShloMosaic Idealize.ShloMosaic.TcCoe Idealize.SL.Sem
open Idealize.ShloMosaic.Pipeline (Dat)
namespace Cert.Kernel5Ideal.OutProj
open Cert.Kernel5Ideal Cert.Kernel5Ideal.Gen
open Cert.Reference5Ideal.OutProj (mix base sums)

variable (m : (ℓ : Loc nD τ sig) → Buf (Elt Ideal) ℓ) (c : Dev nD)

/-- The program's arguments. -/
abbrev arg0 : FVec Ideal S16896x4096 .bf16 := m ((c : Thread nD τ).loc main_arg0)
abbrev arg1 : FVec Ideal S1x4096x4096 .f32 := m ((c : Thread nD τ).loc main_arg1)
abbrev arg2 : FVec Ideal S8x2048x4096 .f32 := m ((c : Thread nD τ).loc main_arg2)
abbrev arg3 : FVec Ideal S8x64x4096 .f32 := m ((c : Thread nD τ).loc main_arg3)

/-- The prompt's rows as the region finds them, the sample's, and the output matrix. -/
theorem entry_p (n : Fin 16384) (d : Fin 4096) :
    (V m c main_v0 (ix2 n d) : EReal) = arg2 m c (ix3 ⟨n.val / 2048, by omega⟩ ⟨n.val % 2048, by omega⟩ d) := by
  show (StableHlo.after hostOps0 (fun b => m (c, b)) (Proc.devRef .tc main_v0) (ix2 n d) : EReal) = _
  entry_read
  pointwise []
theorem entry_s (n : Fin 512) (d : Fin 4096) :
    (V m c main_v1 (ix2 n d) : EReal) = arg3 m c (ix3 ⟨n.val / 64, by omega⟩ ⟨n.val % 64, by omega⟩ d) := by
  show (StableHlo.after hostOps0 (fun b => m (c, b)) (Proc.devRef .tc main_v1) (ix2 n d) : EReal) = _
  entry_read
  pointwise []
theorem entry_w (e d : Fin 4096) : (V m c main_v3 (ix2 e d) : EReal) = arg1 m c (ix3 0 e d) := by
  show (StableHlo.after hostOps0 (fun b => m (c, b)) (Proc.devRef .tc main_v3) (ix2 e d) : EReal) = _
  entry_read
  pointwise []

theorem idx0 (t : Fin cfg0.N) : (cfg0.win 0).index t = ![t.val / 8, 0] := by
  have h : ∀ t : Fin grid0.N, cc0_transform_0 (grid0.coords t) = ![t.val / 8, 0] := by decide +kernel
  exact h t
theorem idx1 (t : Fin cfg0.N) : (cfg0.win 1).index t = ![0, t.val % 8] := by
  have h : ∀ t : Fin grid0.N, cc0_transform_1 (grid0.coords t) = ![0, t.val % 8] := by decide +kernel
  exact h t
theorem idx2 (t : Fin cfg0.N) : (cfg0.win 2).index t = ![t.val / 8, t.val % 8] := by
  have h : ∀ t : Fin grid0.N, cc0_transform_2 (grid0.coords t) = ![t.val / 8, t.val % 8] := by decide +kernel
  exact h t
theorem idx3 (t : Fin cfg0.N) : (cfg0.win 3).index t = ![0, t.val % 8] := by
  have h : ∀ t : Fin grid0.N, cc0_transform_3 (grid0.coords t) = ![0, t.val % 8] := by decide +kernel
  exact h t
theorem idx4 (t : Fin cfg0.N) : (cfg0.win 4).index t = ![t.val / 8, t.val % 8] := by
  have h : ∀ t : Fin grid0.N, cc0_transform_4 (grid0.coords t) = ![t.val / 8, t.val % 8] := by decide +kernel
  exact h t

theorem t_lt (t : Fin cfg0.N) : t.val < 128 := t.isLt

/-- The row and the column of a block's element. -/
abbrev rowOf (t : Fin cfg0.N) (r : Fin 1056) : Fin 16896 := ⟨t.val / 8 * 1056 + r.val, by have := t_lt t; omega⟩
abbrev colOf (t : Fin cfg0.N) (l : Fin 512) : Fin 4096 := ⟨t.val % 8 * 512 + l.val, by omega⟩

/-- The blocks a point reads: rows of heads, columns of the matrix, the prompt's rows and the sample's. -/
def X (t : Fin cfg0.N) : FVec Ideal S1056x4096 .bf16 := iblk m c 0 t
def W (t : Fin cfg0.N) : FVec Ideal S4096x512 .bf16 := iblk m c 1 t
def P (t : Fin cfg0.N) : FVec Ideal S1056x512 .f32 := rows m c t zeros
def S (t : Fin cfg0.N) : FVec Ideal S512x512 .f32 := iblk m c 3 t

theorem blk_x (t : Fin cfg0.N) (r : Fin 1056) (e : Fin 4096) : (X m c t (ix2 r e) : EReal) = arg0 m c (ix2 (rowOf t r) e) := by
  refine Eq.trans (b := (V m c main_arg0 (ix2 (rowOf t r) e) : EReal)) ?_ (congrFun (V_main_arg0 m c) _)
  unfold X
  blk_ext [iblk, idx0 t]
theorem blk_w (t : Fin cfg0.N) (e : Fin 4096) (l : Fin 512) : (W m c t (ix2 e l) : EReal) = arg1 m c (ix3 0 e (colOf t l)) := by
  refine Eq.trans (b := (V m c main_v3 (ix2 e (colOf t l)) : EReal)) ?_ (entry_w m c e _)
  unfold W
  blk_ext [iblk, idx1 t]
theorem blk_s (t : Fin cfg0.N) (r : Fin 512) (l : Fin 512) : (S m c t (ix2 r l) : EReal) = V m c main_v1 (ix2 r (colOf t l)) := by
  unfold S
  blk_ext [iblk, idx3 t]
/-- A row of the prompt's block that the array has. -/
theorem blk_p (t : Fin cfg0.N) (r : Fin 1056) (l : Fin 512) (h : t.val / 8 * 1056 + r.val < 16384) :
    (P m c t (ix2 r l) : EReal) = V m c main_v0 (ix2 ⟨t.val / 8 * 1056 + r.val, h⟩ (colOf t l)) := by
  have hy : ∀ a : Fin 2, (ix2 r l a).val < win0_2.xsize (grid0.coords t) a := by
    by_cases ht : t.val / 8 < 15
    · intro a
      unfold Pipeline.Window.xsize
      rw [clip_rows t ht a]
      match a with
      | ⟨0, _⟩ => exact r.isLt
      | ⟨1, _⟩ => exact l.isLt
    · intro a
      refine Nat.lt_of_lt_of_le ?_ (xsize_rows t a)
      match a with
      | ⟨0, _⟩ => show r.val < 544; omega
      | ⟨1, _⟩ => exact l.isLt
  refine (rows_of_lt m c t zeros (ix2 r l) hy).trans ?_
  blk_ext [iblk, idx2 t]

/-- The product at a point. -/
theorem sum_at (t : Fin cfg0.N) (r : Fin 1056) (l : Fin 512) :
    (∑ e : Fin 4096, X m c t (ix2 r e) * W m c t (ix2 e l)) = mix (arg0 m c) (arg1 m c) (rowOf t r) (colOf t l) :=
  Finset.sum_congr rfl fun e _ => congrArg₂ (· * ·) (blk_x m c t r e) (blk_w m c t e l)

theorem base_prompt (t : Fin cfg0.N) (r : Fin 1056) (l : Fin 512) (h : t.val / 8 * 1056 + r.val < 16384) :
    (P m c t (ix2 r l) : EReal) = base (arg2 m c) (arg3 m c) (rowOf t r) (colOf t l) := by
  refine (blk_p m c t r l h).trans ((entry_p m c _ _).trans ?_)
  unfold base
  rw [dif_pos (show (rowOf t r).val < 16384 from h)]

theorem base_sample (t : Fin cfg0.N) (r : Fin 512) (l : Fin 512) (h : ¬ t.val / 8 < 15) :
    (S m c t (ix2 r l) : EReal) = base (arg2 m c) (arg3 m c) (rowOf t ⟨544 + r.val, by omega⟩) (colOf t l) := by
  have := t_lt t
  refine (blk_s m c t r l).trans ((entry_s m c _ _).trans ?_)
  unfold base
  rw [dif_neg (show ¬ (rowOf t ⟨544 + r.val, by omega⟩).val < 16384 by dsimp only; omega)]
  exact congrArg₂ (fun a b => (arg3 m c (ix3 a b (colOf t l)) : EReal)) (Fin.ext (by dsimp only; omega)) (Fin.ext (by dsimp only; omega))

/-- A point's block, element by element. -/
theorem left_at (t : Fin cfg0.N) (r : Fin 1056) (l : Fin 512) :
    (left m c t zeros (ix2 r l) : EReal) = sums (arg0 m c) (arg1 m c) (arg2 m c) (arg3 m c) (ix2 (rowOf t r) (colOf t l)) := by
  have ht := t_lt t
  show _ = base (arg2 m c) (arg3 m c) (rowOf t r) (colOf t l) + mix (arg0 m c) (arg1 m c) (rowOf t r) (colOf t l)
  show (block (F := Ideal) (grid0.coords t) (X m c t) (W m c t) (P m c t) (S m c t) (ix2 r l) : EReal) = _
  unfold block
  rw [coords0]
  by_cases h : t.val / 8 < 15
  · rw [if_pos h]
    exact (pay2 _ _ _ r l).trans (congrArg₂ (· + ·) (base_prompt m c t r l (by omega)) (sum_at m c t r l))
  · rw [if_neg h]
    by_cases hr : r.val < 544
    · refine (dif_pos (show ((ix2 r l : S1056x512.Idx) (0 : Fin 2)).val < 544 from hr)).trans ?_
      refine (pay3 _ _ _ ⟨r.val, hr⟩ l).trans (congrArg₂ (· + ·) ?_ (sum_at m c t r l))
      refine Eq.trans (congrArg (fun y => (P m c t y : EReal)) ?_) (base_prompt m c t r l (by omega))
      funext a
      match a with
      | ⟨0, _⟩ => exact Fin.ext (show 0 + 1 * r.val = r.val by omega)
      | ⟨1, _⟩ => exact Fin.ext (show 0 + 1 * l.val = l.val by omega)
    · refine (dif_neg (show ¬ ((ix2 r l : S1056x512.Idx) (0 : Fin 2)).val < 544 from hr)).trans ?_
      have e : (⟨544 + (r.val - 544), by omega⟩ : Fin 1056) = r := Fin.ext (by dsimp only; omega)
      refine (pay4 _ _ _ ⟨r.val - 544, by omega⟩ l).trans (congrArg₂ (· + ·) ((base_sample m c t _ l h).trans ?_) ((sum_at m c t _ l).trans ?_))
      · exact congrArg (fun a => base (arg2 m c) (arg3 m c) (rowOf t a) (colOf t l)) e
      · exact congrArg (fun a => mix (arg0 m c) (arg1 m c) (rowOf t a) (colOf t l)) e

/-- The blocks written back cover the result array. -/
theorem covers4 : (cfg0.win 4).Covers :=
  (cfg0.win 4).covers_of_index_surj rfl (fun a => by
      match a with
      | ⟨0, _⟩ => exact (by decide : 0 < 1056)
      | ⟨1, _⟩ => exact (by decide : 0 < 512)) fun β => by
    have h0 : (β (0 : Fin 2)).val < 16 := (β (0 : Fin 2)).isLt.trans_eq (show (16896 + 1056 - 1) / 1056 = 16 by decide)
    have h1 : (β (1 : Fin 2)).val < 8 := (β (1 : Fin 2)).isLt.trans_eq (show (4096 + 512 - 1) / 512 = 8 by decide)
    refine ⟨⟨(β (0 : Fin 2)).val * 8 + (β (1 : Fin 2)).val, show _ < 128 by omega⟩, fun a => ?_⟩
    rw [idx4]
    match a with
    | ⟨0, _⟩ => show ((β (0 : Fin 2)).val * 8 + (β (1 : Fin 2)).val) / 8 = (β (0 : Fin 2)).val; omega
    | ⟨1, _⟩ => show ((β (0 : Fin 2)).val * 8 + (β (1 : Fin 2)).val) % 8 = (β (1 : Fin 2)).val; omega

/-- The result array. -/
theorem arr_eq : (dat m 0 c).arrAt 4 (Fin.last cfg0.N) = sums (arg0 m c) (arg1 m c) (arg2 m c) (arg3 m c) := by
  refine (dat m 0 c).arrAt_eq_of_covers 4 _ covers4 fun t hf y => ?_
  have ht := t_lt t
  blk_simp
  rw [after4]
  obtain ⟨r, l, rfl⟩ : ∃ (r : Fin 1056) (l : Fin 512), y = ix2 r l :=
    ⟨(show S1056x512.Idx from y) 0, (show S1056x512.Idx from y) 1, eq_ix2 (show S1056x512.Idx from y)⟩
  have hx : ((View.whole main_v4).slice ((cfg0.win 4).rect t)).emb (ix2 r l) = ix2 (rowOf t r) (colOf t l) := by
    blk_ext [idx4 t]
  exact (left_at m c t r l).trans (congrArg (sums _ _ _ _) hx).symm

end Cert.Kernel5Ideal.OutProj

end
-- ==== Proof.OutProj.Claims.lean ====
module

public import proofs.«01_k».proof.Defs
public import proofs.«01_k».proof.Proof.Gen.Kernel5
public import proofs.«01_k».proof.Proof.Gen.Kernel5Ideal
public import proofs.«01_k».proof.Proof.Gen.Reference5Ideal
public import proofs.«01_k».proof.Proof.OutProj.RefRun
public import proofs.«01_k».proof.Proof.OutProj.Arrays
public import Idealize.ShloMosaic.Adequacy
public import Idealize.ShloMosaic.Init
public import Idealize.ShloMosaic.Lib.Claim

/-! The claims of the out-projection. -/

@[expose] public section

noncomputable section

namespace Cert.Proof.OutProj

open Idealize.ShloMosaic Idealize.SL.Sem
open Cert.Kernel5Ideal.OutProj

/-- The call over the extended reals terminates from any memory, leaves its arguments unchanged and its counters at zero. -/
theorem frame_ideal : Cert.quiescent_Kernel5Ideal := fun m ρ _ => frame_exit m ρ

/-- The two programs' tables of bodies are one. -/
theorem bodies_same : Cert.Kernel5.defs₀ (F := Bits)
    = (show Defs Cert.Kernel5.nD Cert.Kernel5.τ Cert.Kernel5.sig (Elt Bits) Cert.Kernel5.Λ₀ from by
        with_unfolding_all exact Cert.Kernel5Ideal.defs₀ (F := Bits)) := by
  unfold Cert.Kernel5.defs₀ Cert.Kernel5Ideal.defs₀
  refine congrArg Defs.onTc (funext fun l => funext fun a => ?_)
  match l, a with
  | ⟨0, _⟩, (t, s) => with_unfolding_all rfl

set_option maxHeartbeats 4000000 in
/-- The same of the call over machine words: the two programs are one text. -/
theorem frame_kernel : Cert.quiescent_Kernel5 := fun m ρ _ => by
  unfold Cert.Kernel5.defs
  rw [bodies_same]
  with_unfolding_all exact frame_exit (F := Bits) m ρ

/-- The same of the reference, which declares no semaphore. -/
theorem frame_reference : Cert.quiescent_Reference5Ideal := fun m ρ _ =>
  (θ_run Cert.Reference5Ideal.defs _ _).mono
    (fun r h => ⟨fun c => (h c).2, sem_eq_zero_of_no_sems (by decide) r.2⟩)
    (Cert.Reference5Ideal.Value.run m ρ)

/-- The call and the reference end with equal outputs. -/
theorem values : Cert.algebraic_Kernel5Ideal_Reference5Ideal := by
  intro m ρ m' ρ' _ hagree
  refine ⟨_, θ_run_mono (run_out m ρ) (fun r h c => ⟨(h.2 c).trans (arr_eq m c), h.1.1 c⟩), ?_⟩
  refine θ_run_mono (Cert.Reference5Ideal.Value.run m' ρ') ?_
  intro r h c
  obtain ⟨a0, a1, a2, a3⟩ := hagree c
  refine ⟨((h c).1.trans (Cert.Reference5Ideal.Read.val_main_v11_eq _ _ _ _)).trans ?_, (h c).2⟩
  rw [a0, a1, a2, a3]
  exact Cert.Reference5Ideal.OutProj.result_eq (arg0 m c) (arg1 m c) (arg2 m c) (arg3 m c)

end Cert.Proof.OutProj

end
-- ==== Proof.Norm.Pay.lean ====
module
public import proofs.«01_k».proof.Proof.Gen.Kernel6Ideal.Skeleton
public import proofs.«01_k».proof.Proof.Gen.Reference6Ideal.Read
public import Idealize.ShloMosaic.Lib.Pointwise
/-!
# The norm on scalars: the kernel's body and the reference
-/
@[expose] public section
set_option maxRecDepth 16384
noncomputable section
open Idealize.ShloMosaic Idealize.ShloMosaic.TcCoe Idealize.SL.Sem

namespace Cert.Norm

/-- The row's width as the mean's divisor. -/
def width : EReal := Ideal.ofBits .f32 0x45800000#32
/-- The norm's epsilon. -/
def eps : EReal := Ideal.ofBits .f32 0x358637BD#32

/-- An element of a row, over the root of the row's mean square, times its weight. -/
def normed (x : Fin 4096 → EReal) (g : EReal) (d : Fin 4096) : EReal :=
  x d * Ideal.rsqrt (Ideal.div (∑ k, x k * x k) width + eps) * g

/-- A row of the two groups: the prompt's rows, sequence by sequence, then the sample's. -/
def rowOf (x0 : FVec Ideal ⟨3, ![8, 2048, 4096]⟩ .f32) (x1 : FVec Ideal ⟨3, ![8, 64, 4096]⟩ .f32) (n : Fin 16896)
    (d : Fin 4096) : EReal :=
  if h : n.val < 16384 then x0 (ix3 ⟨n.val / 2048, by omega⟩ ⟨n.val % 2048, by omega⟩ d)
  else x1 (ix3 ⟨(n.val - 16384) / 64, by omega⟩ ⟨(n.val - 16384) % 64, by omega⟩ d)

/-- The normalised rows. -/
def rows (x0 : FVec Ideal ⟨3, ![8, 2048, 4096]⟩ .f32) (x1 : FVec Ideal ⟨3, ![8, 64, 4096]⟩ .f32)
    (x2 : FVec Ideal ⟨2, ![1, 4096]⟩ .f32) : FVec Ideal ⟨2, ![16896, 4096]⟩ .bf16 := fun y =>
  normed (rowOf x0 x1 (y 0)) (x2 (ix2 0 (y 1))) (y 1)

end Cert.Norm

namespace Cert.Kernel6Ideal.Norm
open Cert.Kernel6Ideal Cert.Kernel6Ideal.Gen Cert.Norm

/-- The block of the prompt's points. -/
theorem pay1 (x : FVec Ideal S256x4096 .f32) (g : FVec Ideal S1x4096 .f32) (r : Fin 256) (d : Fin 4096) :
    (k0_pay1 (F := Ideal) x g (ix2 r d) : EReal) = normed (fun k => x (ix2 r k)) (g (ix2 0 d)) d := by
  unfold normed width eps
  pointwise [k0_pay1]

/-- The block of the sample's points. -/
theorem pay2 (x : FVec Ideal S256x4096 .f32) (g : FVec Ideal S1x4096 .f32) (r : Fin 256) (d : Fin 4096) :
    (k0_pay2 (F := Ideal) x g (ix2 r d) : EReal) = normed (fun k => x (ix2 r k)) (g (ix2 0 d)) d := by
  unfold normed width eps
  pointwise [k0_pay2]

end Cert.Kernel6Ideal.Norm

namespace Cert.Reference6Ideal.Norm
open Cert.Reference6Ideal Cert.Reference6Ideal.Gen Cert.Reference6Ideal.Read Cert.Norm

variable (x0 : FVec Ideal S8x2048x4096 .f32) (x1 : FVec Ideal S8x64x4096 .f32) (x2 : FVec Ideal S1x4096 .f32)

/-- The prompt's rows of the reference. -/
theorem prompt_at (n : Fin 16384) (d : Fin 4096) : (val_main_v28 (F := Ideal) x0 x2 (ix2 n d) : EReal)
    = normed (fun k => x0 (ix3 ⟨n.val / 2048, by omega⟩ ⟨n.val % 2048, by omega⟩ k)) (x2 (ix2 0 d)) d := by
  unfold normed width eps
  pointwise [val_main_v28, val_main_v13, val_main_v12, val_main_v11, val_main_v10, val_main_v9, val_main_v8, val_main_v7,
    val_main_v6, val_main_v5, val_main_v4, val_main_v3, val_main_v2, val_main_v1, val_main_v0, val_main_cst, val_main_cst_0,
    val_main_cst_1]

/-- The sample's. -/
theorem sample_at (n : Fin 512) (d : Fin 4096) : (val_main_v29 (F := Ideal) x1 x2 (ix2 n d) : EReal)
    = normed (fun k => x1 (ix3 ⟨n.val / 64, by omega⟩ ⟨n.val % 64, by omega⟩ k)) (x2 (ix2 0 d)) d := by
  unfold normed width eps
  pointwise [val_main_v29, val_main_v27, val_main_v26, val_main_v25, val_main_v24, val_main_v23, val_main_v22, val_main_v21,
    val_main_v20, val_main_v19, val_main_v18, val_main_v17, val_main_v16, val_main_v15, val_main_v14, val_main_cst_2,
    val_main_cst_3, val_main_cst_4]

/-- One array under another. -/
theorem under (A : FVec Ideal S16384x4096 .f32) (B : FVec Ideal S512x4096 .f32) (n : Fin 16896) (d : Fin 4096) :
    (concatenate S16896x4096 0 [⟨S16384x4096, A⟩, ⟨S512x4096, B⟩] concatenates_S16384x4096_S512x4096_S16896x4096_d0 (ix2 n d) : EReal)
      = if h : n.val < 16384 then A (ix2 ⟨n.val, h⟩ d) else B (ix2 ⟨n.val - 16384, by omega⟩ d) := by
  pointwise []

/-- The reference's result. -/
theorem result_eq : val_main_v31 (F := Ideal) x0 x1 x2 = rows x0 x1 x2 := funext fun y => by
  obtain ⟨n, d, rfl⟩ : ∃ (n : Fin 16896) (d : Fin 4096), y = ix2 n d := ⟨y 0, y 1, eq_ix2 y⟩
  refine (under (val_main_v28 (F := Ideal) x0 x2) (val_main_v29 (F := Ideal) x1 x2) n d).trans ?_
  show _ = normed (rowOf x0 x1 n) (x2 (ix2 0 d)) d
  unfold rowOf
  by_cases h : n.val < 16384
  · simp only [dif_pos h]
    exact prompt_at x0 x2 ⟨n.val, h⟩ d
  · simp only [dif_neg h]
    exact sample_at x1 x2 ⟨n.val - 16384, by omega⟩ d

end Cert.Reference6Ideal.Norm

end
-- ==== Proof.Norm.Arrays.lean ====
module
public import proofs.«01_k».proof.Proof.Gen.Kernel6Ideal.Frame
public import proofs.«01_k».proof.Proof.Norm.Pay
public import Idealize.ShloMosaic.Lib.Pipeline.Covers
public import Idealize.ShloMosaic.Lib.Pipeline.ValueKit
/-!
# What the norm leaves in its result array
-/
@[expose] public section
set_option maxRecDepth 16384
noncomputable section
open Idealize.ShloMosaic Idealize.ShloMosaic.TcCoe Idealize.SL.Sem
open Idealize.ShloMosaic.Pipeline (Dat)
namespace Cert.Kernel6Ideal.Norm
open Cert.Kernel6Ideal Cert.Kernel6Ideal.Gen Cert.Norm

variable (m : (ℓ : Loc nD τ sig) → Buf (Elt Ideal) ℓ) (ρ : Dev nD → PrngReg) (c : Dev nD)

/-- The program's arguments. -/
abbrev arg0 : FVec Ideal S8x2048x4096 .f32 := m ((c : Thread nD τ).loc main_arg0)
abbrev arg1 : FVec Ideal S8x64x4096 .f32 := m ((c : Thread nD τ).loc main_arg1)
abbrev arg2 : FVec Ideal S1x4096 .f32 := m ((c : Thread nD τ).loc main_arg2)

/-- The prompt's rows as the region finds them, the sample's, and the weights. -/
theorem entry_p (n : Fin 16384) (d : Fin 4096) :
    (V m c main_v0 (ix2 n d) : EReal) = arg0 m c (ix3 ⟨n.val / 2048, by omega⟩ ⟨n.val % 2048, by omega⟩ d) := by
  show (StableHlo.after hostOps0 (fun b => m (c, b)) (Proc.devRef .tc main_v0) (ix2 n d) : EReal) = _
  entry_read
  pointwise []
theorem entry_s (n : Fin 512) (d : Fin 4096) :
    (V m c main_v1 (ix2 n d) : EReal) = arg1 m c (ix3 ⟨n.val / 64, by omega⟩ ⟨n.val % 64, by omega⟩ d) := by
  show (StableHlo.after hostOps0 (fun b => m (c, b)) (Proc.devRef .tc main_v1) (ix2 n d) : EReal) = _
  entry_read
  pointwise []
theorem entry_g (d : Fin 4096) : (V m c main_v3 (ix2 0 d) : EReal) = arg2 m c (ix2 0 d) := by
  show (StableHlo.after hostOps0 (fun b => m (c, b)) (Proc.devRef .tc main_v3) (ix2 0 d) : EReal) = _
  entry_read
  pointwise []

theorem idx0 (t : Fin cfg0.N) : (cfg0.win 0).index t = ![min t.val 63, 0] := by
  have h : ∀ t : Fin grid0.N, cc0_transform_0 (grid0.coords t) = ![min t.val 63, 0] := by decide +kernel
  exact h t
theorem idx1 (t : Fin cfg0.N) : (cfg0.win 1).index t = ![t.val - 64, 0] := by
  have h : ∀ t : Fin grid0.N, cc0_transform_1 (grid0.coords t) = ![t.val - 64, 0] := by decide +kernel
  exact h t
theorem idx2 (t : Fin cfg0.N) : (cfg0.win 2).index t = ![0, 0] := by
  have h : ∀ t : Fin grid0.N, cc0_transform_2 (grid0.coords t) = ![0, 0] := by decide +kernel
  exact h t
theorem idx3 (t : Fin cfg0.N) : (cfg0.win 3).index t = ![t.val, 0] := by
  have h : ∀ t : Fin grid0.N, cc0_transform_3 (grid0.coords t) = ![t.val, 0] := by decide +kernel
  exact h t

theorem t_lt (t : Fin cfg0.N) : t.val < 66 := t.isLt

/-- The row of a block's element. -/
abbrev rowAt (t : Fin cfg0.N) (r : Fin 256) : Fin 16896 := ⟨t.val * 256 + r.val, by have := t_lt t; omega⟩

/-- The blocks a point reads: the prompt's rows, the sample's, and the weights. -/
def P (t : Fin cfg0.N) : FVec Ideal S256x4096 .f32 := iblk m c 0 t
def S (t : Fin cfg0.N) : FVec Ideal S256x4096 .f32 := iblk m c 1 t
def G (t : Fin cfg0.N) : FVec Ideal S1x4096 .f32 := iblk m c 2 t

theorem blk_p (t : Fin cfg0.N) (h : t.val < 64) (r : Fin 256) (d : Fin 4096) :
    (P m c t (ix2 r d) : EReal) = rowOf (arg0 m c) (arg1 m c) (rowAt t r) d := by
  refine Eq.trans (b := (V m c main_v0 (ix2 ⟨t.val * 256 + r.val, by omega⟩ d) : EReal)) ?_ ((entry_p m c _ d).trans ?_)
  · have e : min t.val 63 = t.val := by omega
    unfold P
    blk_ext [iblk, idx0 t, e]
  · unfold rowOf
    rw [dif_pos (show (rowAt t r).val < 16384 by dsimp only; omega)]
theorem blk_s (t : Fin cfg0.N) (h : 64 ≤ t.val) (r : Fin 256) (d : Fin 4096) :
    (S m c t (ix2 r d) : EReal) = rowOf (arg0 m c) (arg1 m c) (rowAt t r) d := by
  have ht := t_lt t
  refine Eq.trans (b := (V m c main_v1 (ix2 ⟨(t.val - 64) * 256 + r.val, by omega⟩ d) : EReal)) ?_ ((entry_s m c _ d).trans ?_)
  · unfold S
    blk_ext [iblk, idx1 t]
  · unfold rowOf
    rw [dif_neg (show ¬ (rowAt t r).val < 16384 by dsimp only; omega)]
    exact congrArg₂ (fun a b => (arg1 m c (ix3 a b d) : EReal)) (Fin.ext (by dsimp only; omega)) (Fin.ext (by dsimp only; omega))
theorem blk_g (t : Fin cfg0.N) (d : Fin 4096) : (G m c t (ix2 0 d) : EReal) = arg2 m c (ix2 0 d) := by
  refine Eq.trans (b := (V m c main_v3 (ix2 0 d) : EReal)) ?_ (entry_g m c d)
  unfold G
  blk_ext [iblk, idx2 t]

/-- A point's block, element by element. -/
theorem left_at (t : Fin cfg0.N) (r : Fin 256) (d : Fin 4096) :
    (outsAt0 m c t.val t.isLt (ix2 r d) : EReal) = rows (arg0 m c) (arg1 m c) (arg2 m c) (ix2 (rowAt t r) d) := by
  show _ = normed (rowOf (arg0 m c) (arg1 m c) (rowAt t r)) (arg2 m c (ix2 0 d)) d
  by_cases h : t.val < 64
  · rw [outsAt0_A m c t h (by omega)]
    unfold out0_A_3
    frame_out
    refine (pay1 (P m c t) (G m c t) r d).trans ?_
    rw [blk_g]
    exact congrArg (fun f => normed f _ d) (funext fun k => blk_p m c t h r k)
  · rw [outsAt0_B m c t h (by omega)]
    unfold out0_B_3
    frame_out
    refine (pay2 (S m c t) (G m c t) r d).trans ?_
    rw [blk_g]
    exact congrArg (fun f => normed f _ d) (funext fun k => blk_s m c t (by omega) r k)

/-- The blocks written back cover the result array. -/
theorem covers3 : (cfg0.win 3).Covers :=
  (cfg0.win 3).covers_of_index_surj rfl (fun a => by
      match a with
      | ⟨0, _⟩ => exact (by decide : 0 < 256)
      | ⟨1, _⟩ => exact (by decide : 0 < 4096)) fun β => by
    have h0 : (β (0 : Fin 2)).val < 66 := (β (0 : Fin 2)).isLt.trans_eq (show (16896 + 256 - 1) / 256 = 66 by decide)
    have h1 : (β (1 : Fin 2)).val < 1 := (β (1 : Fin 2)).isLt.trans_eq (show (4096 + 4096 - 1) / 4096 = 1 by decide)
    refine ⟨⟨(β (0 : Fin 2)).val, h0⟩, fun a => ?_⟩
    rw [idx3]
    match a with
    | ⟨0, _⟩ => rfl
    | ⟨1, _⟩ => show 0 = (β (1 : Fin 2)).val; omega

/-- The result array. -/
theorem arr_eq : (dats m 0 c).arrAt 3 (Fin.last cfg0.N) = rows (arg0 m c) (arg1 m c) (arg2 m c) := by
  refine (dats m 0 c).arrAt_eq_of_covers 3 _ covers3 fun t hf y => ?_
  have ht := t_lt t
  blk_simp
  rw [after0_3]
  obtain ⟨r, d, rfl⟩ : ∃ (r : Fin 256) (d : Fin 4096), y = ix2 r d :=
    ⟨(show S256x4096.Idx from y) 0, (show S256x4096.Idx from y) 1, eq_ix2 (show S256x4096.Idx from y)⟩
  have hx : ((View.whole main_v4).slice ((cfg0.win 3).rect t)).emb (ix2 r d) = ix2 (rowAt t r) d := by
    blk_ext [idx3 t]
  exact (left_at m c t r d).trans (congrArg (rows _ _ _) hx).symm

/-- Every run ends with the result array at the normalised rows. -/
theorem run_out : θ_run defs (onTc (τ := τ) (main (F := Ideal))) ⟨m, fun _ => 0, ρ⟩ (fun r => ∀ c : Dev nD,
      r.2.mem ((c.tc : Thread nD τ).loc main_v4) = rows (arg0 m c) (arg1 m c) (arg2 m c)) :=
  (θ_run defs _ _).mono (fun _ h c => ((h c).1 3).trans (arr_eq m c)) (run_main m ρ)

end Cert.Kernel6Ideal.Norm

end
-- ==== Proof.Norm.Claims.lean ====
module

public import proofs.«01_k».proof.Defs
public import proofs.«01_k».proof.Proof.Gen.Kernel6
public import proofs.«01_k».proof.Proof.Gen.Kernel6.Frame
public import proofs.«01_k».proof.Proof.Gen.Kernel6Ideal
public import proofs.«01_k».proof.Proof.Gen.Reference6Ideal
public import proofs.«01_k».proof.Proof.Gen.Reference6Ideal.Run
public import proofs.«01_k».proof.Proof.Norm.Arrays
public import Idealize.ShloMosaic.Adequacy
public import Idealize.ShloMosaic.Init
public import Idealize.ShloMosaic.Lib.Claim

/-! The claims of the norm before the mixer. -/

@[expose] public section

noncomputable section

namespace Cert.Proof.Norm

open Idealize.ShloMosaic Idealize.SL.Sem
open Cert.Kernel6Ideal.Norm

/-- The call terminates from any memory, leaves its arguments unchanged and its counters at zero. -/
theorem frame_kernel : Cert.quiescent_Kernel6 := fun m ρ _ => Cert.Kernel6.Gen.frame m ρ

/-- The same of its reading over the extended reals. -/
theorem frame_ideal : Cert.quiescent_Kernel6Ideal := fun m ρ _ => Cert.Kernel6Ideal.Gen.frame m ρ

/-- The same of the reference, which declares no semaphore. -/
theorem frame_reference : Cert.quiescent_Reference6Ideal := fun m ρ _ =>
  (θ_run Cert.Reference6Ideal.defs _ _).mono
    (fun r h => ⟨fun c => (h c).2, sem_eq_zero_of_no_sems (by decide) r.2⟩)
    (Cert.Reference6Ideal.Value.run m ρ)

/-- The call and the reference end with equal rows. -/
theorem values : Cert.algebraic_Kernel6Ideal_Reference6Ideal := by
  intro m ρ m' ρ' _ hagree
  refine ⟨_, θ_run_mono (θ_run_and (run_out m ρ) (Cert.Kernel6Ideal.Gen.unchanged m ρ))
    (fun r h c => ⟨h.1 c, h.2 c⟩), ?_⟩
  refine θ_run_mono (Cert.Reference6Ideal.Value.run m' ρ') ?_
  intro r h c
  obtain ⟨a0, a1, a2⟩ := hagree c
  refine ⟨((h c).1.trans (Cert.Reference6Ideal.Read.val_main_v31_eq _ _ _)).trans ?_, (h c).2⟩
  rw [a0, a1, a2]
  exact Cert.Reference6Ideal.Norm.result_eq (arg0 m c) (arg1 m c) (arg2 m c)

end Cert.Proof.Norm

end
-- ==== Proof.Cumsum.Spec.lean ====
module
public import Idealize.ShloMosaic.Lib.Pointwise
public import Idealize.ShloMosaic.Lib.Pipeline.ValueKit
/-!
# Running sums, and a running sum printed as a window sum
-/
@[expose] public section
set_option maxRecDepth 16384
noncomputable section
open Idealize.ShloMosaic Idealize.ShloMosaic.TcCoe Idealize.SL.Sem

namespace Cert.Cumsum

/-- The sum of the first `n` values. -/
def run (f : ℕ → EReal) (n : ℕ) : EReal := ∑ s ∈ Finset.range n, f s

/-- A running sum continued by the values that follow. -/
theorem run_add (f : ℕ → EReal) (n k : ℕ) : run f (n + k) = run f n + ∑ s ∈ Finset.range k, f (n + s) :=
  Finset.sum_range_add f n k

/-- The running sums of the 2048 rows of each of the eight streams, lane by lane. -/
def sums (g : FVec Ideal ⟨2, ![16896, 128]⟩ .f32) : FVec Ideal ⟨2, ![16384, 128]⟩ .f32 := fun y =>
  run (fun s => g (ix2 ⟨(y 0).val / 2048 * 2048 + s % 2048, by
    have h : (y 0).val < 16384 := (y 0).isLt
    have h2 := Nat.mod_lt s (show 0 < 2048 by decide)
    omega⟩ (y 1))) ((y 0).val % 2048 + 1)

/-- The positions of a window that ends at `t` and lies inside the row are the first `t + 1`. -/
theorem sum_window (f : ℕ → EReal) (t : Fin 2048) :
    (∑ k : Fin 2048, if 2047 ≤ t.val + k.val then f (t.val + k.val - 2047) else 0) = run f (t.val + 1) := by
  unfold run
  rw [← Finset.sum_filter]
  refine Finset.sum_bij' (fun k _ => t.val + k.val - 2047) (fun s hs => ⟨s + 2047 - t.val, by
      have := Finset.mem_range.1 hs; omega⟩) ?_ ?_ ?_ ?_ ?_
  · intro k hk
    have := (Finset.mem_filter.1 hk).2
    exact Finset.mem_range.2 (by omega)
  · intro s hs
    have := Finset.mem_range.1 hs
    exact Finset.mem_filter.2 ⟨Finset.mem_univ _, by dsimp only; omega⟩
  · intro k hk
    have := (Finset.mem_filter.1 hk).2
    exact Fin.ext (by dsimp only; omega)
  · intro s hs
    have := Finset.mem_range.1 hs
    dsimp only; omega
  · intro k hk
    rfl

/-- A float window sum from zero is the sum over the window's positions, nothing in the padding. -/
theorem window_fold {s t u : Shape} (window strides lo hi : Fin s.rank → ℕ) (x : FVec Ideal s .f32) (init : u.Idx → Ideal .f32)
    (hw : s.ReduceWindows window strides lo hi t) (hu : 0 < u.numel) (h0 : init (Shape.Idx.first hu) = (0 : EReal)) (j : t.Idx) :
    Host.reduceWindowAdd window strides lo hi x init hw hu j
      = ∑ k : (⟨s.rank, window⟩ : Shape).Idx,
          if hin : ∀ a, lo a ≤ (j (a.cast hw.1.symm)).val * strides a + (k a).val
              ∧ (j (a.cast hw.1.symm)).val * strides a + (k a).val - lo a < s.size a
          then x (fun a => ⟨(j (a.cast hw.1.symm)).val * strides a + (k a).val - lo a, (hin a).2⟩) else (0 : EReal) := by
  rw [sum_idx_eq_foldl]
  show Host.reduceWindow (u := ⟨0, ![]⟩) (fun a b : EReal => a + b) _ _ _ _ x (fun _ => init (Shape.Idx.first hu)) hw (by decide) _ = _
  unfold Host.reduceWindow
  rw [h0]
  dsimp only
  refine congrArg (fun f => List.foldl f (0 : EReal) _) (funext fun r => funext fun n => congrArg (fun y : EReal => r + y) ?_)
  congr 1

variable (x : FVec Ideal ⟨3, ![8, 2048, 128]⟩ .f32) (i : Fin 8) (t : Fin 2048) (l : Fin 128)

/-- The row and lane of a stream as a function of time. -/
def row (s : ℕ) : EReal := x (ix3 i ⟨s % 2048, Nat.mod_lt _ (by decide)⟩ l)

/-- One position of the window: an element of the row where it is inside, nothing in the padding. -/
theorem window_term (k : (⟨3, ![1, 2048, 1]⟩ : Shape).Idx) (P : Prop) (d : Decidable P)
    (hP : P = ∀ a : Fin 3, (![0, 2047, 0] : Fin 3 → ℕ) a ≤ (ix3 i t l a).val * (![1, 1, 1] : Fin 3 → ℕ) a + (k a).val
        ∧ (ix3 i t l a).val * (![1, 1, 1] : Fin 3 → ℕ) a + (k a).val - (![0, 2047, 0] : Fin 3 → ℕ) a
          < (![8, 2048, 128] : Fin 3 → ℕ) a) :
    @dite EReal P d (fun hin => x (fun a => ⟨(ix3 i t l a).val * (![1, 1, 1] : Fin 3 → ℕ) a + (k a).val
        - (![0, 2047, 0] : Fin 3 → ℕ) a, ((hP ▸ hin : ∀ a : Fin 3, _) a).2⟩)) (fun _ => 0)
      = if 2047 ≤ t.val + (k 1).val then row x i l (t.val + (k 1).val - 2047) else 0 := by
  subst hP
  have k0 : (k 0).val < 1 := (k 0).isLt
  have k1 : (k 1).val < 2048 := (k 1).isLt
  have k2 : (k 2).val < 1 := (k 2).isLt
  by_cases hin : 2047 ≤ t.val + (k 1).val
  · rw [if_pos hin, dif_pos]
    · unfold row
      refine congrArg x (funext fun a => Fin.ext ?_)
      match a with
      | ⟨0, _⟩ => show i.val * 1 + (k 0).val - 0 = i.val; omega
      | ⟨1, _⟩ => show t.val * 1 + (k 1).val - 2047 = (t.val + (k 1).val - 2047) % 2048; omega
      | ⟨2, _⟩ => show l.val * 1 + (k 2).val - 0 = l.val; omega
    · intro a
      match a with
      | ⟨0, _⟩ => show 0 ≤ i.val * 1 + (k 0).val ∧ i.val * 1 + (k 0).val - 0 < 8; omega
      | ⟨1, _⟩ => show 2047 ≤ t.val * 1 + (k 1).val ∧ t.val * 1 + (k 1).val - 2047 < 2048; omega
      | ⟨2, _⟩ => show 0 ≤ l.val * 1 + (k 2).val ∧ l.val * 1 + (k 2).val - 0 < 128; omega
  · rw [if_neg hin, dif_neg]
    intro hc
    have h1 : 2047 ≤ t.val * 1 + (k 1).val := (hc 1).1
    omega

/-- A running sum along the middle axis, printed as a window sum of 2048 positions padded 2047 low. -/
theorem window_sum {u : Shape} (init : u.Idx → Ideal .f32)
    (hw : (⟨3, ![8, 2048, 128]⟩ : Shape).ReduceWindows ![1, 2048, 1] ![1, 1, 1] ![0, 2047, 0] ![0, 0, 0] ⟨3, ![8, 2048, 128]⟩)
    (hu : 0 < u.numel) (h0 : init (Shape.Idx.first hu) = (0 : EReal)) :
    Host.reduceWindowAdd ![1, 2048, 1] ![1, 1, 1] ![0, 2047, 0] ![0, 0, 0] x init hw hu (ix3 i t l)
      = run (row x i l) (t.val + 1) := by
  have e : Host.reduceWindowAdd ![1, 2048, 1] ![1, 1, 1] ![0, 2047, 0] ![0, 0, 0] x init hw hu (ix3 i t l)
      = ∑ k : (⟨3, ![1, 2048, 1]⟩ : Shape).Idx,
          if 2047 ≤ t.val + (k 1).val then row x i l (t.val + (k 1).val - 2047) else (0 : EReal) := by
    refine (window_fold _ _ _ _ x init hw hu h0 _).trans ?_
    exact Finset.sum_congr rfl fun k _ => window_term x i t l k _ _ rfl
  rw [e, sum_idx3]
  simp only [Fin.sum_univ_one, Fin.isValue]
  exact sum_window (row x i l) t

end Cert.Cumsum

end
-- ==== Proof.Cumsum.Arrays.lean ====
module
public import proofs.«01_k».proof.Proof.Gen.Kernel7Ideal.Frame
public import proofs.«01_k».proof.Proof.Cumsum.Spec
public import Idealize.ShloMosaic.Lib.WordCmp
public import Idealize.ShloMosaic.Lib.Pipeline.Covers
public import Idealize.ShloMosaic.Lib.Pipeline.ValueKit
/-!
# What the prefix sums' launch leaves in its result array
-/
@[expose] public section
set_option maxRecDepth 16384
noncomputable section
open Idealize.ShloMosaic Idealize.ShloMosaic.TcCoe Idealize.SL.Sem
open Idealize.ShloMosaic.Pipeline (Dat)
namespace Cert.Kernel7Ideal.Cumsum
open Cert.Kernel7Ideal Cert.Kernel7Ideal.Gen Cert.Cumsum

/-- The mask's weight of a position in a running sum is one or zero. -/
theorem weight (s r : Fin 256) (y : EReal) :
    (FloatOps.sitofp (F := Ideal) .f32 (BitVec.setWidth 32 (IntOp.cmpi .sle (BitVec.ofNat 32 s.val) (BitVec.ofNat 32 r.val)))) * y
      = if s.val ≤ r.val then y else 0 := by
  rw [WordCmp.cmpi_sle_ofNat (by omega) (by omega)]
  by_cases h : s.val ≤ r.val
  · rw [if_pos h, decide_eq_true h]
    have e : (FloatOps.sitofp (F := Ideal) .f32 (BitVec.setWidth 32 (BitVec.ofBool true)) : EReal) = 1 := by
      show ((((BitVec.setWidth 32 (BitVec.ofBool true)).toInt : ℤ) : ℝ) : EReal) = 1
      have : (BitVec.setWidth 32 (BitVec.ofBool true)).toInt = 1 := by decide
      rw [this]; norm_num
    exact (congrArg (fun z : EReal => z * y) e).trans (one_mul y)
  · rw [if_neg h, decide_eq_false h]
    have e : (FloatOps.sitofp (F := Ideal) .f32 (BitVec.setWidth 32 (BitVec.ofBool false)) : EReal) = 0 := by
      show ((((BitVec.setWidth 32 (BitVec.ofBool false)).toInt : ℤ) : ℝ) : EReal) = 0
      have : (BitVec.setWidth 32 (BitVec.ofBool false)).toInt = 0 := by decide
      rw [this]; norm_num
    exact (congrArg (fun z : EReal => z * y) e).trans (zero_mul y)

/-- The triangular product of a chunk: each lane's sums over the chunk up to a row. -/
theorem dot_at (v : Vec Ideal S256x128 .f32) (f : ℕ → EReal) (r : Fin 256) (l : Fin 128)
    (hv : ∀ s : Fin 256, (v (ix2 s l) : EReal) = f s.val) :
    (k0_pay12 (F := Ideal) v (ix2 r l) : EReal) = ∑ s ∈ Finset.range (r.val + 1), f s := by
  have e : (k0_pay12 (F := Ideal) v (ix2 r l) : EReal) = ∑ s : Fin 256, if s.val ≤ r.val then f s.val else 0 := by
    pointwise [k0_pay12, k0_pay10]
    refine Finset.sum_congr rfl fun s _ => (weight s r _).trans ?_
    rw [← hv s]
  rw [e, ← Finset.sum_filter]
  refine Finset.sum_bij' (fun s _ => s.val) (fun s hs => ⟨s, by have := Finset.mem_range.1 hs; omega⟩) ?_ ?_ ?_ ?_ ?_
  · intro s hs
    have := (Finset.mem_filter.1 hs).2
    exact Finset.mem_range.2 (by omega)
  · intro s hs
    have := Finset.mem_range.1 hs
    exact Finset.mem_filter.2 ⟨Finset.mem_univ _, by dsimp only; omega⟩
  · intro s _; rfl
  · intro s _; rfl
  · intro s _; rfl

/-- The carry after a chunk, and the chunk's rows of the result. -/
def next (w : FVec Ideal S1x128 .f32) (v : Vec Ideal S256x128 .f32) : FVec Ideal S1x128 .f32 :=
  addf w (extractStridedSlice S1x128 ![255, 0] (k0_pay12 (F := Ideal) v) slices_S256x128_o255_0_S1x128)
def emit (w : FVec Ideal S1x128 .f32) (v : Vec Ideal S256x128 .f32) : FVec Ideal S256x128 .f32 :=
  addf (k0_pay12 (F := Ideal) v) (broadcastTo S256x128 w broadcasts_S1x128_S256x128)

theorem next_raw (w : FVec Ideal S1x128 .f32) (v : Vec Ideal S256x128 .f32) (l : Fin 128) :
    (next w v (ix2 0 l) : EReal) = w (ix2 0 l) + k0_pay12 (F := Ideal) v (ix2 255 l) := by
  unfold next
  generalize k0_pay12 (F := Ideal) v = d
  pointwise []
theorem emit_raw (w : FVec Ideal S1x128 .f32) (v : Vec Ideal S256x128 .f32) (r : Fin 256) (l : Fin 128) :
    (emit w v (ix2 r l) : EReal) = k0_pay12 (F := Ideal) v (ix2 r l) + w (ix2 0 l) := by
  unfold emit
  generalize k0_pay12 (F := Ideal) v = d
  pointwise []

section Chunks
variable {f : ℕ → EReal} {n : ℕ} {w : FVec Ideal S1x128 .f32} {v : Vec Ideal S256x128 .f32} {l : Fin 128}

/-- The carry after a chunk is the running sum up to the chunk's end. -/
theorem next_at (hw : (w (ix2 0 l) : EReal) = run f n) (hv : ∀ s : Fin 256, (v (ix2 s l) : EReal) = f (n + s.val)) :
    (next w v (ix2 0 l) : EReal) = run f (n + 256) := by
  rw [next_raw, hw, dot_at v (fun s => f (n + s)) 255 l hv, run_add]
  rfl
/-- A chunk's row of the result is the running sum up to the row. -/
theorem emit_at (hw : (w (ix2 0 l) : EReal) = run f n) (hv : ∀ s : Fin 256, (v (ix2 s l) : EReal) = f (n + s.val)) (r : Fin 256) :
    (emit w v (ix2 r l) : EReal) = run f (n + (r.val + 1)) := by
  rw [emit_raw, hw, dot_at v (fun s => f (n + s)) r l hv, run_add, add_comm]
/-- The first chunk starts from nothing. -/
theorem zero_at : (k0_pay11 (F := Ideal) (ix2 0 l) : EReal) = run f 0 := by
  unfold run
  pointwise [k0_pay11]
  exact (Finset.sum_range_zero f).symm
end Chunks

variable (m : (ℓ : Loc nD τ sig) → Buf (Elt Ideal) ℓ) (ρ : Dev nD → PrngReg) (c : Dev nD)

/-- The gates. -/
abbrev arg0 : FVec Ideal S16896x128 .f32 := m ((c : Thread nD τ).loc main_arg0)

theorem idx0 (t : Fin cfg0.N) : (cfg0.win 0).index t = ![t.val, 0] := by
  have h : ∀ t : Fin grid0.N, cc0_transform_0 (grid0.coords t) = ![t.val, 0] := by decide +kernel
  exact h t
theorem idx1 (t : Fin cfg0.N) : (cfg0.win 1).index t = ![t.val, 0] := by
  have h : ∀ t : Fin grid0.N, cc0_transform_1 (grid0.coords t) = ![t.val, 0] := by decide +kernel
  exact h t
theorem t_lt (t : Fin cfg0.N) : t.val < 8 := t.isLt

/-- A lane of the block a point reads, as a function of time. -/
def lane (t : Fin cfg0.N) (l : Fin 128) (s : ℕ) : EReal :=
  arg0 m c (ix2 ⟨t.val * 2048 + s % 2048, by
    have := t_lt t
    have h2 := Nat.mod_lt s (show 0 < 2048 by decide)
    omega⟩ l)

/-- The block of gates a point reads. -/
def X (t : Fin cfg0.N) : Vec Ideal S2048x128 .f32 := X0_0 m c t

theorem X_at (t : Fin cfg0.N) (s : Fin 2048) (l : Fin 128) : (X m c t (ix2 s l) : EReal) = lane m c t l s.val := by
  have ht := t_lt t
  unfold X X0_0 Pipeline.Window.fill
  rw [dif_pos (moved0_0 t _)]
  unfold lane
  have e : s.val % 2048 = s.val := Nat.mod_eq_of_lt s.isLt
  simp only [e]
  blk_ext [iblk, idx0 t]

/-- A chunk of the block. -/
theorem chunk_at (t : Fin cfg0.N) (o : ℕ) (h : o + 256 ≤ 2048) (hi) (s : Fin 256) (l : Fin 128) :
    (View.ld (X m c t) (Rect.unit (s := S2048x128) ![o, 0] ![256, 128] hi) (ix2 s l) : EReal) = lane m c t l (o + s.val) := by
  refine Eq.trans ?_ (X_at m c t ⟨o + s.val, by omega⟩ l)
  generalize X m c t = x
  refine congrArg x (funext fun a => Fin.ext ?_)
  match a with
  | ⟨0, _⟩ => show o + 1 * s.val = o + s.val; omega
  | ⟨1, _⟩ => show 0 + 1 * l.val = l.val; omega

/-- A point's block of the result: the running sums of its rows. -/
theorem left_at (t : Fin cfg0.N) (y : S2048x128.Idx) :
    (outsAt0 m c t y : EReal) = run (lane m c t (y 1)) ((y 0).val + 1) := by
  unfold outsAt0
  unfold out0_A_1
  frame_out
  have hc := fun o h hi s => chunk_at m c t o h hi s (y 1)
  have c0 := next_at (zero_at (f := lane m c t (y 1))) (fun s => by rw [Nat.zero_add]; exact (hc 0 (by decide) inb_S2048x128_S256x128_0_0 s).trans (by rw [Nat.zero_add]))
  have c1 := next_at c0 (hc 256 (by decide) inb_S2048x128_S256x128_256_0)
  have c2 := next_at c1 (hc 512 (by decide) inb_S2048x128_S256x128_512_0)
  have c3 := next_at c2 (hc 768 (by decide) inb_S2048x128_S256x128_768_0)
  have c4 := next_at c3 (hc 1024 (by decide) inb_S2048x128_S256x128_1024_0)
  have c5 := next_at c4 (hc 1280 (by decide) inb_S2048x128_S256x128_1280_0)
  have c6 := next_at c5 (hc 1536 (by decide) inb_S2048x128_S256x128_1536_0)
  have z := hc 0 (by decide) inb_S2048x128_S256x128_0_0
  canon_tiles x h
  all_goals
    obtain ⟨r, l, rfl⟩ : ∃ (r : Fin 256) (l : Fin 128), x = ix2 r l := ⟨x 0, x 1, eq_ix2 x⟩
    have hl : y 1 = l := Fin.ext h1
    rw [h0]
    subst hl
  · exact emit_at c6 (hc 1792 (by decide) inb_S2048x128_S256x128_1792_0) r
  · exact emit_at c5 (hc 1536 (by decide) inb_S2048x128_S256x128_1536_0) r
  · exact emit_at c4 (hc 1280 (by decide) inb_S2048x128_S256x128_1280_0) r
  · exact emit_at c3 (hc 1024 (by decide) inb_S2048x128_S256x128_1024_0) r
  · exact emit_at c2 (hc 768 (by decide) inb_S2048x128_S256x128_768_0) r
  · exact emit_at c1 (hc 512 (by decide) inb_S2048x128_S256x128_512_0) r
  · exact emit_at c0 (hc 256 (by decide) inb_S2048x128_S256x128_256_0) r
  · exact (emit_at (zero_at (f := lane m c t (y 1))) (fun s => by rw [Nat.zero_add]; exact (z s).trans (by rw [Nat.zero_add])) r).trans (by rw [Nat.zero_add]; rfl)

/-- The result array. -/
theorem arr_eq : (dats m 0 c).arrAt 1 (Fin.last cfg0.N) = sums (arg0 m c) := by
  refine (dats m 0 c).arrAt_eq_of_covers 1 (sums (arg0 m c)) (by decide +kernel) fun t hf y => ?_
  have ht := t_lt t
  blk_simp
  rw [after0_1]
  obtain ⟨r, l, rfl⟩ : ∃ (r : Fin 2048) (l : Fin 128), y = ix2 r l :=
    ⟨(show S2048x128.Idx from y) 0, (show S2048x128.Idx from y) 1, eq_ix2 (show S2048x128.Idx from y)⟩
  have hx : ((View.whole main_v0).slice ((cfg0.win 1).rect t)).emb (ix2 r l) = ix2 (⟨t.val * 2048 + r.val, by omega⟩ : Fin 16384) l := by
    blk_ext [idx1 t]
  refine (left_at m c t (ix2 r l)).trans (Eq.trans ?_ (congrArg (sums (arg0 m c)) hx).symm)
  have e1 : (t.val * 2048 + r.val) / 2048 = t.val := by omega
  have e2 : (t.val * 2048 + r.val) % 2048 = r.val := by omega
  show run (lane m c t l) (r.val + 1) = run _ ((t.val * 2048 + r.val) % 2048 + 1)
  rw [e2]
  refine congrArg (fun f => run f (r.val + 1)) (funext fun s => ?_)
  exact congrArg (fun a => (arg0 m c (ix2 a l) : EReal)) (Fin.ext (by show _ = (t.val * 2048 + r.val) / 2048 * 2048 + s % 2048; rw [e1]))

/-- Every run ends with the result array at the running sums. -/
theorem run_out : θ_run defs (onTc (τ := τ) (main (F := Ideal))) ⟨m, fun _ => 0, ρ⟩ (fun r => ∀ c : Dev nD,
      r.2.mem ((c.tc : Thread nD τ).loc main_v0) = sums (arg0 m c)) :=
  (θ_run defs _ _).mono (fun _ h c => ((h c).1 1).trans (arr_eq m c)) (run_main m ρ)

end Cert.Kernel7Ideal.Cumsum

end
-- ==== Proof.Cumsum.Claims.lean ====
module

public import proofs.«01_k».proof.Defs
public import proofs.«01_k».proof.Proof.Gen.Kernel7
public import proofs.«01_k».proof.Proof.Gen.Kernel7.Frame
public import proofs.«01_k».proof.Proof.Gen.Kernel7Ideal
public import proofs.«01_k».proof.Proof.Gen.Reference7Ideal
public import proofs.«01_k».proof.Proof.Gen.Reference7Ideal.Run
public import proofs.«01_k».proof.Proof.Gen.Reference7Ideal.Read
public import proofs.«01_k».proof.Proof.Cumsum.Arrays
public import Idealize.ShloMosaic.Adequacy
public import Idealize.ShloMosaic.Init
public import Idealize.ShloMosaic.Lib.Claim

/-! The claims of the prefix sums of the prompt's gates. -/

@[expose] public section

noncomputable section

namespace Cert.Reference7Ideal.Cumsum

open Idealize.ShloMosaic Idealize.ShloMosaic.TcCoe Idealize.SL.Sem
open Cert.Reference7Ideal Cert.Reference7Ideal.Gen Cert.Reference7Ideal.Read Cert.Cumsum

variable (x0 : FVec Ideal S16896x128 .f32)

/-- The gates that the reference sums, stream by stream. -/
theorem gates_at (i : Fin 8) (t : Fin 2048) (l : Fin 128) :
    (val_main_v1 (F := Ideal) x0 (ix3 i t l) : EReal) = x0 (ix2 ⟨i.val * 2048 + t.val, by omega⟩ l) := by
  pointwise [val_main_v1, val_main_v0]

/-- The reference's running sums. -/
theorem sums_at (i : Fin 8) (t : Fin 2048) (l : Fin 128) :
    (val_main_v2 (F := Ideal) x0 (ix3 i t l) : EReal) = run (row (val_main_v1 (F := Ideal) x0) i l) (t.val + 1) := by
  unfold val_main_v2
  refine window_sum _ i t l _ _ _ ?_
  pointwise [val_main_call0_call0_v0, val_main_call0_call0_cst]

/-- The reference's result. -/
theorem result_eq : val_main_v3 (F := Ideal) x0 = sums x0 := funext fun y => by
  obtain ⟨n, l, rfl⟩ : ∃ (n : Fin 16384) (l : Fin 128), y = ix2 n l := ⟨y 0, y 1, eq_ix2 y⟩
  have e : (val_main_v3 (F := Ideal) x0 (ix2 n l) : EReal)
      = val_main_v2 (F := Ideal) x0 (ix3 ⟨n.val / 2048, by omega⟩ ⟨n.val % 2048, by omega⟩ l) := by
    unfold val_main_v3
    generalize val_main_v2 (F := Ideal) x0 = a
    pointwise []
  refine e.trans ((sums_at x0 _ _ l).trans ?_)
  exact congrArg (fun f => run f (n.val % 2048 + 1)) (funext fun s => gates_at x0 _ _ l)

end Cert.Reference7Ideal.Cumsum

namespace Cert.Proof.Cumsum

open Idealize.ShloMosaic Idealize.SL.Sem
open Cert.Kernel7Ideal.Cumsum

/-- The call terminates from any memory, leaves its arguments unchanged and its counters at zero. -/
theorem frame_kernel : Cert.quiescent_Kernel7 := fun m ρ _ => Cert.Kernel7.Gen.frame m ρ

/-- The same of its reading over the extended reals. -/
theorem frame_ideal : Cert.quiescent_Kernel7Ideal := fun m ρ _ => Cert.Kernel7Ideal.Gen.frame m ρ

/-- The same of the reference, which declares no semaphore. -/
theorem frame_reference : Cert.quiescent_Reference7Ideal := fun m ρ _ =>
  (θ_run Cert.Reference7Ideal.defs _ _).mono
    (fun r h => ⟨fun c => (h c).2, sem_eq_zero_of_no_sems (by decide) r.2⟩)
    (Cert.Reference7Ideal.Value.run m ρ)

/-- The call and the reference end with equal sums. -/
theorem values : Cert.algebraic_Kernel7Ideal_Reference7Ideal := by
  intro m ρ m' ρ' _ hagree
  refine ⟨_, θ_run_mono (θ_run_and (run_out m ρ) (Cert.Kernel7Ideal.Gen.unchanged m ρ))
    (fun r h c => ⟨h.1 c, h.2 c⟩), ?_⟩
  refine θ_run_mono (Cert.Reference7Ideal.Value.run m' ρ') ?_
  intro r h c
  have a0 := hagree c
  refine ⟨((h c).1.trans (Cert.Reference7Ideal.Read.val_main_v3_eq _)).trans ?_, (h c).2⟩
  rw [a0]
  exact Cert.Reference7Ideal.Cumsum.result_eq (arg0 m c)

end Cert.Proof.Cumsum

end
-- ==== Proof.Mlstm.Spec.lean ====
module
public import Idealize.ShloMosaic.Lib.Pipeline.ValueKit
public import Idealize.ShloMosaic.Lib.Pointwise
/-!
# One head of the stabilised mLSTM recurrence over one chunk, on scalars

What both programs compute for one stream and one head, over the extended reals: the forget-gate prefix sums `b`,
the decays `D`, the running maximum `mt`, the normalised output `out`, and the carried `C`, `n`, `m` of the chunk's end.
-/
@[expose] public section
noncomputable section
open Idealize.ShloMosaic
namespace Cert.MlstmSpec

/-- The value that stands for no contribution in a maximum. -/
def negInf : EReal := Ideal.ofBits .f32 4286578688#32
/-- The scale of the keys, the float word of `128 ^ (-1/2)`. -/
def kScale : EReal := Ideal.ofBits .f32 1035273459#32
/-- The head width as the mean's divisor. -/
def width : EReal := Ideal.ofBits .f32 1132462080#32
/-- The norm's epsilon. -/
def eps : EReal := Ideal.ofBits .f32 897988541#32

/-- The data of one head over a chunk of 64 tokens. -/
structure Head where
  /-- the prefix sums of the log forget gates -/
  b : Fin 64 → EReal
  /-- the input gates -/
  ig : Fin 64 → EReal
  /-- the queries -/
  q : Fin 64 → Fin 128 → EReal
  /-- the scaled keys -/
  k : Fin 64 → Fin 128 → EReal
  /-- the values -/
  v : Fin 64 → Fin 256 → EReal
  /-- the carried matrix memory -/
  C : Fin 256 → Fin 128 → EReal
  /-- the carried normaliser -/
  n : Fin 128 → EReal
  /-- the carried stabiliser -/
  m : EReal
  /-- the output gate before its logistic -/
  og : Fin 64 → Fin 256 → EReal
  /-- the head norm's weight -/
  g : Fin 256 → EReal

namespace Head
variable (x : Head)

/-- The decay from token `s` to token `t`. -/
def D (t s : Fin 64) : EReal := if s ≤ t then x.b t - x.b s + x.ig s else negInf
/-- The stabiliser at token `t`. -/
def mt (t : Fin 64) : EReal := max (x.b t + x.m) (Finset.univ.fold max negInf fun s => x.D t s)
/-- The weight of the carried state at token `t`. -/
def wi (t : Fin 64) : EReal := Ideal.exp (x.b t + x.m - x.mt t)
/-- The weight of token `s` at token `t`. -/
def S (t s : Fin 64) : EReal := (∑ d, x.q t d * x.k s d) * Ideal.exp (x.D t s - x.mt t)
/-- The numerator. -/
def num (t : Fin 64) (e : Fin 256) : EReal := x.wi t * (∑ d, x.q t d * x.C e d) + ∑ s, x.S t s * x.v s e
/-- The denominator before its floor. -/
def den (t : Fin 64) : EReal := x.wi t * (∑ d, x.q t d * x.n d) + ∑ s, x.S t s
/-- The head's output before its norm. -/
def h (t : Fin 64) (e : Fin 256) : EReal := Ideal.div (x.num t e) (max (max (x.den t) (-x.den t)) (Ideal.exp (-x.mt t)))
/-- The gated, normalised output. -/
def out (t : Fin 64) (e : Fin 256) : EReal :=
  Ideal.logistic (x.og t e) * (x.h t e * Ideal.rsqrt (Ideal.div (∑ j, x.h t j * x.h t j) width + eps)) * x.g e
/-- The decay from token `s` to the chunk's end. -/
def dec (s : Fin 64) : EReal := x.b 63 - x.b s + x.ig s
/-- The stabiliser carried out of the chunk. -/
def mnew : EReal := max (x.b 63 + x.m) (Finset.univ.fold max negInf fun s => x.dec s)
/-- The weight of the old state in the new one. -/
def a : EReal := Ideal.exp (x.b 63 + x.m - x.mnew)
/-- The weight of token `s` in the new state. -/
def ws (s : Fin 64) : EReal := Ideal.exp (x.dec s - x.mnew)
/-- The matrix memory carried out. -/
def Cnew (e : Fin 256) (d : Fin 128) : EReal := x.a * x.C e d + ∑ s, x.v s e * (x.ws s * x.k s d)
/-- The normaliser carried out. -/
def nnew (d : Fin 128) : EReal := x.a * x.n d + ∑ s, x.ws s * x.k s d

end Head

/-- The prefix sum of a chunk. -/
def cum (f : Fin 64 → EReal) (t : Fin 64) : EReal := ∑ s : Fin 64, if s ≤ t then f s else 0

/-- The short convolution over four neighbouring rows of the history followed by the chunk. -/
def conv (u : ℕ → EReal) (w : Fin 4 → EReal) (t : ℕ) : EReal :=
  u t * w 0 + u (1 + t) * w 1 + u (2 + t) * w 2 + u (3 + t) * w 3
/-- `y · logistic y`. -/
def silu (y : EReal) : EReal := y * Ideal.logistic y

/-- One position of the window: an element of the row where the position is inside it, nothing in the padding. -/
theorem windowTerm (x : FVec Ideal ⟨3, ![8, 8, 64]⟩ .f32) (i h : Fin 8) (t : Fin 64)
    (k : (⟨3, ![1, 1, 64]⟩ : Shape).Idx) (P : Prop) (d : Decidable P)
    (hP : P = ∀ a : Fin 3, (![0, 0, 63] : Fin 3 → ℕ) a ≤ (ix3 i h t a).val * (![1, 1, 1] : Fin 3 → ℕ) a + (k a).val
        ∧ (ix3 i h t a).val * (![1, 1, 1] : Fin 3 → ℕ) a + (k a).val - (![0, 0, 63] : Fin 3 → ℕ) a
          < (![8, 8, 64] : Fin 3 → ℕ) a) :
    @dite EReal P d (fun hin => x (fun a => ⟨(ix3 i h t a).val * (![1, 1, 1] : Fin 3 → ℕ) a + (k a).val
        - (![0, 0, 63] : Fin 3 → ℕ) a, ((hP ▸ hin : ∀ a : Fin 3, _) a).2⟩)) (fun _ => 0)
      = if hin : 63 ≤ t.val + (k 2).val then x (ix3 i h ⟨t.val + (k 2).val - 63, by
          have : (k 2).val < 64 := (k 2).isLt
          omega⟩) else (0 : EReal) := by
  subst hP
  have k0 : (k 0).val = 0 := by have : (k 0).val < 1 := (k 0).isLt; omega
  have k1 : (k 1).val = 0 := by have : (k 1).val < 1 := (k 1).isLt; omega
  have k2 : (k 2).val < 64 := (k 2).isLt
  by_cases hin : 63 ≤ t.val + (k 2).val
  · rw [dif_pos hin, dif_pos]
    · congr 1
      funext a
      fin_cases a
      · exact Fin.ext (by show i.val * 1 + (k 0).val - 0 = i.val; omega)
      · exact Fin.ext (by show h.val * 1 + (k 1).val - 0 = h.val; omega)
      · exact Fin.ext (by show t.val * 1 + (k 2).val - 63 = t.val + (k 2).val - 63; omega)
    · intro a
      fin_cases a
      · show 0 ≤ i.val * 1 + (k 0).val ∧ i.val * 1 + (k 0).val - 0 < 8; omega
      · show 0 ≤ h.val * 1 + (k 1).val ∧ h.val * 1 + (k 1).val - 0 < 8; omega
      · show 63 ≤ t.val * 1 + (k 2).val ∧ t.val * 1 + (k 2).val - 63 < 64; omega
  · rw [dif_neg hin, dif_neg]
    intro hc
    have := (hc 2).1
    have h2 : 63 ≤ t.val * 1 + (k 2).val := this
    omega

/-- A float prefix sum along the last axis, written as a window sum of 64 positions padded 63 low. -/
theorem windowSum {u : Shape} (x : FVec Ideal ⟨3, ![8, 8, 64]⟩ .f32) (init : u.Idx → Ideal .f32)
    (hw : (⟨3, ![8, 8, 64]⟩ : Shape).ReduceWindows ![1, 1, 64] ![1, 1, 1] ![0, 0, 63] ![0, 0, 0] ⟨3, ![8, 8, 64]⟩)
    (hu : 0 < u.numel) (h0 : init (Shape.Idx.first hu) = (0 : EReal)) (i h : Fin 8) (t : Fin 64) :
    Host.reduceWindowAdd ![1, 1, 64] ![1, 1, 1] ![0, 0, 63] ![0, 0, 0] x init hw hu (ix3 i h t)
      = cum (fun s => x (ix3 i h s)) t := by
  have e : Host.reduceWindowAdd ![1, 1, 64] ![1, 1, 1] ![0, 0, 63] ![0, 0, 0] x init hw hu (ix3 i h t)
      = ∑ k : (⟨3, ![1, 1, 64]⟩ : Shape).Idx,
          if hin : 63 ≤ t.val + (k 2).val then x (ix3 i h ⟨t.val + (k 2).val - 63, by
            have : (k 2).val < 64 := (k 2).isLt
            omega⟩) else (0 : EReal) := by
    rw [sum_idx_eq_foldl]
    show Host.reduceWindow (u := ⟨0, ![]⟩) (fun a b : EReal => a + b) _ _ _ _ x (fun _ => init (Shape.Idx.first hu)) hw (by decide) _ = _
    unfold Host.reduceWindow
    rw [h0]
    dsimp only
    refine congrArg (fun f => List.foldl f (0 : EReal) _) (funext fun r => funext fun n => ?_)
    exact congrArg (fun y : EReal => r + y) (windowTerm x i h t ((Shape.rowMajor ⟨3, ![1, 1, 64]⟩).symm n) _ _ rfl)
  rw [e, sum_idx3]
  simp only [Fin.sum_univ_one, Fin.isValue]
  unfold cum
  rw [← Finset.sum_filter]
  show (∑ k : Fin 64, if hin : 63 ≤ t.val + k.val then x (ix3 i h ⟨t.val + k.val - 63, _⟩) else (0 : EReal)) = _
  have e2 : ∀ k : Fin 64, (if hin : 63 ≤ t.val + k.val then x (ix3 i h ⟨t.val + k.val - 63, by omega⟩) else (0 : EReal))
      = if 63 ≤ t.val + k.val then (fun s : ℕ => x (ix3 i h ⟨s % 64, Nat.mod_lt _ (by decide)⟩)) (t.val + k.val - 63) else 0 := by
    intro k
    by_cases hin : 63 ≤ t.val + k.val
    · rw [dif_pos hin, if_pos hin]
      refine congrArg (fun s => x (ix3 i h s)) (Fin.ext ?_)
      show t.val + k.val - 63 = (t.val + k.val - 63) % 64
      omega
    · rw [dif_neg hin, if_neg hin]
  rw [Finset.sum_congr rfl fun k _ => e2 k, ← Finset.sum_filter]
  refine Finset.sum_nbij' (fun k => ⟨(t.val + k.val - 63) % 64, Nat.mod_lt _ (by decide)⟩)
    (fun s => ⟨(s.val + 63 - t.val) % 64, Nat.mod_lt _ (by decide)⟩) ?_ ?_ ?_ ?_ ?_
  · intro k hk
    simp only [Finset.mem_filter, Finset.mem_univ, true_and] at hk ⊢
    exact Fin.le_def.2 (by show (t.val + k.val - 63) % 64 ≤ t.val; omega)
  · intro s hs
    simp only [Finset.mem_filter, Finset.mem_univ, true_and] at hs ⊢
    have := Fin.le_def.1 hs
    show 63 ≤ t.val + (s.val + 63 - t.val) % 64
    omega
  · intro k hk
    simp only [Finset.mem_filter, Finset.mem_univ, true_and] at hk
    exact Fin.ext (by show ((t.val + k.val - 63) % 64 + 63 - t.val) % 64 = k.val; omega)
  · intro s hs
    simp only [Finset.mem_filter, Finset.mem_univ, true_and] at hs
    have := Fin.le_def.1 hs
    exact Fin.ext (by show (t.val + (s.val + 63 - t.val) % 64 - 63) % 64 = s.val; omega)
  · intro k hk
    rfl

section Layer
variable (p32 : FVec Ideal ⟨2, ![16896, 8192]⟩ .f32) (p16 heads : FVec Ideal ⟨2, ![16896, 4096]⟩ .bf16)
  (gates : FVec Ideal ⟨2, ![16896, 128]⟩ .f32) (C : FVec Ideal ⟨5, ![1, 8, 8, 256, 128]⟩ .f32)
  (n : FVec Ideal ⟨4, ![1, 8, 8, 128]⟩ .f32) (m : FVec Ideal ⟨3, ![1, 8, 8]⟩ .f32)
  (cv : FVec Ideal ⟨4, ![1, 8, 3, 2048]⟩ .f32) (w : FVec Ideal ⟨3, ![1, 4, 2048]⟩ .f32)
  (g : FVec Ideal ⟨2, ![1, 2048]⟩ .f32)

/-- Row `r` of stream `i`'s history of three rows followed by its chunk, in column `c`. -/
def hist (i : Fin 8) (c : Fin 2048) (r : ℕ) : EReal :=
  if h : r < 3 then cv (ix4 0 i ⟨r, h⟩ c)
  else if h2 : r < 67 then p32 (ix2 ⟨16384 + (i.val * 64 + (r - 3)), by omega⟩ ⟨4096 + c.val, by omega⟩) else 0

/-- The convolved and activated query-key row of stream `i` at token `t`. -/
def qk (i : Fin 8) (t : Fin 64) (c : Fin 2048) : EReal :=
  silu (conv (hist p32 cv i c) (fun j => w (ix3 0 j c)) t.val)

/-- The row of stream `i`'s token `t` among the tokens of both batches. -/
def row (i : Fin 8) (t : Fin 64) : Fin 16896 := ⟨16384 + (i.val * 64 + t.val), by omega⟩

/-- The data of head `h` of stream `i`, from the layer's arrays. -/
def headOf (i h : Fin 8) : Head where
  b := cum fun s => gates (ix2 (row i s) ⟨24 + h.val, by omega⟩)
  ig s := gates (ix2 (row i s) ⟨16 + h.val, by omega⟩)
  q t d := qk p32 cv w i t ⟨h.val * 128 + d.val, by omega⟩
  k t d := qk p32 cv w i t ⟨1024 + (h.val * 128 + d.val), by omega⟩ * kScale
  v t e := p16 (ix2 (row i t) ⟨2048 + (h.val * 256 + e.val), by omega⟩)
  C e d := C (ix5 0 i h e d)
  n d := n (ix4 0 i h d)
  m := m (ix3 0 i h)
  og t e := p32 (ix2 (row i t) ⟨6144 + (h.val * 256 + e.val), by omega⟩)
  g e := g (ix2 0 ⟨h.val * 256 + e.val, by omega⟩)

/-- The heads' array: the running streams' rows hold the gated mLSTM heads in their right half. -/
def headsOut : FVec Ideal ⟨2, ![16896, 4096]⟩ .bf16 := fun y =>
  if h : 16384 ≤ (y 0).val ∧ 2048 ≤ (y 1).val then
    (headOf p32 p16 gates C n m cv w g
      ⟨((y 0).val - 16384) / 64, by have : (y 0).val < 16896 := (y 0).isLt; omega⟩
      ⟨((y 1).val - 2048) / 256, by have : (y 1).val < 4096 := (y 1).isLt; omega⟩).out
      ⟨((y 0).val - 16384) % 64, by omega⟩ ⟨((y 1).val - 2048) % 256, by omega⟩
  else heads y

/-- The carried matrix memories. -/
def COut : FVec Ideal ⟨4, ![8, 8, 256, 128]⟩ .f32 := fun y => (headOf p32 p16 gates C n m cv w g (y 0) (y 1)).Cnew (y 2) (y 3)
/-- The carried normalisers. -/
def nOut : FVec Ideal ⟨3, ![8, 8, 128]⟩ .f32 := fun y => (headOf p32 p16 gates C n m cv w g (y 0) (y 1)).nnew (y 2)
/-- The carried stabilisers. -/
def mOut : FVec Ideal ⟨2, ![8, 8]⟩ .f32 := fun y => (headOf p32 p16 gates C n m cv w g (y 0) (y 1)).mnew

end Layer

end Cert.MlstmSpec
-- ==== Proof.Prompt.Spec.lean ====
module
public import Idealize.ShloMosaic.Lib.Pipeline.ValueKit
public import proofs.«01_k».proof.Proof.Mlstm.Spec
/-!
# The stabiliser of an mLSTM head, chunk by chunk and at once

The prompt's heads run over 2048 positions in chunks of 256. `stab b ig n` is the stabiliser after the first `n` positions,
where `b` holds the running sums of the forget gates and `ig` the input gates: the larger of the running sum (the start's
stabiliser is zero) and the largest of the positions' decays. `stab_step`: taking a chunk's stabiliser from the one before,
with the running sums counted from the chunk's start, gives the same.
-/
@[expose] public section
noncomputable section
open Idealize.ShloMosaic
namespace Cert.Prompt
open Cert.MlstmSpec

/-- The running sum before position `n`. -/
def start (b : ℕ → ℝ) (n : ℕ) : ℝ := if n = 0 then 0 else b (n - 1)

/-- The stabiliser after `n` positions. -/
def stab (b : ℕ → ℝ) (ig : ℕ → EReal) (n : ℕ) : EReal :=
  max (start b n : EReal) ((Finset.range n).sup fun s => ((start b n - b s : ℝ) : EReal) + ig s)

theorem negInf_bot : negInf = ⊥ := by
  unfold negInf
  simp [Ideal.ofBits, Ideal.ieee]

/-- A fold of `max` from minus infinity is a supremum. -/
theorem fold_sup {ι : Type} (s : Finset ι) (f : ι → EReal) : s.fold max negInf f = s.sup f := by
  rw [negInf_bot]; rfl

/-- A number added to a supremum goes inside it. -/
theorem add_sup {ι : Type} (s : Finset ι) (f : ι → EReal) (d : EReal) : d + s.sup f = s.sup fun i => d + f i :=
  Finset.apply_sup_eq_sup_comp_of_linearOrder (fun z => d + z) (fun _ _ h => add_le_add le_rfl h) (EReal.add_bot d)

/-- A supremum over a range and the chunk after it. -/
theorem sup_range_add (f : ℕ → EReal) (n k : ℕ) :
    (Finset.range (n + k)).sup f = max ((Finset.range n).sup f) (Finset.univ.sup fun s : Fin k => f (n + s.val)) := by
  refine le_antisymm (Finset.sup_le fun s hs => ?_) (max_le (Finset.sup_mono (Finset.range_mono (by omega))) (Finset.sup_le fun s _ => ?_))
  · by_cases h : s < n
    · exact le_max_of_le_left (Finset.le_sup (f := f) (Finset.mem_range.2 h))
    · have hk : s - n < k := by have := Finset.mem_range.1 hs; omega
      refine le_max_of_le_right ?_
      have e := Finset.le_sup (f := fun s : Fin k => f (n + s.val)) (Finset.mem_univ (⟨s - n, hk⟩ : Fin k))
      have e2 : n + (s - n) = s := by omega
      simpa only [e2] using e
  · exact Finset.le_sup (f := f) (Finset.mem_range.2 (by have := s.isLt; omega))

/-- Two real numbers added to an extended one are added first. -/
theorem coe_add_coe (p q : ℝ) (e : EReal) : (p : EReal) + ((q : EReal) + e) = ((p + q : ℝ) : EReal) + e := by
  rw [← add_assoc, ← EReal.coe_add]

variable (b : ℕ → ℝ) (ig : ℕ → EReal)

theorem stab_zero : stab b ig 0 = 0 := by
  unfold stab start
  simp

/-- A chunk's stabiliser, from the one before it and the decays inside the chunk. -/
theorem stab_step (n k : ℕ) (hk : 0 < k) :
    max (((b (n + (k - 1)) - start b n : ℝ) : EReal) + stab b ig n)
        (Finset.univ.fold max negInf fun s : Fin k =>
          ((b (n + (k - 1)) - start b n : ℝ) : EReal) - ((b (n + s.val) - start b n : ℝ) : EReal) + ig (n + s.val))
      = stab b ig (n + k) := by
  have hs : start b (n + k) = b (n + (k - 1)) := by
    unfold start
    rw [if_neg (by omega)]
    exact congrArg b (by omega)
  unfold stab
  rw [fold_sup, hs, sup_range_add, ← max_assoc]
  have m1 : Monotone fun z : EReal => ((b (n + (k - 1)) - start b n : ℝ) : EReal) + z := fun _ _ h => add_le_add le_rfl h
  rw [m1.map_max, add_sup]
  refine congrArg₂ max (congrArg₂ max ?_ ?_) ?_
  · rw [← EReal.coe_add]; congr 1; ring
  · refine Finset.sup_congr rfl fun s _ => ?_
    rw [coe_add_coe]; congr 2; ring
  · refine Finset.sup_congr rfl fun s _ => ?_
    rw [← EReal.coe_sub]; congr 2; ring

/-- The stabiliser of all the positions at once. -/
theorem stab_whole (k : ℕ) (hk : 0 < k) :
    stab b ig k = max ((b (k - 1) : EReal) + 0) (Finset.univ.fold max negInf fun s : Fin k => (b (k - 1) : EReal) - (b s.val : EReal) + ig s.val) := by
  have h := stab_step b ig 0 k hk
  simp only [Nat.zero_add, stab_zero] at h
  rw [← h]
  have h0 : start b 0 = 0 := rfl
  simp only [h0, sub_zero]

end Cert.Prompt

end
-- ==== Proof.Mlstm.Pay.lean ====
module
public import proofs.«01_k».proof.Proof.Gen.KernelIdeal.Skeleton
public import proofs.«01_k».proof.Proof.Mlstm.Spec
/-!
# The kernel's values on scalars

Each value the body computes from a grid step's blocks is the corresponding quantity of `Cert.MlstmSpec`.
-/
@[expose] public section
set_option maxRecDepth 16384
noncomputable section
open Idealize.ShloMosaic Idealize.ShloMosaic.TcCoe Idealize.SL.Sem
namespace Cert.KernelIdeal.Mlstm
open Cert.KernelIdeal Cert.KernelIdeal.Gen Cert.MlstmSpec

/-- Comparing two chunk positions as words compares them as numbers. -/
theorem le_word : ∀ s t : Fin 64, IntOp.cmpi .sle (BitVec.ofNat 32 s.val) (BitVec.ofNat 32 t.val) = if s ≤ t then 1#1 else 0#1 := by
  decide +kernel

/-- The mask's weight of a position in a prefix sum is one or zero. -/
theorem le_weight (s t : Fin 64) (y : EReal) :
    (FloatOps.sitofp (F := Ideal) .f32 (BitVec.setWidth 32 (IntOp.cmpi .sle (BitVec.ofNat 32 s.val) (BitVec.ofNat 32 t.val)))) * y
      = if s ≤ t then y else 0 := by
  rw [le_word]
  split
  · have e : (FloatOps.sitofp (F := Ideal) .f32 (BitVec.setWidth 32 1#1) : EReal) = 1 := by
      show ((((BitVec.setWidth 32 1#1).toInt : ℤ) : ℝ) : EReal) = 1
      have : (BitVec.setWidth 32 1#1).toInt = 1 := by decide
      rw [this]; norm_num
    exact (congrArg (fun z : EReal => z * y) e).trans (one_mul y)
  · have e : (FloatOps.sitofp (F := Ideal) .f32 (BitVec.setWidth 32 0#1) : EReal) = 0 := by
      show ((((BitVec.setWidth 32 0#1).toInt : ℤ) : ℝ) : EReal) = 0
      have : (BitVec.setWidth 32 0#1).toInt = 0 := by decide
      rw [this]; norm_num
    exact (congrArg (fun z : EReal => z * y) e).trans (zero_mul y)

/-- The first launch's block: the prefix sums along each column. -/
theorem pay_cum (x : Vec Ideal S64x128 .f32) (r : Fin 64) (l : Fin 128) :
    k0_pay1 (F := Ideal) x (ix2 r l) = cum (fun s => x (ix2 s l)) r := by
  pointwise [k0_pay1]
  exact Finset.sum_congr rfl fun s _ => le_weight s r _

/-- The lane that a head's word picks among the gates. -/
theorem lane_word (o : ℕ) (ho : o = 16 ∨ o = 24) : ∀ (h : Fin 8) (k : Fin 128),
    IntOp.cmpi .eq (BitVec.ofNat 32 k.val) (Scalar.addi (BitVec.ofNat 32 o) (BitVec.ofNat 32 h.val)) = if k.val = o + h.val then 1#1 else 0#1 := by
  rcases ho with rfl | rfl <;> decide +kernel

/-- A sum over lanes that keeps one lane is that lane. -/
theorem sum_lane (o : ℕ) (ho : o = 16 ∨ o = 24) (h : Fin 8) (f : Fin 128 → EReal) :
    (∑ k : Fin 128, Scalar.select (IntOp.cmpi .eq (BitVec.ofNat 32 k.val) (Scalar.addi (BitVec.ofNat 32 o) (BitVec.ofNat 32 h.val))) (f k) (0 : EReal))
      = f ⟨o + h.val, by omega⟩ := by
  rw [Finset.sum_eq_single (⟨o + h.val, by omega⟩ : Fin 128)]
  · rw [lane_word o ho, if_pos rfl]; rfl
  · intro k _ hk
    rw [lane_word o ho, if_neg (fun hc => hk (Fin.ext hc))]; rfl
  · intro hc; exact absurd (Finset.mem_univ _) hc

theorem pay13 (h : Fin 8) (x : Vec Ideal S64x128 .f32) (r : Fin 64) :
    k1_pay13 (F := Ideal) (BitVec.ofNat 32 h.val) x (ix2 r 0) = x (ix2 r ⟨24 + h.val, by omega⟩) := by
  pointwise [k1_pay13]
  exact sum_lane 24 (.inr rfl) h (fun k => x (ix2 r k))

theorem pay14 (h : Fin 8) (x : Vec Ideal S64x128 .f32) (r : Fin 64) :
    k1_pay14 (F := Ideal) (BitVec.ofNat 32 h.val) x (ix2 r 0) = x (ix2 r ⟨16 + h.val, by omega⟩) := by
  pointwise [k1_pay14]
  exact sum_lane 16 (.inl rfl) h (fun k => x (ix2 r k))

section Stages
variable (x : Head)
variable (B IG : FVec Ideal S64x1 .f32) (I Fr : Vec Ideal S1x1x1x64 .f32) (M : Vec Ideal S1x1x1x1 .f32)
variable (Q K : Vec Ideal S64x128 .bf16) (Vv : Vec Ideal S64x256 .bf16) (C : Vec Ideal S1x1x256x128 .f32)
variable (N : Vec Ideal S1x1x1x128 .f32) (OG : Vec Ideal S64x256 .f32) (G : Vec Ideal S1x1x256 .f32)

/-- The arrays of a grid step hold the head `x`. -/
structure Holds : Prop where
  b : ∀ t, B (ix2 t 0) = x.b t
  ig : ∀ t, IG (ix2 t 0) = x.ig t
  igr : ∀ t, I (ix4 0 0 0 t) = x.ig t
  br : ∀ t, Fr (ix4 0 0 0 t) = x.b t
  m : M (ix4 0 0 0 0) = x.m
  q : ∀ t d, Q (ix2 t d) = x.q t d
  k : ∀ t d, K (ix2 t d) = x.k t d
  v : ∀ t e, Vv (ix2 t e) = x.v t e
  C : ∀ e d, C (ix4 0 0 e d) = x.C e d
  n : ∀ d, N (ix4 0 0 0 d) = x.n d
  og : ∀ t e, OG (ix2 t e) = x.og t e
  g : ∀ e, G (ix3 0 0 e) = x.g e

variable {x B IG I Fr M Q K Vv C N OG G} (H : Holds x B IG I Fr M Q K Vv C N OG G)
include H

theorem pay_mnew : k1_pay21 (F := Ideal) B I Fr M (ix2 0 0) = x.mnew := by
  pointwise [k1_pay21, k1_pay18, k1_pay19, k1_pay15, k1_pay20, k1_pay17, k1_pay16]
  simp only [H.b, H.m, H.br, H.igr]
  rfl

theorem pay_D (t s : Fin 64) : k1_pay22 (F := Ideal) k1_pay12 B I Fr (ix2 t s) = x.D t s := by
  pointwise [k1_pay22, k1_pay18, k1_pay15, k1_pay17, k1_pay16, k1_pay12]
  simp only [H.b, H.br, H.igr]
  rw [le_word, Head.D]
  split <;> rfl

theorem pay_mt (t : Fin 64) : k1_pay24 (F := Ideal) k1_pay12 B I Fr M (ix2 t 0) = x.mt t := by
  pointwise [k1_pay24, k1_pay23, k1_pay20, k1_pay17, k1_pay16]
  simp only [pay_D H, H.b, H.m]
  rfl

theorem pay_wi (t : Fin 64) : k1_pay25 (F := Ideal) k1_pay12 B I Fr M (ix2 t 0) = x.wi t := by
  pointwise [k1_pay25, k1_pay23, k1_pay20, k1_pay17, k1_pay16]
  simp only [pay_mt H, H.b, H.m]
  rfl

theorem pay_S (t s : Fin 64) : k1_pay26 (F := Ideal) k1_pay12 B I Fr M Q K (ix2 t s) = x.S t s := by
  pointwise [k1_pay26]
  simp only [pay_mt H, pay_D H, H.q, H.k]
  rfl

theorem pay_a : k1_pay28 (F := Ideal) (k1_pay19 B) (k1_pay20 M) (k1_pay21 B I Fr M) (ix2 0 0) = x.a := by
  pointwise [k1_pay28, k1_pay19, k1_pay20, k1_pay17, k1_pay16]
  simp only [pay_mnew H, H.b, H.m]
  rfl

theorem pay_wk (s : Fin 64) (d : Fin 128) :
    k1_pay29 (F := Ideal) IG (k1_pay17 B) (k1_pay19 B) (k1_pay21 B I Fr M) K (ix2 s d) = x.ws s * x.k s d := by
  pointwise [k1_pay29, k1_pay19, k1_pay17, k1_pay16]
  simp only [pay_mnew H, H.b, H.ig, H.k]
  rfl

theorem pay_C (e : Fin 256) (d : Fin 128) :
    k1_pay37 (F := Ideal) (k1_pay28 (k1_pay19 B) (k1_pay20 M) (k1_pay21 B I Fr M))
      (k1_pay30 IG (k1_pay17 B) (k1_pay19 B) (k1_pay21 B I Fr M) K Vv) (k1_pay32 C) (ix4 0 0 e d) = x.Cnew e d := by
  pointwise [k1_pay37, k1_pay30, k1_pay32]
  simp only [pay_a H, pay_wk H, H.v, H.C]
  rfl

theorem pay_n (d : Fin 128) :
    k1_pay38 (F := Ideal) (k1_pay28 (k1_pay19 B) (k1_pay20 M) (k1_pay21 B I Fr M))
      (k1_pay31 IG (k1_pay17 B) (k1_pay19 B) (k1_pay21 B I Fr M) K) (k1_pay33 N) (ix4 0 0 0 d) = x.nnew d := by
  pointwise [k1_pay38, k1_pay31, k1_pay33]
  simp only [pay_a H, pay_wk H, H.n]
  rfl

theorem pay_m (d : Fin 128) : k1_pay1 (F := Ideal) (k1_pay39 (k1_pay21 B I Fr M)) (ix4 0 0 0 d) = x.mnew := by
  pointwise [k1_pay1, k1_pay39]
  exact pay_mnew H

theorem pay_num (t : Fin 64) (e : Fin 256) :
    k1_pay34 (F := Ideal) (k1_pay25 k1_pay12 B I Fr M) (k1_pay27 k1_pay12 B I Fr M Q K) Vv C Q (ix2 t e) = x.num t e := by
  pointwise [k1_pay34, k1_pay27, k1_pay32]
  simp only [pay_wi H, pay_S H, H.v, H.C, H.q]
  rfl

theorem pay_den (t : Fin 64) :
    k1_pay35 (F := Ideal) (k1_pay25 k1_pay12 B I Fr M) (k1_pay26 k1_pay12 B I Fr M Q K) N Q (ix2 t 0) = x.den t := by
  pointwise [k1_pay35, k1_pay33]
  simp only [pay_wi H, pay_S H, H.n, H.q]
  rfl

theorem pay_out (t : Fin 64) (e : Fin 256) :
    k1_pay36 (F := Ideal) (k1_pay11 G) (k1_pay24 k1_pay12 B I Fr M)
      (k1_pay34 (k1_pay25 k1_pay12 B I Fr M) (k1_pay27 k1_pay12 B I Fr M Q K) Vv C Q)
      (k1_pay35 (k1_pay25 k1_pay12 B I Fr M) (k1_pay26 k1_pay12 B I Fr M Q K) N Q) OG (ix2 t e) = x.out t e := by
  pointwise [k1_pay36, k1_pay11]
  simp only [pay_mt H, pay_num H, pay_den H, H.og, H.g, zero_sub]
  rfl

end Stages

end Cert.KernelIdeal.Mlstm
-- ==== Proof.Prompt.Pay.lean ====
module
public import proofs.«01_k».proof.Proof.Gen.Kernel8Ideal.Skeleton
public import proofs.«01_k».proof.Proof.Prompt.Spec
public import proofs.«01_k».proof.Proof.Mlstm.Pay
/-!
# A chunk's stabiliser in the prompt's call
-/
@[expose] public section
set_option maxRecDepth 16384
noncomputable section
open Idealize.ShloMosaic Idealize.ShloMosaic.TcCoe Idealize.SL.Sem
namespace Cert.Kernel8Ideal.Prompt
open Cert.Kernel8Ideal Cert.Kernel8Ideal.Gen Cert.MlstmSpec Cert.Prompt

/-- The column of a chunk that a head's lane picks. -/
theorem col_at (h : Fin 8) (x : Vec Ideal S256x128 .f32) (r : Fin 256) :
    k0_pay14 (F := Ideal) (BitVec.ofNat 32 h.val) x (ix2 r 0) = x (ix2 r ⟨24 + h.val, by omega⟩) := by
  pointwise [k0_pay14]
  exact Cert.KernelIdeal.Mlstm.sum_lane 24 (.inr rfl) h (fun k => x (ix2 r k))

/-- A column's last entry. -/
def lastOf (f : FVec Ideal S256x1 .f32) : FVec Ideal S1x1 .f32 := extractStridedSlice S1x1 ![255, 0] f slices_S256x1_o255_0_S1x1
/-- The last running sum of a chunk, counted from the chunk's start. -/
def lenOf (st : FVec Ideal S1x1 .f32) (f : FVec Ideal S256x1 .f32) : FVec Ideal S1x1 .f32 :=
  lastOf (subf f (broadcastTo S256x1 st broadcasts_S1x1_S256x1))
/-- A chunk's stabiliser from the one before. -/
def mNext (st M : FVec Ideal S1x1 .f32) (f : FVec Ideal S256x1 .f32) (br ir : Vec Ideal S1x1x1x256 .f32) : FVec Ideal S1x1 .f32 :=
  maximumf (addf (lenOf st f) M)
    (shapeCast S1x1 (multiReduction .maximumf [1] S1
      (addf (subf (broadcastTo S1x256 (lenOf st f) broadcasts_S1x1_S1x256)
        (subf (shapeCast S1x256 br shapeCasts_S1x1x1x256_S1x256) (broadcastTo S1x256 st broadcasts_S1x1_S1x256)))
        (shapeCast S1x256 ir shapeCasts_S1x1x1x256_S1x256))
      0xFF800000#32 reduces_S1x256_S1 (.inl rfl) rfl) shapeCasts_S1_S1x1)

theorem lastOf_at (f : FVec Ideal S256x1 .f32) : (lastOf f (ix2 0 0) : EReal) = f (ix2 255 0) := by
  unfold lastOf
  pointwise []

theorem lenOf_at (st : FVec Ideal S1x1 .f32) (f : FVec Ideal S256x1 .f32) :
    (lenOf st f (ix2 0 0) : EReal) = f (ix2 255 0) - st (ix2 0 0) := by
  refine (lastOf_at _).trans ?_
  pointwise []

theorem mNext_raw (st M : FVec Ideal S1x1 .f32) (f : FVec Ideal S256x1 .f32) (br ir : Vec Ideal S1x1x1x256 .f32) :
    (mNext st M f br ir (ix2 0 0) : EReal)
      = max ((lenOf st f (ix2 0 0) : EReal) + M (ix2 0 0)) (Finset.univ.fold max negInf fun s : Fin 256 =>
          (lenOf st f (ix2 0 0) : EReal) - (br (ix4 0 0 0 s) - st (ix2 0 0)) + ir (ix4 0 0 0 s)) := by
  unfold mNext
  generalize lenOf st f = d
  pointwise []
  rfl

variable {b : ℕ → ℝ} {ig : ℕ → EReal} {n : ℕ} {st M : FVec Ideal S1x1 .f32} {h : Fin 8}
variable {x : Vec Ideal S256x128 .f32} {br ir : Vec Ideal S1x1x1x256 .f32}

/-- A chunk's start is the last running sum of the chunk before. -/
theorem last_at (hx : ∀ r : Fin 256, (x (ix2 r ⟨24 + h.val, by omega⟩) : EReal) = (b (n + r.val) : EReal)) :
    (lastOf (k0_pay14 (F := Ideal) (BitVec.ofNat 32 h.val) x) (ix2 0 0) : EReal) = (start b (n + 256) : EReal) := by
  refine ((lastOf_at _).trans ((col_at h x 255).trans (hx 255))).trans ?_
  rfl

/-- A chunk's stabiliser is the one after its positions. -/
theorem mNext_at (hs : (st (ix2 0 0) : EReal) = (start b n : EReal)) (hM : (M (ix2 0 0) : EReal) = stab b ig n)
    (hx : ∀ r : Fin 256, (x (ix2 r ⟨24 + h.val, by omega⟩) : EReal) = (b (n + r.val) : EReal))
    (hb : ∀ s : Fin 256, (br (ix4 0 0 0 s) : EReal) = (b (n + s.val) : EReal))
    (hi : ∀ s : Fin 256, (ir (ix4 0 0 0 s) : EReal) = ig (n + s.val)) :
    (mNext st M (k0_pay14 (F := Ideal) (BitVec.ofNat 32 h.val) x) br ir (ix2 0 0) : EReal) = stab b ig (n + 256) := by
  rw [mNext_raw, lenOf_at, col_at, hx, hs, hM, ← stab_step b ig n 256 (by decide)]
  simp only [hb, hi]
  rfl

end Cert.Kernel8Ideal.Prompt

end
-- ==== Proof.Prompt.Arrays.lean ====
module
public import proofs.«01_k».proof.Proof.Gen.Kernel8Ideal.Frame
public import proofs.«01_k».proof.Proof.Prompt.Pay
public import Idealize.ShloMosaic.Lib.Pipeline.Covers
public import Idealize.ShloMosaic.Lib.Pipeline.ValueKit
public import Idealize.ShloMosaic.Lib.Claim
/-!
# What the prompt's mLSTM call leaves in its stabilisers' array
-/
@[expose] public section
set_option maxRecDepth 16384
noncomputable section
open Idealize.ShloMosaic Idealize.ShloMosaic.TcCoe Idealize.SL.Sem
open Idealize.ShloMosaic.Pipeline (Dat)
namespace Cert.Kernel8Ideal.Prompt
open Cert.Kernel8Ideal Cert.Kernel8Ideal.Gen Cert.MlstmSpec Cert.Prompt

variable (m : (ℓ : Loc nD τ sig) → Buf (Elt Ideal) ℓ) (ρ : Dev nD → PrngReg) (c : Dev nD)

/-- The gates and their running sums. -/
abbrev arg2 : FVec Ideal S16896x128 .f32 := m ((c : Thread nD τ).loc main_arg2)
abbrev arg3 : FVec Ideal S16384x128 .f32 := m ((c : Thread nD τ).loc main_arg3)

section Host
variable (σ : Valuation τ sig (Elt Ideal))
theorem h_v12 (i : Fin 8) (l : Fin 128) (k : Fin 8) (r : Fin 256) : (StableHlo.after hostOps0_2 σ (Proc.devRef .tc main_v12) (ix4 i l k r) : EReal)
    = σ (Proc.devRef .tc main_v4) (ix3 i l ⟨k.val * 256 + r.val, by omega⟩) := by
  entry_read
  pointwise []
theorem h_v13 (i : Fin 8) (l : Fin 128) (k : Fin 8) (r : Fin 256) : (StableHlo.after hostOps0_2 σ (Proc.devRef .tc main_v13) (ix4 i l k r) : EReal)
    = σ (Proc.devRef .tc main_v5) (ix3 i l ⟨k.val * 256 + r.val, by omega⟩) := by
  entry_read
  pointwise []
theorem h_v16 (i h : Fin 8) (l : Fin 128) : (StableHlo.after hostOps0_2 σ (Proc.devRef .tc main_v16) (ix4 i h 0 l) : EReal)
    = σ (Proc.devRef .tc main_v9) (ix2 i h) := by
  entry_read
  pointwise []
theorem h_pad (b : Ref sig .tc) (h1 : b ≠ main_call0_v0) (h2 : b ≠ main_v11) :
    StableHlo.after hostOps0_1 σ (Proc.devRef .tc b) = σ (Proc.devRef .tc b) :=
  StableHlo.after_of_forall_not_mem (b := Proc.devRef .tc b) _ _ (List.forall_iff_forall_mem.mp (by
    simp only [hostOps0_1, List.Forall, StableHlo.TRef.unary, StableHlo.TRef.binary, StableHlo.unary_writes, StableHlo.binary_writes, Finset.mem_singleton]
    exact ⟨StableHlo.devRef_ne_of_ne h1, StableHlo.devRef_ne_of_ne h2⟩))
theorem h_v4 (i : Fin 8) (l : Fin 128) (s : Fin 2048) : (StableHlo.after hostOps0 σ (Proc.devRef .tc main_v4) (ix3 i l s) : EReal)
    = σ (Proc.devRef .tc main_arg2) (ix2 ⟨i.val * 2048 + s.val, by omega⟩ l) := by
  entry_read
  pointwise []
theorem h_v5 (i : Fin 8) (l : Fin 128) (s : Fin 2048) : (StableHlo.after hostOps0 σ (Proc.devRef .tc main_v5) (ix3 i l s) : EReal)
    = σ (Proc.devRef .tc main_arg3) (ix2 ⟨i.val * 2048 + s.val, by omega⟩ l) := by
  entry_read
  pointwise []
theorem h_v9 (i h : Fin 8) : (StableHlo.after hostOps0 σ (Proc.devRef .tc main_v9) (ix2 i h) : EReal) = (0 : EReal) := by
  entry_read
  pointwise []
end Host

/-- The host's operations before the call, group by group. -/
theorem V_eq (b : Ref sig .tc) : V m c b
    = StableHlo.after hostOps0_2 (StableHlo.after hostOps0_1 (StableHlo.after hostOps0 fun b => m (c, b))) (Proc.devRef .tc b) := by
  show StableHlo.after (hostOps0 ++ (hostOps0_1 ++ hostOps0_2)) _ _ = _
  rw [StableHlo.after_append, StableHlo.after_append]

/-- The rows of the gates, lane by lane. -/
theorem v_gates (i : Fin 8) (l : Fin 128) (k : Fin 8) (r : Fin 256) :
    (V m c main_v12 (ix4 i l k r) : EReal) = arg2 m c (ix2 ⟨i.val * 2048 + (k.val * 256 + r.val), by omega⟩ l) := by
  rw [V_eq]
  exact (h_v12 _ i l k r).trans ((congrFun (h_pad _ main_v4 (by decide) (by decide)) _).trans (h_v4 _ i l ⟨k.val * 256 + r.val, by omega⟩))

/-- The rows of their running sums. -/
theorem v_sums (i : Fin 8) (l : Fin 128) (k : Fin 8) (r : Fin 256) :
    (V m c main_v13 (ix4 i l k r) : EReal) = arg3 m c (ix2 ⟨i.val * 2048 + (k.val * 256 + r.val), by omega⟩ l) := by
  rw [V_eq]
  exact (h_v13 _ i l k r).trans ((congrFun (h_pad _ main_v5 (by decide) (by decide)) _).trans (h_v5 _ i l ⟨k.val * 256 + r.val, by omega⟩))

/-- The stabilisers at the start are zero. -/
theorem v_zero (i h : Fin 8) (l : Fin 128) : (V m c main_v16 (ix4 i h 0 l) : EReal) = (0 : EReal) := by
  rw [V_eq]
  exact (h_v16 _ i h l).trans ((congrFun (h_pad _ main_v9 (by decide) (by decide)) _).trans (h_v9 _ i h))

/-- What the host makes of the stabilisers' array. -/
theorem h_v21 (σ : Valuation τ sig (Elt Ideal)) (i h : Fin 8) :
    (StableHlo.after hostOps1 σ (Proc.devRef .tc main_v21) (ix2 i h) : EReal) = σ (Proc.devRef .tc main_v18_3) (ix4 i h 0 0) := by
  entry_read
  pointwise []

/-- The blocks of a grid step, which works on stream `t / 8` and head `t % 8`. -/
theorem idx0 : ∀ t : Fin cfg0.N,
    win0_9.index t = ![t.val / 8, 0] ∧ win0_10.index t = ![t.val / 8, 16 + t.val % 8, 0, 0]
    ∧ win0_11.index t = ![t.val / 8, 24 + t.val % 8, 0, 0] ∧ win0_14.index t = ![t.val / 8, t.val % 8, 0, 0]
    ∧ win0_19.index t = ![t.val / 8, t.val % 8, 0, 0] :=
  (by decide +kernel : ∀ t : Fin grid0.N, _)

/-- The head coordinate of a step. -/
theorem coord1 : ∀ t : Fin cfg0.N, (grid0.coords t 1).val = t.val % 8 := (by decide +kernel : ∀ t : Fin grid0.N, _)
theorem t_lt (t : Fin cfg0.N) : t.val < 64 := t.isLt
/-- The stream and the head of a step. -/
def str (t : Fin cfg0.N) : Fin 8 := ⟨t.val / 8, by have := t_lt t; omega⟩
def hd (t : Fin cfg0.N) : Fin 8 := ⟨t.val % 8, by omega⟩

theorem blk_f (t : Fin cfg0.N) (r : Fin 2048) (l : Fin 128) : (iblk m c 9 t (ix2 r l) : EReal)
    = V m c main_arg3 (ix2 ⟨(str t).val * 2048 + r.val, by have := (str t).isLt; omega⟩ l) := by
  blk_ext [iblk, idx0 t, str]
theorem blk_ir (t : Fin cfg0.N) (k : Fin 8) (r : Fin 256) : (iblk m c 10 t (ix4 0 0 k r) : EReal)
    = V m c main_v12 (ix4 (str t) ⟨16 + (hd t).val, by have := (hd t).isLt; omega⟩ k r) := by
  blk_ext [iblk, idx0 t, str, hd]
theorem blk_br (t : Fin cfg0.N) (k : Fin 8) (r : Fin 256) : (iblk m c 11 t (ix4 0 0 k r) : EReal)
    = V m c main_v13 (ix4 (str t) ⟨24 + (hd t).val, by have := (hd t).isLt; omega⟩ k r) := by
  blk_ext [iblk, idx0 t, str, hd]
theorem blk_m0 (t : Fin cfg0.N) (l : Fin 128) : (iblk m c 14 t (ix4 0 0 0 l) : EReal)
    = V m c main_v16 (ix4 (str t) (hd t) 0 l) := by
  blk_ext [iblk, idx0 t, str, hd]

/-- The running sums and the input gates of a head, by position. -/
def sumAt (f : FVec Ideal S16384x128 .f32) (i h : Fin 8) (s : ℕ) : EReal :=
  f (ix2 ⟨i.val * 2048 + s % 2048, by have := Nat.mod_lt s (show 0 < 2048 by decide); omega⟩ ⟨24 + h.val, by omega⟩)
def gateAt (g : FVec Ideal S16896x128 .f32) (i h : Fin 8) (s : ℕ) : EReal :=
  g (ix2 ⟨i.val * 2048 + s % 2048, by have := Nat.mod_lt s (show 0 < 2048 by decide); omega⟩ ⟨16 + h.val, by omega⟩)

/-- The rows that a chunk loads. -/
theorem ld_col (X : Vec Ideal S2048x128 .f32) (o : ℕ) (ho : o + 256 ≤ 2048) (hi) (r : Fin 256) (l : Fin 128) :
    (View.ld X (Rect.unit (s := S2048x128) ![o, 0] ![256, 128] hi) (ix2 r l) : EReal) = X (ix2 ⟨o + r.val, by omega⟩ l) := by
  refine congrArg X (funext fun a => Fin.ext ?_)
  match a with
  | ⟨0, _⟩ => show o + 1 * r.val = o + r.val; omega
  | ⟨1, _⟩ => show 0 + 1 * l.val = l.val; omega
theorem ld_row (X : Vec Ideal S1x1x8x256 .f32) (k : Fin 8) (hi) (r : Fin 256) :
    (View.ld X (Rect.unit (s := S1x1x8x256) ![0, 0, k.val, 0] ![1, 1, 1, 256] hi) (ix4 0 0 0 r) : EReal) = X (ix4 0 0 k r) := by
  refine congrArg X (funext fun a => Fin.ext ?_)
  match a with
  | ⟨0, _⟩ => rfl
  | ⟨1, _⟩ => rfl
  | ⟨2, _⟩ => show k.val + 1 * 0 = k.val; omega
  | ⟨3, _⟩ => show 0 + 1 * r.val = r.val; omega

section Step
variable {m c} {b : ℕ → ℝ} {t : Fin cfg0.N} (hb : ∀ s, sumAt (arg3 m c) (str t) (hd t) s = (b s : EReal))
include hb

/-- A chunk's column, row of running sums and row of gates. -/
theorem col_ok (o : ℕ) (ho : o + 256 ≤ 2048) (hi) (r : Fin 256) :
    (View.ld (iblk m c 9 t) (Rect.unit (s := S2048x128) ![o, 0] ![256, 128] hi) (ix2 r ⟨24 + (hd t).val, by omega⟩) : EReal)
      = (b (o + r.val) : EReal) := by
  rw [ld_col _ o ho, blk_f, V_main_arg3, ← hb]
  have e : (o + r.val) % 2048 = o + r.val := Nat.mod_eq_of_lt (by omega)
  unfold sumAt
  simp only [e]
theorem row_ok (k : Fin 8) (hi) (r : Fin 256) :
    (View.ld (iblk m c 11 t) (Rect.unit (s := S1x1x8x256) ![0, 0, k.val, 0] ![1, 1, 1, 256] hi) (ix4 0 0 0 r) : EReal)
      = (b (k.val * 256 + r.val) : EReal) := by
  rw [ld_row _ k, blk_br, v_sums, ← hb]
  have e : (k.val * 256 + r.val) % 2048 = k.val * 256 + r.val := Nat.mod_eq_of_lt (by omega)
  unfold sumAt
  simp only [e]
omit hb in
theorem gate_ok (k : Fin 8) (hi) (r : Fin 256) :
    (View.ld (iblk m c 10 t) (Rect.unit (s := S1x1x8x256) ![0, 0, k.val, 0] ![1, 1, 1, 256] hi) (ix4 0 0 0 r) : EReal)
      = gateAt (arg2 m c) (str t) (hd t) (k.val * 256 + r.val) := by
  rw [ld_row _ k, blk_ir, v_gates]
  have e : (k.val * 256 + r.val) % 2048 = k.val * 256 + r.val := Nat.mod_eq_of_lt (by omega)
  unfold gateAt
  simp only [e]

omit hb in
theorem start_ok : (k0_pay41 (F := Ideal) (ix2 0 0) : EReal) = (start b 0 : EReal) := by
  refine Eq.trans ?_ EReal.coe_zero.symm
  pointwise [k0_pay41]

omit hb in
/-- The first stabiliser. -/
theorem first_ok : (k0_pay81 (F := Ideal) (View.ld (iblk m c 14 t) (Rect.unit (s := S1x1x1x128) ![0, 0, 0, 0] ![1, 1, 1, 1] inb_S1x1x1x128_S1x1x1x1_0_0_0_0)) (ix2 0 0) : EReal)
    = stab b (gateAt (arg2 m c) (str t) (hd t)) 0 := by
  rw [stab_zero]
  have e : ∀ X : Vec Ideal S1x1x1x128 .f32, (k0_pay81 (F := Ideal) (View.ld X (Rect.unit (s := S1x1x1x128) ![0, 0, 0, 0] ![1, 1, 1, 1] inb_S1x1x1x128_S1x1x1x1_0_0_0_0)) (ix2 0 0) : EReal) = X (ix4 0 0 0 0) := by
    intro X
    have e2 : ∀ Y : Vec Ideal S1x1x1x1 .f32, (k0_pay81 (F := Ideal) Y (ix2 0 0) : EReal) = Y (ix4 0 0 0 0) := by
      intro Y
      pointwise [k0_pay81]
    refine (e2 _).trans (congrArg X (funext fun a => Fin.ext ?_))
    match a with
    | ⟨0, _⟩ => rfl
    | ⟨1, _⟩ => rfl
    | ⟨2, _⟩ => rfl
    | ⟨3, _⟩ => rfl
  exact (e _).trans ((blk_m0 m c t 0).trans (v_zero m c _ _ _))

omit hb in
theorem pay2_at (M : FVec Ideal S1x1 .f32) (l : Fin 128) : (k0_pay2 (F := Ideal) M (ix4 0 0 0 l) : EReal) = M (ix2 0 0) := by
  pointwise [k0_pay2]

/-- What a step leaves: the stabiliser of all 2048 positions, on every lane. -/
theorem left_at (l : Fin 128) :
    ((outsAt0 m c t).2.2.2 (ix4 0 0 0 l) : EReal) = stab b (gateAt (arg2 m c) (str t) (hd t)) 2048 := by
  unfold outsAt0
  unfold out0_A_19
  frame_out
  refine (pay2_at _ l).trans ?_
  have hw : BitVec.ofNat 32 (grid0.coords t 1).val = BitVec.ofNat 32 (hd t).val := congrArg _ (coord1 t)
  rw [hw]
  have s0 := start_ok (b := b)
  have s1 := last_at (n := 0) fun r => col_ok hb 0 (by decide) inb_S2048x128_S256x128_0_0 r
  have s2 := last_at (n := 256) fun r => col_ok hb 256 (by decide) inb_S2048x128_S256x128_256_0 r
  have s3 := last_at (n := 512) fun r => col_ok hb 512 (by decide) inb_S2048x128_S256x128_512_0 r
  have s4 := last_at (n := 768) fun r => col_ok hb 768 (by decide) inb_S2048x128_S256x128_768_0 r
  have s5 := last_at (n := 1024) fun r => col_ok hb 1024 (by decide) inb_S2048x128_S256x128_1024_0 r
  have s6 := last_at (n := 1280) fun r => col_ok hb 1280 (by decide) inb_S2048x128_S256x128_1280_0 r
  have s7 := last_at (n := 1536) fun r => col_ok hb 1536 (by decide) inb_S2048x128_S256x128_1536_0 r
  have m1 := mNext_at s0 (first_ok (m := m) (c := c) (t := t)) (col_ok hb 0 (by decide) inb_S2048x128_S256x128_0_0) (row_ok hb 0 inb_S1x1x8x256_S1x1x1x256_0_0_0_0) (gate_ok 0 inb_S1x1x8x256_S1x1x1x256_0_0_0_0)
  have m2 := mNext_at s1 m1 (col_ok hb 256 (by decide) inb_S2048x128_S256x128_256_0) (row_ok hb 1 inb_S1x1x8x256_S1x1x1x256_0_0_1_0) (gate_ok 1 inb_S1x1x8x256_S1x1x1x256_0_0_1_0)
  have m3 := mNext_at s2 m2 (col_ok hb 512 (by decide) inb_S2048x128_S256x128_512_0) (row_ok hb 2 inb_S1x1x8x256_S1x1x1x256_0_0_2_0) (gate_ok 2 inb_S1x1x8x256_S1x1x1x256_0_0_2_0)
  have m4 := mNext_at s3 m3 (col_ok hb 768 (by decide) inb_S2048x128_S256x128_768_0) (row_ok hb 3 inb_S1x1x8x256_S1x1x1x256_0_0_3_0) (gate_ok 3 inb_S1x1x8x256_S1x1x1x256_0_0_3_0)
  have m5 := mNext_at s4 m4 (col_ok hb 1024 (by decide) inb_S2048x128_S256x128_1024_0) (row_ok hb 4 inb_S1x1x8x256_S1x1x1x256_0_0_4_0) (gate_ok 4 inb_S1x1x8x256_S1x1x1x256_0_0_4_0)
  have m6 := mNext_at s5 m5 (col_ok hb 1280 (by decide) inb_S2048x128_S256x128_1280_0) (row_ok hb 5 inb_S1x1x8x256_S1x1x1x256_0_0_5_0) (gate_ok 5 inb_S1x1x8x256_S1x1x1x256_0_0_5_0)
  have m7 := mNext_at s6 m6 (col_ok hb 1536 (by decide) inb_S2048x128_S256x128_1536_0) (row_ok hb 6 inb_S1x1x8x256_S1x1x1x256_0_0_6_0) (gate_ok 6 inb_S1x1x8x256_S1x1x1x256_0_0_6_0)
  have m8 := mNext_at s7 m7 (col_ok hb 1792 (by decide) inb_S2048x128_S256x128_1792_0) (row_ok hb 7 inb_S1x1x8x256_S1x1x1x256_0_0_7_0) (gate_ok 7 inb_S1x1x8x256_S1x1x1x256_0_0_7_0)
  exact m8
end Step

/-- The stabilisers of the heads, on every lane of the call's array, and as the host cuts them out. -/
def stabs (b : Fin 8 → Fin 8 → ℕ → ℝ) (g : FVec Ideal S16896x128 .f32) : FVec Ideal S8x8 .f32 := fun y =>
  (stab (b (y 0) (y 1)) (gateAt g (y 0) (y 1)) 2048 : EReal)
def arrM (b : Fin 8 → Fin 8 → ℕ → ℝ) (g : FVec Ideal S16896x128 .f32) : FVec Ideal S8x8x1x128 .f32 := fun y =>
  (stab (b (y 0) (y 1)) (gateAt g (y 0) (y 1)) 2048 : EReal)

variable {m c} {b : Fin 8 → Fin 8 → ℕ → ℝ}

/-- The stabilisers' array. -/
theorem arr_M (hb : ∀ i h s, sumAt (arg3 m c) i h s = (b i h s : EReal)) :
    (dats m 0 c).arrAt 19 cfg0.N = arrM b (arg2 m c) := by
  refine (dats m 0 c).arrAt_eq_of_covers 19 (arrM b (arg2 m c)) (by decide +kernel) fun t hf y => ?_
  blk_simp
  rw [after0_19]
  idx_vars y
  obtain rfl : y0 = 0 := Subsingleton.elim _ _
  obtain rfl : y1 = 0 := Subsingleton.elim _ _
  obtain rfl : y2 = 0 := Subsingleton.elim _ _
  have hx : ((View.whole main_v18_3).slice (win0_19.rect t)).emb (ix4 0 0 0 y3) = ix4 (str t) (hd t) 0 y3 := by
    blk_ext [idx0 t, str, hd]
  exact (left_at (hb (str t) (hd t)) y3).trans (congrArg (arrM b (arg2 m c)) hx).symm

/-- The stabilisers when the host is done. -/
theorem end_M (hb : ∀ i h s, sumAt (arg3 m c) i h s = (b i h s : EReal)) :
    Pipeline.afterTail₀ cfgs (dats m) 0 (V0 m) [hostOps1] c main_v21 = stabs b (arg2 m c) := by
  funext y
  idx_vars y
  have e := Pipeline.withArrays_arr_shared cfg0.spec c (V0 m c) _ ((dats m 0 c).arrAt_sharedIn launch₀0.sharedIn (V0 m c) (A_eq m c) cfg0.N) 19
  exact (h_v21 _ y0 y1).trans (congrFun (e.trans (arr_M hb)) _)

/-- Every run ends with the heads' stabilisers, where the running sums are finite. -/
theorem run_out {b : Dev nD → Fin 8 → Fin 8 → ℕ → ℝ} (hb : ∀ c i h s, sumAt (arg3 m c) i h s = (b c i h s : EReal)) :
    θ_run defs (onTc (τ := τ) (main (F := Ideal))) ⟨m, fun _ => 0, ρ⟩ (fun r => ∀ c : Dev nD,
      r.2.mem ((c.tc : Thread nD τ).loc main_v21) = stabs (b c) (arg2 m c)) :=
  (θ_run defs _ _).mono (fun _ h c => ((h c).2 main_v21 (by decide)).trans (end_M (hb c))) (run_main m ρ)

end Cert.Kernel8Ideal.Prompt

end
-- ==== Proof.Prompt.Carry.lean ====
module
public import proofs.«01_k».proof.Proof.Prompt.Spec
/-!
# What an mLSTM head carries, chunk by chunk and at once

`acc b ig x n` is the sum of the terms `x s` of the first `n` positions, each weighted by the exponential of its decay less the
stabiliser. With `x` a key's entry it is the normaliser, with `x` a key's times a value's entry the matrix memory.
-/
@[expose] public section
noncomputable section
open Idealize.ShloMosaic
namespace Cert.Prompt
open Cert.MlstmSpec

variable (b : ℕ → ℝ) (ig : ℕ → EReal) (x : ℕ → EReal)

/-- The weight of position `s` after `n` positions. -/
def wgt (n s : ℕ) : EReal := Ideal.exp (((start b n - b s : ℝ) : EReal) + ig s - stab b ig n)
/-- The weighted sum of the first `n` positions. -/
def acc (n : ℕ) : EReal := ∑ s ∈ Finset.range n, wgt b ig n s * x s

theorem exp_bot : Ideal.exp ⊥ = 0 := rfl
theorem exp_nonneg (y : EReal) : 0 ≤ Ideal.exp y := by
  induction y with
  | bot => exact le_refl _
  | top => exact le_top
  | coe r => exact EReal.coe_nonneg.2 (Real.exp_pos r).le

/-- Rescaling a weight from one stabiliser to a larger one. -/
theorem exp_carry (d : ℝ) (y M M' : EReal) (hb : M ≠ ⊥) (hy : y ≤ M) (hM : (d : EReal) + M ≤ M') :
    Ideal.exp ((d : EReal) + M - M') * Ideal.exp (y - M) = Ideal.exp ((d : EReal) + y - M') := by
  induction M with
  | bot => exact absurd rfl hb
  | top =>
    have e : M' = ⊤ := by simpa using hM
    subst e
    rw [EReal.sub_top, EReal.sub_top, EReal.sub_top, exp_bot, mul_zero]
  | coe r =>
    induction M' with
    | bot => exact absurd (le_bot_iff.1 hM) (by rw [← EReal.coe_add]; exact EReal.coe_ne_bot _)
    | top => rw [EReal.sub_top, EReal.sub_top, exp_bot, zero_mul]
    | coe r' =>
      induction y with
      | bot => rw [EReal.bot_sub, EReal.add_bot, EReal.bot_sub, exp_bot, mul_zero]
      | top => exact absurd (top_le_iff.1 hy) (EReal.coe_ne_top r)
      | coe z =>
        simp only [← EReal.coe_add, ← EReal.coe_sub, Ideal.exp_coe, ← EReal.coe_mul, ← Real.exp_add]
        congr 2; ring

/-- The weight of the old state is a number. -/
theorem exp_carry_ne_top (d : ℝ) (M M' : EReal) (hM : (d : EReal) + M ≤ M') (hb : M' ≠ ⊥) : Ideal.exp ((d : EReal) + M - M') ≠ ⊤ := by
  induction M' with
  | bot => exact absurd rfl hb
  | top => rw [EReal.sub_top, exp_bot]; exact EReal.zero_ne_top
  | coe r' =>
    induction M with
    | bot => rw [EReal.add_bot, EReal.bot_sub, exp_bot]; exact EReal.zero_ne_top
    | top => exact absurd (top_le_iff.1 (by simpa using hM)) (EReal.coe_ne_top r')
    | coe r =>
      simp only [← EReal.coe_add, ← EReal.coe_sub, Ideal.exp_coe]
      exact EReal.coe_ne_top _

/-- A number that is not negative goes inside a sum. -/
theorem mul_sum' {ι : Type} (s : Finset ι) (f : ι → EReal) (a : EReal) (h0 : 0 ≤ a) (h1 : a ≠ ⊤) : a * ∑ i ∈ s, f i = ∑ i ∈ s, a * f i := by
  classical
  induction s using Finset.induction_on with
  | empty => simp
  | insert i s hi ih => rw [Finset.sum_insert hi, Finset.sum_insert hi, EReal.left_distrib_of_nonneg_of_ne_top h0 h1, ih]

theorem stab_ne_bot (n : ℕ) : stab b ig n ≠ ⊥ := fun e =>
  absurd (le_bot_iff.1 ((le_max_left _ _).trans (le_of_eq e))) (EReal.coe_ne_bot (start b n))
theorem le_stab (n s : ℕ) (h : s < n) : ((start b n - b s : ℝ) : EReal) + ig s ≤ stab b ig n :=
  le_max_of_le_right (Finset.le_sup (f := fun s => ((start b n - b s : ℝ) : EReal) + ig s) (Finset.mem_range.2 h))

/-- Over a chunk, from what is carried into it. -/
theorem acc_step (n k : ℕ) (hk : 0 < k) :
    Ideal.exp (((b (n + (k - 1)) - start b n : ℝ) : EReal) + stab b ig n - stab b ig (n + k)) * acc b ig x n
        + (∑ s : Fin k, Ideal.exp (((b (n + (k - 1)) - start b n : ℝ) : EReal) - ((b (n + s.val) - start b n : ℝ) : EReal) + ig (n + s.val)
            - stab b ig (n + k)) * x (n + s.val))
      = acc b ig x (n + k) := by
  have hs : start b (n + k) = b (n + (k - 1)) := by
    unfold start
    rw [if_neg (by omega)]
    exact congrArg b (by omega)
  have hM : ((b (n + (k - 1)) - start b n : ℝ) : EReal) + stab b ig n ≤ stab b ig (n + k) := by
    rw [← stab_step b ig n k hk]; exact le_max_left _ _
  unfold acc
  rw [mul_sum' _ _ _ (exp_nonneg _) (exp_carry_ne_top _ _ _ hM (stab_ne_bot b ig _)), Finset.sum_range_add]
  refine congrArg₂ (fun p q : EReal => p + q) (Finset.sum_congr rfl fun s hr => ?_) ?_
  · rw [← mul_assoc]
    unfold wgt
    rw [exp_carry _ _ _ _ (stab_ne_bot b ig n) (le_stab b ig n s (Finset.mem_range.1 hr)) hM, coe_add_coe, hs]
    congr 5; ring
  · rw [Finset.sum_range]
    refine Finset.sum_congr rfl fun s _ => ?_
    unfold wgt
    rw [← EReal.coe_sub, hs]
    congr 5; ring

theorem acc_zero : acc b ig x 0 = 0 := by
  unfold acc; simp

/-- Over all the positions at once, from nothing. -/
theorem acc_whole (k : ℕ) (hk : 0 < k) :
    acc b ig x k = ∑ s : Fin k, Ideal.exp ((b (k - 1) : EReal) - (b s.val : EReal) + ig s.val - stab b ig k) * x s.val := by
  have h := acc_step b ig x 0 k hk
  simp only [Nat.zero_add, acc_zero, mul_zero, zero_add] at h
  rw [← h]
  have h0 : start b 0 = 0 := rfl
  simp only [h0, sub_zero]

end Cert.Prompt
end
-- ==== Proof.Prompt.Conv.lean ====
module
public import proofs.«01_k».proof.Proof.Prompt.Arrays
public import proofs.«01_k».proof.Proof.Prompt.Carry
/-!
# The short causal convolution read back from the history scratch

The body stores eight rows of history and the stream's 2048 rows, and reads four windows of them.
-/
@[expose] public section
set_option maxRecDepth 16384
noncomputable section
open Idealize.ShloMosaic Idealize.ShloMosaic.TcCoe Idealize.SL.Sem
open Idealize.ShloMosaic.Pipeline (Dat)
namespace Cert.Kernel8Ideal.Prompt
open Cert.Kernel8Ideal Cert.Kernel8Ideal.Gen Cert.MlstmSpec

/-- Eight rows of history, then the stream's rows. -/
def lined (A : FVec Ideal S2048x128 .f32) (B : FVec Ideal S8x128 .f32) : FVec Ideal S2056x128 .f32 := fun y =>
  if h : (y 0).val < 8 then B (ix2 ⟨(y 0).val, h⟩ (y 1))
  else A (ix2 ⟨(y 0).val - 8, by have : (y 0).val < 2056 := (y 0).isLt; omega⟩ (y 1))

/-- What the two stores leave in a history scratch. -/
theorem canon_lined (A : FVec Ideal S2048x128 .f32) (B : FVec Ideal S8x128 .f32) :
    (View.canon (Val := Elt Ideal) (s := S2056x128) (e := .f32) [⟨Rect.unit ![8,0] ![2048,128] inb_S2056x128_S2048x128_8_0, A⟩,
      ⟨Rect.unit ![0,0] ![8,128] inb_S2056x128_S8x128_0_0, B⟩]) = lined A B := by
  funext y
  have hy0 : (y 0).val < 2056 := (y 0).isLt
  have hy1 : (y 1).val < 128 := (y 1).isLt
  by_cases h : (y 0).val < 8
  · have h1 : y ∈ (Rect.unit ![0,0] ![8,128] inb_S2056x128_S8x128_0_0 : Rect S2056x128).set :=
      Rect.mem_set_unit.mpr (Fin.forall_fin_two.mpr ⟨⟨Nat.zero_le _, by simpa using h⟩, ⟨Nat.zero_le _, by simpa using hy1⟩⟩)
    canon_tiles x h using ⟨_, List.mem_cons_of_mem _ (List.mem_cons_self), h1⟩
    · unfold lined
      rw [dif_neg (by omega)]
      exact congrArg A (by blk_ext [])
    · unfold lined
      rw [dif_pos (by omega)]
      exact congrArg B (by blk_ext [])
  · have h1 : y ∈ (Rect.unit ![8,0] ![2048,128] inb_S2056x128_S2048x128_8_0 : Rect S2056x128).set :=
      Rect.mem_set_unit.mpr (Fin.forall_fin_two.mpr ⟨⟨by simpa using h, by simpa using hy0⟩, ⟨Nat.zero_le _, by simpa using hy1⟩⟩)
    canon_tiles x h using ⟨_, List.mem_cons_self, h1⟩
    · unfold lined
      rw [dif_neg (by omega)]
      exact congrArg A (by blk_ext [])
    · unfold lined
      rw [dif_pos (by omega)]
      exact congrArg B (by blk_ext [])

/-- A window loaded from row `o` reads those rows. -/
theorem load_lined {κ : Kind} {sp : Space} (v : View sig κ sp S2056x128 .f32) (A : FVec Ideal S2048x128 .f32) (B : FVec Ideal S8x128 .f32) (o : ℕ)
    (inb : ∀ a, (![o,0] : Fin 2 → ℕ) a + (![2048,128] : Fin 2 → ℕ) a ≤ S2056x128.size a)
    (t : Fin 2048) (d : Fin 128) (h : o + t.val < 2056) :
    v.readCov (Val := Elt Ideal) [⟨Rect.unit ![8,0] ![2048,128] inb_S2056x128_S2048x128_8_0, A⟩,
      ⟨Rect.unit ![0,0] ![8,128] inb_S2056x128_S8x128_0_0, B⟩] (Rect.unit (s := S2056x128) ![o,0] ![2048,128] inb).toLoadRect (ix2 t d) = lined A B (ix2 ⟨o + t.val, h⟩ d) := by
  refine (congrFun (View.readCov_eq_canon' _ _ _) _).trans ?_
  rw [canon_lined]
  refine congrArg (lined A B) (funext (Fin.forall_fin_two.mpr ⟨Fin.ext ?_, Fin.ext ?_⟩))
  · show o + 1 * t.val = o + t.val
    omega
  · show 0 + 1 * d.val = d.val
    omega

/-- One weight row. -/
theorem ld_weight (W : Vec Ideal S4x128 .f32) (j : Fin 4) (inb : ∀ a, (![j.val,0] : Fin 2 → ℕ) a + (![1,128] : Fin 2 → ℕ) a ≤ S4x128.size a) (d : Fin 128) :
    (View.ld (Val := Elt Ideal) W (Rect.unit (s := S4x128) ![j.val,0] ![1,128] inb)) (ix2 0 d) = W (ix2 j d) := by
  refine congrArg W (funext (Fin.forall_fin_two.mpr ⟨Fin.ext ?_, Fin.ext ?_⟩))
  · show j.val + 1 * 0 = j.val
    omega
  · show 0 + 1 * d.val = d.val
    omega

/-- The four windows of one history. -/
def win (v : View sig .tc .vmem S2056x128 .f32) (A : FVec Ideal S2048x128 .f32) (B : FVec Ideal S8x128 .f32) (o : ℕ)
    (inb : ∀ a, (![o,0] : Fin 2 → ℕ) a + (![2048,128] : Fin 2 → ℕ) a ≤ S2056x128.size a) : Vec Ideal S2048x128 .f32 :=
  v.readCov (Val := Elt Ideal) [⟨Rect.unit ![8,0] ![2048,128] inb_S2056x128_S2048x128_8_0, A⟩,
      ⟨Rect.unit ![0,0] ![8,128] inb_S2056x128_S8x128_0_0, B⟩] (Rect.unit (s := S2056x128) ![o,0] ![2048,128] inb).toLoadRect

/-- The row of weights number `j`. -/
def wrow (W : Vec Ideal S4x128 .f32) (j : ℕ) (inb : ∀ a, (![j,0] : Fin 2 → ℕ) a + (![1,128] : Fin 2 → ℕ) a ≤ S4x128.size a) :
    Vec Ideal S1x128 .f32 := View.ld (Val := Elt Ideal) W (Rect.unit (s := S4x128) ![j,0] ![1,128] inb)

/-- The convolved and scaled keys of a step. -/
def KC (v : View sig .tc .vmem S2056x128 .f32) (A : FVec Ideal S2048x128 .f32) (B : FVec Ideal S8x128 .f32) (W : Vec Ideal S4x128 .f32) : Vec Ideal S2048x128 .bf16 :=
  k0_pay11 (k0_pay10 (win v A B 5 inb_S2056x128_S2048x128_5_0) (wrow W 0 inb_S4x128_S1x128_0_0) (win v A B 6 inb_S2056x128_S2048x128_6_0) (wrow W 1 inb_S4x128_S1x128_1_0)
      (win v A B 7 inb_S2056x128_S2048x128_7_0) (wrow W 2 inb_S4x128_S1x128_2_0))
    (win v A B 8 inb_S2056x128_S2048x128_8_0) (wrow W 3 inb_S4x128_S1x128_3_0)

section Conv
variable (v : View sig .tc .vmem S2056x128 .f32) (A : FVec Ideal S2048x128 .f32) (B : FVec Ideal S8x128 .f32) (W : Vec Ideal S4x128 .f32)
  (u : ℕ → EReal) (w : Fin 4 → EReal) (d : Fin 128)
  (hA : ∀ r : Fin 2048, A (ix2 r d) = u (3 + r.val)) (hB : ∀ r : Fin 8, 5 ≤ r.val → B (ix2 r d) = u (r.val - 5))
  (hW : ∀ j, W (ix2 j d) = w j)
include hA hB

/-- A window's row is the history's. -/
theorem win_row (o : ℕ) (ho : 5 ≤ o) (inb) (t : Fin 2048) (h : o + t.val < 2056) : win v A B o inb (ix2 t d) = u (o - 5 + t.val) := by
  refine (load_lined v A B o inb t d h).trans ?_
  unfold lined
  by_cases hs : o + t.val < 8
  · rw [dif_pos (show ((ix2 (⟨o + t.val, h⟩ : Fin 2056) d : S2056x128.Idx) 0).val < 8 from hs)]
    refine (hB ⟨o + t.val, hs⟩ (show 5 ≤ o + t.val by omega)).trans (congrArg u ?_)
    show o + t.val - 5 = o - 5 + t.val
    omega
  · rw [dif_neg (show ¬ ((ix2 (⟨o + t.val, h⟩ : Fin 2056) d : S2056x128.Idx) 0).val < 8 from hs)]
    refine (hA ⟨o + t.val - 8, by omega⟩).trans (congrArg u ?_)
    show 3 + (o + t.val - 8) = o - 5 + t.val
    omega

include hW

theorem KC_eq (t : Fin 2048) : KC v A B W (ix2 t d) = silu (conv u w t.val) * kScale := by
  have h0 : win v A B 5 inb_S2056x128_S2048x128_5_0 (ix2 t d) = u (t.val) :=
    (win_row v A B u d hA hB 5 (by omega) _ t (by omega)).trans (congrArg u (by omega))
  have h1 : win v A B 6 inb_S2056x128_S2048x128_6_0 (ix2 t d) = u (1 + t.val) :=
    (win_row v A B u d hA hB 6 (by omega) _ t (by omega)).trans (congrArg u (by omega))
  have h2 : win v A B 7 inb_S2056x128_S2048x128_7_0 (ix2 t d) = u (2 + t.val) :=
    (win_row v A B u d hA hB 7 (by omega) _ t (by omega)).trans (congrArg u (by omega))
  have h3 : win v A B 8 inb_S2056x128_S2048x128_8_0 (ix2 t d) = u (3 + t.val) :=
    (win_row v A B u d hA hB 8 (by omega) _ t (by omega)).trans (congrArg u (by omega))
  have w0 : wrow W 0 inb_S4x128_S1x128_0_0 (ix2 0 d) = w 0 := (ld_weight W 0 _ d).trans (hW 0)
  have w1 : wrow W 1 inb_S4x128_S1x128_1_0 (ix2 0 d) = w 1 := (ld_weight W 1 _ d).trans (hW 1)
  have w2 : wrow W 2 inb_S4x128_S1x128_2_0 (ix2 0 d) = w 2 := (ld_weight W 2 _ d).trans (hW 2)
  have w3 : wrow W 3 inb_S4x128_S1x128_3_0 (ix2 0 d) = w 3 := (ld_weight W 3 _ d).trans (hW 3)
  unfold KC
  pointwise [k0_pay11, k0_pay10]
  simp only [h0, h1, h2, h3, w0, w1, w2, w3]
  unfold silu conv
  rfl

end Conv
end Cert.Kernel8Ideal.Prompt
-- ==== Proof.Prompt.Chunk.lean ====
module
public import proofs.«01_k».proof.Proof.Prompt.Pay
public import proofs.«01_k».proof.Proof.Prompt.Carry
/-!
# What a chunk of the prompt's call adds to the states
-/
@[expose] public section
set_option maxRecDepth 16384
noncomputable section
open Idealize.ShloMosaic Idealize.ShloMosaic.TcCoe Idealize.SL.Sem
namespace Cert.Kernel8Ideal.Prompt
open Cert.Kernel8Ideal Cert.Kernel8Ideal.Gen Cert.MlstmSpec Cert.Prompt

/-- The column of input gates that a head's lane picks. -/
def gateCol (w : BitVec 32) (x : Vec Ideal S256x128 .f32) : FVec Ideal S256x1 .f32 :=
  k0_pay24 (F := Ideal) w (iota .tc S256x128 32 [1] iota_S256x128_d1_w32) x
theorem gateCol_at (h : Fin 8) (x : Vec Ideal S256x128 .f32) (r : Fin 256) :
    (gateCol (BitVec.ofNat 32 h.val) x (ix2 r 0) : EReal) = x (ix2 r ⟨16 + h.val, by omega⟩) := by
  unfold gateCol
  pointwise [k0_pay24]
  exact Cert.KernelIdeal.Mlstm.sum_lane 16 (.inl rfl) h (fun k => x (ix2 r k))

/-- The weight of the states before a chunk. -/
def oldW (st M M' : FVec Ideal S1x1 .f32) (f : FVec Ideal S256x1 .f32) : FVec Ideal S1x1 .f32 :=
  exp (subf (addf (lenOf st f) M) M')
/-- A chunk's keys, weighted. -/
def keysW (st M' : FVec Ideal S1x1 .f32) (f g : FVec Ideal S256x1 .f32) (K : Vec Ideal S256x128 .bf16) : FVec Ideal S256x128 .f32 :=
  mulf (broadcastTo S256x128 (exp (subf (addf (subf (broadcastTo S256x1 (lenOf st f) broadcasts_S1x1_S256x1)
    (subf f (broadcastTo S256x1 st broadcasts_S1x1_S256x1))) g) (broadcastTo S256x1 M' broadcasts_S1x1_S256x1))) broadcasts_S256x1_S256x128)
    (extf .f32 K bitsLt_bf16_f32)
/-- The normaliser after a chunk. -/
def nNext (a : FVec Ideal S1x1 .f32) (kw : FVec Ideal S256x128 .f32) (N : FVec Ideal S1x128 .f32) : FVec Ideal S1x128 .f32 :=
  addf (mulf (broadcastTo S1x128 a broadcasts_S1x1_S1x128) N)
    (shapeCast S1x128 (multiReduction .add [0] S128 kw 0x00000000#32 reduces_S256x128_S128 (.inl rfl) rfl) shapeCasts_S128_S1x128)
/-- The matrix memory after a chunk. -/
def cNext (a : FVec Ideal S1x1 .f32) (kw : FVec Ideal S256x128 .f32) (Vv : Vec Ideal S256x256 .bf16) (C : FVec Ideal S256x128 .f32) : FVec Ideal S256x128 .f32 :=
  addf (mulf (broadcastTo S256x128 a broadcasts_S1x1_S256x128) C)
    (matmul (φ₁ := .bf16) dot_S256x256_S256x128_S256x128_0_0_1_1_n_n none Vv (truncf .bf16 kw bitsLt_bf16_f32) (constant S256x128 .f32 0x00000000#32))

theorem oldW_at (st M M' : FVec Ideal S1x1 .f32) (f : FVec Ideal S256x1 .f32) :
    (oldW st M M' f (ix2 0 0) : EReal) = Ideal.exp ((lenOf st f (ix2 0 0) : EReal) + M (ix2 0 0) - M' (ix2 0 0)) := by
  unfold oldW
  generalize lenOf st f = d
  pointwise []
theorem keysW_at (st M' : FVec Ideal S1x1 .f32) (f g : FVec Ideal S256x1 .f32) (K : Vec Ideal S256x128 .bf16) (s : Fin 256) (d : Fin 128) :
    (keysW st M' f g K (ix2 s d) : EReal) = Ideal.exp ((lenOf st f (ix2 0 0) : EReal) - (f (ix2 s 0) - st (ix2 0 0)) + g (ix2 s 0) - M' (ix2 0 0)) * K (ix2 s d) := by
  unfold keysW
  generalize lenOf st f = l
  pointwise []
theorem nNext_raw (a : FVec Ideal S1x1 .f32) (kw : FVec Ideal S256x128 .f32) (N : FVec Ideal S1x128 .f32) (d : Fin 128) :
    (nNext a kw N (ix2 0 d) : EReal) = a (ix2 0 0) * N (ix2 0 d) + ∑ s : Fin 256, (kw (ix2 s d) : EReal) := by
  unfold nNext
  pointwise []
theorem cNext_raw (a : FVec Ideal S1x1 .f32) (kw : FVec Ideal S256x128 .f32) (Vv : Vec Ideal S256x256 .bf16) (C : FVec Ideal S256x128 .f32) (e : Fin 256) (d : Fin 128) :
    (cNext a kw Vv C (ix2 e d) : EReal) = a (ix2 0 0) * C (ix2 e d) + ∑ s : Fin 256, (Vv (ix2 s e) : EReal) * kw (ix2 s d) := by
  unfold cNext
  pointwise []

variable {b : ℕ → ℝ} {ig : ℕ → EReal} {n : ℕ} {st M M' : FVec Ideal S1x1 .f32} {h : Fin 8}
variable {x y : Vec Ideal S256x128 .f32} {K : Vec Ideal S256x128 .bf16} {key : ℕ → Fin 128 → EReal}

theorem len_eq (hs : (st (ix2 0 0) : EReal) = (start b n : EReal)) (hx : ∀ r : Fin 256, (x (ix2 r ⟨24 + h.val, by omega⟩) : EReal) = (b (n + r.val) : EReal)) : (lenOf st (k0_pay14 (F := Ideal) (BitVec.ofNat 32 h.val) x) (ix2 0 0) : EReal) = ((b (n + (256 - 1)) - start b n : ℝ) : EReal) := by
  rw [lenOf_at, col_at, hx, hs, EReal.coe_sub]; rfl

theorem old_eq (hs : (st (ix2 0 0) : EReal) = (start b n : EReal)) (hM : (M (ix2 0 0) : EReal) = stab b ig n) (hM' : (M' (ix2 0 0) : EReal) = stab b ig (n + 256)) (hx : ∀ r : Fin 256, (x (ix2 r ⟨24 + h.val, by omega⟩) : EReal) = (b (n + r.val) : EReal)) : (oldW st M M' (k0_pay14 (F := Ideal) (BitVec.ofNat 32 h.val) x) (ix2 0 0) : EReal)
    = Ideal.exp (((b (n + (256 - 1)) - start b n : ℝ) : EReal) + stab b ig n - stab b ig (n + 256)) := by
  rw [oldW_at, len_eq hs hx, hM, hM']

theorem keys_eq (hs : (st (ix2 0 0) : EReal) = (start b n : EReal)) (hM' : (M' (ix2 0 0) : EReal) = stab b ig (n + 256)) (hx : ∀ r : Fin 256, (x (ix2 r ⟨24 + h.val, by omega⟩) : EReal) = (b (n + r.val) : EReal)) (hy : ∀ r : Fin 256, (y (ix2 r ⟨16 + h.val, by omega⟩) : EReal) = ig (n + r.val)) (hK : ∀ (r : Fin 256) (d : Fin 128), (K (ix2 r d) : EReal) = key (n + r.val) d) (s : Fin 256) (d : Fin 128) :
    (keysW st M' (k0_pay14 (F := Ideal) (BitVec.ofNat 32 h.val) x) (gateCol (BitVec.ofNat 32 h.val) y) K (ix2 s d) : EReal)
      = Ideal.exp (((b (n + (256 - 1)) - start b n : ℝ) : EReal) - ((b (n + s.val) - start b n : ℝ) : EReal) + ig (n + s.val)
            - stab b ig (n + 256)) * key (n + s.val) d := by
  rw [keysW_at, len_eq hs hx, col_at, gateCol_at, hx, hy, hs, hM', hK, EReal.coe_sub (b (n + s.val))]

/-- A chunk's normaliser is the one after its positions. -/
theorem nNext_at (hs : (st (ix2 0 0) : EReal) = (start b n : EReal)) (hM : (M (ix2 0 0) : EReal) = stab b ig n) (hM' : (M' (ix2 0 0) : EReal) = stab b ig (n + 256)) (hx : ∀ r : Fin 256, (x (ix2 r ⟨24 + h.val, by omega⟩) : EReal) = (b (n + r.val) : EReal)) (hy : ∀ r : Fin 256, (y (ix2 r ⟨16 + h.val, by omega⟩) : EReal) = ig (n + r.val)) (hK : ∀ (r : Fin 256) (d : Fin 128), (K (ix2 r d) : EReal) = key (n + r.val) d) {N : FVec Ideal S1x128 .f32} (hN : ∀ d, (N (ix2 0 d) : EReal) = acc b ig (fun s => key s d) n) (d : Fin 128) :
    (nNext (oldW st M M' (k0_pay14 (F := Ideal) (BitVec.ofNat 32 h.val) x))
      (keysW st M' (k0_pay14 (F := Ideal) (BitVec.ofNat 32 h.val) x) (gateCol (BitVec.ofNat 32 h.val) y) K) N (ix2 0 d) : EReal)
      = acc b ig (fun s => key s d) (n + 256) := by
  rw [nNext_raw, old_eq hs hM hM' hx, hN, ← acc_step b ig _ n 256 (by decide)]
  exact congrArg (fun q : EReal => _ + q) (Finset.sum_congr rfl fun s _ => keys_eq hs hM' hx hy hK s d)

/-- A chunk's matrix memory is the one after its positions. -/
theorem cNext_at (hs : (st (ix2 0 0) : EReal) = (start b n : EReal)) (hM : (M (ix2 0 0) : EReal) = stab b ig n) (hM' : (M' (ix2 0 0) : EReal) = stab b ig (n + 256)) (hx : ∀ r : Fin 256, (x (ix2 r ⟨24 + h.val, by omega⟩) : EReal) = (b (n + r.val) : EReal)) (hy : ∀ r : Fin 256, (y (ix2 r ⟨16 + h.val, by omega⟩) : EReal) = ig (n + r.val)) (hK : ∀ (r : Fin 256) (d : Fin 128), (K (ix2 r d) : EReal) = key (n + r.val) d) {C : FVec Ideal S256x128 .f32} {Vv : Vec Ideal S256x256 .bf16} {val : ℕ → Fin 256 → EReal}
    (hV : ∀ (r e : Fin 256), (Vv (ix2 r e) : EReal) = val (n + r.val) e)
    (hC : ∀ e d, (C (ix2 e d) : EReal) = acc b ig (fun s => key s d * val s e) n) (e : Fin 256) (d : Fin 128) :
    (cNext (oldW st M M' (k0_pay14 (F := Ideal) (BitVec.ofNat 32 h.val) x))
      (keysW st M' (k0_pay14 (F := Ideal) (BitVec.ofNat 32 h.val) x) (gateCol (BitVec.ofNat 32 h.val) y) K) Vv C (ix2 e d) : EReal)
      = acc b ig (fun s => key s d * val s e) (n + 256) := by
  rw [cNext_raw, old_eq hs hM hM' hx, hC, ← acc_step b ig _ n 256 (by decide)]
  refine congrArg₂ (fun p q : EReal => p + q) rfl (Finset.sum_congr rfl fun s _ => ?_)
  rw [keys_eq hs hM' hx hy hK, hV, mul_comm, mul_assoc]

end Cert.Kernel8Ideal.Prompt

end
-- ==== Proof.Prompt.States.lean ====
module
public import proofs.«01_k».proof.Proof.Prompt.Conv
public import proofs.«01_k».proof.Proof.Prompt.Chunk
/-!
# What the prompt's mLSTM call leaves in the arrays of its matrix memories and normalisers
-/
@[expose] public section
set_option maxRecDepth 16384
noncomputable section
open Idealize.ShloMosaic Idealize.ShloMosaic.TcCoe Idealize.SL.Sem
open Idealize.ShloMosaic.Pipeline (Dat)
namespace Cert.Kernel8Ideal.Prompt
open Cert.Kernel8Ideal Cert.Kernel8Ideal.Gen Cert.MlstmSpec Cert.Prompt

variable (m : (ℓ : Loc nD τ sig) → Buf (Elt Ideal) ℓ) (ρ : Dev nD → PrngReg) (c : Dev nD)

/-- The projections and the convolution's weights. -/
abbrev arg0 : FVec Ideal S16896x8192 .f32 := m ((c : Thread nD τ).loc main_arg0)
abbrev arg1 : FVec Ideal S16896x4096 .bf16 := m ((c : Thread nD τ).loc main_arg1)
abbrev arg5 : FVec Ideal S1x4x2048 .f32 := m ((c : Thread nD τ).loc main_arg5)

/-- Row `r` of a stream's rows of the keys' column `l`, three rows of zeros above them. -/
def lead (p : FVec Ideal S16896x8192 .f32) (i : Fin 8) (l : Fin 1024) (r : ℕ) : EReal :=
  if r < 3 then 0 else p (ix2 ⟨i.val * 2048 + (r - 3) % 2048, by have := Nat.mod_lt (r - 3) (show 0 < 2048 by decide); omega⟩ ⟨5120 + l.val, by omega⟩)
/-- The lane of a head's key among the keys. -/
def kcol (h : Fin 8) (d : Fin 128) : Fin 1024 := ⟨h.val * 128 + d.val, by omega⟩
/-- A head's key and value at a position. -/
def keyAt (p : FVec Ideal S16896x8192 .f32) (w : FVec Ideal S1x4x2048 .f32) (i h : Fin 8) (s : ℕ) (d : Fin 128) : EReal :=
  silu (conv (lead p i (kcol h d)) (fun j => w (ix3 0 j ⟨1024 + (kcol h d).val, by omega⟩)) s) * kScale
def valAt (p : FVec Ideal S16896x4096 .bf16) (i h : Fin 8) (s : ℕ) (e : Fin 256) : EReal :=
  p (ix2 ⟨i.val * 2048 + s % 2048, by have := Nat.mod_lt s (show 0 < 2048 by decide); omega⟩ ⟨2048 + (h.val * 256 + e.val), by omega⟩)

section Host
variable (σ : Valuation τ sig (Elt Ideal))
/-- Five rows above a history move its rows down by five. -/
theorem pad_hist (X : FVec Ideal S8x3x2048 .f32) (z : FVec Ideal S_ .f32) (i r : Fin 8) (hr : 5 ≤ r.val) (d : Fin 2048) :
    (pad S8x8x2048 ![0, 5, 0] ![0, 0, 0] ![0, 0, 0] X z pads_S8x3x2048_S8x8x2048_000_500_000 h_S_ (ix3 i r d) : EReal)
      = X (ix3 i ⟨r.val - 5, by omega⟩ d) := by
  pointwise []
  exact dif_pos ⟨hr, by omega⟩
theorem h_v11 (i r : Fin 8) (hr : 5 ≤ r.val) (d : Fin 2048) : (StableHlo.after hostOps0_1 σ (Proc.devRef .tc main_v11) (ix3 i r d) : EReal)
    = σ (Proc.devRef .tc main_v3) (ix3 i ⟨r.val - 5, by omega⟩ d) := by
  entry_read
  exact pad_hist (σ (Proc.devRef .tc main_v3)) (sitofp .f32 (show IVec S_ 32 from σ (Proc.devRef .tc main_c))) i r hr d
theorem h_v3 (i : Fin 8) (r : Fin 3) (d : Fin 2048) : (StableHlo.after hostOps0 σ (Proc.devRef .tc main_v3) (ix3 i r d) : EReal) = (0 : EReal) := by
  entry_read
  pointwise []
theorem h_v8 (i h : Fin 8) (d : Fin 128) : (StableHlo.after hostOps0 σ (Proc.devRef .tc main_v8) (ix3 i h d) : EReal) = (0 : EReal) := by
  entry_read
  pointwise []
theorem h_v7 (i h : Fin 8) (e : Fin 256) (d : Fin 128) : (StableHlo.after hostOps0 σ (Proc.devRef .tc main_v7) (ix4 i h e d) : EReal) = (0 : EReal) := by
  entry_read
  pointwise []
theorem h_v6 (j : Fin 4) (d : Fin 2048) : (StableHlo.after hostOps0 σ (Proc.devRef .tc main_v6) (ix2 j d) : EReal)
    = σ (Proc.devRef .tc main_arg5) (ix3 0 j d) := by
  entry_read
  pointwise []
theorem h_v14 (i h : Fin 8) (d : Fin 128) : (StableHlo.after hostOps0_2 σ (Proc.devRef .tc main_v14) (ix4 i h 0 d) : EReal)
    = σ (Proc.devRef .tc main_v8) (ix3 i h d) := by
  entry_read
  pointwise []
/-- The last stretch of the host's code leaves what it does not write. -/
theorem h_last (b : Ref sig .tc) (h1 : b ∉ [main_v12, main_v13, main_v14, main_v15, main_v16, main_v17, main_v18_0]) :
    StableHlo.after hostOps0_2 σ (Proc.devRef .tc b) = σ (Proc.devRef .tc b) := by
  simp only [List.mem_cons, List.not_mem_nil, or_false, not_or] at h1
  obtain ⟨a1, a2, a3, a4, a5, a6, a7⟩ := h1
  exact StableHlo.after_of_forall_not_mem (b := Proc.devRef .tc b) _ _ (List.forall_iff_forall_mem.mp (by
    simp only [hostOps0_2, List.Forall, StableHlo.reshape, StableHlo.unary_writes, Finset.mem_singleton]
    exact ⟨StableHlo.devRef_ne_of_ne a1, StableHlo.devRef_ne_of_ne a2, StableHlo.devRef_ne_of_ne a3, StableHlo.devRef_ne_of_ne a4,
      StableHlo.devRef_ne_of_ne a5, StableHlo.devRef_ne_of_ne a6, StableHlo.devRef_ne_of_ne a7⟩))
end Host

/-- The host code before the call, for the arrays it makes. -/
theorem v_hist (i r : Fin 8) (hr : 5 ≤ r.val) (d : Fin 2048) : (V m c main_v11 (ix3 i r d) : EReal) = (0 : EReal) := by
  rw [V_eq]
  exact (congrFun (h_last _ main_v11 (by decide)) _).trans ((h_v11 _ i r hr d).trans (h_v3 _ i _ d))
theorem v_weights (j : Fin 4) (d : Fin 2048) : (V m c main_v6 (ix2 j d) : EReal) = arg5 m c (ix3 0 j d) := by
  rw [V_eq]
  exact (congrFun (h_last _ main_v6 (by decide)) _).trans ((congrFun (h_pad _ main_v6 (by decide) (by decide)) _).trans (h_v6 _ j d))
theorem v_C0 (i h : Fin 8) (e : Fin 256) (d : Fin 128) : (V m c main_v7 (ix4 i h e d) : EReal) = (0 : EReal) := by
  rw [V_eq]
  exact (congrFun (h_last _ main_v7 (by decide)) _).trans ((congrFun (h_pad _ main_v7 (by decide) (by decide)) _).trans (h_v7 _ i h e d))
theorem v_n0 (i h : Fin 8) (d : Fin 128) : (V m c main_v14 (ix4 i h 0 d) : EReal) = (0 : EReal) := by
  rw [V_eq]
  exact (h_v14 _ i h d).trans ((congrFun (h_pad _ main_v8 (by decide) (by decide)) _).trans (h_v8 _ i h d))

/-- The blocks of a grid step. -/
theorem idx1 : ∀ t : Fin cfg0.N,
    win0_1.index t = ![t.val / 8, 40 + t.val % 8] ∧ win0_3.index t = ![t.val / 8, 0, 8 + t.val % 8]
    ∧ win0_5.index t = ![0, 8 + t.val % 8] ∧ win0_6.index t = ![t.val / 8, 8 + t.val % 8]
    ∧ win0_8.index t = ![t.val / 8, 0] ∧ win0_12.index t = ![t.val / 8, t.val % 8, 0, 0]
    ∧ win0_13.index t = ![t.val / 8, t.val % 8, 0, 0] ∧ win0_17.index t = ![t.val / 8, t.val % 8, 0, 0]
    ∧ win0_18.index t = ![t.val / 8, t.val % 8, 0, 0] :=
  (by decide +kernel : ∀ t : Fin grid0.N, _)

theorem blk_k (t : Fin cfg0.N) (r : Fin 2048) (d : Fin 128) : (X0_1 m c t (ix2 r d) : EReal)
    = V m c main_arg0 (ix2 ⟨(str t).val * 2048 + r.val, by have := (str t).isLt; omega⟩ ⟨5120 + (kcol (hd t) d).val, by have := (kcol (hd t) d).isLt; omega⟩) := by
  unfold X0_1 Pipeline.Window.fill
  rw [dif_pos (moved0_1 t _)]
  blk_ext [iblk, idx1 t, str, hd, kcol]
theorem blk_v (t : Fin cfg0.N) (r : Fin 2048) (e : Fin 256) : (X0_6 m c t (ix2 r e) : EReal)
    = V m c main_arg1 (ix2 ⟨(str t).val * 2048 + r.val, by have := (str t).isLt; omega⟩ ⟨2048 + ((hd t).val * 256 + e.val), by have := (hd t).isLt; omega⟩) := by
  unfold X0_6 Pipeline.Window.fill
  rw [dif_pos (moved0_6 t _)]
  blk_ext [iblk, idx1 t, str, hd]
theorem blk_g (t : Fin cfg0.N) (r : Fin 2048) (l : Fin 128) : (X0_8 m c t (ix2 r l) : EReal)
    = V m c main_arg2 (ix2 ⟨(str t).val * 2048 + r.val, by have := (str t).isLt; omega⟩ l) := by
  unfold X0_8 Pipeline.Window.fill
  rw [dif_pos (moved0_8 t _)]
  blk_ext [iblk, idx1 t, str]
theorem blk_h (t : Fin cfg0.N) (r : Fin 8) (d : Fin 128) : (iblk m c 3 t (ix3 0 r d) : EReal)
    = V m c main_v11 (ix3 (str t) r ⟨1024 + (kcol (hd t) d).val, by have := (kcol (hd t) d).isLt; omega⟩) := by
  blk_ext [iblk, idx1 t, str, hd, kcol]
theorem blk_w (t : Fin cfg0.N) (j : Fin 4) (d : Fin 128) : (iblk m c 5 t (ix2 j d) : EReal)
    = V m c main_v6 (ix2 j ⟨1024 + (kcol (hd t) d).val, by have := (kcol (hd t) d).isLt; omega⟩) := by
  blk_ext [iblk, idx1 t, hd, kcol]
theorem blk_C0 (t : Fin cfg0.N) (e : Fin 256) (d : Fin 128) : (iblk m c 12 t (ix4 0 0 e d) : EReal)
    = V m c main_v7 (ix4 (str t) (hd t) e d) := by
  blk_ext [iblk, idx1 t, str, hd]
theorem blk_n0 (t : Fin cfg0.N) (d : Fin 128) : (iblk m c 13 t (ix4 0 0 0 d) : EReal)
    = V m c main_v14 (ix4 (str t) (hd t) 0 d) := by
  blk_ext [iblk, idx1 t, str, hd]

/-- Positions of a head's keys and values, chunk by chunk. -/
theorem ld_val (X : Vec Ideal S2048x256 .bf16) (o : ℕ) (ho : o + 256 ≤ 2048) (hi) (r : Fin 256) (l : Fin 256) :
    (View.ld X (Rect.unit (s := S2048x256) ![o, 0] ![256, 256] hi) (ix2 r l) : EReal) = X (ix2 ⟨o + r.val, by omega⟩ l) := by
  refine congrArg X (funext fun a => Fin.ext ?_)
  match a with
  | ⟨0, _⟩ => show o + 1 * r.val = o + r.val; omega
  | ⟨1, _⟩ => show 0 + 1 * l.val = l.val; omega
theorem pay9_at (X : Vec Ideal S2048x128 .f32) (r : Fin 2048) (d : Fin 128) : (k0_pay9 (F := Ideal) X (ix2 r d) : EReal) = X (ix2 r d) := by
  pointwise [k0_pay9]
theorem pay8_at (X : Vec Ideal S1x8x128 .f32) (r : Fin 8) (d : Fin 128) : (k0_pay8 (F := Ideal) X (ix2 r d) : EReal) = X (ix3 0 r d) := by
  pointwise [k0_pay8]
theorem pay198_at (X : Vec Ideal S1x1x256x128 .f32) (e : Fin 256) (d : Fin 128) : (k0_pay198 (F := Ideal) X (ix2 e d) : EReal) = X (ix4 0 0 e d) := by
  pointwise [k0_pay198]
theorem pay199_at (X : Vec Ideal S1x1x1x128 .f32) (d : Fin 128) : (k0_pay199 (F := Ideal) X (ix2 0 d) : EReal) = X (ix4 0 0 0 d) := by
  pointwise [k0_pay199]
theorem pay1_at (X : FVec Ideal S1x128 .f32) (d : Fin 128) : (k0_pay1 (F := Ideal) X (ix4 0 0 0 d) : EReal) = X (ix2 0 d) := by
  pointwise [k0_pay1]
theorem cast_at (X : FVec Ideal S256x128 .f32) (e : Fin 256) (d : Fin 128) :
    (shapeCast S1x1x256x128 X shapeCasts_S256x128_S1x1x256x128 (ix4 0 0 e d) : EReal) = X (ix2 e d) := by
  pointwise []

/-- The convolved keys of a step. -/
def KCt (t : Fin cfg0.N) : Vec Ideal S2048x128 .bf16 :=
  KC (View.whole cc0_scratch1) (k0_pay9 (F := Ideal) (X0_1 m c t)) (k0_pay8 (F := Ideal) (iblk m c 3 t)) (iblk m c 5 t)

theorem KCt_at (t : Fin cfg0.N) (r : Fin 2048) (d : Fin 128) :
    (KCt m c t (ix2 r d) : EReal) = keyAt (arg0 m c) (arg5 m c) (str t) (hd t) r.val d := by
  refine KC_eq _ _ _ _ (lead (arg0 m c) (str t) (kcol (hd t) d)) _ d (fun s => ?_) (fun s hs => ?_) (fun j => ?_) r
  · rw [pay9_at, blk_k, V_main_arg0]
    unfold lead
    rw [if_neg (by omega)]
    have e : (3 + s.val - 3) % 2048 = s.val := by omega
    simp only [e]
  · rw [pay8_at, blk_h, v_hist m c _ _ hs]
    unfold lead
    rw [if_pos (by omega)]
  · rw [blk_w, v_weights]

/-- What the store of all the keys leaves. -/
theorem canon_keys (X : Vec Ideal S2048x128 .bf16) :
    View.canon (Val := Elt Ideal) (s := S2048x128) (e := .bf16) [⟨Rect.unit ![0,0] ![2048,128] inb_S2048x128_S2048x128_0_0, X⟩] = X := by
  funext y
  have hy0 : (y 0).val < 2048 := (y 0).isLt
  have hy1 : (y 1).val < 128 := (y 1).isLt
  have h1 : y ∈ (Rect.unit ![0,0] ![2048,128] inb_S2048x128_S2048x128_0_0 : Rect S2048x128).set :=
    Rect.mem_set_unit.mpr (Fin.forall_fin_two.mpr ⟨⟨Nat.zero_le _, by simpa using hy0⟩, ⟨Nat.zero_le _, by simpa using hy1⟩⟩)
  canon_tiles x h using ⟨_, List.mem_cons_self, h1⟩
  exact congrArg X (by blk_ext [])

/-- A chunk of the keys, loaded from where the body stores them. -/
theorem key_ok (t : Fin cfg0.N) (o : ℕ) (ho : o + 256 ≤ 2048) (hi) (r : Fin 256) (d : Fin 128) :
    ((View.whole cc0_scratch3).readCov (Val := Elt Ideal) [⟨Rect.unit ![0,0] ![2048,128] inb_S2048x128_S2048x128_0_0, KCt m c t⟩]
      (Rect.unit (s := S2048x128) ![o, 0] ![256, 128] hi).toLoadRect (ix2 r d) : EReal)
      = keyAt (arg0 m c) (arg5 m c) (str t) (hd t) (o + r.val) d := by
  rw [← KCt_at m c t ⟨o + r.val, by omega⟩ d]
  generalize KCt m c t = X
  refine (congrFun (View.readCov_eq_canon' _ _ _) _).trans ?_
  rw [canon_keys]
  refine congrArg X (funext fun a => Fin.ext ?_)
  match a with
  | ⟨0, _⟩ => show o + 1 * r.val = o + r.val; omega
  | ⟨1, _⟩ => show 0 + 1 * d.val = d.val; omega

theorem val_ok (t : Fin cfg0.N) (o : ℕ) (ho : o + 256 ≤ 2048) (hi) (r e : Fin 256) :
    (View.ld (X0_6 m c t) (Rect.unit (s := S2048x256) ![o, 0] ![256, 256] hi) (ix2 r e) : EReal)
      = valAt (arg1 m c) (str t) (hd t) (o + r.val) e := by
  rw [ld_val _ o ho, blk_v, V_main_arg1]
  have e : (o + r.val) % 2048 = o + r.val := Nat.mod_eq_of_lt (by omega)
  unfold valAt
  simp only [e]
theorem in_ok (t : Fin cfg0.N) (o : ℕ) (ho : o + 256 ≤ 2048) (hi) (r : Fin 256) :
    (View.ld (X0_8 m c t) (Rect.unit (s := S2048x128) ![o, 0] ![256, 128] hi) (ix2 r ⟨16 + (hd t).val, by omega⟩) : EReal)
      = gateAt (arg2 m c) (str t) (hd t) (o + r.val) := by
  rw [ld_col _ o ho, blk_g, V_main_arg2]
  have e : (o + r.val) % 2048 = o + r.val := Nat.mod_eq_of_lt (by omega)
  unfold gateAt
  simp only [e]

end Cert.Kernel8Ideal.Prompt

end
-- ==== Proof.Prompt.Left.lean ====
module
public import proofs.«01_k».proof.Proof.Prompt.States
/-!
# The matrix memories and the normalisers that the prompt's mLSTM call leaves
-/
@[expose] public section
set_option maxRecDepth 16384
noncomputable section
open Idealize.ShloMosaic Idealize.ShloMosaic.TcCoe Idealize.SL.Sem
open Idealize.ShloMosaic.Pipeline (Dat)
namespace Cert.Kernel8Ideal.Prompt
open Cert.Kernel8Ideal Cert.Kernel8Ideal.Gen Cert.MlstmSpec Cert.Prompt

variable (m : (ℓ : Loc nD τ sig) → Buf (Elt Ideal) ℓ) (ρ : Dev nD → PrngReg) (c : Dev nD)

section Step
variable {m c} {b : ℕ → ℝ} {t : Fin cfg0.N} (hb : ∀ s, sumAt (arg3 m c) (str t) (hd t) s = (b s : EReal))

theorem n_first (t : Fin cfg0.N) (b : ℕ → ℝ) (ig : ℕ → EReal) (x : ℕ → Fin 128 → EReal) (d : Fin 128) :
    (k0_pay199 (F := Ideal) (iblk m c 13 t) (ix2 0 d) : EReal) = acc b ig (fun s => x s d) 0 := by
  rw [acc_zero, pay199_at, blk_n0, v_n0]
theorem C_first (t : Fin cfg0.N) (b : ℕ → ℝ) (ig : ℕ → EReal) (x : ℕ → Fin 128 → EReal) (v : ℕ → Fin 256 → EReal) (e : Fin 256) (d : Fin 128) :
    (k0_pay198 (F := Ideal) (iblk m c 12 t) (ix2 e d) : EReal) = acc b ig (fun s => x s d * v s e) 0 := by
  rw [acc_zero, pay198_at, blk_C0, v_C0]

theorem pay241_at (a : FVec Ideal S1x1 .f32) (k C : FVec Ideal S256x128 .f32) (e : Fin 256) (d : Fin 128) :
    (k0_pay241 (F := Ideal) a k C (ix4 0 0 e d) : EReal) = addf (mulf (broadcastTo S256x128 a broadcasts_S1x1_S256x128) C) k (ix2 e d) := by
  unfold k0_pay241
  exact cast_at _ e d

include hb
/-- What a step leaves: the normaliser of all 2048 positions. -/
theorem left_n (d : Fin 128) : ((outsAt0 m c t).2.2.1 (ix4 0 0 0 d) : EReal)
    = acc b (gateAt (arg2 m c) (str t) (hd t)) (fun s => keyAt (arg0 m c) (arg5 m c) (str t) (hd t) s d) 2048 := by
  unfold outsAt0
  unfold out0_A_18
  frame_out
  refine (pay1_at _ d).trans ?_
  have hw : BitVec.ofNat 32 (grid0.coords t 1).val = BitVec.ofNat 32 (hd t).val := congrArg _ (coord1 t)
  rw [hw]
  have s0 := start_ok (b := b)
  have s1 := last_at (n := 0) fun r => col_ok hb 0 (by decide) inb_S2048x128_S256x128_0_0 r
  have s2 := last_at (n := 256) fun r => col_ok hb 256 (by decide) inb_S2048x128_S256x128_256_0 r
  have s3 := last_at (n := 512) fun r => col_ok hb 512 (by decide) inb_S2048x128_S256x128_512_0 r
  have s4 := last_at (n := 768) fun r => col_ok hb 768 (by decide) inb_S2048x128_S256x128_768_0 r
  have s5 := last_at (n := 1024) fun r => col_ok hb 1024 (by decide) inb_S2048x128_S256x128_1024_0 r
  have s6 := last_at (n := 1280) fun r => col_ok hb 1280 (by decide) inb_S2048x128_S256x128_1280_0 r
  have s7 := last_at (n := 1536) fun r => col_ok hb 1536 (by decide) inb_S2048x128_S256x128_1536_0 r
  have m1 := mNext_at s0 (first_ok (m := m) (c := c) (t := t)) (col_ok hb 0 (by decide) inb_S2048x128_S256x128_0_0) (row_ok hb 0 inb_S1x1x8x256_S1x1x1x256_0_0_0_0) (gate_ok 0 inb_S1x1x8x256_S1x1x1x256_0_0_0_0)
  have m2 := mNext_at s1 m1 (col_ok hb 256 (by decide) inb_S2048x128_S256x128_256_0) (row_ok hb 1 inb_S1x1x8x256_S1x1x1x256_0_0_1_0) (gate_ok 1 inb_S1x1x8x256_S1x1x1x256_0_0_1_0)
  have m3 := mNext_at s2 m2 (col_ok hb 512 (by decide) inb_S2048x128_S256x128_512_0) (row_ok hb 2 inb_S1x1x8x256_S1x1x1x256_0_0_2_0) (gate_ok 2 inb_S1x1x8x256_S1x1x1x256_0_0_2_0)
  have m4 := mNext_at s3 m3 (col_ok hb 768 (by decide) inb_S2048x128_S256x128_768_0) (row_ok hb 3 inb_S1x1x8x256_S1x1x1x256_0_0_3_0) (gate_ok 3 inb_S1x1x8x256_S1x1x1x256_0_0_3_0)
  have m5 := mNext_at s4 m4 (col_ok hb 1024 (by decide) inb_S2048x128_S256x128_1024_0) (row_ok hb 4 inb_S1x1x8x256_S1x1x1x256_0_0_4_0) (gate_ok 4 inb_S1x1x8x256_S1x1x1x256_0_0_4_0)
  have m6 := mNext_at s5 m5 (col_ok hb 1280 (by decide) inb_S2048x128_S256x128_1280_0) (row_ok hb 5 inb_S1x1x8x256_S1x1x1x256_0_0_5_0) (gate_ok 5 inb_S1x1x8x256_S1x1x1x256_0_0_5_0)
  have m7 := mNext_at s6 m6 (col_ok hb 1536 (by decide) inb_S2048x128_S256x128_1536_0) (row_ok hb 6 inb_S1x1x8x256_S1x1x1x256_0_0_6_0) (gate_ok 6 inb_S1x1x8x256_S1x1x1x256_0_0_6_0)
  have m8 := mNext_at s7 m7 (col_ok hb 1792 (by decide) inb_S2048x128_S256x128_1792_0) (row_ok hb 7 inb_S1x1x8x256_S1x1x1x256_0_0_7_0) (gate_ok 7 inb_S1x1x8x256_S1x1x1x256_0_0_7_0)
  have n1 := nNext_at s0 (first_ok (m := m) (c := c) (t := t)) m1 (col_ok hb 0 (by decide) inb_S2048x128_S256x128_0_0) (in_ok m c t 0 (by decide) inb_S2048x128_S256x128_0_0) (key_ok m c t 0 (by decide) inb_S2048x128_S256x128_0_0) (n_first (m := m) (c := c) t b _ _)
  have n2 := nNext_at s1 m1 m2 (col_ok hb 256 (by decide) inb_S2048x128_S256x128_256_0) (in_ok m c t 256 (by decide) inb_S2048x128_S256x128_256_0) (key_ok m c t 256 (by decide) inb_S2048x128_S256x128_256_0) n1
  have n3 := nNext_at s2 m2 m3 (col_ok hb 512 (by decide) inb_S2048x128_S256x128_512_0) (in_ok m c t 512 (by decide) inb_S2048x128_S256x128_512_0) (key_ok m c t 512 (by decide) inb_S2048x128_S256x128_512_0) n2
  have n4 := nNext_at s3 m3 m4 (col_ok hb 768 (by decide) inb_S2048x128_S256x128_768_0) (in_ok m c t 768 (by decide) inb_S2048x128_S256x128_768_0) (key_ok m c t 768 (by decide) inb_S2048x128_S256x128_768_0) n3
  have n5 := nNext_at s4 m4 m5 (col_ok hb 1024 (by decide) inb_S2048x128_S256x128_1024_0) (in_ok m c t 1024 (by decide) inb_S2048x128_S256x128_1024_0) (key_ok m c t 1024 (by decide) inb_S2048x128_S256x128_1024_0) n4
  have n6 := nNext_at s5 m5 m6 (col_ok hb 1280 (by decide) inb_S2048x128_S256x128_1280_0) (in_ok m c t 1280 (by decide) inb_S2048x128_S256x128_1280_0) (key_ok m c t 1280 (by decide) inb_S2048x128_S256x128_1280_0) n5
  have n7 := nNext_at s6 m6 m7 (col_ok hb 1536 (by decide) inb_S2048x128_S256x128_1536_0) (in_ok m c t 1536 (by decide) inb_S2048x128_S256x128_1536_0) (key_ok m c t 1536 (by decide) inb_S2048x128_S256x128_1536_0) n6
  have n8 := nNext_at s7 m7 m8 (col_ok hb 1792 (by decide) inb_S2048x128_S256x128_1792_0) (in_ok m c t 1792 (by decide) inb_S2048x128_S256x128_1792_0) (key_ok m c t 1792 (by decide) inb_S2048x128_S256x128_1792_0) n7
  exact n8 d

/-- What a step leaves: the matrix memory of all 2048 positions. -/
theorem left_C (e : Fin 256) (d : Fin 128) : ((outsAt0 m c t).2.1 (ix4 0 0 e d) : EReal)
    = acc b (gateAt (arg2 m c) (str t) (hd t)) (fun s => keyAt (arg0 m c) (arg5 m c) (str t) (hd t) s d * valAt (arg1 m c) (str t) (hd t) s e) 2048 := by
  unfold outsAt0
  unfold out0_A_17
  frame_out
  have hw : BitVec.ofNat 32 (grid0.coords t 1).val = BitVec.ofNat 32 (hd t).val := congrArg _ (coord1 t)
  rw [hw]
  refine (pay241_at _ _ _ e d).trans ?_
  have s0 := start_ok (b := b)
  have s1 := last_at (n := 0) fun r => col_ok hb 0 (by decide) inb_S2048x128_S256x128_0_0 r
  have s2 := last_at (n := 256) fun r => col_ok hb 256 (by decide) inb_S2048x128_S256x128_256_0 r
  have s3 := last_at (n := 512) fun r => col_ok hb 512 (by decide) inb_S2048x128_S256x128_512_0 r
  have s4 := last_at (n := 768) fun r => col_ok hb 768 (by decide) inb_S2048x128_S256x128_768_0 r
  have s5 := last_at (n := 1024) fun r => col_ok hb 1024 (by decide) inb_S2048x128_S256x128_1024_0 r
  have s6 := last_at (n := 1280) fun r => col_ok hb 1280 (by decide) inb_S2048x128_S256x128_1280_0 r
  have s7 := last_at (n := 1536) fun r => col_ok hb 1536 (by decide) inb_S2048x128_S256x128_1536_0 r
  have m1 := mNext_at s0 (first_ok (m := m) (c := c) (t := t)) (col_ok hb 0 (by decide) inb_S2048x128_S256x128_0_0) (row_ok hb 0 inb_S1x1x8x256_S1x1x1x256_0_0_0_0) (gate_ok 0 inb_S1x1x8x256_S1x1x1x256_0_0_0_0)
  have m2 := mNext_at s1 m1 (col_ok hb 256 (by decide) inb_S2048x128_S256x128_256_0) (row_ok hb 1 inb_S1x1x8x256_S1x1x1x256_0_0_1_0) (gate_ok 1 inb_S1x1x8x256_S1x1x1x256_0_0_1_0)
  have m3 := mNext_at s2 m2 (col_ok hb 512 (by decide) inb_S2048x128_S256x128_512_0) (row_ok hb 2 inb_S1x1x8x256_S1x1x1x256_0_0_2_0) (gate_ok 2 inb_S1x1x8x256_S1x1x1x256_0_0_2_0)
  have m4 := mNext_at s3 m3 (col_ok hb 768 (by decide) inb_S2048x128_S256x128_768_0) (row_ok hb 3 inb_S1x1x8x256_S1x1x1x256_0_0_3_0) (gate_ok 3 inb_S1x1x8x256_S1x1x1x256_0_0_3_0)
  have m5 := mNext_at s4 m4 (col_ok hb 1024 (by decide) inb_S2048x128_S256x128_1024_0) (row_ok hb 4 inb_S1x1x8x256_S1x1x1x256_0_0_4_0) (gate_ok 4 inb_S1x1x8x256_S1x1x1x256_0_0_4_0)
  have m6 := mNext_at s5 m5 (col_ok hb 1280 (by decide) inb_S2048x128_S256x128_1280_0) (row_ok hb 5 inb_S1x1x8x256_S1x1x1x256_0_0_5_0) (gate_ok 5 inb_S1x1x8x256_S1x1x1x256_0_0_5_0)
  have m7 := mNext_at s6 m6 (col_ok hb 1536 (by decide) inb_S2048x128_S256x128_1536_0) (row_ok hb 6 inb_S1x1x8x256_S1x1x1x256_0_0_6_0) (gate_ok 6 inb_S1x1x8x256_S1x1x1x256_0_0_6_0)
  have m8 := mNext_at s7 m7 (col_ok hb 1792 (by decide) inb_S2048x128_S256x128_1792_0) (row_ok hb 7 inb_S1x1x8x256_S1x1x1x256_0_0_7_0) (gate_ok 7 inb_S1x1x8x256_S1x1x1x256_0_0_7_0)
  have c1 := cNext_at s0 (first_ok (m := m) (c := c) (t := t)) m1 (col_ok hb 0 (by decide) inb_S2048x128_S256x128_0_0) (in_ok m c t 0 (by decide) inb_S2048x128_S256x128_0_0) (key_ok m c t 0 (by decide) inb_S2048x128_S256x128_0_0) (val_ok m c t 0 (by decide) inb_S2048x256_S256x256_0_0) (C_first (m := m) (c := c) t b _ _ _)
  have c2 := cNext_at s1 m1 m2 (col_ok hb 256 (by decide) inb_S2048x128_S256x128_256_0) (in_ok m c t 256 (by decide) inb_S2048x128_S256x128_256_0) (key_ok m c t 256 (by decide) inb_S2048x128_S256x128_256_0) (val_ok m c t 256 (by decide) inb_S2048x256_S256x256_256_0) c1
  have c3 := cNext_at s2 m2 m3 (col_ok hb 512 (by decide) inb_S2048x128_S256x128_512_0) (in_ok m c t 512 (by decide) inb_S2048x128_S256x128_512_0) (key_ok m c t 512 (by decide) inb_S2048x128_S256x128_512_0) (val_ok m c t 512 (by decide) inb_S2048x256_S256x256_512_0) c2
  have c4 := cNext_at s3 m3 m4 (col_ok hb 768 (by decide) inb_S2048x128_S256x128_768_0) (in_ok m c t 768 (by decide) inb_S2048x128_S256x128_768_0) (key_ok m c t 768 (by decide) inb_S2048x128_S256x128_768_0) (val_ok m c t 768 (by decide) inb_S2048x256_S256x256_768_0) c3
  have c5 := cNext_at s4 m4 m5 (col_ok hb 1024 (by decide) inb_S2048x128_S256x128_1024_0) (in_ok m c t 1024 (by decide) inb_S2048x128_S256x128_1024_0) (key_ok m c t 1024 (by decide) inb_S2048x128_S256x128_1024_0) (val_ok m c t 1024 (by decide) inb_S2048x256_S256x256_1024_0) c4
  have c6 := cNext_at s5 m5 m6 (col_ok hb 1280 (by decide) inb_S2048x128_S256x128_1280_0) (in_ok m c t 1280 (by decide) inb_S2048x128_S256x128_1280_0) (key_ok m c t 1280 (by decide) inb_S2048x128_S256x128_1280_0) (val_ok m c t 1280 (by decide) inb_S2048x256_S256x256_1280_0) c5
  have c7 := cNext_at s6 m6 m7 (col_ok hb 1536 (by decide) inb_S2048x128_S256x128_1536_0) (in_ok m c t 1536 (by decide) inb_S2048x128_S256x128_1536_0) (key_ok m c t 1536 (by decide) inb_S2048x128_S256x128_1536_0) (val_ok m c t 1536 (by decide) inb_S2048x256_S256x256_1536_0) c6
  have c8 := cNext_at s7 m7 m8 (col_ok hb 1792 (by decide) inb_S2048x128_S256x128_1792_0) (in_ok m c t 1792 (by decide) inb_S2048x128_S256x128_1792_0) (key_ok m c t 1792 (by decide) inb_S2048x128_S256x128_1792_0) (val_ok m c t 1792 (by decide) inb_S2048x256_S256x256_1792_0) c7
  exact c8 e d
end Step

/-- The matrix memories and the normalisers of the heads. -/
def mems (b : Fin 8 → Fin 8 → ℕ → ℝ) (p : FVec Ideal S16896x8192 .f32) (v : FVec Ideal S16896x4096 .bf16) (g : FVec Ideal S16896x128 .f32) (w : FVec Ideal S1x4x2048 .f32) :
    FVec Ideal S8x8x256x128 .f32 := fun y =>
  acc (b (y 0) (y 1)) (gateAt g (y 0) (y 1)) (fun s => keyAt p w (y 0) (y 1) s (y 3) * valAt v (y 0) (y 1) s (y 2)) 2048
def norms (b : Fin 8 → Fin 8 → ℕ → ℝ) (p : FVec Ideal S16896x8192 .f32) (g : FVec Ideal S16896x128 .f32) (w : FVec Ideal S1x4x2048 .f32) :
    FVec Ideal S8x8x128 .f32 := fun y =>
  acc (b (y 0) (y 1)) (gateAt g (y 0) (y 1)) (fun s => keyAt p w (y 0) (y 1) s (y 2)) 2048
/-- The normalisers as the call writes them. -/
def arrN (b : Fin 8 → Fin 8 → ℕ → ℝ) (p : FVec Ideal S16896x8192 .f32) (g : FVec Ideal S16896x128 .f32) (w : FVec Ideal S1x4x2048 .f32) :
    FVec Ideal S8x8x1x128 .f32 := fun y =>
  acc (b (y 0) (y 1)) (gateAt g (y 0) (y 1)) (fun s => keyAt p w (y 0) (y 1) s (y 3)) 2048

section Ends
variable {m c} {b : Fin 8 → Fin 8 → ℕ → ℝ}

/-- The matrix memories' array. -/
theorem arr_C (hb : ∀ i h s, sumAt (arg3 m c) i h s = (b i h s : EReal)) :
    (dats m 0 c).arrAt 17 cfg0.N = mems b (arg0 m c) (arg1 m c) (arg2 m c) (arg5 m c) := by
  refine (dats m 0 c).arrAt_eq_of_covers 17 (mems b (arg0 m c) (arg1 m c) (arg2 m c) (arg5 m c)) (by decide +kernel) fun t hf y => ?_
  blk_simp
  rw [after0_17]
  idx_vars y
  obtain rfl : y0 = 0 := Subsingleton.elim _ _
  obtain rfl : y1 = 0 := Subsingleton.elim _ _
  have hx : ((View.whole main_v18_1).slice (win0_17.rect t)).emb (ix4 0 0 y2 y3) = ix4 (str t) (hd t) y2 y3 := by
    blk_ext [idx1 t, str, hd]
  exact (left_C (hb (str t) (hd t)) y2 y3).trans (congrArg (mems b (arg0 m c) (arg1 m c) (arg2 m c) (arg5 m c)) hx).symm

/-- The normalisers' array. -/
theorem arr_N (hb : ∀ i h s, sumAt (arg3 m c) i h s = (b i h s : EReal)) :
    (dats m 0 c).arrAt 18 cfg0.N = arrN b (arg0 m c) (arg2 m c) (arg5 m c) := by
  refine (dats m 0 c).arrAt_eq_of_covers 18 (arrN b (arg0 m c) (arg2 m c) (arg5 m c)) (by decide +kernel) fun t hf y => ?_
  blk_simp
  rw [after0_18]
  idx_vars y
  obtain rfl : y0 = 0 := Subsingleton.elim _ _
  obtain rfl : y1 = 0 := Subsingleton.elim _ _
  obtain rfl : y2 = 0 := Subsingleton.elim _ _
  have hx : ((View.whole main_v18_2).slice (win0_18.rect t)).emb (ix4 0 0 0 y3) = ix4 (str t) (hd t) 0 y3 := by
    blk_ext [idx1 t, str, hd]
  exact (left_n (hb (str t) (hd t)) y3).trans (congrArg (arrN b (arg0 m c) (arg2 m c) (arg5 m c)) hx).symm

/-- What the host makes of the normalisers' array. -/
theorem h_v19 (σ : Valuation τ sig (Elt Ideal)) (i h : Fin 8) (d : Fin 128) :
    (StableHlo.after hostOps1 σ (Proc.devRef .tc main_v19) (ix3 i h d) : EReal) = σ (Proc.devRef .tc main_v18_2) (ix4 i h 0 d) := by
  entry_read
  pointwise []

/-- The normalisers when the host is done. -/
theorem end_N (hb : ∀ i h s, sumAt (arg3 m c) i h s = (b i h s : EReal)) :
    Pipeline.afterTail₀ cfgs (dats m) 0 (V0 m) [hostOps1] c main_v19 = norms b (arg0 m c) (arg2 m c) (arg5 m c) := by
  funext y
  idx_vars y
  have e := Pipeline.withArrays_arr_shared cfg0.spec c (V0 m c) _ ((dats m 0 c).arrAt_sharedIn launch₀0.sharedIn (V0 m c) (A_eq m c) cfg0.N) 18
  exact (h_v19 _ y0 y1 y2).trans (congrFun (e.trans (arr_N hb)) _)
end Ends

/-- Every run ends with the heads' states, where the running sums are finite. -/
theorem run_states {b : Dev nD → Fin 8 → Fin 8 → ℕ → ℝ} (hb : ∀ c i h s, sumAt (arg3 m c) i h s = (b c i h s : EReal)) :
    θ_run defs (onTc (τ := τ) (main (F := Ideal))) ⟨m, fun _ => 0, ρ⟩ (fun r => ∀ c : Dev nD,
      r.2.mem ((c.tc : Thread nD τ).loc main_v18_1) = mems (b c) (arg0 m c) (arg1 m c) (arg2 m c) (arg5 m c)
      ∧ r.2.mem ((c.tc : Thread nD τ).loc main_v19) = norms (b c) (arg0 m c) (arg2 m c) (arg5 m c)
      ∧ r.2.mem ((c.tc : Thread nD τ).loc main_v21) = stabs (b c) (arg2 m c)) :=
  (θ_run defs _ _).mono (fun _ h c => ⟨((h c).1 17).trans (arr_C (hb c)),
    ((h c).2 main_v19 (by decide)).trans (end_N (hb c)), ((h c).2 main_v21 (by decide)).trans (end_M (hb c))⟩) (run_main m ρ)

end Cert.Kernel8Ideal.Prompt

end
-- ==== Proof.Prompt.Claims.lean ====
module

public import proofs.«01_k».proof.Defs
public import proofs.«01_k».proof.Proof.Gen.Kernel8
public import proofs.«01_k».proof.Proof.Gen.Kernel8.Frame
public import proofs.«01_k».proof.Proof.Gen.Kernel8Ideal
public import proofs.«01_k».proof.Proof.Gen.Reference8Ideal
public import proofs.«01_k».proof.Proof.Gen.Reference8Ideal.Run
public import proofs.«01_k».proof.Proof.Gen.Reference8Ideal.Read
public import proofs.«01_k».proof.Proof.Gen.Pre_finite_gates
public import proofs.«01_k».proof.Proof.Prompt.Left
public import Idealize.ShloMosaic.Adequacy
public import Idealize.ShloMosaic.Init
public import Idealize.ShloMosaic.Lib.Claim
public import Idealize.ShloMosaic.Lib.ReduceAll
public import Idealize.ShloMosaic.Lib.Pointwise

/-! The claims of the prompt's mLSTM call. -/

@[expose] public section

set_option maxRecDepth 16384

noncomputable section

namespace Cert.Proof.Prompt

open Idealize.ShloMosaic Idealize.SL.Sem
open Cert.Kernel8Ideal.Prompt

/-- An extended real whose absolute value is below infinity is real. -/
theorem real_of_abs (x : EReal) (h : max x (-x) < ⊤) : x = ((x.toReal : ℝ) : EReal) := by
  refine (EReal.coe_toReal ?_ ?_).symm
  · rintro rfl
    simp at h
  · rintro rfl
    simp at h

/-- The precondition says of every running sum of a forget gate that it is real. -/
theorem sums_real {x0 : FVec Ideal Cert.Pre_finite_gates.S16896x8192 .f32} {x1 x4 : FVec Ideal Cert.Pre_finite_gates.S16896x4096 .bf16}
    {x2 : FVec Ideal Cert.Pre_finite_gates.S16896x128 .f32} {x3 : FVec Ideal Cert.Pre_finite_gates.S16384x128 .f32}
    {x5 : FVec Ideal Cert.Pre_finite_gates.S1x4x2048 .f32} {x6 : FVec Ideal Cert.Pre_finite_gates.S1x2048 .f32}
    (h : Cert.Pre_finite_gates.fn x0 x1 x2 x3 x4 x5 x6 = fun _ => 1#1) (n : Fin 16384) (l : Fin 8) :
    (x3 (ix2 n ⟨24 + l.val, by omega⟩) : EReal) = (((x3 (ix2 n ⟨24 + l.val, by omega⟩) : EReal).toReal : ℝ) : EReal) := by
  unfold Cert.Pre_finite_gates.fn at h
  have e := Host.reduce_andi_eq_one _ _ _ _ _ (congrFun h (fun a => a.elim0)) (ix2 n l) (funext fun a => a.elim0)
  refine real_of_abs _ ?_
  have hs : (extractStridedSlice Cert.Pre_finite_gates.S16384x8 ![0, 24] x3 Cert.Pre_finite_gates.Facts.slices_S16384x128_S16384x8_0_24 (ix2 n l) : EReal)
      = x3 (ix2 n ⟨24 + l.val, by omega⟩) := by
    pointwise []
  have ht : (Ideal.ofBits .f32 0x7F800000#32 : EReal) = ⊤ := by simp [Ideal.ofBits, Ideal.ieee]
  have e' : BitVec.ofBool (decide (max (x3 (ix2 n ⟨24 + l.val, by omega⟩) : EReal) (-(x3 (ix2 n ⟨24 + l.val, by omega⟩) : EReal)) < Ideal.ofBits .f32 0x7F800000#32)) = 1#1 := by
    rw [← hs]; exact e
  rw [ht] at e'
  by_contra hn
  rw [decide_eq_false hn] at e'
  exact absurd e' (by decide)

end Cert.Proof.Prompt

namespace Cert.Reference8Ideal.Prompt

open Idealize.ShloMosaic Idealize.ShloMosaic.TcCoe Idealize.SL.Sem
open Cert.Reference8Ideal Cert.Reference8Ideal.Gen Cert.Reference8Ideal.Read Cert.Prompt Cert.MlstmSpec
open Cert.Kernel8Ideal.Prompt (sumAt gateAt keyAt valAt kcol lead stabs mems norms)

variable (x0 : FVec Ideal S16896x8192 .f32) (x1 : FVec Ideal S16896x4096 .bf16) (x2 : FVec Ideal S16896x128 .f32) (x3 : FVec Ideal S16384x128 .f32)
  (x5 : FVec Ideal S1x4x2048 .f32)

/-- A host maximum along the last of three axes. -/
theorem maxLast (f : FVec Ideal S8x8x2048 .f32) (i h : Fin 8) :
    Host.reduce (FloatOps.maximumf (F := Ideal) (φ := .f32)) f (val_main_cst_4 (F := Ideal)) reducesTo_S8x8x2048_S8x8_d2 h_S_ (ix2 i h)
      = Finset.univ.fold max negInf fun s : Fin 2048 => f (ix3 i h s) := by
  have hr : S8x8x2048.Reduces [2] S8x8 := by decide
  refine (Host.reduce_eq_fold_single (fun a b : EReal => max a b) f _ _ hr _ (ix2 i h)).trans ?_
  refine Finset.fold_congr fun s _ => congrArg f ?_
  funext a
  fin_cases a <;> rfl

/-- The running sums and the gates that the reference reads, head by head. -/
theorem sums_at (i h : Fin 8) (s : Fin 2048) : (val_main_v46 (F := Ideal) x3 (ix3 i h s) : EReal) = sumAt x3 i h s.val := by
  have e : s.val % 2048 = s.val := Nat.mod_eq_of_lt s.isLt
  unfold sumAt
  simp only [e]
  pointwise [val_main_v46, val_main_v8, val_main_v7]
theorem gates_at (i h : Fin 8) (s : Fin 2048) : (val_main_v45 (F := Ideal) x2 (ix3 i h s) : EReal) = gateAt x2 i h s.val := by
  have e : s.val % 2048 = s.val := Nat.mod_eq_of_lt s.isLt
  unfold gateAt
  simp only [e]
  pointwise [val_main_v45, val_main_v6, val_main_v5]
/-- Its values. -/
theorem vals_at (i h : Fin 8) (s : Fin 2048) (e : Fin 256) : (val_main_v44 (F := Ideal) x1 (ix4 i h s e) : EReal) = valAt x1 i h s.val e := by
  have hm : s.val % 2048 = s.val := Nat.mod_eq_of_lt s.isLt
  unfold valAt
  simp only [hm]
  pointwise [val_main_v44, val_main_v4, val_main_v3, val_main_v2]

/-- The rows that its convolution reads, three rows of zeros above them. -/
theorem lead_at (i : Fin 8) (r : Fin 2051) (l : Fin 1024) :
    (val_main_v10 (F := Ideal) x0 (ix3 i r ⟨1024 + l.val, by omega⟩) : EReal) = lead x0 i l r.val := by
  have e1 : ∀ q : Fin 2048, (val_main_v1 (F := Ideal) x0 (ix3 i q ⟨1024 + l.val, by omega⟩) : EReal)
      = x0 (ix2 ⟨i.val * 2048 + q.val, by omega⟩ ⟨5120 + l.val, by omega⟩) := by
    intro q
    pointwise [val_main_v1, val_main_v0]
    exact congrArg (fun a => x0 (ix2 _ a)) (Fin.ext (by show 4096 + (1024 + l.val) = 5120 + l.val; omega))
  have e0 : ∀ q : Fin 3, (val_main_v9 (F := Ideal) (ix3 i q ⟨1024 + l.val, by omega⟩) : EReal) = (0 : EReal) := by
    intro q
    pointwise [val_main_v9, val_main_cst]
  unfold val_main_v10 lead
  generalize val_main_v1 (F := Ideal) x0 = A at e1
  generalize val_main_v9 (F := Ideal) = B at e0
  pointwise []
  by_cases hr : r.val < 3
  · exact (dif_pos hr).trans ((e0 ⟨r.val, hr⟩).trans (if_pos hr).symm)
  · have em : (r.val - 3) % 2048 = r.val - 3 := Nat.mod_eq_of_lt (by omega)
    refine (dif_neg hr).trans ((e1 ⟨r.val - 3, by omega⟩).trans ?_)
    rw [if_neg hr]
    simp only [em]

/-- Its convolution. -/
theorem conv_at (i : Fin 8) (s : Fin 2048) (l : Fin 1024) :
    (val_main_v37 (F := Ideal) x0 x5 (ix3 i s ⟨1024 + l.val, by omega⟩) : EReal)
      = conv (lead x0 i l) (fun j => x5 (ix3 0 j ⟨1024 + l.val, by omega⟩)) s.val := by
  have e := lead_at x0 i
  unfold val_main_v37 val_main_v36 val_main_v30 val_main_v29 val_main_v23 val_main_v22 val_main_v16 val_main_v31 val_main_v24 val_main_v17 val_main_v11
  generalize val_main_v10 (F := Ideal) x0 = A at e
  pointwise [val_main_v35, val_main_v34, val_main_v33, val_main_v32, val_main_v28, val_main_v27, val_main_v26, val_main_v25,
    val_main_v21, val_main_v20, val_main_v19, val_main_v18, val_main_v15, val_main_v14, val_main_v13, val_main_v12]
  unfold conv
  refine congrArg₂ (fun p q : EReal => p + q) (congrArg₂ (fun p q : EReal => p + q) (congrArg₂ (fun p q : EReal => p + q)
    (congrArg (fun p : EReal => p * _) ?_) (congrArg (fun p : EReal => p * _) ?_)) (congrArg (fun p : EReal => p * _) ?_)) (congrArg (fun p : EReal => p * _) ?_)
  · exact e ⟨s.val, by omega⟩ l
  · exact e ⟨1 + s.val, by omega⟩ l
  · exact e ⟨2 + s.val, by omega⟩ l
  · exact e ⟨3 + s.val, by omega⟩ l

/-- Its keys. -/
theorem keys_at (i h : Fin 8) (s : Fin 2048) (d : Fin 128) :
    (val_main_v43 (F := Ideal) x0 x5 (ix4 i h s d) : EReal) = keyAt x0 x5 i h s.val d := by
  have e := conv_at x0 x5 i s (kcol h d)
  unfold keyAt
  rw [← e]
  unfold val_main_v43 val_main_v42 val_main_v40 val_main_v39 val_main_v38 val_main_call0_v5 val_main_call0_v3 val_main_call0_v1 val_main_call0_v0
  generalize val_main_v37 (F := Ideal) x0 x5 = A
  pointwise [val_main_v41, val_main_cst_0, val_main_call0_v4, val_main_call0_v2, val_main_call0_cst, val_main_call0_cst_0]
  rfl

/-- The last running sum. -/
theorem last_at (i h : Fin 8) : (val_main_v51 (F := Ideal) x3 (ix2 i h) : EReal) = sumAt x3 i h 2047 := by
  refine Eq.trans ?_ (sums_at x3 i h ⟨2047, by decide⟩)
  unfold val_main_v51 val_main_v50
  generalize val_main_v46 (F := Ideal) x3 = a
  pointwise []
theorem lastRow_at (i h : Fin 8) (s : Fin 2048) : (val_main_v53 (F := Ideal) x3 (ix3 i h s) : EReal) = sumAt x3 i h 2047 := by
  refine Eq.trans ?_ (last_at x3 i h)
  unfold val_main_v53 val_main_v52
  generalize val_main_v51 (F := Ideal) x3 = a
  pointwise []
theorem zero_at (i h : Fin 8) : (val_main_v49 (F := Ideal) (ix2 i h) : EReal) = 0 := by
  pointwise [val_main_v49, val_main_cst_3]
/-- The old states, which are zero, under any weight. -/
theorem oldC_at (i h : Fin 8) (e : Fin 256) (d : Fin 128) : (val_main_v68 (F := Ideal) x2 x3 (ix4 i h e d) : EReal) = 0 := by
  unfold val_main_v68
  generalize val_main_v67 (F := Ideal) x2 x3 = a
  pointwise [val_main_v47, val_main_cst_1]
  exact mul_zero _
theorem oldN_at (i h : Fin 8) (d : Fin 128) : (val_main_v76 (F := Ideal) x2 x3 (ix3 i h d) : EReal) = 0 := by
  unfold val_main_v76
  generalize val_main_v75 (F := Ideal) x2 x3 = a
  pointwise [val_main_v48, val_main_cst_2]
  exact mul_zero _

section
variable {x3} {b : Fin 8 → Fin 8 → ℕ → ℝ} (hb : ∀ i h s, sumAt x3 i h s = (b i h s : EReal))
include hb

/-- The decays. -/
theorem dec_at (i h : Fin 8) (s : Fin 2048) : (val_main_v55 (F := Ideal) x2 x3 (ix3 i h s) : EReal)
    = (b i h (2048 - 1) : EReal) - (b i h s.val : EReal) + gateAt x2 i h s.val := by
  rw [← hb, ← hb, ← lastRow_at x3 i h s, ← sums_at, ← gates_at]
  rfl

/-- The reference's stabilisers, where the running sums are real. -/
theorem stab_at (i h : Fin 8) : (val_main_v58 (F := Ideal) x2 x3 (ix2 i h) : EReal) = stab (b i h) (gateAt x2 i h) 2048 := by
  have e1 : (val_main_v56 (F := Ideal) x3 (ix2 i h) : EReal) = (b i h (2048 - 1) : EReal) + 0 := by
    rw [← hb]
    exact congrArg₂ (fun p q : EReal => p + q) (last_at x3 i h) (zero_at i h)
  have e2 : (val_main_v57 (F := Ideal) x2 x3 (ix2 i h) : EReal)
      = Finset.univ.fold max negInf fun s : Fin 2048 => (b i h (2048 - 1) : EReal) - (b i h s.val : EReal) + gateAt x2 i h s.val := by
    unfold val_main_v57
    exact (maxLast _ i h).trans (Finset.fold_congr fun s _ => dec_at x2 hb i h s)
  exact (congrArg₂ (fun p q : EReal => max p q) e1 e2).trans (stab_whole (b i h) (gateAt x2 i h) 2048 (by decide)).symm
theorem result_eq : val_main_v58 (F := Ideal) x2 x3 = stabs b x2 := funext fun y => by
  obtain ⟨i, h, rfl⟩ : ∃ (i h : Fin 8), y = ix2 i h := ⟨y 0, y 1, eq_ix2 y⟩
  exact stab_at x2 hb i h

/-- The weights of the positions. -/
theorem weight_at (i h : Fin 8) (s : Fin 2048) : (val_main_v65 (F := Ideal) x2 x3 (ix3 i h s) : EReal)
    = Ideal.exp ((b i h (2048 - 1) : EReal) - (b i h s.val : EReal) + gateAt x2 i h s.val - stab (b i h) (gateAt x2 i h) 2048) := by
  rw [← dec_at x2 hb, ← stab_at x2 hb]
  unfold val_main_v65 val_main_v64 val_main_v63 val_main_v62
  generalize val_main_v55 (F := Ideal) x2 x3 = a
  generalize val_main_v58 (F := Ideal) x2 x3 = q
  pointwise []

/-- The reference's matrix memories, -/
theorem result_C : val_main_v73 (F := Ideal) x0 x1 x2 x3 x5 = mems b x0 x1 x2 x5 := funext fun y => by
  obtain ⟨i, h, e, d, rfl⟩ : ∃ (i h : Fin 8) (e : Fin 256) (d : Fin 128), y = ix4 i h e d := ⟨y 0, y 1, y 2, y 3, eq_ix4 y⟩
  have er : ∀ s : Fin 2048, (val_main_v71 (F := Ideal) x0 x2 x3 x5 (ix4 i h s d) : EReal)
      = val_main_v65 (F := Ideal) x2 x3 (ix3 i h s) * val_main_v43 (F := Ideal) x0 x5 (ix4 i h s d) := by
    intro s
    unfold val_main_v71 val_main_v70 val_main_v69
    generalize val_main_v65 (F := Ideal) x2 x3 = a
    generalize val_main_v43 (F := Ideal) x0 x5 = k
    pointwise []
  have e2 : (val_main_v72 (F := Ideal) x0 x1 x2 x3 x5 (ix4 i h e d) : EReal)
      = acc (b i h) (gateAt x2 i h) (fun s => keyAt x0 x5 i h s d * valAt x1 i h s e) 2048 := by
    rw [val_main_v72_apply, acc_whole _ _ _ 2048 (by decide)]
    refine Finset.sum_congr rfl fun s _ => ?_
    have el : lidx_main_v72 (ix4 i h e d) s = ix4 i h s e := eq_ix4 _
    have eq : ridx_main_v72 (ix4 i h e d) s = ix4 i h s d := eq_ix4 _
    rw [el, eq, er, vals_at, keys_at, weight_at x2 hb, mul_comm, mul_assoc]
  exact (congrArg₂ (fun p q : EReal => p + q) (oldC_at x2 x3 i h e d) e2).trans (zero_add _)

/-- and its normalisers. -/
theorem result_N : val_main_v78 (F := Ideal) x0 x2 x3 x5 = norms b x0 x2 x5 := funext fun y => by
  obtain ⟨i, h, d, rfl⟩ : ∃ (i h : Fin 8) (d : Fin 128), y = ix3 i h d := ⟨y 0, y 1, y 2, eq_ix3 y⟩
  have e2 : (val_main_v77 (F := Ideal) x0 x2 x3 x5 (ix3 i h d) : EReal)
      = acc (b i h) (gateAt x2 i h) (fun s => keyAt x0 x5 i h s d) 2048 := by
    rw [val_main_v77_apply, acc_whole _ _ _ 2048 (by decide)]
    refine Finset.sum_congr rfl fun s _ => ?_
    have el : lidx_main_v77 (ix3 i h d) s = ix3 i h s := eq_ix3 _
    have eq : ridx_main_v77 (ix3 i h d) s = ix4 i h s d := eq_ix4 _
    rw [el, eq, keys_at, weight_at x2 hb]
  exact (congrArg₂ (fun p q : EReal => p + q) (oldN_at x2 x3 i h d) e2).trans (zero_add _)
end

end Cert.Reference8Ideal.Prompt

namespace Cert.Proof.Prompt

open Idealize.ShloMosaic Idealize.SL.Sem
open Cert.Kernel8Ideal.Prompt

/-- The call terminates from any memory, leaves its arguments unchanged and its counters at zero. -/
theorem frame_kernel : Cert.quiescent_Kernel8 := fun m ρ _ => Cert.Kernel8.Gen.frame m ρ

/-- The same of its reading over the extended reals, -/
theorem frame_ideal : Cert.quiescent_Kernel8Ideal := fun m ρ _ => Cert.Kernel8Ideal.Gen.frame m ρ

/-- and where the precondition is asked. -/
theorem frame_ideal_pre : Cert.quiescent_Kernel8Ideal_pre_finite_gates := fun m ρ _ => Cert.Kernel8Ideal.Gen.frame m ρ

/-- The same of the reference, which declares no semaphore, -/
theorem frame_reference : Cert.quiescent_Reference8Ideal := fun m ρ _ =>
  (θ_run Cert.Reference8Ideal.defs _ _).mono
    (fun r h => ⟨fun c => (h c).2.2.2, sem_eq_zero_of_no_sems (by decide) r.2⟩)
    (Cert.Reference8Ideal.Value.run m ρ)

/-- and where the precondition is asked. -/
theorem frame_reference_pre : Cert.quiescent_Reference8Ideal_pre_finite_gates := fun m ρ _ =>
  frame_reference m ρ trivial

/-- The call and the reference end with equal matrix memories, normalisers and stabilisers. -/
theorem values : Cert.algebraic_Kernel8Ideal_Reference8Ideal_pre_finite_gates := by
  intro m ρ m' ρ' hpre hagree
  have hb : ∀ (c : Dev Cert.Kernel8Ideal.nD) (i h : Fin 8) (s : ℕ),
      sumAt (arg3 m c) i h s = ((sumAt (arg3 m c) i h s).toReal : EReal) := fun c i h s => sums_real (hpre c) _ h
  refine ⟨_, _, _, θ_run_mono (θ_run_and (run_states (m := m) ρ hb) (Cert.Kernel8Ideal.Gen.unchanged m ρ))
    (fun r h c => ⟨(h.1 c).1, (h.1 c).2.1, (h.1 c).2.2, h.2 c⟩), ?_⟩
  refine θ_run_mono (Cert.Reference8Ideal.Value.run m' ρ') ?_
  intro r h c
  obtain ⟨a0, a1, a2, a3, a4, a5, a6⟩ := hagree c
  obtain ⟨hC, hN, hM, hk⟩ := h c
  refine ⟨(hC.trans (Cert.Reference8Ideal.Read.val_main_v73_eq m' c)).trans ?_, (hN.trans (Cert.Reference8Ideal.Read.val_main_v78_eq m' c)).trans ?_,
    (hM.trans (Cert.Reference8Ideal.Read.val_main_v58_eq _ _)).trans ?_, hk⟩
  · rw [a0, a1, a2, a3, a5]
    exact Cert.Reference8Ideal.Prompt.result_C (arg0 m c) (arg1 m c) (arg2 m c) (arg5 m c) (hb c)
  · rw [a0, a2, a3, a5]
    exact Cert.Reference8Ideal.Prompt.result_N (arg0 m c) (arg2 m c) (arg5 m c) (hb c)
  · rw [a2, a3]
    exact Cert.Reference8Ideal.Prompt.result_eq (arg2 m c) (hb c)

end Cert.Proof.Prompt

end
-- ==== Proof.Mlstm.Blocks.lean ====
module
public import proofs.«01_k».proof.Proof.Gen.KernelIdeal.Frame
public import proofs.«01_k».proof.Proof.Mlstm.Pay
/-!
# The blocks of a grid step

Step `t` of the second launch works on stream `t / 8` and head `t % 8`: where each window's block lies in its array.
-/
@[expose] public section
set_option maxRecDepth 16384
noncomputable section
open Idealize.ShloMosaic Idealize.ShloMosaic.TcCoe Idealize.SL.Sem
open Idealize.ShloMosaic.Pipeline (Dat)
namespace Cert.KernelIdeal.Mlstm
open Cert.KernelIdeal Cert.KernelIdeal.Gen Cert.MlstmSpec

/-- The first launch's step `t` takes the rows of stream `t`. -/
theorem idx0 : ∀ t : Fin cfg0.N, win0_0.index t = ![t.val, 0] ∧ win0_1.index t = ![t.val, 0] :=
  (by decide +kernel : ∀ t : Fin grid0.N, _)

/-- The second launch's block indices, by stream and head. -/
theorem idx1 : ∀ t : Fin cfg1.N,
    win1_0.index t = ![256 + t.val / 8, 32 + t.val % 8] ∧ win1_1.index t = ![256 + t.val / 8, 40 + t.val % 8]
    ∧ win1_2.index t = ![t.val / 8, 0, t.val % 8] ∧ win1_3.index t = ![t.val / 8, 0, 8 + t.val % 8]
    ∧ win1_4.index t = ![0, t.val % 8] ∧ win1_5.index t = ![0, 8 + t.val % 8]
    ∧ win1_6.index t = ![256 + t.val / 8, 8 + t.val % 8] ∧ win1_7.index t = ![256 + t.val / 8, 24 + t.val % 8]
    ∧ win1_8.index t = ![256 + t.val / 8, 0] ∧ win1_9.index t = ![t.val / 8, 0]
    ∧ win1_10.index t = ![t.val / 8, 16 + t.val % 8, 0, 0] ∧ win1_11.index t = ![t.val / 8, 24 + t.val % 8, 0, 0]
    ∧ win1_12.index t = ![t.val / 8, t.val % 8, 0, 0] ∧ win1_13.index t = ![t.val / 8, t.val % 8, 0, 0]
    ∧ win1_14.index t = ![t.val / 8, t.val % 8, 0, 0] ∧ win1_15.index t = ![t.val % 8, 0, 0]
    ∧ win1_16.index t = ![256 + t.val / 8, 8 + t.val % 8]
    ∧ win1_17.index t = ![t.val / 8, t.val % 8, 0, 0] ∧ win1_18.index t = ![t.val / 8, t.val % 8, 0, 0]
    ∧ win1_19.index t = ![t.val / 8, t.val % 8, 0, 0] :=
  (by decide +kernel : ∀ t : Fin grid1.N, _)

/-- The head coordinate of a step. -/
theorem coord1 : ∀ t : Fin cfg1.N, (grid1.coords t 1).val = t.val % 8 := (by decide +kernel : ∀ t : Fin grid1.N, _)

variable (V : (c : Dev nD) → (b : Ref sig .tc) → Buf (Elt Ideal) ((c : Thread nD τ).loc b)) (c : Dev nD)

theorem t_lt (t : Fin cfg1.N) : t.val < 64 := t.isLt

theorem blk_q (t : Fin cfg1.N) (r : Fin 64) (d : Fin 128) : (iblk1 V c 0 t (ix2 r d) : EReal)
    = V c main_arg0 (ix2 ⟨16384 + (t.val / 8 * 64 + r.val), by have := t_lt t; omega⟩ ⟨4096 + (t.val % 8 * 128 + d.val), by omega⟩) := by
  blk_ext [iblk1, idx1 t]

theorem blk_k (t : Fin cfg1.N) (r : Fin 64) (d : Fin 128) : (iblk1 V c 1 t (ix2 r d) : EReal)
    = V c main_arg0 (ix2 ⟨16384 + (t.val / 8 * 64 + r.val), by have := t_lt t; omega⟩ ⟨4096 + (1024 + (t.val % 8 * 128 + d.val)), by omega⟩) := by
  blk_ext [iblk1, idx1 t]

theorem blk_hq (t : Fin cfg1.N) (r : Fin 8) (d : Fin 128) : (iblk1 V c 2 t (ix3 0 r d) : EReal)
    = V c main_v13 (ix3 ⟨t.val / 8, by have := t_lt t; omega⟩ r ⟨t.val % 8 * 128 + d.val, by omega⟩) := by
  blk_ext [iblk1, idx1 t]

theorem blk_hk (t : Fin cfg1.N) (r : Fin 8) (d : Fin 128) : (iblk1 V c 3 t (ix3 0 r d) : EReal)
    = V c main_v13 (ix3 ⟨t.val / 8, by have := t_lt t; omega⟩ r ⟨1024 + (t.val % 8 * 128 + d.val), by omega⟩) := by
  blk_ext [iblk1, idx1 t]

theorem blk_wq (t : Fin cfg1.N) (j : Fin 4) (d : Fin 128) : (iblk1 V c 4 t (ix2 j d) : EReal)
    = V c main_v8 (ix2 j ⟨t.val % 8 * 128 + d.val, by omega⟩) := by
  blk_ext [iblk1, idx1 t]

theorem blk_wk (t : Fin cfg1.N) (j : Fin 4) (d : Fin 128) : (iblk1 V c 5 t (ix2 j d) : EReal)
    = V c main_v8 (ix2 j ⟨1024 + (t.val % 8 * 128 + d.val), by omega⟩) := by
  blk_ext [iblk1, idx1 t]

theorem blk_v (t : Fin cfg1.N) (r : Fin 64) (e : Fin 256) : (iblk1 V c 6 t (ix2 r e) : EReal)
    = V c main_arg1 (ix2 ⟨16384 + (t.val / 8 * 64 + r.val), by have := t_lt t; omega⟩ ⟨2048 + (t.val % 8 * 256 + e.val), by omega⟩) := by
  blk_ext [iblk1, idx1 t]

theorem blk_og (t : Fin cfg1.N) (r : Fin 64) (e : Fin 256) : (iblk1 V c 7 t (ix2 r e) : EReal)
    = V c main_arg0 (ix2 ⟨16384 + (t.val / 8 * 64 + r.val), by have := t_lt t; omega⟩ ⟨6144 + (t.val % 8 * 256 + e.val), by omega⟩) := by
  blk_ext [iblk1, idx1 t]

theorem blk_gates (t : Fin cfg1.N) (r : Fin 64) (l : Fin 128) : (iblk1 V c 8 t (ix2 r l) : EReal)
    = V c main_arg2 (ix2 ⟨16384 + (t.val / 8 * 64 + r.val), by have := t_lt t; omega⟩ l) := by
  blk_ext [iblk1, idx1 t]

theorem blk_cum (t : Fin cfg1.N) (r : Fin 64) (l : Fin 128) : (iblk1 V c 9 t (ix2 r l) : EReal)
    = V c main_v3 (ix2 ⟨t.val / 8 * 64 + r.val, by have := t_lt t; omega⟩ l) := by
  blk_ext [iblk1, idx1 t]

theorem blk_igr (t : Fin cfg1.N) (r : Fin 64) : (iblk1 V c 10 t (ix4 0 0 0 r) : EReal)
    = V c main_v14 (ix4 ⟨t.val / 8, by have := t_lt t; omega⟩ ⟨16 + t.val % 8, by omega⟩ 0 r) := by
  blk_ext [iblk1, idx1 t]

theorem blk_br (t : Fin cfg1.N) (r : Fin 64) : (iblk1 V c 11 t (ix4 0 0 0 r) : EReal)
    = V c main_v15 (ix4 ⟨t.val / 8, by have := t_lt t; omega⟩ ⟨24 + t.val % 8, by omega⟩ 0 r) := by
  blk_ext [iblk1, idx1 t]

theorem blk_C (t : Fin cfg1.N) (e : Fin 256) (d : Fin 128) : (iblk1 V c 12 t (ix4 0 0 e d) : EReal)
    = V c main_v9 (ix4 ⟨t.val / 8, by have := t_lt t; omega⟩ ⟨t.val % 8, by omega⟩ e d) := by
  blk_ext [iblk1, idx1 t]

theorem blk_n (t : Fin cfg1.N) (d : Fin 128) : (iblk1 V c 13 t (ix4 0 0 0 d) : EReal)
    = V c main_v16 (ix4 ⟨t.val / 8, by have := t_lt t; omega⟩ ⟨t.val % 8, by omega⟩ 0 d) := by
  blk_ext [iblk1, idx1 t]

theorem blk_m (t : Fin cfg1.N) (d : Fin 128) : (iblk1 V c 14 t (ix4 0 0 0 d) : EReal)
    = V c main_v18 (ix4 ⟨t.val / 8, by have := t_lt t; omega⟩ ⟨t.val % 8, by omega⟩ 0 d) := by
  blk_ext [iblk1, idx1 t]

theorem blk_g (t : Fin cfg1.N) (e : Fin 256) : (iblk1 V c 15 t (ix3 0 0 e) : EReal)
    = V c main_v19 (ix3 ⟨t.val % 8, by omega⟩ 0 e) := by
  blk_ext [iblk1, idx1 t]

end Cert.KernelIdeal.Mlstm
-- ==== Proof.Mlstm.Entry.lean ====
module
public import proofs.«01_k».proof.Proof.Mlstm.Blocks
public import Idealize.ShloMosaic.Lib.Claim
/-!
# What the second launch reads

The arrays the second launch's windows lie in, in terms of the program's arguments: the host's reshapes, slices, padding
and transposes, and the prefix sums that the first launch leaves.
-/
@[expose] public section
set_option maxRecDepth 16384
noncomputable section
open Idealize.ShloMosaic Idealize.ShloMosaic.TcCoe Idealize.SL.Sem
open Idealize.ShloMosaic.Pipeline (Dat)
namespace Cert.KernelIdeal.Mlstm
open Cert.KernelIdeal Cert.KernelIdeal.Gen Cert.MlstmSpec

/-- Five rows of padding above a history move its rows down by five. -/
theorem pad_hist (X : FVec Ideal S8x3x2048 .f32) (z : FVec Ideal S_ .f32) (i r : Fin 8) (hr : 5 ≤ r.val) (d : Fin 2048) :
    (pad S8x8x2048 ![0, 5, 0] ![0, 0, 0] ![0, 0, 0] X z pads_S8x3x2048_S8x8x2048_000_500_000 h_S_ (ix3 i r d) : EReal)
      = X (ix3 i ⟨r.val - 5, by omega⟩ d) := by
  pointwise []
  exact dif_pos ⟨hr, by omega⟩

section Host
variable (σ : Valuation τ sig (Elt Ideal))

theorem h_v1 (i : Fin 8) (r : Fin 64) (l : Fin 128) : (StableHlo.after hostOps0 σ (Proc.devRef .tc main_v1) (ix3 i r l) : EReal)
    = σ (Proc.devRef .tc main_arg2) (ix2 (row i r) l) := by
  entry_read
  pointwise [row]

theorem h_v2 (i : Fin 512) (l : Fin 128) : (StableHlo.after hostOps0 σ (Proc.devRef .tc main_v2) (ix2 i l) : EReal)
    = σ (Proc.devRef .tc main_arg2) (ix2 ⟨16384 + i.val, by omega⟩ l) := by
  entry_read
  pointwise []

theorem h_v4 (i : Fin 8) (l : Fin 128) (r : Fin 64) : (StableHlo.after hostOps1 σ (Proc.devRef .tc main_v4) (ix3 i l r) : EReal)
    = σ (Proc.devRef .tc main_v1) (ix3 i r l) := by
  entry_read
  pointwise []

theorem h_v6 (i : Fin 8) (l : Fin 128) (r : Fin 64) : (StableHlo.after hostOps1 σ (Proc.devRef .tc main_v6) (ix3 i l r) : EReal)
    = σ (Proc.devRef .tc main_v3) (ix2 ⟨i.val * 64 + r.val, by omega⟩ l) := by
  entry_read
  pointwise []

theorem h_v7 (i : Fin 8) (r : Fin 3) (d : Fin 2048) : (StableHlo.after hostOps1 σ (Proc.devRef .tc main_v7) (ix3 i r d) : EReal)
    = σ (Proc.devRef .tc main_arg7) (ix4 0 i r d) := by
  entry_read
  pointwise []

theorem h_v8 (j : Fin 4) (d : Fin 2048) : (StableHlo.after hostOps1 σ (Proc.devRef .tc main_v8) (ix2 j d) : EReal)
    = σ (Proc.devRef .tc main_arg8) (ix3 0 j d) := by
  entry_read
  pointwise []

theorem h_v9 (i h : Fin 8) (e : Fin 256) (d : Fin 128) :
    (StableHlo.after hostOps1 σ (Proc.devRef .tc main_v9) (ix4 i h e d) : EReal) = σ (Proc.devRef .tc main_arg4) (ix5 0 i h e d) := by
  entry_read
  pointwise []

theorem h_v10 (i h : Fin 8) (d : Fin 128) :
    (StableHlo.after hostOps1 σ (Proc.devRef .tc main_v10) (ix3 i h d) : EReal) = σ (Proc.devRef .tc main_arg5) (ix4 0 i h d) := by
  entry_read
  pointwise []

theorem h_v11 (i h : Fin 8) :
    (StableHlo.after hostOps1 σ (Proc.devRef .tc main_v11) (ix2 i h) : EReal) = σ (Proc.devRef .tc main_arg6) (ix3 0 i h) := by
  entry_read
  pointwise []

theorem h_v12 (d : Fin 2048) :
    (StableHlo.after hostOps1 σ (Proc.devRef .tc main_v12) (ix1 d) : EReal) = σ (Proc.devRef .tc main_arg9) (ix2 0 d) := by
  entry_read
  pointwise []

theorem h_v13 (i r : Fin 8) (hr : 5 ≤ r.val) (d : Fin 2048) : (StableHlo.after hostOps1_1 σ (Proc.devRef .tc main_v13) (ix3 i r d) : EReal)
    = σ (Proc.devRef .tc main_v7) (ix3 i ⟨r.val - 5, by omega⟩ d) := by
  entry_read
  exact pad_hist (σ (Proc.devRef .tc main_v7)) (sitofp .f32 (show IVec S_ 32 from σ (Proc.devRef .tc main_c))) i r hr d

theorem h_v14 (i : Fin 8) (l : Fin 128) (r : Fin 64) : (StableHlo.after hostOps1_2 σ (Proc.devRef .tc main_v14) (ix4 i l 0 r) : EReal)
    = σ (Proc.devRef .tc main_v4) (ix3 i l r) := by
  entry_read
  pointwise []

theorem h_v15 (i : Fin 8) (l : Fin 128) (r : Fin 64) : (StableHlo.after hostOps1_2 σ (Proc.devRef .tc main_v15) (ix4 i l 0 r) : EReal)
    = σ (Proc.devRef .tc main_v6) (ix3 i l r) := by
  entry_read
  pointwise []

theorem h_v16 (i h : Fin 8) (d : Fin 128) : (StableHlo.after hostOps1_2 σ (Proc.devRef .tc main_v16) (ix4 i h 0 d) : EReal)
    = σ (Proc.devRef .tc main_v10) (ix3 i h d) := by
  entry_read
  pointwise []

theorem h_v18 (i h : Fin 8) (d : Fin 128) : (StableHlo.after hostOps1_2 σ (Proc.devRef .tc main_v18) (ix4 i h 0 d) : EReal)
    = σ (Proc.devRef .tc main_v11) (ix2 i h) := by
  entry_read
  pointwise []

theorem h_v19 (h : Fin 8) (e : Fin 256) : (StableHlo.after hostOps1_2 σ (Proc.devRef .tc main_v19) (ix3 h 0 e) : EReal)
    = σ (Proc.devRef .tc main_v12) (ix1 ⟨h.val * 256 + e.val, by omega⟩) := by
  entry_read
  pointwise []

theorem h_v20 : StableHlo.after hostOps1_2 σ (Proc.devRef .tc main_v20_0) = σ (Proc.devRef .tc main_arg3) := by
  entry_read
  rfl

end Host

section Entry
variable (m : (ℓ : Loc nD τ sig) → Buf (Elt Ideal) ℓ) (ρ : Dev nD → PrngReg) (c : Dev nD)

/-- Argument number `k` as launched. -/
abbrev arg (b : Ref sig .tc) : Buf (Elt Ideal) ((c : Thread nD τ).loc b) := m ((c : Thread nD τ).loc b)

theorem e_arg0 : V5 m ρ c main_arg0 = arg m c main_arg0 := W5_args m ρ c main_arg0 (by decide)
theorem e_arg1 : V5 m ρ c main_arg1 = arg m c main_arg1 := W5_args m ρ c main_arg1 (by decide)
theorem e_arg2 : V5 m ρ c main_arg2 = arg m c main_arg2 := W5_args m ρ c main_arg2 (by decide)

theorem e_v20 : V5 m ρ c main_v20_0 = arg m c main_arg3 := (h_v20 _).trans (W4_args m ρ c main_arg3 (by decide))

theorem e_v8 (j : Fin 4) (d : Fin 2048) : (V5 m ρ c main_v8 (ix2 j d) : EReal) = arg m c main_arg8 (ix3 0 j d) :=
  (congrFun ((W5_of m ρ c main_v8 (by decide)).trans (W4_of m ρ c main_v8 (by decide))) _).trans
    ((h_v8 _ j d).trans (congrFun (W2_args m ρ c main_arg8 (by decide)) _))

theorem e_v9 (i h : Fin 8) (e : Fin 256) (d : Fin 128) : (V5 m ρ c main_v9 (ix4 i h e d) : EReal) = arg m c main_arg4 (ix5 0 i h e d) :=
  (congrFun ((W5_of m ρ c main_v9 (by decide)).trans (W4_of m ρ c main_v9 (by decide))) _).trans
    ((h_v9 _ i h e d).trans (congrFun (W2_args m ρ c main_arg4 (by decide)) _))

theorem e_v13 (i r : Fin 8) (hr : 5 ≤ r.val) (d : Fin 2048) :
    (V5 m ρ c main_v13 (ix3 i r d) : EReal) = arg m c main_arg7 (ix4 0 i ⟨r.val - 5, by omega⟩ d) :=
  (congrFun (W5_of m ρ c main_v13 (by decide)) _).trans ((h_v13 _ i r hr d).trans
    ((h_v7 _ i _ d).trans (congrFun (W2_args m ρ c main_arg7 (by decide)) _)))

theorem e_v16 (i h : Fin 8) (d : Fin 128) : (V5 m ρ c main_v16 (ix4 i h 0 d) : EReal) = arg m c main_arg5 (ix4 0 i h d) :=
  (h_v16 _ i h d).trans ((congrFun (W4_of m ρ c main_v10 (by decide)) _).trans
    ((h_v10 _ i h d).trans (congrFun (W2_args m ρ c main_arg5 (by decide)) _)))

theorem e_v18 (i h : Fin 8) (d : Fin 128) : (V5 m ρ c main_v18 (ix4 i h 0 d) : EReal) = arg m c main_arg6 (ix3 0 i h) :=
  (h_v18 _ i h d).trans ((congrFun (W4_of m ρ c main_v11 (by decide)) _).trans
    ((h_v11 _ i h).trans (congrFun (W2_args m ρ c main_arg6 (by decide)) _)))

theorem e_v19 (h : Fin 8) (e : Fin 256) : (V5 m ρ c main_v19 (ix3 h 0 e) : EReal) = arg m c main_arg9 (ix2 0 ⟨h.val * 256 + e.val, by omega⟩) :=
  (h_v19 _ h e).trans ((congrFun (W4_of m ρ c main_v12 (by decide)) _).trans
    ((h_v12 _ _).trans (congrFun (W2_args m ρ c main_arg9 (by decide)) _)))

theorem e_v14 (i : Fin 8) (l : Fin 128) (r : Fin 64) : (V5 m ρ c main_v14 (ix4 i l 0 r) : EReal) = arg m c main_arg2 (ix2 (row i r) l) :=
  (h_v14 _ i l r).trans ((congrFun (W4_of m ρ c main_v4 (by decide)) _).trans
    ((h_v4 _ i l r).trans ((congrFun (W2_of m ρ c main_v1 (by decide)) _).trans (h_v1 _ i r l))))

/-- The prefix sums that the first launch leaves. -/
def cums : S512x128.Idx → EReal := fun y =>
  cum (fun s => arg m c main_arg2 (ix2 (row ⟨(y 0).val / 64, by have : (y 0).val < 512 := (y 0).isLt; omega⟩ s) (y 1)))
    ⟨(y 0).val % 64, by omega⟩

theorem cums_at (i : Fin 8) (r : Fin 64) (l : Fin 128) : cums m c (ix2 ⟨i.val * 64 + r.val, by omega⟩ l)
    = cum (fun s => arg m c main_arg2 (ix2 (row i s) l)) r := by
  have e1 : (⟨(i.val * 64 + r.val) / 64, by omega⟩ : Fin 8) = i := Fin.ext (by show (i.val * 64 + r.val) / 64 = i.val; omega)
  have e2 : (⟨(i.val * 64 + r.val) % 64, by omega⟩ : Fin 64) = r := Fin.ext (by show (i.val * 64 + r.val) % 64 = r.val; omega)
  exact congrArg₂ (fun (i : Fin 8) (r : Fin 64) => cum (fun s => arg m c main_arg2 (ix2 (row i s) l)) r) e1 e2

theorem t0_lt (t : Fin cfg0.N) : t.val < 8 := t.isLt

theorem blk_in (V : (c : Dev nD) → (b : Ref sig .tc) → Buf (Elt Ideal) ((c : Thread nD τ).loc b)) (t : Fin cfg0.N) (r : Fin 64) (l : Fin 128) :
    (iblk0 V c 0 t (ix2 r l) : EReal) = V c main_v2 (ix2 ⟨t.val * 64 + r.val, by have := t0_lt t; omega⟩ l) := by
  blk_ext [iblk0, idx0 t]

theorem arr0 : (dat0 (V1 m ρ) c).arrAt 1 cfg0.N = cums m c := by
  refine (dat0 (V1 m ρ) c).arrAt_eq_of_covers 1 (cums m c) (by decide +kernel) fun t hf y => ?_
  blk_simp
  rw [after0_1]
  unfold out0_1
  frame_out
  idx_vars y
  have hx : ((View.whole main_v3).slice (win0_1.rect t)).emb (ix2 y0 y1) = ix2 (⟨t.val * 64 + y0.val, by have := t0_lt t; omega⟩ : Fin 512) y1 := by
    blk_ext [idx0 t]
  refine ((pay_cum _ y0 y1).trans ?_).trans (((congrArg (cums m c) hx).trans (cums_at m c ⟨t.val, t0_lt t⟩ y0 y1)).symm)
  refine congrArg (fun f : Fin 64 → EReal => cum f y0) (funext fun s => ?_)
  refine (blk_in c (V1 m ρ) t s y1).trans ((h_v2 _ _ y1).trans ?_)
  rfl

theorem e_v3 (i : Fin 8) (r : Fin 64) (l : Fin 128) : (V5 m ρ c main_v3 (ix2 ⟨i.val * 64 + r.val, by omega⟩ l) : EReal)
    = cum (fun s => arg m c main_arg2 (ix2 (row i s) l)) r :=
  (congrFun ((W5_of m ρ c main_v3 (by decide)).trans ((W4_of m ρ c main_v3 (by decide)).trans ((W3_of m ρ c main_v3 (by decide)).trans
    ((W2_arr m ρ c 1).trans (arr0 m ρ c))))) _).trans (cums_at m c i r l)

theorem e_v15 (i : Fin 8) (l : Fin 128) (r : Fin 64) : (V5 m ρ c main_v15 (ix4 i l 0 r) : EReal)
    = cum (fun s => arg m c main_arg2 (ix2 (row i s) l)) r :=
  (h_v15 _ i l r).trans ((congrFun (W4_of m ρ c main_v6 (by decide)) _).trans
    ((h_v6 _ i l r).trans ((congrFun ((W2_arr m ρ c 1).trans (arr0 m ρ c)) _).trans (cums_at m c i r l))))

end Entry

end Cert.KernelIdeal.Mlstm
-- ==== Proof.Mlstm.Conv.lean ====
module
public import proofs.«01_k».proof.Proof.Mlstm.Blocks
/-!
# The short causal convolution read back from the history scratch

The body stores eight rows of history and the chunk's sixty-four rows, and reads four windows of them.
-/
@[expose] public section
set_option maxRecDepth 16384
noncomputable section
open Idealize.ShloMosaic Idealize.ShloMosaic.TcCoe Idealize.SL.Sem
open Idealize.ShloMosaic.Pipeline (Dat)
namespace Cert.KernelIdeal.Mlstm
open Cert.KernelIdeal Cert.KernelIdeal.Gen Cert.MlstmSpec

/-- Eight rows of history, then the chunk's rows. -/
def lined (A : FVec Ideal S64x128 .f32) (B : FVec Ideal S8x128 .f32) : FVec Ideal S72x128 .f32 := fun y =>
  if h : (y 0).val < 8 then B (ix2 ⟨(y 0).val, h⟩ (y 1))
  else A (ix2 ⟨(y 0).val - 8, by have : (y 0).val < 72 := (y 0).isLt; omega⟩ (y 1))

/-- What the two stores leave in a history scratch. -/
theorem canon_lined (A : FVec Ideal S64x128 .f32) (B : FVec Ideal S8x128 .f32) :
    (View.canon (Val := Elt Ideal) (s := S72x128) (e := .f32) [⟨Rect.unit ![8,0] ![64,128] inb_S72x128_S64x128_8_0, A⟩,
      ⟨Rect.unit ![0,0] ![8,128] inb_S72x128_S8x128_0_0, B⟩]) = lined A B := by
  funext y
  have hy0 : (y 0).val < 72 := (y 0).isLt
  have hy1 : (y 1).val < 128 := (y 1).isLt
  by_cases h : (y 0).val < 8
  · have h1 : y ∈ (Rect.unit ![0,0] ![8,128] inb_S72x128_S8x128_0_0 : Rect S72x128).set :=
      Rect.mem_set_unit.mpr (Fin.forall_fin_two.mpr ⟨⟨Nat.zero_le _, by simpa using h⟩, ⟨Nat.zero_le _, by simpa using hy1⟩⟩)
    canon_tiles x h using ⟨_, List.mem_cons_of_mem _ (List.mem_cons_self), h1⟩
    · unfold lined
      rw [dif_neg (by omega)]
      exact congrArg A (by blk_ext [])
    · unfold lined
      rw [dif_pos (by omega)]
      exact congrArg B (by blk_ext [])
  · have h1 : y ∈ (Rect.unit ![8,0] ![64,128] inb_S72x128_S64x128_8_0 : Rect S72x128).set :=
      Rect.mem_set_unit.mpr (Fin.forall_fin_two.mpr ⟨⟨by simpa using h, by simpa using hy0⟩, ⟨Nat.zero_le _, by simpa using hy1⟩⟩)
    canon_tiles x h using ⟨_, List.mem_cons_self, h1⟩
    · unfold lined
      rw [dif_neg (by omega)]
      exact congrArg A (by blk_ext [])
    · unfold lined
      rw [dif_pos (by omega)]
      exact congrArg B (by blk_ext [])

/-- A window loaded from row `o` reads those rows. -/
theorem load_lined {κ : Kind} {sp : Space} (v : View sig κ sp S72x128 .f32) (A : FVec Ideal S64x128 .f32) (B : FVec Ideal S8x128 .f32) (o : ℕ)
    (inb : ∀ a, (![o,0] : Fin 2 → ℕ) a + (![64,128] : Fin 2 → ℕ) a ≤ S72x128.size a)
    (t : Fin 64) (d : Fin 128) (h : o + t.val < 72) :
    v.readCov (Val := Elt Ideal) [⟨Rect.unit ![8,0] ![64,128] inb_S72x128_S64x128_8_0, A⟩,
      ⟨Rect.unit ![0,0] ![8,128] inb_S72x128_S8x128_0_0, B⟩] (Rect.unit (s := S72x128) ![o,0] ![64,128] inb).toLoadRect (ix2 t d) = lined A B (ix2 ⟨o + t.val, h⟩ d) := by
  refine (congrFun (View.readCov_eq_canon' _ _ _) _).trans ?_
  rw [canon_lined]
  refine congrArg (lined A B) (funext (Fin.forall_fin_two.mpr ⟨Fin.ext ?_, Fin.ext ?_⟩))
  · show o + 1 * t.val = o + t.val
    omega
  · show 0 + 1 * d.val = d.val
    omega

/-- One weight row. -/
theorem ld_weight (W : Vec Ideal S4x128 .f32) (j : Fin 4) (inb : ∀ a, (![j.val,0] : Fin 2 → ℕ) a + (![1,128] : Fin 2 → ℕ) a ≤ S4x128.size a) (d : Fin 128) :
    (View.ld (Val := Elt Ideal) W (Rect.unit (s := S4x128) ![j.val,0] ![1,128] inb)) (ix2 0 d) = W (ix2 j d) := by
  refine congrArg W (funext (Fin.forall_fin_two.mpr ⟨Fin.ext ?_, Fin.ext ?_⟩))
  · show j.val + 1 * 0 = j.val
    omega
  · show 0 + 1 * d.val = d.val
    omega

/-- The four windows of one history. -/
def win (v : View sig .tc .vmem S72x128 .f32) (A : FVec Ideal S64x128 .f32) (B : FVec Ideal S8x128 .f32) (o : ℕ)
    (inb : ∀ a, (![o,0] : Fin 2 → ℕ) a + (![64,128] : Fin 2 → ℕ) a ≤ S72x128.size a) : Vec Ideal S64x128 .f32 :=
  v.readCov (Val := Elt Ideal) [⟨Rect.unit ![8,0] ![64,128] inb_S72x128_S64x128_8_0, A⟩,
      ⟨Rect.unit ![0,0] ![8,128] inb_S72x128_S8x128_0_0, B⟩] (Rect.unit (s := S72x128) ![o,0] ![64,128] inb).toLoadRect

/-- The row of weights number `j`. -/
def wrow (W : Vec Ideal S4x128 .f32) (j : ℕ) (inb : ∀ a, (![j,0] : Fin 2 → ℕ) a + (![1,128] : Fin 2 → ℕ) a ≤ S4x128.size a) :
    Vec Ideal S1x128 .f32 := View.ld (Val := Elt Ideal) W (Rect.unit (s := S4x128) ![j,0] ![1,128] inb)

/-- The convolved queries of a step. -/
def QC (v : View sig .tc .vmem S72x128 .f32) (A : FVec Ideal S64x128 .f32) (B : FVec Ideal S8x128 .f32) (W : Vec Ideal S4x128 .f32) : Vec Ideal S64x128 .bf16 :=
  k1_pay6 (k1_pay4 (win v A B 5 inb_S72x128_S64x128_5_0) (wrow W 0 inb_S4x128_S1x128_0_0) (win v A B 6 inb_S72x128_S64x128_6_0) (wrow W 1 inb_S4x128_S1x128_1_0)
      (win v A B 7 inb_S72x128_S64x128_7_0) (wrow W 2 inb_S4x128_S1x128_2_0))
    (k1_pay5 (win v A B 8 inb_S72x128_S64x128_8_0) (wrow W 3 inb_S4x128_S1x128_3_0))

/-- The convolved and scaled keys of a step. -/
def KC (v : View sig .tc .vmem S72x128 .f32) (A : FVec Ideal S64x128 .f32) (B : FVec Ideal S8x128 .f32) (W : Vec Ideal S4x128 .f32) : Vec Ideal S64x128 .bf16 :=
  k1_pay10 (k1_pay9 (win v A B 5 inb_S72x128_S64x128_5_0) (wrow W 0 inb_S4x128_S1x128_0_0) (win v A B 6 inb_S72x128_S64x128_6_0) (wrow W 1 inb_S4x128_S1x128_1_0)
      (win v A B 7 inb_S72x128_S64x128_7_0) (wrow W 2 inb_S4x128_S1x128_2_0))
    (win v A B 8 inb_S72x128_S64x128_8_0) (wrow W 3 inb_S4x128_S1x128_3_0)

section Conv
variable (v : View sig .tc .vmem S72x128 .f32) (A : FVec Ideal S64x128 .f32) (B : FVec Ideal S8x128 .f32) (W : Vec Ideal S4x128 .f32)
  (u : ℕ → EReal) (w : Fin 4 → EReal) (d : Fin 128)
  (hA : ∀ r : Fin 64, A (ix2 r d) = u (3 + r.val)) (hB : ∀ r : Fin 8, 5 ≤ r.val → B (ix2 r d) = u (r.val - 5))
  (hW : ∀ j, W (ix2 j d) = w j)
include hA hB

/-- A window's row is the history's. -/
theorem win_row (o : ℕ) (ho : 5 ≤ o) (inb) (t : Fin 64) (h : o + t.val < 72) : win v A B o inb (ix2 t d) = u (o - 5 + t.val) := by
  refine (load_lined v A B o inb t d h).trans ?_
  unfold lined
  by_cases hs : o + t.val < 8
  · rw [dif_pos (show ((ix2 (⟨o + t.val, h⟩ : Fin 72) d : S72x128.Idx) 0).val < 8 from hs)]
    refine (hB ⟨o + t.val, hs⟩ (show 5 ≤ o + t.val by omega)).trans (congrArg u ?_)
    show o + t.val - 5 = o - 5 + t.val
    omega
  · rw [dif_neg (show ¬ ((ix2 (⟨o + t.val, h⟩ : Fin 72) d : S72x128.Idx) 0).val < 8 from hs)]
    refine (hA ⟨o + t.val - 8, by omega⟩).trans (congrArg u ?_)
    show 3 + (o + t.val - 8) = o - 5 + t.val
    omega

include hW

theorem QC_eq (t : Fin 64) : QC v A B W (ix2 t d) = silu (conv u w t.val) := by
  have h0 : win v A B 5 inb_S72x128_S64x128_5_0 (ix2 t d) = u (t.val) :=
    (win_row v A B u d hA hB 5 (by omega) _ t (by omega)).trans (congrArg u (by omega))
  have h1 : win v A B 6 inb_S72x128_S64x128_6_0 (ix2 t d) = u (1 + t.val) :=
    (win_row v A B u d hA hB 6 (by omega) _ t (by omega)).trans (congrArg u (by omega))
  have h2 : win v A B 7 inb_S72x128_S64x128_7_0 (ix2 t d) = u (2 + t.val) :=
    (win_row v A B u d hA hB 7 (by omega) _ t (by omega)).trans (congrArg u (by omega))
  have h3 : win v A B 8 inb_S72x128_S64x128_8_0 (ix2 t d) = u (3 + t.val) :=
    (win_row v A B u d hA hB 8 (by omega) _ t (by omega)).trans (congrArg u (by omega))
  have w0 : wrow W 0 inb_S4x128_S1x128_0_0 (ix2 0 d) = w 0 := (ld_weight W 0 _ d).trans (hW 0)
  have w1 : wrow W 1 inb_S4x128_S1x128_1_0 (ix2 0 d) = w 1 := (ld_weight W 1 _ d).trans (hW 1)
  have w2 : wrow W 2 inb_S4x128_S1x128_2_0 (ix2 0 d) = w 2 := (ld_weight W 2 _ d).trans (hW 2)
  have w3 : wrow W 3 inb_S4x128_S1x128_3_0 (ix2 0 d) = w 3 := (ld_weight W 3 _ d).trans (hW 3)
  unfold QC
  pointwise [k1_pay6, k1_pay4, k1_pay5]
  simp only [h0, h1, h2, h3, w0, w1, w2, w3]
  unfold silu conv
  rfl

theorem KC_eq (t : Fin 64) : KC v A B W (ix2 t d) = silu (conv u w t.val) * kScale := by
  have h0 : win v A B 5 inb_S72x128_S64x128_5_0 (ix2 t d) = u (t.val) :=
    (win_row v A B u d hA hB 5 (by omega) _ t (by omega)).trans (congrArg u (by omega))
  have h1 : win v A B 6 inb_S72x128_S64x128_6_0 (ix2 t d) = u (1 + t.val) :=
    (win_row v A B u d hA hB 6 (by omega) _ t (by omega)).trans (congrArg u (by omega))
  have h2 : win v A B 7 inb_S72x128_S64x128_7_0 (ix2 t d) = u (2 + t.val) :=
    (win_row v A B u d hA hB 7 (by omega) _ t (by omega)).trans (congrArg u (by omega))
  have h3 : win v A B 8 inb_S72x128_S64x128_8_0 (ix2 t d) = u (3 + t.val) :=
    (win_row v A B u d hA hB 8 (by omega) _ t (by omega)).trans (congrArg u (by omega))
  have w0 : wrow W 0 inb_S4x128_S1x128_0_0 (ix2 0 d) = w 0 := (ld_weight W 0 _ d).trans (hW 0)
  have w1 : wrow W 1 inb_S4x128_S1x128_1_0 (ix2 0 d) = w 1 := (ld_weight W 1 _ d).trans (hW 1)
  have w2 : wrow W 2 inb_S4x128_S1x128_2_0 (ix2 0 d) = w 2 := (ld_weight W 2 _ d).trans (hW 2)
  have w3 : wrow W 3 inb_S4x128_S1x128_3_0 (ix2 0 d) = w 3 := (ld_weight W 3 _ d).trans (hW 3)
  unfold KC
  pointwise [k1_pay10, k1_pay9]
  simp only [h0, h1, h2, h3, w0, w1, w2, w3]
  unfold silu conv
  rfl

end Conv
end Cert.KernelIdeal.Mlstm
-- ==== Proof.Mlstm.Step.lean ====
module
public import proofs.«01_k».proof.Proof.Mlstm.Entry
public import proofs.«01_k».proof.Proof.Mlstm.Conv
/-!
# A grid step holds its head

The blocks of step `t` of the second launch hold the data of head `t % 8` of stream `t / 8`.
-/
@[expose] public section
set_option maxRecDepth 16384
noncomputable section
open Idealize.ShloMosaic Idealize.ShloMosaic.TcCoe Idealize.SL.Sem
open Idealize.ShloMosaic.Pipeline (Dat)
namespace Cert.KernelIdeal.Mlstm
open Cert.KernelIdeal Cert.KernelIdeal.Gen Cert.MlstmSpec

variable (m : (ℓ : Loc nD τ sig) → Buf (Elt Ideal) ℓ) (ρ : Dev nD → PrngReg) (c : Dev nD)

/-- The head's data from the program's arguments. -/
abbrev headAt (i h : Fin 8) : Head :=
  headOf (arg m c main_arg0) (arg m c main_arg1) (arg m c main_arg2) (arg m c main_arg4) (arg m c main_arg5) (arg m c main_arg6)
    (arg m c main_arg7) (arg m c main_arg8) (arg m c main_arg9) i h

/-- The stream of a step. -/
def str (t : Fin cfg1.N) : Fin 8 := ⟨t.val / 8, by have := t_lt t; omega⟩
/-- The head of a step. -/
def hd (t : Fin cfg1.N) : Fin 8 := ⟨t.val % 8, by omega⟩

/-- The prefix sums' column of a step. -/
abbrev sB (t : Fin cfg1.N) : FVec Ideal S64x1 .f32 := k1_pay13 (BitVec.ofNat 32 (grid1.coords t 1).val) (iblk1 (V5 m ρ) c 9 t)
/-- The input gates' column of a step. -/
abbrev sIG (t : Fin cfg1.N) : FVec Ideal S64x1 .f32 := k1_pay14 (BitVec.ofNat 32 (grid1.coords t 1).val) (iblk1 (V5 m ρ) c 8 t)
/-- The carried stabiliser of a step. -/
abbrev sM (t : Fin cfg1.N) : Vec Ideal S1x1x1x1 .f32 :=
  View.ld (Val := Elt Ideal) (iblk1 (V5 m ρ) c 14 t) (Rect.unit ![0,0,0,0] ![1,1,1,1] inb_S1x1x1x128_S1x1x1x1_0_0_0_0)
/-- The convolved queries of a step. -/
abbrev sQ (t : Fin cfg1.N) : Vec Ideal S64x128 .bf16 :=
  QC (View.whole cc1_scratch0) (k1_pay3 (iblk1 (V5 m ρ) c 0 t)) (k1_pay2 (iblk1 (V5 m ρ) c 2 t)) (iblk1 (V5 m ρ) c 4 t)
/-- The convolved keys of a step. -/
abbrev sK (t : Fin cfg1.N) : Vec Ideal S64x128 .bf16 :=
  KC (View.whole cc1_scratch1) (k1_pay8 (iblk1 (V5 m ρ) c 1 t)) (k1_pay7 (iblk1 (V5 m ρ) c 3 t)) (iblk1 (V5 m ρ) c 5 t)

/-- A history row past the third is a row of the chunk. -/
theorem hist_chunk (p32 : FVec Ideal ⟨2, ![16896, 8192]⟩ .f32) (cv : FVec Ideal ⟨4, ![1, 8, 3, 2048]⟩ .f32) (i : Fin 8) (l : Fin 2048) (r : Fin 64) :
    hist p32 cv i l (3 + r.val) = p32 (ix2 (row i r) ⟨4096 + l.val, by omega⟩) := by
  unfold hist
  rw [dif_neg (by omega), dif_pos (by omega)]
  exact congrArg (fun k : Fin 16896 => p32 (ix2 k ⟨4096 + l.val, by omega⟩)) (Fin.ext (by show 16384 + (i.val * 64 + (3 + r.val - 3)) = 16384 + (i.val * 64 + r.val); omega))

/-- One of the first three history rows. -/
theorem hist_carry (p32 : FVec Ideal ⟨2, ![16896, 8192]⟩ .f32) (cv : FVec Ideal ⟨4, ![1, 8, 3, 2048]⟩ .f32) (i : Fin 8) (l : Fin 2048) (r : ℕ) (h : r < 3) :
    hist p32 cv i l r = cv (ix4 0 i ⟨r, h⟩ l) := by
  unfold hist
  rw [dif_pos h]

theorem sM_eq (t : Fin cfg1.N) : sM m ρ c t (ix4 0 0 0 0) = (headAt m c (str t) (hd t)).m := by
  refine Eq.trans (b := (iblk1 (V5 m ρ) c 14 t (ix4 0 0 0 0) : EReal)) ?_ ((blk_m (V5 m ρ) c t 0).trans (e_v18 m ρ c (str t) (hd t) 0))
  refine congrArg (iblk1 (V5 m ρ) c 14 t) (funext fun a => Fin.ext ?_)
  fin_cases a <;> rfl

theorem sQ_eq (t : Fin cfg1.N) (r : Fin 64) (d : Fin 128) : sQ m ρ c t (ix2 r d) = (headAt m c (str t) (hd t)).q r d := by
  refine QC_eq _ _ _ _ (hist (arg m c main_arg0) (arg m c main_arg7) (str t) ⟨(hd t).val * 128 + d.val, by omega⟩)
    (fun j => arg m c main_arg8 (ix3 0 j ⟨(hd t).val * 128 + d.val, by omega⟩)) d (fun s => ?_) (fun s hs => ?_) (fun j => ?_) r
  · refine Eq.trans ?_ (hist_chunk _ _ _ _ s).symm
    refine Eq.trans (b := (iblk1 (V5 m ρ) c 0 t (ix2 s d) : EReal)) (by pointwise [k1_pay3]) ?_
    exact (blk_q (V5 m ρ) c t s d).trans (congrFun (e_arg0 m ρ c) _)
  · refine Eq.trans ?_ (hist_carry _ _ _ _ (s.val - 5) (by omega)).symm
    refine Eq.trans (b := (iblk1 (V5 m ρ) c 2 t (ix3 0 s d) : EReal)) (by pointwise [k1_pay2]) ?_
    exact (blk_hq (V5 m ρ) c t s d).trans (e_v13 m ρ c (str t) s hs _)
  · exact (blk_wq (V5 m ρ) c t j d).trans (e_v8 m ρ c j _)

theorem sK_eq (t : Fin cfg1.N) (r : Fin 64) (d : Fin 128) : sK m ρ c t (ix2 r d) = (headAt m c (str t) (hd t)).k r d := by
  refine KC_eq _ _ _ _ (hist (arg m c main_arg0) (arg m c main_arg7) (str t) ⟨1024 + ((hd t).val * 128 + d.val), by omega⟩)
    (fun j => arg m c main_arg8 (ix3 0 j ⟨1024 + ((hd t).val * 128 + d.val), by omega⟩)) d (fun s => ?_) (fun s hs => ?_) (fun j => ?_) r
  · refine Eq.trans ?_ (hist_chunk _ _ _ _ s).symm
    refine Eq.trans (b := (iblk1 (V5 m ρ) c 1 t (ix2 s d) : EReal)) (by pointwise [k1_pay8]) ?_
    exact (blk_k (V5 m ρ) c t s d).trans (congrFun (e_arg0 m ρ c) _)
  · refine Eq.trans ?_ (hist_carry _ _ _ _ (s.val - 5) (by omega)).symm
    refine Eq.trans (b := (iblk1 (V5 m ρ) c 3 t (ix3 0 s d) : EReal)) (by pointwise [k1_pay7]) ?_
    exact (blk_hk (V5 m ρ) c t s d).trans (e_v13 m ρ c (str t) s hs _)
  · exact (blk_wk (V5 m ρ) c t j d).trans (e_v8 m ρ c j _)

theorem step_holds (t : Fin cfg1.N) : Holds (headAt m c (str t) (hd t)) (sB m ρ c t) (sIG m ρ c t) (iblk1 (V5 m ρ) c 10 t) (iblk1 (V5 m ρ) c 11 t)
    (sM m ρ c t) (sQ m ρ c t) (sK m ρ c t) (iblk1 (V5 m ρ) c 6 t) (iblk1 (V5 m ρ) c 12 t) (iblk1 (V5 m ρ) c 13 t) (iblk1 (V5 m ρ) c 7 t)
    (iblk1 (V5 m ρ) c 15 t) where
  b r := by
    have hw : (grid1.coords t 1).val = (hd t).val := coord1 t
    unfold sB
    rw [hw]
    exact (pay13 (hd t) _ r).trans ((blk_cum (V5 m ρ) c t r _).trans (e_v3 m ρ c (str t) r _))
  ig r := by
    have hw : (grid1.coords t 1).val = (hd t).val := coord1 t
    unfold sIG
    rw [hw]
    exact (pay14 (hd t) _ r).trans ((blk_gates (V5 m ρ) c t r _).trans (congrFun (e_arg2 m ρ c) _))
  igr r := (blk_igr (V5 m ρ) c t r).trans (e_v14 m ρ c (str t) _ r)
  br r := (blk_br (V5 m ρ) c t r).trans (e_v15 m ρ c (str t) _ r)
  m := sM_eq m ρ c t
  q := sQ_eq m ρ c t
  k := sK_eq m ρ c t
  v r e := (blk_v (V5 m ρ) c t r e).trans (congrFun (e_arg1 m ρ c) _)
  C e d := (blk_C (V5 m ρ) c t e d).trans (e_v9 m ρ c (str t) (hd t) e d)
  n d := (blk_n (V5 m ρ) c t d).trans (e_v16 m ρ c (str t) (hd t) d)
  og r e := (blk_og (V5 m ρ) c t r e).trans (congrFun (e_arg0 m ρ c) _)
  g e := (blk_g (V5 m ρ) c t e).trans (e_v19 m ρ c (hd t) e)

end Cert.KernelIdeal.Mlstm
-- ==== Proof.Mlstm.Arrays.lean ====
module
public import proofs.«01_k».proof.Proof.Mlstm.Step
/-!
# What the second launch leaves in its result arrays

Each written block holds its head's outputs; together the blocks are the arrays of `Cert.MlstmSpec`.
-/
@[expose] public section
set_option maxRecDepth 16384
noncomputable section
open Idealize.ShloMosaic Idealize.ShloMosaic.TcCoe Idealize.SL.Sem
open Idealize.ShloMosaic.Pipeline (Dat)
namespace Cert.KernelIdeal.Mlstm
open Cert.KernelIdeal Cert.KernelIdeal.Gen Cert.MlstmSpec

variable (m : (ℓ : Loc nD τ sig) → Buf (Elt Ideal) ℓ) (ρ : Dev nD → PrngReg) (c : Dev nD)

/-- The carried matrix memories as the launch writes them. -/
def arrC : S8x8x256x128.Idx → EReal := fun y => (headAt m c (y 0) (y 1)).Cnew (y 2) (y 3)
/-- The carried normalisers as the launch writes them. -/
def arrN : S8x8x1x128.Idx → EReal := fun y => (headAt m c (y 0) (y 1)).nnew (y 3)
/-- The carried stabilisers as the launch writes them, one in every lane. -/
def arrM : S8x8x1x128.Idx → EReal := fun y => (headAt m c (y 0) (y 1)).mnew
/-- The heads' array. -/
def arrH : S16896x4096.Idx → EReal :=
  headsOut (arg m c main_arg0) (arg m c main_arg1) (arg m c main_arg3) (arg m c main_arg2) (arg m c main_arg4) (arg m c main_arg5)
    (arg m c main_arg6) (arg m c main_arg7) (arg m c main_arg8) (arg m c main_arg9)

/-- A running stream's row and a head's column of the heads' array. -/
theorem arrH_at (i h : Fin 8) (r : Fin 64) (e : Fin 256) :
    arrH m c (ix2 (row i r) ⟨2048 + (h.val * 256 + e.val), by omega⟩) = (headAt m c i h).out r e := by
  have e1 : (⟨(16384 + (i.val * 64 + r.val) - 16384) / 64, by omega⟩ : Fin 8) = i :=
    Fin.ext (by show (16384 + (i.val * 64 + r.val) - 16384) / 64 = i.val; omega)
  have e2 : (⟨(2048 + (h.val * 256 + e.val) - 2048) / 256, by omega⟩ : Fin 8) = h :=
    Fin.ext (by show (2048 + (h.val * 256 + e.val) - 2048) / 256 = h.val; omega)
  have e3 : (⟨(16384 + (i.val * 64 + r.val) - 16384) % 64, by omega⟩ : Fin 64) = r :=
    Fin.ext (by show (16384 + (i.val * 64 + r.val) - 16384) % 64 = r.val; omega)
  have e4 : (⟨(2048 + (h.val * 256 + e.val) - 2048) % 256, by omega⟩ : Fin 256) = e :=
    Fin.ext (by show (2048 + (h.val * 256 + e.val) - 2048) % 256 = e.val; omega)
  refine (dif_pos ⟨show 16384 ≤ 16384 + (i.val * 64 + r.val) by omega, show 2048 ≤ 2048 + (h.val * 256 + e.val) by omega⟩).trans ?_
  refine (congrArg₂ (fun (a b : Fin 8) => (headAt m c a b).out _ _) e1 e2).trans ?_
  exact congrArg₂ (fun (a : Fin 64) (b : Fin 256) => (headAt m c i h).out a b) e3 e4

/-- The rest of the heads' array is the one that was handed in. -/
theorem arrH_else (y : S16896x4096.Idx) (h : ¬ (16384 ≤ (y 0).val ∧ 2048 ≤ (y 1).val)) : arrH m c y = arg m c main_arg3 y := dif_neg h

theorem arr_C : (dat1 (V5 m ρ) c).arrAt 17 cfg1.N = arrC m c := by
  refine (dat1 (V5 m ρ) c).arrAt_eq_of_covers 17 (arrC m c) (by decide +kernel) fun t hf y => ?_
  blk_simp
  rw [after1_17]
  unfold outsAt1
  frame_out
  idx_vars y
  obtain rfl : y0 = 0 := Subsingleton.elim _ _
  obtain rfl : y1 = 0 := Subsingleton.elim _ _
  have hx : ((View.whole main_v20_1).slice (win1_17.rect t)).emb (ix4 0 0 y2 y3) = ix4 (str t) (hd t) y2 y3 := by
    blk_ext [idx1 t, str, hd]
  exact (pay_C (step_holds m ρ c t) y2 y3).trans (congrArg (arrC m c) hx).symm

theorem arr_N : (dat1 (V5 m ρ) c).arrAt 18 cfg1.N = arrN m c := by
  refine (dat1 (V5 m ρ) c).arrAt_eq_of_covers 18 (arrN m c) (by decide +kernel) fun t hf y => ?_
  blk_simp
  rw [after1_18]
  unfold outsAt1
  frame_out
  idx_vars y
  obtain rfl : y0 = 0 := Subsingleton.elim _ _
  obtain rfl : y1 = 0 := Subsingleton.elim _ _
  obtain rfl : y2 = 0 := Subsingleton.elim _ _
  have hx : ((View.whole main_v20_2).slice (win1_18.rect t)).emb (ix4 0 0 0 y3) = ix4 (str t) (hd t) 0 y3 := by
    blk_ext [idx1 t, str, hd]
  exact (pay_n (step_holds m ρ c t) y3).trans (congrArg (arrN m c) hx).symm

theorem arr_M : (dat1 (V5 m ρ) c).arrAt 19 cfg1.N = arrM m c := by
  refine (dat1 (V5 m ρ) c).arrAt_eq_of_covers 19 (arrM m c) (by decide +kernel) fun t hf y => ?_
  blk_simp
  rw [after1_19]
  unfold outsAt1
  frame_out
  idx_vars y
  obtain rfl : y0 = 0 := Subsingleton.elim _ _
  obtain rfl : y1 = 0 := Subsingleton.elim _ _
  obtain rfl : y2 = 0 := Subsingleton.elim _ _
  have hx : ((View.whole main_v20_3).slice (win1_19.rect t)).emb (ix4 0 0 0 y3) = ix4 (str t) (hd t) 0 y3 := by
    blk_ext [idx1 t, str, hd]
  exact (pay_m (step_holds m ρ c t) y3).trans (congrArg (arrM m c) hx).symm

theorem arr_H : (dat1 (V5 m ρ) c).arrAt 16 cfg1.N = arrH m c := by
  refine (dat1 (V5 m ρ) c).arrAt_eq_of_coversWhere_of_agree 16 (arrH m c) (fun β => 256 ≤ β (0 : Fin 2) ∧ 8 ≤ β (1 : Fin 2)) (by decide +kernel) (fun t hf y => ?_) (fun j hj => ?_)
  · blk_simp
    rw [after1_16]
    unfold outsAt1
    frame_out
    idx_vars y
    have hx : ((View.whole main_v20_0).slice (win1_16.rect t)).emb (ix2 y0 y1)
        = ix2 (row (str t) y0) (⟨2048 + ((hd t).val * 256 + y1.val), by omega⟩ : Fin 4096) := by
      blk_ext [idx1 t, row, str, hd]
    exact (pay_out (step_holds m ρ c t) y0 y1).trans ((congrArg (arrH m c) hx).trans (arrH_at m c (str t) (hd t) y0 y1)).symm
  · blk_simp [Pipeline.Window.cell_apply] at hj
    refine (congrFun (e_v20 m ρ c) _).trans (arrH_else m c _ fun h => hj ⟨?_, ?_⟩).symm
    · have h1 : 16384 ≤ (j 0).val := h.1
      omega
    · have h2 : 2048 ≤ (j 1).val := h.2
      omega

end Cert.KernelIdeal.Mlstm
-- ==== Proof.Mlstm.Run.lean ====
module
public import proofs.«01_k».proof.Proof.Mlstm.Arrays
/-!
# The kernel's run

Every execution ends with the kernel's four results at the arrays of `Cert.MlstmSpec`, as functions of its arguments.
-/
@[expose] public section
set_option maxRecDepth 16384
noncomputable section
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
namespace Cert.KernelIdeal.Mlstm
open Cert.KernelIdeal Cert.KernelIdeal.Gen Cert.MlstmSpec

local notation "𝕄" => MT nD τ sig Unit (Elt Ideal) ℕ (UR sig nD τ) ℕ

section Host
variable (σ : Valuation τ sig (Elt Ideal))

theorem h_v21 (i h : Fin 8) (d : Fin 128) : (StableHlo.after hostOps2 σ (Proc.devRef .tc main_v21) (ix3 i h d) : EReal)
    = σ (Proc.devRef .tc main_v20_2) (ix4 i h 0 d) := by
  entry_read
  pointwise []

theorem h_v23 (i h : Fin 8) : (StableHlo.after hostOps2 σ (Proc.devRef .tc main_v23) (ix2 i h) : EReal)
    = σ (Proc.devRef .tc main_v20_3) (ix4 i h 0 0) := by
  entry_read
  pointwise []

end Host

variable (m : (ℓ : Loc nD τ sig) → Buf (Elt Ideal) ℓ) (ρ : Dev nD → PrngReg) (c : Dev nD)

/-- The heads' array at the end. -/
theorem end_H : W7 m ρ c (Proc.devRef .tc main_v20_0)
    = headsOut (arg m c main_arg0) (arg m c main_arg1) (arg m c main_arg3) (arg m c main_arg2) (arg m c main_arg4) (arg m c main_arg5)
      (arg m c main_arg6) (arg m c main_arg7) (arg m c main_arg8) (arg m c main_arg9) :=
  (W7_of m ρ c main_v20_0 (by decide)).trans ((W6_arr m ρ c 16).trans (arr_H m ρ c))

/-- The carried matrix memories at the end. -/
theorem end_C : W7 m ρ c (Proc.devRef .tc main_v20_1)
    = COut (arg m c main_arg0) (arg m c main_arg1) (arg m c main_arg2) (arg m c main_arg4) (arg m c main_arg5)
      (arg m c main_arg6) (arg m c main_arg7) (arg m c main_arg8) (arg m c main_arg9) :=
  (W7_of m ρ c main_v20_1 (by decide)).trans ((W6_arr m ρ c 17).trans (arr_C m ρ c))

/-- The carried normalisers at the end. -/
theorem end_N : W7 m ρ c (Proc.devRef .tc main_v21)
    = nOut (arg m c main_arg0) (arg m c main_arg1) (arg m c main_arg2) (arg m c main_arg4) (arg m c main_arg5)
      (arg m c main_arg6) (arg m c main_arg7) (arg m c main_arg8) (arg m c main_arg9) := by
  funext y
  idx_vars y
  exact (h_v21 _ y0 y1 y2).trans (congrFun ((W6_arr m ρ c 18).trans (arr_N m ρ c)) _)

/-- The carried stabilisers at the end. -/
theorem end_M : W7 m ρ c (Proc.devRef .tc main_v23)
    = mOut (arg m c main_arg0) (arg m c main_arg1) (arg m c main_arg2) (arg m c main_arg4) (arg m c main_arg5)
      (arg m c main_arg6) (arg m c main_arg7) (arg m c main_arg8) (arg m c main_arg9) := by
  funext y
  idx_vars y
  exact (h_v23 _ y0 y1).trans (congrFun ((W6_arr m ρ c 19).trans (arr_M m ρ c)) _)

-- the launch's implicit arguments are found by unifying its conclusion with this one
set_option backward.isDefEq.respectTransparency.types false in
/-- Every execution ends with the four results computed. -/
theorem run_out : θ_run defs (onTc (τ := τ) (main (F := Ideal))) ⟨m, fun _ => 0, ρ⟩ (fun r => ∀ c : Dev nD,
    r.2.mem ((c.tc : Thread nD τ).loc main_v20_0) = headsOut (arg m c main_arg0) (arg m c main_arg1) (arg m c main_arg3) (arg m c main_arg2) (arg m c main_arg4) (arg m c main_arg5) (arg m c main_arg6) (arg m c main_arg7) (arg m c main_arg8) (arg m c main_arg9)
    ∧ r.2.mem ((c.tc : Thread nD τ).loc main_v20_1) = COut (arg m c main_arg0) (arg m c main_arg1) (arg m c main_arg2) (arg m c main_arg4) (arg m c main_arg5) (arg m c main_arg6) (arg m c main_arg7) (arg m c main_arg8) (arg m c main_arg9)
    ∧ r.2.mem ((c.tc : Thread nD τ).loc main_v21) = nOut (arg m c main_arg0) (arg m c main_arg1) (arg m c main_arg2) (arg m c main_arg4) (arg m c main_arg5) (arg m c main_arg6) (arg m c main_arg7) (arg m c main_arg8) (arg m c main_arg9)
    ∧ r.2.mem ((c.tc : Thread nD τ).loc main_v23) = mOut (arg m c main_arg0) (arg m c main_arg1) (arg m c main_arg2) (arg m c main_arg4) (arg m c main_arg5) (arg m c main_arg6) (arg m c main_arg7) (arg m c main_arg8) (arg m c main_arg9)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h _ c =>
      ⟨(h c _ (mem_uc main_v20_0 (by decide))).trans (end_H m ρ c), (h c _ (mem_uc main_v20_1 (by decide))).trans (end_C m ρ c),
       (h c _ (mem_uc main_v21 (by decide))).trans (end_N m ρ c), (h c _ (mem_uc main_v23 (by decide))).trans (end_M m ρ c)⟩)

end Cert.KernelIdeal.Mlstm
-- ==== Proof.Mlstm.Ref.lean ====
module
public import proofs.«01_k».proof.Proof.Gen.ReferenceIdeal.Run
public import proofs.«01_k».proof.Proof.Mlstm.Spec
/-!
# The reference on scalars

Each array the reference names is the corresponding quantity of `Cert.MlstmSpec`, and so are its four results.
-/
@[expose] public section
set_option maxRecDepth 16384
noncomputable section
open Idealize.ShloMosaic Idealize.ShloMosaic.TcCoe Idealize.SL.Sem
namespace Cert.ReferenceIdeal.Mlstm
open Cert.ReferenceIdeal Cert.ReferenceIdeal.Gen Cert.ReferenceIdeal.Value Cert.MlstmSpec
open Idealize.ShloMosaic.StableHlo

/-- A host maximum along the last of four axes. -/
theorem maxLast4 (f : FVec Ideal S8x8x64x64 .f32) (i h : Fin 8) (t : Fin 64) :
    Host.reduce (FloatOps.maximumf (F := Ideal) (φ := .f32)) f (constant S_ .f32 0xFF800000#32) reducesTo_S8x8x64x64_S8x8x64_d3 h_S_ (ix3 i h t)
      = Finset.univ.fold max negInf fun s : Fin 64 => f (ix4 i h t s) := by
  have hr : S8x8x64x64.Reduces [3] S8x8x64 := by decide
  refine (Host.reduce_eq_fold_single (fun a b : EReal => max a b) f _ _ hr _ (ix3 i h t)).trans ?_
  refine Finset.fold_congr fun s _ => congrArg f ?_
  funext a
  fin_cases a <;> rfl

/-- A host maximum along the last of three axes. -/
theorem maxLast3 (f : FVec Ideal S8x8x64 .f32) (i h : Fin 8) :
    Host.reduce (FloatOps.maximumf (F := Ideal) (φ := .f32)) f (constant S_ .f32 0xFF800000#32) reducesTo_S8x8x64_S8x8_d2 h_S_ (ix2 i h)
      = Finset.univ.fold max negInf fun s : Fin 64 => f (ix3 i h s) := by
  have hr : S8x8x64.Reduces [2] S8x8 := by decide
  refine (Host.reduce_eq_fold_single (fun a b : EReal => max a b) f _ _ hr _ (ix2 i h)).trans ?_
  refine Finset.fold_congr fun s _ => congrArg f ?_
  funext a
  fin_cases a <;> rfl

variable (V0 : Valuation τ sig (Elt Ideal))

/-- The data of head `h` of stream `i` in the reference's arguments. -/
def hd (i h : Fin 8) : Head :=
  headOf (V0 (Proc.devRef .tc main_arg0)) (V0 (Proc.devRef .tc main_arg1)) (V0 (Proc.devRef .tc main_arg2))
    (V0 (Proc.devRef .tc main_arg4)) (V0 (Proc.devRef .tc main_arg5)) (V0 (Proc.devRef .tc main_arg6))
    (V0 (Proc.devRef .tc main_arg7)) (V0 (Proc.devRef .tc main_arg8)) (V0 (Proc.devRef .tc main_arg9)) i h

theorem ref_b (i h : Fin 8) (t : Fin 64) : res_main_v63 (F := Ideal) V0 (ix3 i h t) = (hd V0 i h).b t := by
  unfold res_main_v63
  refine (windowSum _ _ _ _ ?_ i h t).trans ?_
  · show Ideal.ofBits .f32 0x00000000#32 = 0
    exact Ideal.ofBits_zero_f32
  · refine congrArg (fun f : Fin 64 → EReal => cum f t)
      (?_ : _ = fun s => (V0 (Proc.devRef .tc main_arg2) (ix2 (row i s) ⟨24 + h.val, by omega⟩) : EReal))
    refine funext fun s => ?_
    pointwise []
    rfl

theorem ref_ig (i h : Fin 8) (t : Fin 64) : res_main_v56 (F := Ideal) V0 (ix3 i h t) = (hd V0 i h).ig t := by
  pointwise [res_main_v56]
  rfl

theorem ref_m (i h : Fin 8) : res_main_v60 (F := Ideal) V0 (ix2 i h) = (hd V0 i h).m := by
  pointwise [res_main_v60]
  rfl

theorem ref_n (i h : Fin 8) (d : Fin 128) : res_main_v59 (F := Ideal) V0 (ix3 i h d) = (hd V0 i h).n d := by
  pointwise [res_main_v59]
  rfl

theorem ref_C (i h : Fin 8) (e : Fin 256) (d : Fin 128) : res_main_v58 (F := Ideal) V0 (ix4 i h e d) = (hd V0 i h).C e d := by
  pointwise [res_main_v58]
  rfl

theorem ref_v (i h : Fin 8) (t : Fin 64) (e : Fin 256) : res_main_v55 (F := Ideal) V0 (ix4 i h t e) = (hd V0 i h).v t e := by
  pointwise [res_main_v55]
  rfl

theorem ref_hist (i : Fin 8) (t : Fin 67) (s : Fin 2048) :
    res_main_v18 (F := Ideal) V0 (ix3 i t s)
      = hist (V0 (Proc.devRef .tc main_arg0)) (V0 (Proc.devRef .tc main_arg7)) i s t.val := by
  pointwise [res_main_v18]
  unfold hist
  refine dite_congr rfl (fun _ => rfl) fun _ => ?_
  rw [dif_pos t.isLt]

theorem ref_qk (i : Fin 8) (t : Fin 64) (s : Fin 2048) :
    res_main_v46 (F := Ideal) V0 (ix3 i t s)
      = qk (V0 (Proc.devRef .tc main_arg0)) (V0 (Proc.devRef .tc main_arg7)) (V0 (Proc.devRef .tc main_arg8)) i t s := by
  have e : res_main_v45 (F := Ideal) V0 (ix3 i t s)
      = conv (hist (V0 (Proc.devRef .tc main_arg0)) (V0 (Proc.devRef .tc main_arg7)) i s)
          (fun j => V0 (Proc.devRef .tc main_arg8) (ix3 0 j s)) t.val := by
    pointwise [res_main_v45]
    simp only [ref_hist]
    rfl
  pointwise [res_main_v46]
  rw [e]
  rfl

theorem ref_q (i h : Fin 8) (t : Fin 64) (d : Fin 128) : res_main_v53 (F := Ideal) V0 (ix4 i h t d) = (hd V0 i h).q t d := by
  pointwise [res_main_v53]
  rw [ref_qk]
  rfl

theorem ref_k (i h : Fin 8) (t : Fin 64) (d : Fin 128) : res_main_v54 (F := Ideal) V0 (ix4 i h t d) = (hd V0 i h).k t d := by
  pointwise [res_main_v54]
  rw [ref_qk]
  rfl

/-- The reference's causal mask. -/
theorem mask_word : ∀ s t : Fin 64,
    Scalar.select (IntOp.cmpi .sge (IntOp.addi (BitVec.ofNat 32 t.val) 0#32) (BitVec.ofNat 32 s.val)) 1#1 0#1
      = if s ≤ t then 1#1 else 0#1 := by decide +kernel

theorem ref_D (i h : Fin 8) (t s : Fin 64) : res_main_v72 (F := Ideal) V0 (ix4 i h t s) = (hd V0 i h).D t s := by
  pointwise [res_main_v72]
  rw [mask_word, ref_b, ref_b, ref_ig, Head.D]
  split <;> rfl

theorem ref_inter (i h : Fin 8) (t : Fin 64) : res_main_v75 (F := Ideal) V0 (ix3 i h t) = (hd V0 i h).b t + (hd V0 i h).m := by
  pointwise [res_main_v75]
  rw [ref_b, ref_m]

theorem ref_mt (i h : Fin 8) (t : Fin 64) : res_main_v77 (F := Ideal) V0 (ix3 i h t) = (hd V0 i h).mt t := by
  refine congrArg₂ (fun a b : EReal => max a b) (ref_inter V0 i h t) ((maxLast4 (res_main_v72 V0) i h t).trans ?_)
  simp only [ref_D]

theorem ref_wi (i h : Fin 8) (t : Fin 64) : res_main_v79 (F := Ideal) V0 (ix3 i h t) = (hd V0 i h).wi t := by
  pointwise [res_main_v79]
  rw [ref_inter, ref_mt]
  rfl

theorem ref_S (i h : Fin 8) (t s : Fin 64) : res_main_v85 (F := Ideal) V0 (ix4 i h t s) = (hd V0 i h).S t s := by
  pointwise [res_main_v85]
  simp only [ref_D, ref_mt, ref_q, ref_k]
  rfl

theorem ref_h (i h : Fin 8) (t : Fin 64) (e : Fin 256) : res_main_v132 (F := Ideal) V0 (ix4 i t h e) = (hd V0 i h).h t e := by
  pointwise [res_main_v132]
  simp only [ref_wi, ref_mt, ref_q, ref_S, ref_C, ref_n, ref_v]
  have hc : (∑ d, (hd V0 i h).n d * (hd V0 i h).q t d) = ∑ d, (hd V0 i h).q t d * (hd V0 i h).n d :=
    Finset.sum_congr rfl fun d _ => mul_comm _ _
  rw [hc]
  rfl

theorem ref_dec (i h : Fin 8) (s : Fin 64) : res_main_v108 (F := Ideal) V0 (ix3 i h s) = (hd V0 i h).dec s := by
  pointwise [res_main_v108, res_main_v104]
  simp only [ref_ig, ref_b]
  rfl

theorem ref_b63 (i h : Fin 8) : res_main_v104 (F := Ideal) V0 (ix2 i h) = (hd V0 i h).b 63 := by
  pointwise [res_main_v104]
  exact ref_b V0 i h 63

theorem ref_mnew (i h : Fin 8) : res_main_v111 (F := Ideal) V0 (ix2 i h) = (hd V0 i h).mnew := by
  refine congrArg₂ (fun a b : EReal => max a b) (congrArg₂ (fun a b : EReal => a + b) (ref_b63 V0 i h) (ref_m V0 i h))
    ((maxLast3 (res_main_v108 V0) i h).trans ?_)
  simp only [ref_dec]

theorem ref_a (i h : Fin 8) : res_main_v114 (F := Ideal) V0 (ix2 i h) = (hd V0 i h).a := by
  pointwise [res_main_v114]
  rw [ref_b63, ref_m, ref_mnew]
  rfl

theorem ref_ws (i h : Fin 8) (s : Fin 64) : res_main_v118 (F := Ideal) V0 (ix3 i h s) = (hd V0 i h).ws s := by
  pointwise [res_main_v118]
  rw [ref_dec, ref_mnew]
  rfl

end Cert.ReferenceIdeal.Mlstm
-- ==== Proof.Mlstm.RefRun.lean ====
module
public import proofs.«01_k».proof.Proof.Mlstm.Ref
/-!
# The reference's results

A run of the reference ends with the four results of `Cert.MlstmSpec` for its arguments.
-/
@[expose] public section
set_option maxRecDepth 16384
noncomputable section
open Idealize.ShloMosaic Idealize.ShloMosaic.TcCoe Idealize.SL.Sem
namespace Cert.ReferenceIdeal.Mlstm
open Cert.ReferenceIdeal Cert.ReferenceIdeal.Gen Cert.ReferenceIdeal.Value Cert.MlstmSpec
open Idealize.ShloMosaic.StableHlo
/-- The heads' array is assembled from the rows before the running streams', their left half, and the new right half. -/
theorem assemble (H : FVec Ideal S16896x4096 .bf16) (X : FVec Ideal S512x2048 .bf16) (r : Fin 16896) (l : Fin 4096) :
    (concatenate S16896x4096 0 [⟨S16384x4096, (extractStridedSlice S16384x4096 ![0, 0] H slices_S16896x4096_S16384x4096_0_0)⟩,
      ⟨S512x4096, (concatenate S512x4096 1 [⟨S512x2048, (extractStridedSlice S512x2048 ![16384, 0] H slices_S16896x4096_S512x2048_16384_0)⟩,
        ⟨S512x2048, X⟩] concatenates_S512x2048_S512x2048_S512x4096_d1)⟩] concatenates_S16384x4096_S512x4096_S16896x4096_d0
        : FVec Ideal S16896x4096 .bf16) (ix2 r l)
      = if h : 16384 ≤ r.val ∧ 2048 ≤ l.val then X (ix2 ⟨r.val - 16384, by omega⟩ ⟨l.val - 2048, by omega⟩)
        else H (ix2 r l) := by
  pointwise []
  by_cases h : r.val < 16384
  · rw [dif_pos h, dif_neg (by omega)]
  · rw [dif_neg h]
    by_cases h2 : l.val < 2048
    · rw [dif_pos h2, dif_neg (by omega)]
      exact congrArg (fun k => H (ix2 k l)) (Fin.ext (by show 16384 + (r.val - 16384) = r.val; omega))
    · rw [dif_neg h2, dif_pos (by omega)]

/-- The running streams' gated heads as the reference names them. -/
def mlRef (V0 : Valuation τ sig (Elt Ideal)) : FVec Ideal S512x2048 .bf16 :=
  truncf .bf16 (shapeCast _ (mulf (mulf (shapeCast _ (Host.divf (broadcastInDim S512x2048 ![] bcast_S_S512x2048 (constant S_ .f32 0x3F800000#32)) (addf (broadcastInDim S512x2048 ![] bcast_S_S512x2048 (constant S_ .f32 0x3F800000#32)) (Host.exp (Host.negf (extractStridedSlice S512x2048 ![16384, 6144] (V0 (Proc.devRef .tc main_arg0)) slices_S16896x8192_S512x2048_16384_6144))))) shapeCasts_S512x2048_S8x64x8x256) (mulf (res_main_v132 V0) (broadcastInDim S8x64x8x256 ![0, 1, 2, 3] bcast_S8x64x8x1_S8x64x8x256_0_1_2_3 (Host.rsqrt (addf (Host.divf (broadcastInDim S8x64x8x1 ![0, 1, 2] bcast_S8x64x8_S8x64x8x1_0_1_2 (Host.reduceAdd (mulf (res_main_v132 V0) (res_main_v132 V0)) (constant S_ .f32 0x00000000#32) reducesTo_S8x64x8x256_S8x64x8_d3 h_S_)) (broadcastInDim S8x64x8x1 ![] bcast_S_S8x64x8x1 (constant S_ .f32 0x43800000#32))) (broadcastInDim S8x64x8x1 ![] bcast_S_S8x64x8x1 (constant S_ .f32 0x358637BD#32))))))) (broadcastInDim S8x64x8x256 ![0, 1, 2, 3] bcast_S1x1x8x256_S8x64x8x256_0_1_2_3 (broadcastInDim S1x1x8x256 ![2, 3] bcast_S8x256_S1x1x8x256_2_3 (shapeCast _ (shapeCast _ (V0 (Proc.devRef .tc main_arg9)) shapeCasts_S1x2048_S2048) shapeCasts_S2048_S8x256)))) shapeCasts_S8x64x8x256_S512x2048) bitsLt_bf16_f32

/-- They are the heads of `Cert.MlstmSpec`. -/
theorem mlRef_eq (V0 : Valuation τ sig (Elt Ideal)) (α : Fin 512) (β : Fin 2048) :
    mlRef V0 (ix2 α β) = (hd V0 ⟨α.val / 64, by omega⟩ ⟨β.val / 256, by omega⟩).out ⟨α.val % 64, by omega⟩ ⟨β.val % 256, by omega⟩ := by
  pointwise [mlRef]
  simp only [ref_h]
  have e1 : (V0 (Proc.devRef .tc main_arg0) (ix2 ⟨16384 + α.val, by omega⟩ ⟨6144 + β.val, by omega⟩) : EReal)
      = (hd V0 ⟨α.val / 64, by omega⟩ ⟨β.val / 256, by omega⟩).og ⟨α.val % 64, by omega⟩ ⟨β.val % 256, by omega⟩ :=
    congrArg₂ (fun a b => V0 (Proc.devRef .tc main_arg0) (ix2 a b))
      (Fin.ext (by show 16384 + α.val = 16384 + (α.val / 64 * 64 + α.val % 64); omega))
      (Fin.ext (by show 6144 + β.val = 6144 + (β.val / 256 * 256 + β.val % 256); omega))
  have e2 : (V0 (Proc.devRef .tc main_arg9) (ix2 0 β) : EReal)
      = (hd V0 ⟨α.val / 64, by omega⟩ ⟨β.val / 256, by omega⟩).g ⟨β.val % 256, by omega⟩ :=
    congrArg (fun b => V0 (Proc.devRef .tc main_arg9) (ix2 0 b))
      (Fin.ext (by show β.val = β.val / 256 * 256 + β.val % 256; omega))
  exact congrArg₂ (fun a g : EReal => Ideal.logistic a
    * ((hd V0 ⟨α.val / 64, by omega⟩ ⟨β.val / 256, by omega⟩).h ⟨α.val % 64, by omega⟩ ⟨β.val % 256, by omega⟩
      * Ideal.rsqrt (Ideal.div (∑ j, (hd V0 ⟨α.val / 64, by omega⟩ ⟨β.val / 256, by omega⟩).h ⟨α.val % 64, by omega⟩ j
        * (hd V0 ⟨α.val / 64, by omega⟩ ⟨β.val / 256, by omega⟩).h ⟨α.val % 64, by omega⟩ j) width + eps)) * g) e1 e2

variable (m : (ℓ : Loc nD τ sig) → Buf (Elt Ideal) ℓ) (ρ : Dev nD → PrngReg)

/-- The reference ends with the heads' array and the carried state that `Cert.MlstmSpec` names. -/
theorem run_out : θ_run defs (onTc (τ := τ) (main (F := Ideal))) ⟨m, fun _ => 0, ρ⟩ fun r => ∀ c : Dev nD,
    r.2.mem ((c.tc : Thread nD τ).loc main_v154) = headsOut (m ((c.tc : Thread nD τ).loc main_arg0)) (m ((c.tc : Thread nD τ).loc main_arg1)) (m ((c.tc : Thread nD τ).loc main_arg3)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
    ∧ r.2.mem ((c.tc : Thread nD τ).loc main_v126) = COut (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
    ∧ r.2.mem ((c.tc : Thread nD τ).loc main_v131) = nOut (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
    ∧ r.2.mem ((c.tc : Thread nD τ).loc main_v111) = mOut (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  refine (θ_run defs _ _).mono (fun r h c => ?_) (Cert.ReferenceIdeal.Value.run m ρ)
  obtain ⟨h0, h1, h2, h3, -⟩ := h c
  refine ⟨h0.trans ?_, h1.trans ?_, h2.trans ?_, h3.trans ?_⟩
  · clear h0 h1 h2 h3
    funext y
    obtain ⟨r, l, rfl⟩ : ∃ (r : Fin 16896) (l : Fin 4096), y = ix2 r l := ⟨y 0, y 1, eq_ix2 y⟩
    refine (assemble _ (mlRef (launchContents m c)) r l).trans ?_
    unfold headsOut
    exact dite_congr rfl (fun h => mlRef_eq _ _ _) fun _ => rfl
  · funext y; idx_vars y
    pointwise []
    simp only [ref_a, ref_C, ref_v, ref_ws, ref_k]
    rfl
  · funext y; idx_vars y
    pointwise []
    simp only [ref_a, ref_n, ref_ws, ref_k]
    rfl
  · funext y; idx_vars y
    exact ref_mnew _ _ _

end Cert.ReferenceIdeal.Mlstm
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Experts.Claims
public import proofs.«01_k».proof.Proof.InProj.Claims
public import proofs.«01_k».proof.Proof.Down.Claims
public import proofs.«01_k».proof.Proof.OutProj.Claims
public import proofs.«01_k».proof.Proof.Norm.Claims
public import proofs.«01_k».proof.Proof.Cumsum.Claims
public import proofs.«01_k».proof.Proof.Prompt.Claims
public import Idealize.ShloMosaic.Adequacy
public import proofs.«01_k».proof.Proof.Gen.ReferenceIdeal.Run
public import Idealize.ShloMosaic.Init
public import Idealize.ShloMosaic.Lib.Claim
public import proofs.«01_k».proof.Proof.Mlstm.Run
public import proofs.«01_k».proof.Proof.Mlstm.RefRun

@[expose] public section

noncomputable section

namespace Cert.Proof

open Idealize.ShloMosaic Idealize.SL.Sem

/-- The kernel terminates from any memory, leaves its arguments unchanged and its counters at zero. -/
theorem frame_kernel : Cert.quiescent_Kernel := fun m ρ _ => Cert.Kernel.Gen.frame m ρ

/-- The same of its reading over the extended reals. -/
theorem frame_ideal : Cert.quiescent_KernelIdeal := fun m ρ _ => Cert.KernelIdeal.Gen.frame m ρ

/-- The same of the reference, which declares no semaphore. -/
theorem frame_reference : Cert.quiescent_ReferenceIdeal := fun m ρ _ =>
  (θ_run Cert.ReferenceIdeal.defs _ _).mono
    (fun r h => ⟨fun c => (h c).2.2.2.2, sem_eq_zero_of_no_sems (by decide) r.2⟩)
    (Cert.ReferenceIdeal.Value.run m ρ)

/-- The kernel and the reference end with equal heads, memories, normalisers and stabilisers. -/
theorem values : Cert.algebraic_KernelIdeal_ReferenceIdeal := by
  intro m ρ m' ρ' _ hagree
  refine ⟨_, _, _, _, θ_run_mono (θ_run_and (Cert.KernelIdeal.Mlstm.run_out m ρ) (Cert.KernelIdeal.Gen.unchanged m ρ))
    (fun r h c => ⟨(h.1 c).1, (h.1 c).2.1, (h.1 c).2.2.1, (h.1 c).2.2.2, h.2 c⟩), ?_⟩
  refine θ_run_mono (θ_run_and (Cert.ReferenceIdeal.Mlstm.run_out m' ρ') (Cert.ReferenceIdeal.Value.run m' ρ')) ?_
  intro r h c
  obtain ⟨a0, a1, a2, a3, a4, a5, a6, a7, a8, a9⟩ := hagree c
  have h1 := h.1 c
  rw [a0, a1, a2, a3, a4, a5, a6, a7, a8, a9] at h1
  exact ⟨h1.1, h1.2.1, h1.2.2.1, h1.2.2.2, (h.2 c).2.2.2.2⟩

/-- The whole claim. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts, Cert.Pre_experts.Gen.facts,
  Cert.Pre_down_experts.Gen.facts, Cert.Pre_finite_gates.Gen.facts,
  frame_kernel, frame_ideal, frame_reference, Experts.frame_kernel, Experts.frame_ideal, Experts.frame_reference,
  InProj.frame_kernel, InProj.frame_ideal, InProj.frame_reference, Down.frame_kernel, Down.frame_ideal, Down.frame_reference,
  OutProj.frame_kernel, OutProj.frame_ideal, OutProj.frame_reference, Norm.frame_kernel, Norm.frame_ideal, Norm.frame_reference,
  Cumsum.frame_kernel, Cumsum.frame_ideal, Cumsum.frame_reference,
  Prompt.frame_kernel, Prompt.frame_ideal, Prompt.frame_ideal_pre, Prompt.frame_reference, Prompt.frame_reference_pre,
  trivial, values, trivial, Experts.values, trivial, InProj.values, trivial, Down.values, trivial, OutProj.values,
  trivial, Norm.values, trivial, Cumsum.values,
  trivial, Prompt.values⟩

end Cert.Proof

end
